-- ==== Defs.lean ====
def Pre_Kernel [hPre_options_in_vocabulary : Cert.Pre_options_in_vocabulary.Facts] (m : (ℓ : Loc Cert.Kernel.nD Cert.Kernel.τ Cert.Kernel.sig) → Buf (Elt Bits) ℓ) : Prop :=
  ∀ c : Dev Cert.Kernel.nD,
    (Cert.Pre_options_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).1 = (fun _ => 1#1)
    ∧ (Cert.Pre_options_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).2 = (fun _ => 1#1)

def Pre_KernelIdeal [hPre_options_in_vocabulary : Cert.Pre_options_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_options_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_options_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_options_in_vocabulary [hPre_options_in_vocabulary : Cert.Pre_options_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_options_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_options_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2 = (fun _ => 1#1)

def Pre_Kernel2 [hPre_indices_in_table : Cert.Pre_indices_in_table.Facts] (m : (ℓ : Loc Cert.Kernel2.nD Cert.Kernel2.τ Cert.Kernel2.sig) → Buf (Elt Bits) ℓ) : Prop :=
  ∀ c : Dev Cert.Kernel2.nD,
    (Cert.Pre_indices_in_table.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))).1 = (fun _ => 1#1)
    ∧ (Cert.Pre_indices_in_table.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))).2 = (fun _ => 1#1)

def Pre_Kernel2Ideal [hPre_indices_in_table : Cert.Pre_indices_in_table.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_indices_in_table.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_indices_in_table.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_indices_in_table [hPre_indices_in_table : Cert.Pre_indices_in_table.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_indices_in_table.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_indices_in_table.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def quiescent_Kernel [hKernel : Cert.Kernel.Facts] [hPre_options_in_vocabulary : Cert.Pre_options_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_options_in_vocabulary : Cert.Pre_options_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_options_in_vocabulary [hReferenceIdeal : Cert.ReferenceIdeal.Facts] [hPre_options_in_vocabulary : Cert.Pre_options_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_options_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] [hPre_indices_in_table : Cert.Pre_indices_in_table.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] [hPre_indices_in_table : Cert.Pre_indices_in_table.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_indices_in_table [hReference2Ideal : Cert.Reference2Ideal.Facts] [hPre_indices_in_table : Cert.Pre_indices_in_table.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_indices_in_table m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_options_in_vocabulary : Cert.Pre_options_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] [hPre_indices_in_table : Cert.Pre_indices_in_table.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_options_in_vocabulary : Cert.Pre_options_in_vocabulary.Facts) (hPre_indices_in_table : Cert.Pre_indices_in_table.Facts),
    quiescent_Kernel (hKernel := hKernel) (hPre_options_in_vocabulary := hPre_options_in_vocabulary)
    ∧ quiescent_KernelIdeal (hKernelIdeal := hKernelIdeal) (hPre_options_in_vocabulary := hPre_options_in_vocabulary)
    ∧ quiescent_ReferenceIdeal (hReferenceIdeal := hReferenceIdeal)
    ∧ quiescent_ReferenceIdeal_pre_options_in_vocabulary (hReferenceIdeal := hReferenceIdeal) (hPre_options_in_vocabulary := hPre_options_in_vocabulary)
    ∧ quiescent_Kernel2 (hKernel2 := hKernel2) (hPre_indices_in_table := hPre_indices_in_table)
    ∧ quiescent_Kernel2Ideal (hKernel2Ideal := hKernel2Ideal) (hPre_indices_in_table := hPre_indices_in_table)
    ∧ quiescent_Reference2Ideal (hReference2Ideal := hReference2Ideal)
    ∧ quiescent_Reference2Ideal_pre_indices_in_table (hReference2Ideal := hReference2Ideal) (hPre_indices_in_table := hPre_indices_in_table)
    ∧ preserves_Kernel_KernelIdeal
    ∧ algebraic_KernelIdeal_ReferenceIdeal (hKernelIdeal := hKernelIdeal) (hReferenceIdeal := hReferenceIdeal) (hPre_options_in_vocabulary := hPre_options_in_vocabulary)
    ∧ preserves_Kernel2_Kernel2Ideal
    ∧ algebraic_Kernel2Ideal_Reference2Ideal (hKernel2Ideal := hKernel2Ideal) (hReference2Ideal := hReference2Ideal) (hPre_indices_in_table := hPre_indices_in_table)
-- ==== Pre_indices_in_table.lean ====
abbrev S64 : Shape := ⟨1, ![64]⟩
abbrev S64x100 : Shape := ⟨2, ![64, 100]⟩
abbrev S84x30000 : Shape := ⟨2, ![84, 30000]⟩
abbrev S_ : Shape := ⟨0, ![]⟩

class Facts : Prop where
  bcast_S_S64 : S_.BroadcastsInDim S64 (![] : Fin 0 → Fin S64.rank)
  bcast_S_S64x100 : S_.BroadcastsInDim S64x100 (![] : Fin 0 → Fin S64x100.rank)

variable [Facts]

def fn {F : FTy → Type} [FloatOps F] (main_arg0 : IVec S64 32) (main_arg1 : IVec S64x100 32) (main_arg2 : IVec S84x30000 1) : IVec S64 1 × IVec S64x100 1 :=
  let main_c : IVec S_ 32 := constantI S_ 32 0#32
  let main_v0 : IVec S64 32 := broadcastInDim S64 ![] bcast_S_S64 main_c
  let main_v1 : IVec S64 1 := cmpi .sge main_arg0 main_v0
  let main_c_0 : IVec S_ 32 := constantI S_ 32 84#32
  let main_v2 : IVec S64 32 := broadcastInDim S64 ![] bcast_S_S64 main_c_0
  let main_v3 : IVec S64 1 := cmpi .slt main_arg0 main_v2
  let main_v4 : IVec S64 1 := andi main_v1 main_v3
  let main_c_1 : IVec S_ 32 := constantI S_ 32 0#32
  let main_v5 : IVec S64x100 32 := broadcastInDim S64x100 ![] bcast_S_S64x100 main_c_1
  let main_v6 : IVec S64x100 1 := cmpi .sge main_arg1 main_v5
  let main_c_2 : IVec S_ 32 := constantI S_ 32 30000#32
  let main_v7 : IVec S64x100 32 := broadcastInDim S64x100 ![] bcast_S_S64x100 main_c_2
  let main_v8 : IVec S64x100 1 := cmpi .slt main_arg1 main_v7
  let main_v9 : IVec S64x100 1 := andi main_v6 main_v8
  (main_v4, main_v9)
-- ==== Pre_options_in_vocabulary.lean ====
abbrev S64x512 : Shape := ⟨2, ![64, 512]⟩
abbrev S64x100x20 : Shape := ⟨3, ![64, 100, 20]⟩
abbrev S64x100 : Shape := ⟨2, ![64, 100]⟩
abbrev S11322x300 : Shape := ⟨2, ![11322, 300]⟩
abbrev S2048x300 : Shape := ⟨2, ![2048, 300]⟩
abbrev S2048x512 : Shape := ⟨2, ![2048, 512]⟩
abbrev S2048 : Shape := ⟨1, ![2048]⟩
abbrev S_ : Shape := ⟨0, ![]⟩
abbrev S1x300 : Shape := ⟨2, ![1, 300]⟩
abbrev S300 : Shape := ⟨1, ![300]⟩

class Facts : Prop where
  bcast_S_S64x100x20 : S_.BroadcastsInDim S64x100x20 (![] : Fin 0 → Fin S64x100x20.rank)
  slices_S11322x300_S1x300_0_0 : S11322x300.Slices ![0, 0] S1x300
  shapeCasts_S1x300_S300 : S1x300.ShapeCasts S300
  bcast_S_S300 : S_.BroadcastsInDim S300 (![] : Fin 0 → Fin S300.rank)

variable [Facts]

def fn {F : FTy → Type} [FloatOps F] (main_arg0 : FVec F S64x512 .f32) (main_arg1 : IVec S64x100x20 32) (main_arg2 : IVec S64x100 32) (main_arg3 : FVec F S11322x300 .f32) (main_arg4 : FVec F S2048x300 .f32) (main_arg5 : FVec F S2048x512 .f32) (main_arg6 : FVec F S2048 .f32) (main_arg7 : FVec F S2048 .f32) (main_arg8 : FVec F S2048x512 .f32) (main_arg9 : FVec F S2048x512 .f32) (main_arg10 : FVec F S2048 .f32) (main_arg11 : FVec F S2048 .f32) : IVec S64x100x20 1 × IVec S300 1 :=
  let main_c : IVec S_ 32 := constantI S_ 32 0#32
  let main_v0 : IVec S64x100x20 32 := broadcastInDim S64x100x20 ![] bcast_S_S64x100x20 main_c
  let main_v1 : IVec S64x100x20 1 := cmpi .sge main_arg1 main_v0
  let main_c_0 : IVec S_ 32 := constantI S_ 32 11322#32
  let main_v2 : IVec S64x100x20 32 := broadcastInDim S64x100x20 ![] bcast_S_S64x100x20 main_c_0
  let main_v3 : IVec S64x100x20 1 := cmpi .slt main_arg1 main_v2
  let main_v4 : IVec S64x100x20 1 := andi main_v1 main_v3
  let main_v5 : FVec F S1x300 .f32 := (extractStridedSlice S1x300 ![0, 0] · slices_S11322x300_S1x300_0_0) main_arg3
  let main_v6 : FVec F S300 .f32 := shapeCast S300 main_v5 shapeCasts_S1x300_S300
  let main_cst : FVec F S_ .f32 := constant S_ .f32 0x00000000#32
  let main_v7 : FVec F S300 .f32 := broadcastInDim S300 ![] bcast_S_S300 main_cst
  let main_v8 : IVec S300 1 := cmpf .oeq main_v6 main_v7
  (main_v4, main_v8)
-- ==== Kernel.lean ====
abbrev S64x512 : Shape := ⟨2, ![64, 512]⟩
abbrev S64x100x20 : Shape := ⟨3, ![64, 100, 20]⟩
abbrev S64x100 : Shape := ⟨2, ![64, 100]⟩
abbrev S11322x300 : Shape := ⟨2, ![11322, 300]⟩
abbrev S2048x300 : Shape := ⟨2, ![2048, 300]⟩
abbrev S2048x512 : Shape := ⟨2, ![2048, 512]⟩
abbrev S2048 : Shape := ⟨1, ![2048]⟩
abbrev S6400x20 : Shape := ⟨2, ![6400, 20]⟩
abbrev S20x6400 : Shape := ⟨2, ![20, 6400]⟩
abbrev S20x25x256 : Shape := ⟨3, ![20, 25, 256]⟩
abbrev S25x20x256 : Shape := ⟨3, ![25, 20, 256]⟩
abbrev S25x1x5120 : Shape := ⟨3, ![25, 1, 5120]⟩
abbrev S_ : Shape := ⟨0, ![]⟩
abbrev S11328x384 : Shape := ⟨2, ![11328, 384]⟩
abbrev S300x2048 : Shape := ⟨2, ![300, 2048]⟩
abbrev S384x2048 : Shape := ⟨2, ![384, 2048]⟩
abbrev S6400x1 : Shape := ⟨2, ![6400, 1]⟩
abbrev S6400x512 : Shape := ⟨2, ![6400, 512]⟩
abbrev S64x1x512 : Shape := ⟨3, ![64, 1, 512]⟩
abbrev S64x100x512 : Shape := ⟨3, ![64, 100, 512]⟩
abbrev S1x2048 : Shape := ⟨2, ![1, 2048]⟩
abbrev S512x2048 : Shape := ⟨2, ![512, 2048]⟩
abbrev S6400x128 : Shape := ⟨2, ![6400, 128]⟩
abbrev S6400 : Shape := ⟨1, ![6400]⟩
abbrev S1x1x5120 : Shape := ⟨3, ![1, 1, 5120]⟩
abbrev S256x512 : Shape := ⟨2, ![256, 512]⟩
abbrev S256x128 : Shape := ⟨2, ![256, 128]⟩
abbrev S5120x384 : Shape := ⟨2, ![5120, 384]⟩
abbrev S8x384 : Shape := ⟨2, ![8, 384]⟩
abbrev S1x1x1 : Shape := ⟨3, ![1, 1, 1]⟩
abbrev S256x384 : Shape := ⟨2, ![256, 384]⟩
abbrev S256x2048 : Shape := ⟨2, ![256, 2048]⟩
abbrev S256 : Shape := ⟨1, ![256]⟩
abbrev S256x1 : Shape := ⟨2, ![256, 1]⟩

abbrev nBuf : Space → Nat
  | .hbm => 44
  | .vmem => 18
  | .smem => 2
  | _ => 0

abbrev bufTy : (tb : Table) → Fin (tcTables nBuf tb) → BufTy
  | .hbm, ⟨0, _⟩ => ⟨S64x512, .f32⟩
  | .hbm, ⟨1, _⟩ => ⟨S64x100x20, .i32⟩
  | .hbm, ⟨2, _⟩ => ⟨S64x100, .i32⟩
  | .hbm, ⟨3, _⟩ => ⟨S11322x300, .f32⟩
  | .hbm, ⟨4, _⟩ => ⟨S2048x300, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S2048x512, .f32⟩
  | .hbm, ⟨9, _⟩ => ⟨S2048x512, .f32⟩
  | .hbm, ⟨10, _⟩ => ⟨S2048, .f32⟩
  | .hbm, ⟨11, _⟩ => ⟨S2048, .f32⟩
  | .hbm, ⟨12, _⟩ => ⟨S6400x20, .i32⟩
  | .hbm, ⟨13, _⟩ => ⟨S20x6400, .i32⟩
  | .hbm, ⟨14, _⟩ => ⟨S20x25x256, .i32⟩
  | .hbm, ⟨15, _⟩ => ⟨S25x20x256, .i32⟩
  | .hbm, ⟨16, _⟩ => ⟨S25x1x5120, .i32⟩
  | .hbm, ⟨17, _⟩ => ⟨S_, .i32⟩
  | .hbm, ⟨18, _⟩ => ⟨S_, .f32⟩
  | .hbm, ⟨19, _⟩ => ⟨S11328x384, .f32⟩
  | .hbm, ⟨20, _⟩ => ⟨S300x2048, .f32⟩
  | .hbm, ⟨21, _⟩ => ⟨S_, .i32⟩
  | .hbm, ⟨22, _⟩ => ⟨S_, .f32⟩
  | .hbm, ⟨23, _⟩ => ⟨S384x2048, .f32⟩
  | .hbm, ⟨24, _⟩ => ⟨S384x2048, .bf16⟩
  | .hbm, ⟨25, _⟩ => ⟨S6400x1, .i32⟩
  | .hbm, ⟨26, _⟩ => ⟨S6400x512, .i32⟩
  | .hbm, ⟨27, _⟩ => ⟨S64x1x512, .f32⟩
  | .hbm, ⟨28, _⟩ => ⟨S64x100x512, .f32⟩
  | .hbm, ⟨29, _⟩ => ⟨S6400x512, .f32⟩
  | .hbm, ⟨30, _⟩ => ⟨S2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S512x2048, .f32⟩
  | .hbm, ⟨35, _⟩ => ⟨S512x2048, .bf16⟩
  | .hbm, ⟨36, _⟩ => ⟨S512x2048, .f32⟩
  | .hbm, ⟨37, _⟩ => ⟨S512x2048, .bf16⟩
  | .hbm, ⟨38, _⟩ => ⟨S512x2048, .f32⟩
  | .hbm, ⟨39, _⟩ => ⟨S512x2048, .bf16⟩
  | .hbm, ⟨40, _⟩ => ⟨S6400x128, .f32⟩
  | .hbm, ⟨41, _⟩ => ⟨S6400x1, .f32⟩
  | .hbm, ⟨42, _⟩ => ⟨S6400, .f32⟩
  | .hbm, ⟨43, _⟩ => ⟨S64x100, .f32⟩
  | .local _ .vmem, ⟨0, _⟩ => ⟨S11328x384, .f32⟩
  | .local _ .vmem, ⟨1, _⟩ => ⟨S256x512, .i32⟩
  | .local _ .vmem, ⟨2, _⟩ => ⟨S256x512, .i32⟩
  | .local _ .vmem, ⟨3, _⟩ => ⟨S256x512, .f32⟩
  | .local _ .vmem, ⟨4, _⟩ => ⟨S256x512, .f32⟩
  | .local _ .vmem, ⟨5, _⟩ => ⟨S384x2048, .bf16⟩
  | .local _ .vmem, ⟨6, _⟩ => ⟨S512x2048, .bf16⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S256x128, .f32⟩
  | .local _ .vmem, ⟨12, _⟩ => ⟨S256x128, .f32⟩
  | .local _ .vmem, ⟨13, _⟩ => ⟨S5120x384, .f32⟩
  | .local _ .vmem, ⟨14, _⟩ => ⟨S256x512, .bf16⟩
  | .local _ .vmem, ⟨15, _⟩ => ⟨S256x512, .f32⟩
  | .local _ .vmem, ⟨16, _⟩ => ⟨S256x512, .bf16⟩
  | .local _ .vmem, ⟨17, _⟩ => ⟨S256x512, .f32⟩
  | .local _ .smem, ⟨0, _⟩ => ⟨S1x1x5120, .i32⟩
  | .local _ .smem, ⟨1, _⟩ => ⟨S1x1x5120, .i32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_call0_v0 : Ref sig .tc := ⟨.hbm, 18, rfl⟩
abbrev main_call0_v5 : Ref sig .tc := ⟨.hbm, 19, rfl⟩
abbrev main_call0_v6 : Ref sig .tc := ⟨.hbm, 20, rfl⟩
abbrev main_call0_c_0 : Ref sig .tc := ⟨.hbm, 21, rfl⟩
abbrev main_call0_call1_v0 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_v0 : Ref sig .tc := ⟨.hbm, 43, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![25], ![false]⟩

@[reducible] def k0_t1_loop : Scf.Loop 32 :=
  let c0_i32 : BitVec 32 := 0#32
  let c80_i32 : BitVec 32 := 80#32
  let v18 : BitVec 32 := Scalar.addi c0_i32 c80_i32
  let c1_i32 : BitVec 32 := 1#32
  ⟨c0_i32, v18, c1_i32⟩
def k0_off1 (k0_t1 : Fin k0_t1_loop.trips) : Fin 3 → Nat :=
  let c0_23 : Index := 0#32
  let c0_24 : Index := 0#32
  let c0_i32 : BitVec 32 := 0#32
  let c1_i32 : BitVec 32 := 1#32
  let arg17 : BitVec 32 := Scf.iv c0_i32 c1_i32 k0_t1
  let c8_i32 : BitVec 32 := 8#32
  let v30 : BitVec 32 := Scalar.muli arg17 c8_i32
  let c0_i32_20 : BitVec 32 := 0#32
  let v31 : BitVec 32 := Scalar.addi v30 c0_i32_20
  let c8_i32_21 : BitVec 32 := 8#32
  let v32 : BitVec 32 := Scalar.muli v31 c8_i32_21
  let c0_i32_22 : BitVec 32 := 0#32
  let v33 : BitVec 32 := Scalar.addi v32 c0_i32_22
  let v34 : Index := Scalar.indexCast v33
  ![0, 0, v34.toNat]
def k0_mult1 (v35 : BitVec 32) : BitVec 32 :=
  let c3_i32 : BitVec 32 := 3#32
  let v36 : BitVec 32 := Scalar.shrsi v35 c3_i32
  let c3_i32_25 : BitVec 32 := 3#32
  let v37 : BitVec 32 := Scalar.shli v36 c3_i32_25
  v37

def k0_off2 (v35 : BitVec 32) : Fin 2 → Nat :=
  let c3_i32 : BitVec 32 := 3#32
  let v36 : BitVec 32 := Scalar.shrsi v35 c3_i32
  let c3_i32_25 : BitVec 32 := 3#32
  let v37 : BitVec 32 := Scalar.shli v36 c3_i32_25
  let v38 : BitVec 32 := v37
  let v39 : Index := Scalar.indexCast v38
  let c0_26 : Index := 0#32
  ![v39.toNat, 0]

def k0_chk1 (v35 : BitVec 32) : Prop :=
  (8 ∣ (k0_mult1 v35).toNat) ∧
  (∀ a, (k0_off2 v35) a + S8x384.size a ≤ S11328x384.size a)
theorem k0_mult1_dvd : ∀ (v35 : BitVec 32) (k0_hw1 : k0_chk1 v35), 8 ∣ (k0_mult1 v35).toNat := fun v35 k0_hw1 => k0_hw1.1
theorem k0_off2_inb : ∀ (v35 : BitVec 32) (k0_hw1 : k0_chk1 v35), ∀ a, (k0_off2 v35) a + S8x384.size a ≤ S11328x384.size a := fun v35 k0_hw1 => k0_hw1.2

def k0_off3 (k0_t1 : Fin k0_t1_loop.trips) : Fin 3 → Nat :=
  let c0_30 : Index := 0#32
  let c0_31 : Index := 0#32
  let c0_i32 : BitVec 32 := 0#32
  let c1_i32 : BitVec 32 := 1#32
  let arg17 : BitVec 32 := Scf.iv c0_i32 c1_i32 k0_t1
  let c8_i32 : BitVec 32 := 8#32
  let v30 : BitVec 32 := Scalar.muli arg17 c8_i32
  let c0_i32_20 : BitVec 32 := 0#32
  let v31 : BitVec 32 := Scalar.addi v30 c0_i32_20
  let c8_i32_28 : BitVec 32 := 8#32
  let v45 : BitVec 32 := Scalar.muli v31 c8_i32_28
  let c1_i32_29 : BitVec 32 := 1#32
  let v46 : BitVec 32 := Scalar.addi v45 c1_i32_29
  let v47 : Index := Scalar.indexCast v46
  ![0, 0, v47.toNat]
def k0_mult2 (v48 : BitVec 32) : BitVec 32 :=
  let c3_i32_32 : BitVec 32 := 3#32
  let v49 : BitVec 32 := Scalar.shrsi v48 c3_i32_32
  let c3_i32_33 : BitVec 32 := 3#32
  let v50 : BitVec 32 := Scalar.shli v49 c3_i32_33
  v50

def k0_off4 (v48 : BitVec 32) : Fin 2 → Nat :=
  let c3_i32_32 : BitVec 32 := 3#32
  let v49 : BitVec 32 := Scalar.shrsi v48 c3_i32_32
  let c3_i32_33 : BitVec 32 := 3#32
  let v50 : BitVec 32 := Scalar.shli v49 c3_i32_33
  let v51 : BitVec 32 := v50
  let v52 : Index := Scalar.indexCast v51
  let c0_34 : Index := 0#32
  ![v52.toNat, 0]

def k0_chk2 (v48 : BitVec 32) : Prop :=
  (8 ∣ (k0_mult2 v48).toNat) ∧
  (∀ a, (k0_off4 v48) a + S8x384.size a ≤ S11328x384.size a)
theorem k0_mult2_dvd : ∀ (v48 : BitVec 32) (k0_hw2 : k0_chk2 v48), 8 ∣ (k0_mult2 v48).toNat := fun v48 k0_hw2 => k0_hw2.1
theorem k0_off4_inb : ∀ (v48 : BitVec 32) (k0_hw2 : k0_chk2 v48), ∀ a, (k0_off4 v48) a + S8x384.size a ≤ S11328x384.size a := fun v48 k0_hw2 => k0_hw2.2

def k0_off5 (k0_t1 : Fin k0_t1_loop.trips) : Fin 3 → Nat :=
  let c0_38 : Index := 0#32
  let c0_39 : Index := 0#32
  let c0_i32 : BitVec 32 := 0#32
  let c1_i32 : BitVec 32 := 1#32
  let arg17 : BitVec 32 := Scf.iv c0_i32 c1_i32 k0_t1
  let c8_i32 : BitVec 32 := 8#32
  let v30 : BitVec 32 := Scalar.muli arg17 c8_i32
  let c0_i32_20 : BitVec 32 := 0#32
  let v31 : BitVec 32 := Scalar.addi v30 c0_i32_20
  let c8_i32_37 : BitVec 32 := 8#32
  let v58 : BitVec 32 := Scalar.muli v31 c8_i32_37
  let c2_i32 : BitVec 32 := 2#32
  let v59 : BitVec 32 := Scalar.addi v58 c2_i32
  let v60 : Index := Scalar.indexCast v59
  ![0, 0, v60.toNat]
def k0_mult3 (v61 : BitVec 32) : BitVec 32 :=
  let c3_i32_40 : BitVec 32 := 3#32
  let v62 : BitVec 32 := Scalar.shrsi v61 c3_i32_40
  let c3_i32_41 : BitVec 32 := 3#32
  let v63 : BitVec 32 := Scalar.shli v62 c3_i32_41
  v63

def k0_off6 (v61 : BitVec 32) : Fin 2 → Nat :=
  let c3_i32_40 : BitVec 32 := 3#32
  let v62 : BitVec 32 := Scalar.shrsi v61 c3_i32_40
  let c3_i32_41 : BitVec 32 := 3#32
  let v63 : BitVec 32 := Scalar.shli v62 c3_i32_41
  let v64 : BitVec 32 := v63
  let v65 : Index := Scalar.indexCast v64
  let c0_42 : Index := 0#32
  ![v65.toNat, 0]

def k0_chk3 (v61 : BitVec 32) : Prop :=
  (8 ∣ (k0_mult3 v61).toNat) ∧
  (∀ a, (k0_off6 v61) a + S8x384.size a ≤ S11328x384.size a)
theorem k0_mult3_dvd : ∀ (v61 : BitVec 32) (k0_hw3 : k0_chk3 v61), 8 ∣ (k0_mult3 v61).toNat := fun v61 k0_hw3 => k0_hw3.1
theorem k0_off6_inb : ∀ (v61 : BitVec 32) (k0_hw3 : k0_chk3 v61), ∀ a, (k0_off6 v61) a + S8x384.size a ≤ S11328x384.size a := fun v61 k0_hw3 => k0_hw3.2

def k0_off7 (k0_t1 : Fin k0_t1_loop.trips) : Fin 3 → Nat :=
  let c0_47 : Index := 0#32
  let c0_48 : Index := 0#32
  let c0_i32 : BitVec 32 := 0#32
  let c1_i32 : BitVec 32 := 1#32
  let arg17 : BitVec 32 := Scf.iv c0_i32 c1_i32 k0_t1
  let c8_i32 : BitVec 32 := 8#32
  let v30 : BitVec 32 := Scalar.muli arg17 c8_i32
  let c0_i32_20 : BitVec 32 := 0#32
  let v31 : BitVec 32 := Scalar.addi v30 c0_i32_20
  let c8_i32_45 : BitVec 32 := 8#32
  let v71 : BitVec 32 := Scalar.muli v31 c8_i32_45
  let c3_i32_46 : BitVec 32 := 3#32
  let v72 : BitVec 32 := Scalar.addi v71 c3_i32_46
  let v73 : Index := Scalar.indexCast v72
  ![0, 0, v73.toNat]
def k0_mult4 (v74 : BitVec 32) : BitVec 32 :=
  let c3_i32_49 : BitVec 32 := 3#32
  let v75 : BitVec 32 := Scalar.shrsi v74 c3_i32_49
  let c3_i32_50 : BitVec 32 := 3#32
  let v76 : BitVec 32 := Scalar.shli v75 c3_i32_50
  v76

def k0_off8 (v74 : BitVec 32) : Fin 2 → Nat :=
  let c3_i32_49 : BitVec 32 := 3#32
  let v75 : BitVec 32 := Scalar.shrsi v74 c3_i32_49
  let c3_i32_50 : BitVec 32 := 3#32
  let v76 : BitVec 32 := Scalar.shli v75 c3_i32_50
  let v77 : BitVec 32 := v76
  let v78 : Index := Scalar.indexCast v77
  let c0_51 : Index := 0#32
  ![v78.toNat, 0]

def k0_chk4 (v74 : BitVec 32) : Prop :=
  (8 ∣ (k0_mult4 v74).toNat) ∧
  (∀ a, (k0_off8 v74) a + S8x384.size a ≤ S11328x384.size a)
theorem k0_mult4_dvd : ∀ (v74 : BitVec 32) (k0_hw4 : k0_chk4 v74), 8 ∣ (k0_mult4 v74).toNat := fun v74 k0_hw4 => k0_hw4.1
theorem k0_off8_inb : ∀ (v74 : BitVec 32) (k0_hw4 : k0_chk4 v74), ∀ a, (k0_off8 v74) a + S8x384.size a ≤ S11328x384.size a := fun v74 k0_hw4 => k0_hw4.2

def k0_off9 (k0_t1 : Fin k0_t1_loop.trips) : Fin 3 → Nat :=
  let c0_55 : Index := 0#32
  let c0_56 : Index := 0#32
  let c0_i32 : BitVec 32 := 0#32
  let c1_i32 : BitVec 32 := 1#32
  let arg17 : BitVec 32 := Scf.iv c0_i32 c1_i32 k0_t1
  let c8_i32 : BitVec 32 := 8#32
  let v30 : BitVec 32 := Scalar.muli arg17 c8_i32
  let c0_i32_20 : BitVec 32 := 0#32
  let v31 : BitVec 32 := Scalar.addi v30 c0_i32_20
  let c8_i32_54 : BitVec 32 := 8#32
  let v84 : BitVec 32 := Scalar.muli v31 c8_i32_54
  let c4_i32 : BitVec 32 := 4#32
  let v85 : BitVec 32 := Scalar.addi v84 c4_i32
  let v86 : Index := Scalar.indexCast v85
  ![0, 0, v86.toNat]
def k0_mult5 (v87 : BitVec 32) : BitVec 32 :=
  let c3_i32_57 : BitVec 32 := 3#32
  let v88 : BitVec 32 := Scalar.shrsi v87 c3_i32_57
  let c3_i32_58 : BitVec 32 := 3#32
  let v89 : BitVec 32 := Scalar.shli v88 c3_i32_58
  v89

def k0_off10 (v87 : BitVec 32) : Fin 2 → Nat :=
  let c3_i32_57 : BitVec 32 := 3#32
  let v88 : BitVec 32 := Scalar.shrsi v87 c3_i32_57
  let c3_i32_58 : BitVec 32 := 3#32
  let v89 : BitVec 32 := Scalar.shli v88 c3_i32_58
  let v90 : BitVec 32 := v89
  let v91 : Index := Scalar.indexCast v90
  let c0_59 : Index := 0#32
  ![v91.toNat, 0]

def k0_chk5 (v87 : BitVec 32) : Prop :=
  (8 ∣ (k0_mult5 v87).toNat) ∧
  (∀ a, (k0_off10 v87) a + S8x384.size a ≤ S11328x384.size a)
theorem k0_mult5_dvd : ∀ (v87 : BitVec 32) (k0_hw5 : k0_chk5 v87), 8 ∣ (k0_mult5 v87).toNat := fun v87 k0_hw5 => k0_hw5.1
theorem k0_off10_inb : ∀ (v87 : BitVec 32) (k0_hw5 : k0_chk5 v87), ∀ a, (k0_off10 v87) a + S8x384.size a ≤ S11328x384.size a := fun v87 k0_hw5 => k0_hw5.2

def k0_off11 (k0_t1 : Fin k0_t1_loop.trips) : Fin 3 → Nat :=
  let c0_63 : Index := 0#32
  let c0_64 : Index := 0#32
  let c0_i32 : BitVec 32 := 0#32
  let c1_i32 : BitVec 32 := 1#32
  let arg17 : BitVec 32 := Scf.iv c0_i32 c1_i32 k0_t1
  let c8_i32 : BitVec 32 := 8#32
  let v30 : BitVec 32 := Scalar.muli arg17 c8_i32
  let c0_i32_20 : BitVec 32 := 0#32
  let v31 : BitVec 32 := Scalar.addi v30 c0_i32_20
  let c8_i32_62 : BitVec 32 := 8#32
  let v97 : BitVec 32 := Scalar.muli v31 c8_i32_62
  let c5_i32 : BitVec 32 := 5#32
  let v98 : BitVec 32 := Scalar.addi v97 c5_i32
  let v99 : Index := Scalar.indexCast v98
  ![0, 0, v99.toNat]
def k0_mult6 (v100 : BitVec 32) : BitVec 32 :=
  let c3_i32_65 : BitVec 32 := 3#32
  let v101 : BitVec 32 := Scalar.shrsi v100 c3_i32_65
  let c3_i32_66 : BitVec 32 := 3#32
  let v102 : BitVec 32 := Scalar.shli v101 c3_i32_66
  v102

def k0_off12 (v100 : BitVec 32) : Fin 2 → Nat :=
  let c3_i32_65 : BitVec 32 := 3#32
  let v101 : BitVec 32 := Scalar.shrsi v100 c3_i32_65
  let c3_i32_66 : BitVec 32 := 3#32
  let v102 : BitVec 32 := Scalar.shli v101 c3_i32_66
  let v103 : BitVec 32 := v102
  let v104 : Index := Scalar.indexCast v103
  let c0_67 : Index := 0#32
  ![v104.toNat, 0]

def k0_chk6 (v100 : BitVec 32) : Prop :=
  (8 ∣ (k0_mult6 v100).toNat) ∧
  (∀ a, (k0_off12 v100) a + S8x384.size a ≤ S11328x384.size a)
theorem k0_mult6_dvd : ∀ (v100 : BitVec 32) (k0_hw6 : k0_chk6 v100), 8 ∣ (k0_mult6 v100).toNat := fun v100 k0_hw6 => k0_hw6.1
theorem k0_off12_inb : ∀ (v100 : BitVec 32) (k0_hw6 : k0_chk6 v100), ∀ a, (k0_off12 v100) a + S8x384.size a ≤ S11328x384.size a := fun v100 k0_hw6 => k0_hw6.2

def k0_off13 (k0_t1 : Fin k0_t1_loop.trips) : Fin 3 → Nat :=
  let c0_71 : Index := 0#32
  let c0_72 : Index := 0#32
  let c0_i32 : BitVec 32 := 0#32
  let c1_i32 : BitVec 32 := 1#32
  let arg17 : BitVec 32 := Scf.iv c0_i32 c1_i32 k0_t1
  let c8_i32 : BitVec 32 := 8#32
  let v30 : BitVec 32 := Scalar.muli arg17 c8_i32
  let c0_i32_20 : BitVec 32 := 0#32
  let v31 : BitVec 32 := Scalar.addi v30 c0_i32_20
  let c8_i32_70 : BitVec 32 := 8#32
  let v110 : BitVec 32 := Scalar.muli v31 c8_i32_70
  let c6_i32 : BitVec 32 := 6#32
  let v111 : BitVec 32 := Scalar.addi v110 c6_i32
  let v112 : Index := Scalar.indexCast v111
  ![0, 0, v112.toNat]
def k0_mult7 (v113 : BitVec 32) : BitVec 32 :=
  let c3_i32_73 : BitVec 32 := 3#32
  let v114 : BitVec 32 := Scalar.shrsi v113 c3_i32_73
  let c3_i32_74 : BitVec 32 := 3#32
  let v115 : BitVec 32 := Scalar.shli v114 c3_i32_74
  v115

def k0_off14 (v113 : BitVec 32) : Fin 2 → Nat :=
  let c3_i32_73 : BitVec 32 := 3#32
  let v114 : BitVec 32 := Scalar.shrsi v113 c3_i32_73
  let c3_i32_74 : BitVec 32 := 3#32
  let v115 : BitVec 32 := Scalar.shli v114 c3_i32_74
  let v116 : BitVec 32 := v115
  let v117 : Index := Scalar.indexCast v116
  let c0_75 : Index := 0#32
  ![v117.toNat, 0]

def k0_chk7 (v113 : BitVec 32) : Prop :=
  (8 ∣ (k0_mult7 v113).toNat) ∧
  (∀ a, (k0_off14 v113) a + S8x384.size a ≤ S11328x384.size a)
theorem k0_mult7_dvd : ∀ (v113 : BitVec 32) (k0_hw7 : k0_chk7 v113), 8 ∣ (k0_mult7 v113).toNat := fun v113 k0_hw7 => k0_hw7.1
theorem k0_off14_inb : ∀ (v113 : BitVec 32) (k0_hw7 : k0_chk7 v113), ∀ a, (k0_off14 v113) a + S8x384.size a ≤ S11328x384.size a := fun v113 k0_hw7 => k0_hw7.2

def k0_off15 (k0_t1 : Fin k0_t1_loop.trips) : Fin 3 → Nat :=
  let c0_80 : Index := 0#32
  let c0_81 : Index := 0#32
  let c0_i32 : BitVec 32 := 0#32
  let c1_i32 : BitVec 32 := 1#32
  let arg17 : BitVec 32 := Scf.iv c0_i32 c1_i32 k0_t1
  let c8_i32 : BitVec 32 := 8#32
  let v30 : BitVec 32 := Scalar.muli arg17 c8_i32
  let c0_i32_20 : BitVec 32 := 0#32
  let v31 : BitVec 32 := Scalar.addi v30 c0_i32_20
  let c8_i32_78 : BitVec 32 := 8#32
  let v123 : BitVec 32 := Scalar.muli v31 c8_i32_78
  let c7_i32_79 : BitVec 32 := 7#32
  let v124 : BitVec 32 := Scalar.addi v123 c7_i32_79
  let v125 : Index := Scalar.indexCast v124
  ![0, 0, v125.toNat]
def k0_mult8 (v126 : BitVec 32) : BitVec 32 :=
  let c3_i32_82 : BitVec 32 := 3#32
  let v127 : BitVec 32 := Scalar.shrsi v126 c3_i32_82
  let c3_i32_83 : BitVec 32 := 3#32
  let v128 : BitVec 32 := Scalar.shli v127 c3_i32_83
  v128

def k0_off16 (v126 : BitVec 32) : Fin 2 → Nat :=
  let c3_i32_82 : BitVec 32 := 3#32
  let v127 : BitVec 32 := Scalar.shrsi v126 c3_i32_82
  let c3_i32_83 : BitVec 32 := 3#32
  let v128 : BitVec 32 := Scalar.shli v127 c3_i32_83
  let v129 : BitVec 32 := v128
  let v130 : Index := Scalar.indexCast v129
  let c0_84 : Index := 0#32
  ![v130.toNat, 0]

def k0_chk8 (v126 : BitVec 32) : Prop :=
  (8 ∣ (k0_mult8 v126).toNat) ∧
  (∀ a, (k0_off16 v126) a + S8x384.size a ≤ S11328x384.size a)
theorem k0_mult8_dvd : ∀ (v126 : BitVec 32) (k0_hw8 : k0_chk8 v126), 8 ∣ (k0_mult8 v126).toNat := fun v126 k0_hw8 => k0_hw8.1
theorem k0_off16_inb : ∀ (v126 : BitVec 32) (k0_hw8 : k0_chk8 v126), ∀ a, (k0_off16 v126) a + S8x384.size a ≤ S11328x384.size a := fun v126 k0_hw8 => k0_hw8.2

def k0_mult9 (k0_t1 : Fin k0_t1_loop.trips) : BitVec 32 :=
  let c0_i32 : BitVec 32 := 0#32
  let c1_i32 : BitVec 32 := 1#32
  let arg17 : BitVec 32 := Scf.iv c0_i32 c1_i32 k0_t1
  let c8_i32 : BitVec 32 := 8#32
  let v30 : BitVec 32 := Scalar.muli arg17 c8_i32
  let c0_i32_20 : BitVec 32 := 0#32
  let v31 : BitVec 32 := Scalar.addi v30 c0_i32_20
  let c8_i32_94 : BitVec 32 := 8#32
  let v157 : BitVec 32 := Scalar.muli v31 c8_i32_94
  v157
def k0_off17 (k0_t1 : Fin k0_t1_loop.trips) : Fin 2 → Nat :=
  let c0_i32 : BitVec 32 := 0#32
  let c1_i32 : BitVec 32 := 1#32
  let arg17 : BitVec 32 := Scf.iv c0_i32 c1_i32 k0_t1
  let c8_i32 : BitVec 32 := 8#32
  let v30 : BitVec 32 := Scalar.muli arg17 c8_i32
  let c0_i32_20 : BitVec 32 := 0#32
  let v31 : BitVec 32 := Scalar.addi v30 c0_i32_20
  let c8_i32_94 : BitVec 32 := 8#32
  let v157 : BitVec 32 := Scalar.muli v31 c8_i32_94
  let v158 : BitVec 32 := v157
  let v159 : Index := Scalar.indexCast v158
  let c0_95 : Index := 0#32
  ![v159.toNat, 0]
def k0_off18 (k0_t1 : Fin k0_t1_loop.trips) : Fin 3 → Nat :=
  let c0_100 : Index := 0#32
  let c0_101 : Index := 0#32
  let c0_i32 : BitVec 32 := 0#32
  let c1_i32 : BitVec 32 := 1#32
  let arg17 : BitVec 32 := Scf.iv c0_i32 c1_i32 k0_t1
  let c8_i32_96 : BitVec 32 := 8#32
  let v163 : BitVec 32 := Scalar.muli arg17 c8_i32_96
  let c1_i32_97 : BitVec 32 := 1#32
  let v164 : BitVec 32 := Scalar.addi v163 c1_i32_97
  let c8_i32_98 : BitVec 32 := 8#32
  let v165 : BitVec 32 := Scalar.muli v164 c8_i32_98
  let c0_i32_99 : BitVec 32 := 0#32
  let v166 : BitVec 32 := Scalar.addi v165 c0_i32_99
  let v167 : Index := Scalar.indexCast v166
  ![0, 0, v167.toNat]
def k0_mult10 (v168 : BitVec 32) : BitVec 32 :=
  let c3_i32_102 : BitVec 32 := 3#32
  let v169 : BitVec 32 := Scalar.shrsi v168 c3_i32_102
  let c3_i32_103 : BitVec 32 := 3#32
  let v170 : BitVec 32 := Scalar.shli v169 c3_i32_103
  v170

def k0_off19 (v168 : BitVec 32) : Fin 2 → Nat :=
  let c3_i32_102 : BitVec 32 := 3#32
  let v169 : BitVec 32 := Scalar.shrsi v168 c3_i32_102
  let c3_i32_103 : BitVec 32 := 3#32
  let v170 : BitVec 32 := Scalar.shli v169 c3_i32_103
  let v171 : BitVec 32 := v170
  let v172 : Index := Scalar.indexCast v171
  let c0_104 : Index := 0#32
  ![v172.toNat, 0]

def k0_chk9 (v168 : BitVec 32) : Prop :=
  (8 ∣ (k0_mult10 v168).toNat) ∧
  (∀ a, (k0_off19 v168) a + S8x384.size a ≤ S11328x384.size a)
theorem k0_mult10_dvd : ∀ (v168 : BitVec 32) (k0_hw9 : k0_chk9 v168), 8 ∣ (k0_mult10 v168).toNat := fun v168 k0_hw9 => k0_hw9.1
theorem k0_off19_inb : ∀ (v168 : BitVec 32) (k0_hw9 : k0_chk9 v168), ∀ a, (k0_off19 v168) a + S8x384.size a ≤ S11328x384.size a := fun v168 k0_hw9 => k0_hw9.2

def k0_off20 (k0_t1 : Fin k0_t1_loop.trips) : Fin 3 → Nat :=
  let c0_109 : Index := 0#32
  let c0_110 : Index := 0#32
  let c0_i32 : BitVec 32 := 0#32
  let c1_i32 : BitVec 32 := 1#32
  let arg17 : BitVec 32 := Scf.iv c0_i32 c1_i32 k0_t1
  let c8_i32_96 : BitVec 32 := 8#32
  let v163 : BitVec 32 := Scalar.muli arg17 c8_i32_96
  let c1_i32_97 : BitVec 32 := 1#32
  let v164 : BitVec 32 := Scalar.addi v163 c1_i32_97
  let c8_i32_107 : BitVec 32 := 8#32
  let v178 : BitVec 32 := Scalar.muli v164 c8_i32_107
  let c1_i32_108 : BitVec 32 := 1#32
  let v179 : BitVec 32 := Scalar.addi v178 c1_i32_108
  let v180 : Index := Scalar.indexCast v179
  ![0, 0, v180.toNat]
def k0_mult11 (v181 : BitVec 32) : BitVec 32 :=
  let c3_i32_111 : BitVec 32 := 3#32
  let v182 : BitVec 32 := Scalar.shrsi v181 c3_i32_111
  let c3_i32_112 : BitVec 32 := 3#32
  let v183 : BitVec 32 := Scalar.shli v182 c3_i32_112
  v183

def k0_off21 (v181 : BitVec 32) : Fin 2 → Nat :=
  let c3_i32_111 : BitVec 32 := 3#32
  let v182 : BitVec 32 := Scalar.shrsi v181 c3_i32_111
  let c3_i32_112 : BitVec 32 := 3#32
  let v183 : BitVec 32 := Scalar.shli v182 c3_i32_112
  let v184 : BitVec 32 := v183
  let v185 : Index := Scalar.indexCast v184
  let c0_113 : Index := 0#32
  ![v185.toNat, 0]

def k0_chk10 (v181 : BitVec 32) : Prop :=
  (8 ∣ (k0_mult11 v181).toNat) ∧
  (∀ a, (k0_off21 v181) a + S8x384.size a ≤ S11328x384.size a)
theorem k0_mult11_dvd : ∀ (v181 : BitVec 32) (k0_hw10 : k0_chk10 v181), 8 ∣ (k0_mult11 v181).toNat := fun v181 k0_hw10 => k0_hw10.1
theorem k0_off21_inb : ∀ (v181 : BitVec 32) (k0_hw10 : k0_chk10 v181), ∀ a, (k0_off21 v181) a + S8x384.size a ≤ S11328x384.size a := fun v181 k0_hw10 => k0_hw10.2

def k0_off22 (k0_t1 : Fin k0_t1_loop.trips) : Fin 3 → Nat :=
  let c0_118 : Index := 0#32
  let c0_119 : Index := 0#32
  let c0_i32 : BitVec 32 := 0#32
  let c1_i32 : BitVec 32 := 1#32
  let arg17 : BitVec 32 := Scf.iv c0_i32 c1_i32 k0_t1
  let c8_i32_96 : BitVec 32 := 8#32
  let v163 : BitVec 32 := Scalar.muli arg17 c8_i32_96
  let c1_i32_97 : BitVec 32 := 1#32
  let v164 : BitVec 32 := Scalar.addi v163 c1_i32_97
  let c8_i32_116 : BitVec 32 := 8#32
  let v191 : BitVec 32 := Scalar.muli v164 c8_i32_116
  let c2_i32_117 : BitVec 32 := 2#32
  let v192 : BitVec 32 := Scalar.addi v191 c2_i32_117
  let v193 : Index := Scalar.indexCast v192
  ![0, 0, v193.toNat]
def k0_mult12 (v194 : BitVec 32) : BitVec 32 :=
  let c3_i32_120 : BitVec 32 := 3#32
  let v195 : BitVec 32 := Scalar.shrsi v194 c3_i32_120
  let c3_i32_121 : BitVec 32 := 3#32
  let v196 : BitVec 32 := Scalar.shli v195 c3_i32_121
  v196

def k0_off23 (v194 : BitVec 32) : Fin 2 → Nat :=
  let c3_i32_120 : BitVec 32 := 3#32
  let v195 : BitVec 32 := Scalar.shrsi v194 c3_i32_120
  let c3_i32_121 : BitVec 32 := 3#32
  let v196 : BitVec 32 := Scalar.shli v195 c3_i32_121
  let v197 : BitVec 32 := v196
  let v198 : Index := Scalar.indexCast v197
  let c0_122 : Index := 0#32
  ![v198.toNat, 0]

def k0_chk11 (v194 : BitVec 32) : Prop :=
  (8 ∣ (k0_mult12 v194).toNat) ∧
  (∀ a, (k0_off23 v194) a + S8x384.size a ≤ S11328x384.size a)
theorem k0_mult12_dvd : ∀ (v194 : BitVec 32) (k0_hw11 : k0_chk11 v194), 8 ∣ (k0_mult12 v194).toNat := fun v194 k0_hw11 => k0_hw11.1
theorem k0_off23_inb : ∀ (v194 : BitVec 32) (k0_hw11 : k0_chk11 v194), ∀ a, (k0_off23 v194) a + S8x384.size a ≤ S11328x384.size a := fun v194 k0_hw11 => k0_hw11.2

def k0_off24 (k0_t1 : Fin k0_t1_loop.trips) : Fin 3 → Nat :=
  let c0_127 : Index := 0#32
  let c0_128 : Index := 0#32
  let c0_i32 : BitVec 32 := 0#32
  let c1_i32 : BitVec 32 := 1#32
  let arg17 : BitVec 32 := Scf.iv c0_i32 c1_i32 k0_t1
  let c8_i32_96 : BitVec 32 := 8#32
  let v163 : BitVec 32 := Scalar.muli arg17 c8_i32_96
  let c1_i32_97 : BitVec 32 := 1#32
  let v164 : BitVec 32 := Scalar.addi v163 c1_i32_97
  let c8_i32_125 : BitVec 32 := 8#32
  let v204 : BitVec 32 := Scalar.muli v164 c8_i32_125
  let c3_i32_126 : BitVec 32 := 3#32
  let v205 : BitVec 32 := Scalar.addi v204 c3_i32_126
  let v206 : Index := Scalar.indexCast v205
  ![0, 0, v206.toNat]
def k0_mult13 (v207 : BitVec 32) : BitVec 32 :=
  let c3_i32_129 : BitVec 32 := 3#32
  let v208 : BitVec 32 := Scalar.shrsi v207 c3_i32_129
  let c3_i32_130 : BitVec 32 := 3#32
  let v209 : BitVec 32 := Scalar.shli v208 c3_i32_130
  v209

def k0_off25 (v207 : BitVec 32) : Fin 2 → Nat :=
  let c3_i32_129 : BitVec 32 := 3#32
  let v208 : BitVec 32 := Scalar.shrsi v207 c3_i32_129
  let c3_i32_130 : BitVec 32 := 3#32
  let v209 : BitVec 32 := Scalar.shli v208 c3_i32_130
  let v210 : BitVec 32 := v209
  let v211 : Index := Scalar.indexCast v210
  let c0_131 : Index := 0#32
  ![v211.toNat, 0]

def k0_chk12 (v207 : BitVec 32) : Prop :=
  (8 ∣ (k0_mult13 v207).toNat) ∧
  (∀ a, (k0_off25 v207) a + S8x384.size a ≤ S11328x384.size a)
theorem k0_mult13_dvd : ∀ (v207 : BitVec 32) (k0_hw12 : k0_chk12 v207), 8 ∣ (k0_mult13 v207).toNat := fun v207 k0_hw12 => k0_hw12.1
theorem k0_off25_inb : ∀ (v207 : BitVec 32) (k0_hw12 : k0_chk12 v207), ∀ a, (k0_off25 v207) a + S8x384.size a ≤ S11328x384.size a := fun v207 k0_hw12 => k0_hw12.2

def k0_off26 (k0_t1 : Fin k0_t1_loop.trips) : Fin 3 → Nat :=
  let c0_136 : Index := 0#32
  let c0_137 : Index := 0#32
  let c0_i32 : BitVec 32 := 0#32
  let c1_i32 : BitVec 32 := 1#32
  let arg17 : BitVec 32 := Scf.iv c0_i32 c1_i32 k0_t1
  let c8_i32_96 : BitVec 32 := 8#32
  let v163 : BitVec 32 := Scalar.muli arg17 c8_i32_96
  let c1_i32_97 : BitVec 32 := 1#32
  let v164 : BitVec 32 := Scalar.addi v163 c1_i32_97
  let c8_i32_134 : BitVec 32 := 8#32
  let v217 : BitVec 32 := Scalar.muli v164 c8_i32_134
  let c4_i32_135 : BitVec 32 := 4#32
  let v218 : BitVec 32 := Scalar.addi v217 c4_i32_135
  let v219 : Index := Scalar.indexCast v218
  ![0, 0, v219.toNat]
def k0_mult14 (v220 : BitVec 32) : BitVec 32 :=
  let c3_i32_138 : BitVec 32 := 3#32
  let v221 : BitVec 32 := Scalar.shrsi v220 c3_i32_138
  let c3_i32_139 : BitVec 32 := 3#32
  let v222 : BitVec 32 := Scalar.shli v221 c3_i32_139
  v222

def k0_off27 (v220 : BitVec 32) : Fin 2 → Nat :=
  let c3_i32_138 : BitVec 32 := 3#32
  let v221 : BitVec 32 := Scalar.shrsi v220 c3_i32_138
  let c3_i32_139 : BitVec 32 := 3#32
  let v222 : BitVec 32 := Scalar.shli v221 c3_i32_139
  let v223 : BitVec 32 := v222
  let v224 : Index := Scalar.indexCast v223
  let c0_140 : Index := 0#32
  ![v224.toNat, 0]

def k0_chk13 (v220 : BitVec 32) : Prop :=
  (8 ∣ (k0_mult14 v220).toNat) ∧
  (∀ a, (k0_off27 v220) a + S8x384.size a ≤ S11328x384.size a)
theorem k0_mult14_dvd : ∀ (v220 : BitVec 32) (k0_hw13 : k0_chk13 v220), 8 ∣ (k0_mult14 v220).toNat := fun v220 k0_hw13 => k0_hw13.1
theorem k0_off27_inb : ∀ (v220 : BitVec 32) (k0_hw13 : k0_chk13 v220), ∀ a, (k0_off27 v220) a + S8x384.size a ≤ S11328x384.size a := fun v220 k0_hw13 => k0_hw13.2

def k0_off28 (k0_t1 : Fin k0_t1_loop.trips) : Fin 3 → Nat :=
  let c0_145 : Index := 0#32
  let c0_146 : Index := 0#32
  let c0_i32 : BitVec 32 := 0#32
  let c1_i32 : BitVec 32 := 1#32
  let arg17 : BitVec 32 := Scf.iv c0_i32 c1_i32 k0_t1
  let c8_i32_96 : BitVec 32 := 8#32
  let v163 : BitVec 32 := Scalar.muli arg17 c8_i32_96
  let c1_i32_97 : BitVec 32 := 1#32
  let v164 : BitVec 32 := Scalar.addi v163 c1_i32_97
  let c8_i32_143 : BitVec 32 := 8#32
  let v230 : BitVec 32 := Scalar.muli v164 c8_i32_143
  let c5_i32_144 : BitVec 32 := 5#32
  let v231 : BitVec 32 := Scalar.addi v230 c5_i32_144
  let v232 : Index := Scalar.indexCast v231
  ![0, 0, v232.toNat]
def k0_mult15 (v233 : BitVec 32) : BitVec 32 :=
  let c3_i32_147 : BitVec 32 := 3#32
  let v234 : BitVec 32 := Scalar.shrsi v233 c3_i32_147
  let c3_i32_148 : BitVec 32 := 3#32
  let v235 : BitVec 32 := Scalar.shli v234 c3_i32_148
  v235

def k0_off29 (v233 : BitVec 32) : Fin 2 → Nat :=
  let c3_i32_147 : BitVec 32 := 3#32
  let v234 : BitVec 32 := Scalar.shrsi v233 c3_i32_147
  let c3_i32_148 : BitVec 32 := 3#32
  let v235 : BitVec 32 := Scalar.shli v234 c3_i32_148
  let v236 : BitVec 32 := v235
  let v237 : Index := Scalar.indexCast v236
  let c0_149 : Index := 0#32
  ![v237.toNat, 0]

def k0_chk14 (v233 : BitVec 32) : Prop :=
  (8 ∣ (k0_mult15 v233).toNat) ∧
  (∀ a, (k0_off29 v233) a + S8x384.size a ≤ S11328x384.size a)
theorem k0_mult15_dvd : ∀ (v233 : BitVec 32) (k0_hw14 : k0_chk14 v233), 8 ∣ (k0_mult15 v233).toNat := fun v233 k0_hw14 => k0_hw14.1
theorem k0_off29_inb : ∀ (v233 : BitVec 32) (k0_hw14 : k0_chk14 v233), ∀ a, (k0_off29 v233) a + S8x384.size a ≤ S11328x384.size a := fun v233 k0_hw14 => k0_hw14.2

def k0_off30 (k0_t1 : Fin k0_t1_loop.trips) : Fin 3 → Nat :=
  let c0_154 : Index := 0#32
  let c0_155 : Index := 0#32
  let c0_i32 : BitVec 32 := 0#32
  let c1_i32 : BitVec 32 := 1#32
  let arg17 : BitVec 32 := Scf.iv c0_i32 c1_i32 k0_t1
  let c8_i32_96 : BitVec 32 := 8#32
  let v163 : BitVec 32 := Scalar.muli arg17 c8_i32_96
  let c1_i32_97 : BitVec 32 := 1#32
  let v164 : BitVec 32 := Scalar.addi v163 c1_i32_97
  let c8_i32_152 : BitVec 32 := 8#32
  let v243 : BitVec 32 := Scalar.muli v164 c8_i32_152
  let c6_i32_153 : BitVec 32 := 6#32
  let v244 : BitVec 32 := Scalar.addi v243 c6_i32_153
  let v245 : Index := Scalar.indexCast v244
  ![0, 0, v245.toNat]
def k0_mult16 (v246 : BitVec 32) : BitVec 32 :=
  let c3_i32_156 : BitVec 32 := 3#32
  let v247 : BitVec 32 := Scalar.shrsi v246 c3_i32_156
  let c3_i32_157 : BitVec 32 := 3#32
  let v248 : BitVec 32 := Scalar.shli v247 c3_i32_157
  v248

def k0_off31 (v246 : BitVec 32) : Fin 2 → Nat :=
  let c3_i32_156 : BitVec 32 := 3#32
  let v247 : BitVec 32 := Scalar.shrsi v246 c3_i32_156
  let c3_i32_157 : BitVec 32 := 3#32
  let v248 : BitVec 32 := Scalar.shli v247 c3_i32_157
  let v249 : BitVec 32 := v248
  let v250 : Index := Scalar.indexCast v249
  let c0_158 : Index := 0#32
  ![v250.toNat, 0]

def k0_chk15 (v246 : BitVec 32) : Prop :=
  (8 ∣ (k0_mult16 v246).toNat) ∧
  (∀ a, (k0_off31 v246) a + S8x384.size a ≤ S11328x384.size a)
theorem k0_mult16_dvd : ∀ (v246 : BitVec 32) (k0_hw15 : k0_chk15 v246), 8 ∣ (k0_mult16 v246).toNat := fun v246 k0_hw15 => k0_hw15.1
theorem k0_off31_inb : ∀ (v246 : BitVec 32) (k0_hw15 : k0_chk15 v246), ∀ a, (k0_off31 v246) a + S8x384.size a ≤ S11328x384.size a := fun v246 k0_hw15 => k0_hw15.2

def k0_off32 (k0_t1 : Fin k0_t1_loop.trips) : Fin 3 → Nat :=
  let c0_163 : Index := 0#32
  let c0_164 : Index := 0#32
  let c0_i32 : BitVec 32 := 0#32
  let c1_i32 : BitVec 32 := 1#32
  let arg17 : BitVec 32 := Scf.iv c0_i32 c1_i32 k0_t1
  let c8_i32_96 : BitVec 32 := 8#32
  let v163 : BitVec 32 := Scalar.muli arg17 c8_i32_96
  let c1_i32_97 : BitVec 32 := 1#32
  let v164 : BitVec 32 := Scalar.addi v163 c1_i32_97
  let c8_i32_161 : BitVec 32 := 8#32
  let v256 : BitVec 32 := Scalar.muli v164 c8_i32_161
  let c7_i32_162 : BitVec 32 := 7#32
  let v257 : BitVec 32 := Scalar.addi v256 c7_i32_162
  let v258 : Index := Scalar.indexCast v257
  ![0, 0, v258.toNat]
def k0_mult17 (v259 : BitVec 32) : BitVec 32 :=
  let c3_i32_165 : BitVec 32 := 3#32
  let v260 : BitVec 32 := Scalar.shrsi v259 c3_i32_165
  let c3_i32_166 : BitVec 32 := 3#32
  let v261 : BitVec 32 := Scalar.shli v260 c3_i32_166
  v261

def k0_off33 (v259 : BitVec 32) : Fin 2 → Nat :=
  let c3_i32_165 : BitVec 32 := 3#32
  let v260 : BitVec 32 := Scalar.shrsi v259 c3_i32_165
  let c3_i32_166 : BitVec 32 := 3#32
  let v261 : BitVec 32 := Scalar.shli v260 c3_i32_166
  let v262 : BitVec 32 := v261
  let v263 : Index := Scalar.indexCast v262
  let c0_167 : Index := 0#32
  ![v263.toNat, 0]

def k0_chk16 (v259 : BitVec 32) : Prop :=
  (8 ∣ (k0_mult17 v259).toNat) ∧
  (∀ a, (k0_off33 v259) a + S8x384.size a ≤ S11328x384.size a)
theorem k0_mult17_dvd : ∀ (v259 : BitVec 32) (k0_hw16 : k0_chk16 v259), 8 ∣ (k0_mult17 v259).toNat := fun v259 k0_hw16 => k0_hw16.1
theorem k0_off33_inb : ∀ (v259 : BitVec 32) (k0_hw16 : k0_chk16 v259), ∀ a, (k0_off33 v259) a + S8x384.size a ≤ S11328x384.size a := fun v259 k0_hw16 => k0_hw16.2

def k0_mult18 (k0_t1 : Fin k0_t1_loop.trips) : BitVec 32 :=
  let c0_i32 : BitVec 32 := 0#32
  let c1_i32 : BitVec 32 := 1#32
  let arg17 : BitVec 32 := Scf.iv c0_i32 c1_i32 k0_t1
  let c8_i32_96 : BitVec 32 := 8#32
  let v163 : BitVec 32 := Scalar.muli arg17 c8_i32_96
  let c1_i32_97 : BitVec 32 := 1#32
  let v164 : BitVec 32 := Scalar.addi v163 c1_i32_97
  let c8_i32_177 : BitVec 32 := 8#32
  let v290 : BitVec 32 := Scalar.muli v164 c8_i32_177
  v290
def k0_off34 (k0_t1 : Fin k0_t1_loop.trips) : Fin 2 → Nat :=
  let c0_i32 : BitVec 32 := 0#32
  let c1_i32 : BitVec 32 := 1#32
  let arg17 : BitVec 32 := Scf.iv c0_i32 c1_i32 k0_t1
  let c8_i32_96 : BitVec 32 := 8#32
  let v163 : BitVec 32 := Scalar.muli arg17 c8_i32_96
  let c1_i32_97 : BitVec 32 := 1#32
  let v164 : BitVec 32 := Scalar.addi v163 c1_i32_97
  let c8_i32_177 : BitVec 32 := 8#32
  let v290 : BitVec 32 := Scalar.muli v164 c8_i32_177
  let v291 : BitVec 32 := v290
  let v292 : Index := Scalar.indexCast v291
  let c0_178 : Index := 0#32
  ![v292.toNat, 0]
def k0_off35 (k0_t1 : Fin k0_t1_loop.trips) : Fin 3 → Nat :=
  let c0_183 : Index := 0#32
  let c0_184 : Index := 0#32
  let c0_i32 : BitVec 32 := 0#32
  let c1_i32 : BitVec 32 := 1#32
  let arg17 : BitVec 32 := Scf.iv c0_i32 c1_i32 k0_t1
  let c8_i32_179 : BitVec 32 := 8#32
  let v296 : BitVec 32 := Scalar.muli arg17 c8_i32_179
  let c2_i32_180 : BitVec 32 := 2#32
  let v297 : BitVec 32 := Scalar.addi v296 c2_i32_180
  let c8_i32_181 : BitVec 32 := 8#32
  let v298 : BitVec 32 := Scalar.muli v297 c8_i32_181
  let c0_i32_182 : BitVec 32 := 0#32
  let v299 : BitVec 32 := Scalar.addi v298 c0_i32_182
  let v300 : Index := Scalar.indexCast v299
  ![0, 0, v300.toNat]
def k0_mult19 (v301 : BitVec 32) : BitVec 32 :=
  let c3_i32_185 : BitVec 32 := 3#32
  let v302 : BitVec 32 := Scalar.shrsi v301 c3_i32_185
  let c3_i32_186 : BitVec 32 := 3#32
  let v303 : BitVec 32 := Scalar.shli v302 c3_i32_186
  v303

def k0_off36 (v301 : BitVec 32) : Fin 2 → Nat :=
  let c3_i32_185 : BitVec 32 := 3#32
  let v302 : BitVec 32 := Scalar.shrsi v301 c3_i32_185
  let c3_i32_186 : BitVec 32 := 3#32
  let v303 : BitVec 32 := Scalar.shli v302 c3_i32_186
  let v304 : BitVec 32 := v303
  let v305 : Index := Scalar.indexCast v304
  let c0_187 : Index := 0#32
  ![v305.toNat, 0]

def k0_chk17 (v301 : BitVec 32) : Prop :=
  (8 ∣ (k0_mult19 v301).toNat) ∧
  (∀ a, (k0_off36 v301) a + S8x384.size a ≤ S11328x384.size a)
theorem k0_mult19_dvd : ∀ (v301 : BitVec 32) (k0_hw17 : k0_chk17 v301), 8 ∣ (k0_mult19 v301).toNat := fun v301 k0_hw17 => k0_hw17.1
theorem k0_off36_inb : ∀ (v301 : BitVec 32) (k0_hw17 : k0_chk17 v301), ∀ a, (k0_off36 v301) a + S8x384.size a ≤ S11328x384.size a := fun v301 k0_hw17 => k0_hw17.2

def k0_off37 (k0_t1 : Fin k0_t1_loop.trips) : Fin 3 → Nat :=
  let c0_192 : Index := 0#32
  let c0_193 : Index := 0#32
  let c0_i32 : BitVec 32 := 0#32
  let c1_i32 : BitVec 32 := 1#32
  let arg17 : BitVec 32 := Scf.iv c0_i32 c1_i32 k0_t1
  let c8_i32_179 : BitVec 32 := 8#32
  let v296 : BitVec 32 := Scalar.muli arg17 c8_i32_179
  let c2_i32_180 : BitVec 32 := 2#32
  let v297 : BitVec 32 := Scalar.addi v296 c2_i32_180
  let c8_i32_190 : BitVec 32 := 8#32
  let v311 : BitVec 32 := Scalar.muli v297 c8_i32_190
  let c1_i32_191 : BitVec 32 := 1#32
  let v312 : BitVec 32 := Scalar.addi v311 c1_i32_191
  let v313 : Index := Scalar.indexCast v312
  ![0, 0, v313.toNat]
def k0_mult20 (v314 : BitVec 32) : BitVec 32 :=
  let c3_i32_194 : BitVec 32 := 3#32
  let v315 : BitVec 32 := Scalar.shrsi v314 c3_i32_194
  let c3_i32_195 : BitVec 32 := 3#32
  let v316 : BitVec 32 := Scalar.shli v315 c3_i32_195
  v316

def k0_off38 (v314 : BitVec 32) : Fin 2 → Nat :=
  let c3_i32_194 : BitVec 32 := 3#32
  let v315 : BitVec 32 := Scalar.shrsi v314 c3_i32_194
  let c3_i32_195 : BitVec 32 := 3#32
  let v316 : BitVec 32 := Scalar.shli v315 c3_i32_195
  let v317 : BitVec 32 := v316
  let v318 : Index := Scalar.indexCast v317
  let c0_196 : Index := 0#32
  ![v318.toNat, 0]

def k0_chk18 (v314 : BitVec 32) : Prop :=
  (8 ∣ (k0_mult20 v314).toNat) ∧
  (∀ a, (k0_off38 v314) a + S8x384.size a ≤ S11328x384.size a)
theorem k0_mult20_dvd : ∀ (v314 : BitVec 32) (k0_hw18 : k0_chk18 v314), 8 ∣ (k0_mult20 v314).toNat := fun v314 k0_hw18 => k0_hw18.1
theorem k0_off38_inb : ∀ (v314 : BitVec 32) (k0_hw18 : k0_chk18 v314), ∀ a, (k0_off38 v314) a + S8x384.size a ≤ S11328x384.size a := fun v314 k0_hw18 => k0_hw18.2

def k0_off39 (k0_t1 : Fin k0_t1_loop.trips) : Fin 3 → Nat :=
  let c0_201 : Index := 0#32
  let c0_202 : Index := 0#32
  let c0_i32 : BitVec 32 := 0#32
  let c1_i32 : BitVec 32 := 1#32
  let arg17 : BitVec 32 := Scf.iv c0_i32 c1_i32 k0_t1
  let c8_i32_179 : BitVec 32 := 8#32
  let v296 : BitVec 32 := Scalar.muli arg17 c8_i32_179
  let c2_i32_180 : BitVec 32 := 2#32
  let v297 : BitVec 32 := Scalar.addi v296 c2_i32_180
  let c8_i32_199 : BitVec 32 := 8#32
  let v324 : BitVec 32 := Scalar.muli v297 c8_i32_199
  let c2_i32_200 : BitVec 32 := 2#32
  let v325 : BitVec 32 := Scalar.addi v324 c2_i32_200
  let v326 : Index := Scalar.indexCast v325
  ![0, 0, v326.toNat]
def k0_mult21 (v327 : BitVec 32) : BitVec 32 :=
  let c3_i32_203 : BitVec 32 := 3#32
  let v328 : BitVec 32 := Scalar.shrsi v327 c3_i32_203
  let c3_i32_204 : BitVec 32 := 3#32
  let v329 : BitVec 32 := Scalar.shli v328 c3_i32_204
  v329

def k0_off40 (v327 : BitVec 32) : Fin 2 → Nat :=
  let c3_i32_203 : BitVec 32 := 3#32
  let v328 : BitVec 32 := Scalar.shrsi v327 c3_i32_203
  let c3_i32_204 : BitVec 32 := 3#32
  let v329 : BitVec 32 := Scalar.shli v328 c3_i32_204
  let v330 : BitVec 32 := v329
  let v331 : Index := Scalar.indexCast v330
  let c0_205 : Index := 0#32
  ![v331.toNat, 0]

def k0_chk19 (v327 : BitVec 32) : Prop :=
  (8 ∣ (k0_mult21 v327).toNat) ∧
  (∀ a, (k0_off40 v327) a + S8x384.size a ≤ S11328x384.size a)
theorem k0_mult21_dvd : ∀ (v327 : BitVec 32) (k0_hw19 : k0_chk19 v327), 8 ∣ (k0_mult21 v327).toNat := fun v327 k0_hw19 => k0_hw19.1
theorem k0_off40_inb : ∀ (v327 : BitVec 32) (k0_hw19 : k0_chk19 v327), ∀ a, (k0_off40 v327) a + S8x384.size a ≤ S11328x384.size a := fun v327 k0_hw19 => k0_hw19.2

def k0_off41 (k0_t1 : Fin k0_t1_loop.trips) : Fin 3 → Nat :=
  let c0_210 : Index := 0#32
  let c0_211 : Index := 0#32
  let c0_i32 : BitVec 32 := 0#32
  let c1_i32 : BitVec 32 := 1#32
  let arg17 : BitVec 32 := Scf.iv c0_i32 c1_i32 k0_t1
  let c8_i32_179 : BitVec 32 := 8#32
  let v296 : BitVec 32 := Scalar.muli arg17 c8_i32_179
  let c2_i32_180 : BitVec 32 := 2#32
  let v297 : BitVec 32 := Scalar.addi v296 c2_i32_180
  let c8_i32_208 : BitVec 32 := 8#32
  let v337 : BitVec 32 := Scalar.muli v297 c8_i32_208
  let c3_i32_209 : BitVec 32 := 3#32
  let v338 : BitVec 32 := Scalar.addi v337 c3_i32_209
  let v339 : Index := Scalar.indexCast v338
  ![0, 0, v339.toNat]
def k0_mult22 (v340 : BitVec 32) : BitVec 32 :=
  let c3_i32_212 : BitVec 32 := 3#32
  let v341 : BitVec 32 := Scalar.shrsi v340 c3_i32_212
  let c3_i32_213 : BitVec 32 := 3#32
  let v342 : BitVec 32 := Scalar.shli v341 c3_i32_213
  v342

def k0_off42 (v340 : BitVec 32) : Fin 2 → Nat :=
  let c3_i32_212 : BitVec 32 := 3#32
  let v341 : BitVec 32 := Scalar.shrsi v340 c3_i32_212
  let c3_i32_213 : BitVec 32 := 3#32
  let v342 : BitVec 32 := Scalar.shli v341 c3_i32_213
  let v343 : BitVec 32 := v342
  let v344 : Index := Scalar.indexCast v343
  let c0_214 : Index := 0#32
  ![v344.toNat, 0]

def k0_chk20 (v340 : BitVec 32) : Prop :=
  (8 ∣ (k0_mult22 v340).toNat) ∧
  (∀ a, (k0_off42 v340) a + S8x384.size a ≤ S11328x384.size a)
theorem k0_mult22_dvd : ∀ (v340 : BitVec 32) (k0_hw20 : k0_chk20 v340), 8 ∣ (k0_mult22 v340).toNat := fun v340 k0_hw20 => k0_hw20.1
theorem k0_off42_inb : ∀ (v340 : BitVec 32) (k0_hw20 : k0_chk20 v340), ∀ a, (k0_off42 v340) a + S8x384.size a ≤ S11328x384.size a := fun v340 k0_hw20 => k0_hw20.2

def k0_off43 (k0_t1 : Fin k0_t1_loop.trips) : Fin 3 → Nat :=
  let c0_219 : Index := 0#32
  let c0_220 : Index := 0#32
  let c0_i32 : BitVec 32 := 0#32
  let c1_i32 : BitVec 32 := 1#32
  let arg17 : BitVec 32 := Scf.iv c0_i32 c1_i32 k0_t1
  let c8_i32_179 : BitVec 32 := 8#32
  let v296 : BitVec 32 := Scalar.muli arg17 c8_i32_179
  let c2_i32_180 : BitVec 32 := 2#32
  let v297 : BitVec 32 := Scalar.addi v296 c2_i32_180
  let c8_i32_217 : BitVec 32 := 8#32
  let v350 : BitVec 32 := Scalar.muli v297 c8_i32_217
  let c4_i32_218 : BitVec 32 := 4#32
  let v351 : BitVec 32 := Scalar.addi v350 c4_i32_218
  let v352 : Index := Scalar.indexCast v351
  ![0, 0, v352.toNat]
def k0_mult23 (v353 : BitVec 32) : BitVec 32 :=
  let c3_i32_221 : BitVec 32 := 3#32
  let v354 : BitVec 32 := Scalar.shrsi v353 c3_i32_221
  let c3_i32_222 : BitVec 32 := 3#32
  let v355 : BitVec 32 := Scalar.shli v354 c3_i32_222
  v355

def k0_off44 (v353 : BitVec 32) : Fin 2 → Nat :=
  let c3_i32_221 : BitVec 32 := 3#32
  let v354 : BitVec 32 := Scalar.shrsi v353 c3_i32_221
  let c3_i32_222 : BitVec 32 := 3#32
  let v355 : BitVec 32 := Scalar.shli v354 c3_i32_222
  let v356 : BitVec 32 := v355
  let v357 : Index := Scalar.indexCast v356
  let c0_223 : Index := 0#32
  ![v357.toNat, 0]

def k0_chk21 (v353 : BitVec 32) : Prop :=
  (8 ∣ (k0_mult23 v353).toNat) ∧
  (∀ a, (k0_off44 v353) a + S8x384.size a ≤ S11328x384.size a)
theorem k0_mult23_dvd : ∀ (v353 : BitVec 32) (k0_hw21 : k0_chk21 v353), 8 ∣ (k0_mult23 v353).toNat := fun v353 k0_hw21 => k0_hw21.1
theorem k0_off44_inb : ∀ (v353 : BitVec 32) (k0_hw21 : k0_chk21 v353), ∀ a, (k0_off44 v353) a + S8x384.size a ≤ S11328x384.size a := fun v353 k0_hw21 => k0_hw21.2

def k0_off45 (k0_t1 : Fin k0_t1_loop.trips) : Fin 3 → Nat :=
  let c0_228 : Index := 0#32
  let c0_229 : Index := 0#32
  let c0_i32 : BitVec 32 := 0#32
  let c1_i32 : BitVec 32 := 1#32
  let arg17 : BitVec 32 := Scf.iv c0_i32 c1_i32 k0_t1
  let c8_i32_179 : BitVec 32 := 8#32
  let v296 : BitVec 32 := Scalar.muli arg17 c8_i32_179
  let c2_i32_180 : BitVec 32 := 2#32
  let v297 : BitVec 32 := Scalar.addi v296 c2_i32_180
  let c8_i32_226 : BitVec 32 := 8#32
  let v363 : BitVec 32 := Scalar.muli v297 c8_i32_226
  let c5_i32_227 : BitVec 32 := 5#32
  let v364 : BitVec 32 := Scalar.addi v363 c5_i32_227
  let v365 : Index := Scalar.indexCast v364
  ![0, 0, v365.toNat]
def k0_mult24 (v366 : BitVec 32) : BitVec 32 :=
  let c3_i32_230 : BitVec 32 := 3#32
  let v367 : BitVec 32 := Scalar.shrsi v366 c3_i32_230
  let c3_i32_231 : BitVec 32 := 3#32
  let v368 : BitVec 32 := Scalar.shli v367 c3_i32_231
  v368

def k0_off46 (v366 : BitVec 32) : Fin 2 → Nat :=
  let c3_i32_230 : BitVec 32 := 3#32
  let v367 : BitVec 32 := Scalar.shrsi v366 c3_i32_230
  let c3_i32_231 : BitVec 32 := 3#32
  let v368 : BitVec 32 := Scalar.shli v367 c3_i32_231
  let v369 : BitVec 32 := v368
  let v370 : Index := Scalar.indexCast v369
  let c0_232 : Index := 0#32
  ![v370.toNat, 0]

def k0_chk22 (v366 : BitVec 32) : Prop :=
  (8 ∣ (k0_mult24 v366).toNat) ∧
  (∀ a, (k0_off46 v366) a + S8x384.size a ≤ S11328x384.size a)
theorem k0_mult24_dvd : ∀ (v366 : BitVec 32) (k0_hw22 : k0_chk22 v366), 8 ∣ (k0_mult24 v366).toNat := fun v366 k0_hw22 => k0_hw22.1
theorem k0_off46_inb : ∀ (v366 : BitVec 32) (k0_hw22 : k0_chk22 v366), ∀ a, (k0_off46 v366) a + S8x384.size a ≤ S11328x384.size a := fun v366 k0_hw22 => k0_hw22.2

def k0_off47 (k0_t1 : Fin k0_t1_loop.trips) : Fin 3 → Nat :=
  let c0_237 : Index := 0#32
  let c0_238 : Index := 0#32
  let c0_i32 : BitVec 32 := 0#32
  let c1_i32 : BitVec 32 := 1#32
  let arg17 : BitVec 32 := Scf.iv c0_i32 c1_i32 k0_t1
  let c8_i32_179 : BitVec 32 := 8#32
  let v296 : BitVec 32 := Scalar.muli arg17 c8_i32_179
  let c2_i32_180 : BitVec 32 := 2#32
  let v297 : BitVec 32 := Scalar.addi v296 c2_i32_180
  let c8_i32_235 : BitVec 32 := 8#32
  let v376 : BitVec 32 := Scalar.muli v297 c8_i32_235
  let c6_i32_236 : BitVec 32 := 6#32
  let v377 : BitVec 32 := Scalar.addi v376 c6_i32_236
  let v378 : Index := Scalar.indexCast v377
  ![0, 0, v378.toNat]
def k0_mult25 (v379 : BitVec 32) : BitVec 32 :=
  let c3_i32_239 : BitVec 32 := 3#32
  let v380 : BitVec 32 := Scalar.shrsi v379 c3_i32_239
  let c3_i32_240 : BitVec 32 := 3#32
  let v381 : BitVec 32 := Scalar.shli v380 c3_i32_240
  v381

def k0_off48 (v379 : BitVec 32) : Fin 2 → Nat :=
  let c3_i32_239 : BitVec 32 := 3#32
  let v380 : BitVec 32 := Scalar.shrsi v379 c3_i32_239
  let c3_i32_240 : BitVec 32 := 3#32
  let v381 : BitVec 32 := Scalar.shli v380 c3_i32_240
  let v382 : BitVec 32 := v381
  let v383 : Index := Scalar.indexCast v382
  let c0_241 : Index := 0#32
  ![v383.toNat, 0]

def k0_chk23 (v379 : BitVec 32) : Prop :=
  (8 ∣ (k0_mult25 v379).toNat) ∧
  (∀ a, (k0_off48 v379) a + S8x384.size a ≤ S11328x384.size a)
theorem k0_mult25_dvd : ∀ (v379 : BitVec 32) (k0_hw23 : k0_chk23 v379), 8 ∣ (k0_mult25 v379).toNat := fun v379 k0_hw23 => k0_hw23.1
theorem k0_off48_inb : ∀ (v379 : BitVec 32) (k0_hw23 : k0_chk23 v379), ∀ a, (k0_off48 v379) a + S8x384.size a ≤ S11328x384.size a := fun v379 k0_hw23 => k0_hw23.2

def k0_off49 (k0_t1 : Fin k0_t1_loop.trips) : Fin 3 → Nat :=
  let c0_246 : Index := 0#32
  let c0_247 : Index := 0#32
  let c0_i32 : BitVec 32 := 0#32
  let c1_i32 : BitVec 32 := 1#32
  let arg17 : BitVec 32 := Scf.iv c0_i32 c1_i32 k0_t1
  let c8_i32_179 : BitVec 32 := 8#32
  let v296 : BitVec 32 := Scalar.muli arg17 c8_i32_179
  let c2_i32_180 : BitVec 32 := 2#32
  let v297 : BitVec 32 := Scalar.addi v296 c2_i32_180
  let c8_i32_244 : BitVec 32 := 8#32
  let v389 : BitVec 32 := Scalar.muli v297 c8_i32_244
  let c7_i32_245 : BitVec 32 := 7#32
  let v390 : BitVec 32 := Scalar.addi v389 c7_i32_245
  let v391 : Index := Scalar.indexCast v390
  ![0, 0, v391.toNat]
def k0_mult26 (v392 : BitVec 32) : BitVec 32 :=
  let c3_i32_248 : BitVec 32 := 3#32
  let v393 : BitVec 32 := Scalar.shrsi v392 c3_i32_248
  let c3_i32_249 : BitVec 32 := 3#32
  let v394 : BitVec 32 := Scalar.shli v393 c3_i32_249
  v394

def k0_off50 (v392 : BitVec 32) : Fin 2 → Nat :=
  let c3_i32_248 : BitVec 32 := 3#32
  let v393 : BitVec 32 := Scalar.shrsi v392 c3_i32_248
  let c3_i32_249 : BitVec 32 := 3#32
  let v394 : BitVec 32 := Scalar.shli v393 c3_i32_249
  let v395 : BitVec 32 := v394
  let v396 : Index := Scalar.indexCast v395
  let c0_250 : Index := 0#32
  ![v396.toNat, 0]

def k0_chk24 (v392 : BitVec 32) : Prop :=
  (8 ∣ (k0_mult26 v392).toNat) ∧
  (∀ a, (k0_off50 v392) a + S8x384.size a ≤ S11328x384.size a)
theorem k0_mult26_dvd : ∀ (v392 : BitVec 32) (k0_hw24 : k0_chk24 v392), 8 ∣ (k0_mult26 v392).toNat := fun v392 k0_hw24 => k0_hw24.1
theorem k0_off50_inb : ∀ (v392 : BitVec 32) (k0_hw24 : k0_chk24 v392), ∀ a, (k0_off50 v392) a + S8x384.size a ≤ S11328x384.size a := fun v392 k0_hw24 => k0_hw24.2

def k0_mult27 (k0_t1 : Fin k0_t1_loop.trips) : BitVec 32 :=
  let c0_i32 : BitVec 32 := 0#32
  let c1_i32 : BitVec 32 := 1#32
  let arg17 : BitVec 32 := Scf.iv c0_i32 c1_i32 k0_t1
  let c8_i32_179 : BitVec 32 := 8#32
  let v296 : BitVec 32 := Scalar.muli arg17 c8_i32_179
  let c2_i32_180 : BitVec 32 := 2#32
  let v297 : BitVec 32 := Scalar.addi v296 c2_i32_180
  let c8_i32_260 : BitVec 32 := 8#32
  let v423 : BitVec 32 := Scalar.muli v297 c8_i32_260
  v423
def k0_off51 (k0_t1 : Fin k0_t1_loop.trips) : Fin 2 → Nat :=
  let c0_i32 : BitVec 32 := 0#32
  let c1_i32 : BitVec 32 := 1#32
  let arg17 : BitVec 32 := Scf.iv c0_i32 c1_i32 k0_t1
  let c8_i32_179 : BitVec 32 := 8#32
  let v296 : BitVec 32 := Scalar.muli arg17 c8_i32_179
  let c2_i32_180 : BitVec 32 := 2#32
  let v297 : BitVec 32 := Scalar.addi v296 c2_i32_180
  let c8_i32_260 : BitVec 32 := 8#32
  let v423 : BitVec 32 := Scalar.muli v297 c8_i32_260
  let v424 : BitVec 32 := v423
  let v425 : Index := Scalar.indexCast v424
  let c0_261 : Index := 0#32
  ![v425.toNat, 0]
def k0_off52 (k0_t1 : Fin k0_t1_loop.trips) : Fin 3 → Nat :=
  let c0_266 : Index := 0#32
  let c0_267 : Index := 0#32
  let c0_i32 : BitVec 32 := 0#32
  let c1_i32 : BitVec 32 := 1#32
  let arg17 : BitVec 32 := Scf.iv c0_i32 c1_i32 k0_t1
  let c8_i32_262 : BitVec 32 := 8#32
  let v429 : BitVec 32 := Scalar.muli arg17 c8_i32_262
  let c3_i32_263 : BitVec 32 := 3#32
  let v430 : BitVec 32 := Scalar.addi v429 c3_i32_263
  let c8_i32_264 : BitVec 32 := 8#32
  let v431 : BitVec 32 := Scalar.muli v430 c8_i32_264
  let c0_i32_265 : BitVec 32 := 0#32
  let v432 : BitVec 32 := Scalar.addi v431 c0_i32_265
  let v433 : Index := Scalar.indexCast v432
  ![0, 0, v433.toNat]
def k0_mult28 (v434 : BitVec 32) : BitVec 32 :=
  let c3_i32_268 : BitVec 32 := 3#32
  let v435 : BitVec 32 := Scalar.shrsi v434 c3_i32_268
  let c3_i32_269 : BitVec 32 := 3#32
  let v436 : BitVec 32 := Scalar.shli v435 c3_i32_269
  v436

def k0_off53 (v434 : BitVec 32) : Fin 2 → Nat :=
  let c3_i32_268 : BitVec 32 := 3#32
  let v435 : BitVec 32 := Scalar.shrsi v434 c3_i32_268
  let c3_i32_269 : BitVec 32 := 3#32
  let v436 : BitVec 32 := Scalar.shli v435 c3_i32_269
  let v437 : BitVec 32 := v436
  let v438 : Index := Scalar.indexCast v437
  let c0_270 : Index := 0#32
  ![v438.toNat, 0]

def k0_chk25 (v434 : BitVec 32) : Prop :=
  (8 ∣ (k0_mult28 v434).toNat) ∧
  (∀ a, (k0_off53 v434) a + S8x384.size a ≤ S11328x384.size a)
theorem k0_mult28_dvd : ∀ (v434 : BitVec 32) (k0_hw25 : k0_chk25 v434), 8 ∣ (k0_mult28 v434).toNat := fun v434 k0_hw25 => k0_hw25.1
theorem k0_off53_inb : ∀ (v434 : BitVec 32) (k0_hw25 : k0_chk25 v434), ∀ a, (k0_off53 v434) a + S8x384.size a ≤ S11328x384.size a := fun v434 k0_hw25 => k0_hw25.2

def k0_off54 (k0_t1 : Fin k0_t1_loop.trips) : Fin 3 → Nat :=
  let c0_275 : Index := 0#32
  let c0_276 : Index := 0#32
  let c0_i32 : BitVec 32 := 0#32
  let c1_i32 : BitVec 32 := 1#32
  let arg17 : BitVec 32 := Scf.iv c0_i32 c1_i32 k0_t1
  let c8_i32_262 : BitVec 32 := 8#32
  let v429 : BitVec 32 := Scalar.muli arg17 c8_i32_262
  let c3_i32_263 : BitVec 32 := 3#32
  let v430 : BitVec 32 := Scalar.addi v429 c3_i32_263
  let c8_i32_273 : BitVec 32 := 8#32
  let v444 : BitVec 32 := Scalar.muli v430 c8_i32_273
  let c1_i32_274 : BitVec 32 := 1#32
  let v445 : BitVec 32 := Scalar.addi v444 c1_i32_274
  let v446 : Index := Scalar.indexCast v445
  ![0, 0, v446.toNat]
def k0_mult29 (v447 : BitVec 32) : BitVec 32 :=
  let c3_i32_277 : BitVec 32 := 3#32
  let v448 : BitVec 32 := Scalar.shrsi v447 c3_i32_277
  let c3_i32_278 : BitVec 32 := 3#32
  let v449 : BitVec 32 := Scalar.shli v448 c3_i32_278
  v449

def k0_off55 (v447 : BitVec 32) : Fin 2 → Nat :=
  let c3_i32_277 : BitVec 32 := 3#32
  let v448 : BitVec 32 := Scalar.shrsi v447 c3_i32_277
  let c3_i32_278 : BitVec 32 := 3#32
  let v449 : BitVec 32 := Scalar.shli v448 c3_i32_278
  let v450 : BitVec 32 := v449
  let v451 : Index := Scalar.indexCast v450
  let c0_279 : Index := 0#32
  ![v451.toNat, 0]

def k0_chk26 (v447 : BitVec 32) : Prop :=
  (8 ∣ (k0_mult29 v447).toNat) ∧
  (∀ a, (k0_off55 v447) a + S8x384.size a ≤ S11328x384.size a)
theorem k0_mult29_dvd : ∀ (v447 : BitVec 32) (k0_hw26 : k0_chk26 v447), 8 ∣ (k0_mult29 v447).toNat := fun v447 k0_hw26 => k0_hw26.1
theorem k0_off55_inb : ∀ (v447 : BitVec 32) (k0_hw26 : k0_chk26 v447), ∀ a, (k0_off55 v447) a + S8x384.size a ≤ S11328x384.size a := fun v447 k0_hw26 => k0_hw26.2

def k0_off56 (k0_t1 : Fin k0_t1_loop.trips) : Fin 3 → Nat :=
  let c0_284 : Index := 0#32
  let c0_285 : Index := 0#32
  let c0_i32 : BitVec 32 := 0#32
  let c1_i32 : BitVec 32 := 1#32
  let arg17 : BitVec 32 := Scf.iv c0_i32 c1_i32 k0_t1
  let c8_i32_262 : BitVec 32 := 8#32
  let v429 : BitVec 32 := Scalar.muli arg17 c8_i32_262
  let c3_i32_263 : BitVec 32 := 3#32
  let v430 : BitVec 32 := Scalar.addi v429 c3_i32_263
  let c8_i32_282 : BitVec 32 := 8#32
  let v457 : BitVec 32 := Scalar.muli v430 c8_i32_282
  let c2_i32_283 : BitVec 32 := 2#32
  let v458 : BitVec 32 := Scalar.addi v457 c2_i32_283
  let v459 : Index := Scalar.indexCast v458
  ![0, 0, v459.toNat]
def k0_mult30 (v460 : BitVec 32) : BitVec 32 :=
  let c3_i32_286 : BitVec 32 := 3#32
  let v461 : BitVec 32 := Scalar.shrsi v460 c3_i32_286
  let c3_i32_287 : BitVec 32 := 3#32
  let v462 : BitVec 32 := Scalar.shli v461 c3_i32_287
  v462

def k0_off57 (v460 : BitVec 32) : Fin 2 → Nat :=
  let c3_i32_286 : BitVec 32 := 3#32
  let v461 : BitVec 32 := Scalar.shrsi v460 c3_i32_286
  let c3_i32_287 : BitVec 32 := 3#32
  let v462 : BitVec 32 := Scalar.shli v461 c3_i32_287
  let v463 : BitVec 32 := v462
  let v464 : Index := Scalar.indexCast v463
  let c0_288 : Index := 0#32
  ![v464.toNat, 0]

def k0_chk27 (v460 : BitVec 32) : Prop :=
  (8 ∣ (k0_mult30 v460).toNat) ∧
  (∀ a, (k0_off57 v460) a + S8x384.size a ≤ S11328x384.size a)
theorem k0_mult30_dvd : ∀ (v460 : BitVec 32) (k0_hw27 : k0_chk27 v460), 8 ∣ (k0_mult30 v460).toNat := fun v460 k0_hw27 => k0_hw27.1
theorem k0_off57_inb : ∀ (v460 : BitVec 32) (k0_hw27 : k0_chk27 v460), ∀ a, (k0_off57 v460) a + S8x384.size a ≤ S11328x384.size a := fun v460 k0_hw27 => k0_hw27.2

def k0_off58 (k0_t1 : Fin k0_t1_loop.trips) : Fin 3 → Nat :=
  let c0_293 : Index := 0#32
  let c0_294 : Index := 0#32
  let c0_i32 : BitVec 32 := 0#32
  let c1_i32 : BitVec 32 := 1#32
  let arg17 : BitVec 32 := Scf.iv c0_i32 c1_i32 k0_t1
  let c8_i32_262 : BitVec 32 := 8#32
  let v429 : BitVec 32 := Scalar.muli arg17 c8_i32_262
  let c3_i32_263 : BitVec 32 := 3#32
  let v430 : BitVec 32 := Scalar.addi v429 c3_i32_263
  let c8_i32_291 : BitVec 32 := 8#32
  let v470 : BitVec 32 := Scalar.muli v430 c8_i32_291
  let c3_i32_292 : BitVec 32 := 3#32
  let v471 : BitVec 32 := Scalar.addi v470 c3_i32_292
  let v472 : Index := Scalar.indexCast v471
  ![0, 0, v472.toNat]
def k0_mult31 (v473 : BitVec 32) : BitVec 32 :=
  let c3_i32_295 : BitVec 32 := 3#32
  let v474 : BitVec 32 := Scalar.shrsi v473 c3_i32_295
  let c3_i32_296 : BitVec 32 := 3#32
  let v475 : BitVec 32 := Scalar.shli v474 c3_i32_296
  v475

def k0_off59 (v473 : BitVec 32) : Fin 2 → Nat :=
  let c3_i32_295 : BitVec 32 := 3#32
  let v474 : BitVec 32 := Scalar.shrsi v473 c3_i32_295
  let c3_i32_296 : BitVec 32 := 3#32
  let v475 : BitVec 32 := Scalar.shli v474 c3_i32_296
  let v476 : BitVec 32 := v475
  let v477 : Index := Scalar.indexCast v476
  let c0_297 : Index := 0#32
  ![v477.toNat, 0]

def k0_chk28 (v473 : BitVec 32) : Prop :=
  (8 ∣ (k0_mult31 v473).toNat) ∧
  (∀ a, (k0_off59 v473) a + S8x384.size a ≤ S11328x384.size a)
theorem k0_mult31_dvd : ∀ (v473 : BitVec 32) (k0_hw28 : k0_chk28 v473), 8 ∣ (k0_mult31 v473).toNat := fun v473 k0_hw28 => k0_hw28.1
theorem k0_off59_inb : ∀ (v473 : BitVec 32) (k0_hw28 : k0_chk28 v473), ∀ a, (k0_off59 v473) a + S8x384.size a ≤ S11328x384.size a := fun v473 k0_hw28 => k0_hw28.2

def k0_off60 (k0_t1 : Fin k0_t1_loop.trips) : Fin 3 → Nat :=
  let c0_302 : Index := 0#32
  let c0_303 : Index := 0#32
  let c0_i32 : BitVec 32 := 0#32
  let c1_i32 : BitVec 32 := 1#32
  let arg17 : BitVec 32 := Scf.iv c0_i32 c1_i32 k0_t1
  let c8_i32_262 : BitVec 32 := 8#32
  let v429 : BitVec 32 := Scalar.muli arg17 c8_i32_262
  let c3_i32_263 : BitVec 32 := 3#32
  let v430 : BitVec 32 := Scalar.addi v429 c3_i32_263
  let c8_i32_300 : BitVec 32 := 8#32
  let v483 : BitVec 32 := Scalar.muli v430 c8_i32_300
  let c4_i32_301 : BitVec 32 := 4#32
  let v484 : BitVec 32 := Scalar.addi v483 c4_i32_301
  let v485 : Index := Scalar.indexCast v484
  ![0, 0, v485.toNat]
def k0_mult32 (v486 : BitVec 32) : BitVec 32 :=
  let c3_i32_304 : BitVec 32 := 3#32
  let v487 : BitVec 32 := Scalar.shrsi v486 c3_i32_304
  let c3_i32_305 : BitVec 32 := 3#32
  let v488 : BitVec 32 := Scalar.shli v487 c3_i32_305
  v488

def k0_off61 (v486 : BitVec 32) : Fin 2 → Nat :=
  let c3_i32_304 : BitVec 32 := 3#32
  let v487 : BitVec 32 := Scalar.shrsi v486 c3_i32_304
  let c3_i32_305 : BitVec 32 := 3#32
  let v488 : BitVec 32 := Scalar.shli v487 c3_i32_305
  let v489 : BitVec 32 := v488
  let v490 : Index := Scalar.indexCast v489
  let c0_306 : Index := 0#32
  ![v490.toNat, 0]

def k0_chk29 (v486 : BitVec 32) : Prop :=
  (8 ∣ (k0_mult32 v486).toNat) ∧
  (∀ a, (k0_off61 v486) a + S8x384.size a ≤ S11328x384.size a)
theorem k0_mult32_dvd : ∀ (v486 : BitVec 32) (k0_hw29 : k0_chk29 v486), 8 ∣ (k0_mult32 v486).toNat := fun v486 k0_hw29 => k0_hw29.1
theorem k0_off61_inb : ∀ (v486 : BitVec 32) (k0_hw29 : k0_chk29 v486), ∀ a, (k0_off61 v486) a + S8x384.size a ≤ S11328x384.size a := fun v486 k0_hw29 => k0_hw29.2

def k0_off62 (k0_t1 : Fin k0_t1_loop.trips) : Fin 3 → Nat :=
  let c0_311 : Index := 0#32
  let c0_312 : Index := 0#32
  let c0_i32 : BitVec 32 := 0#32
  let c1_i32 : BitVec 32 := 1#32
  let arg17 : BitVec 32 := Scf.iv c0_i32 c1_i32 k0_t1
  let c8_i32_262 : BitVec 32 := 8#32
  let v429 : BitVec 32 := Scalar.muli arg17 c8_i32_262
  let c3_i32_263 : BitVec 32 := 3#32
  let v430 : BitVec 32 := Scalar.addi v429 c3_i32_263
  let c8_i32_309 : BitVec 32 := 8#32
  let v496 : BitVec 32 := Scalar.muli v430 c8_i32_309
  let c5_i32_310 : BitVec 32 := 5#32
  let v497 : BitVec 32 := Scalar.addi v496 c5_i32_310
  let v498 : Index := Scalar.indexCast v497
  ![0, 0, v498.toNat]
def k0_mult33 (v499 : BitVec 32) : BitVec 32 :=
  let c3_i32_313 : BitVec 32 := 3#32
  let v500 : BitVec 32 := Scalar.shrsi v499 c3_i32_313
  let c3_i32_314 : BitVec 32 := 3#32
  let v501 : BitVec 32 := Scalar.shli v500 c3_i32_314
  v501

def k0_off63 (v499 : BitVec 32) : Fin 2 → Nat :=
  let c3_i32_313 : BitVec 32 := 3#32
  let v500 : BitVec 32 := Scalar.shrsi v499 c3_i32_313
  let c3_i32_314 : BitVec 32 := 3#32
  let v501 : BitVec 32 := Scalar.shli v500 c3_i32_314
  let v502 : BitVec 32 := v501
  let v503 : Index := Scalar.indexCast v502
  let c0_315 : Index := 0#32
  ![v503.toNat, 0]

def k0_chk30 (v499 : BitVec 32) : Prop :=
  (8 ∣ (k0_mult33 v499).toNat) ∧
  (∀ a, (k0_off63 v499) a + S8x384.size a ≤ S11328x384.size a)
theorem k0_mult33_dvd : ∀ (v499 : BitVec 32) (k0_hw30 : k0_chk30 v499), 8 ∣ (k0_mult33 v499).toNat := fun v499 k0_hw30 => k0_hw30.1
theorem k0_off63_inb : ∀ (v499 : BitVec 32) (k0_hw30 : k0_chk30 v499), ∀ a, (k0_off63 v499) a + S8x384.size a ≤ S11328x384.size a := fun v499 k0_hw30 => k0_hw30.2

def k0_off64 (k0_t1 : Fin k0_t1_loop.trips) : Fin 3 → Nat :=
  let c0_320 : Index := 0#32
  let c0_321 : Index := 0#32
  let c0_i32 : BitVec 32 := 0#32
  let c1_i32 : BitVec 32 := 1#32
  let arg17 : BitVec 32 := Scf.iv c0_i32 c1_i32 k0_t1
  let c8_i32_262 : BitVec 32 := 8#32
  let v429 : BitVec 32 := Scalar.muli arg17 c8_i32_262
  let c3_i32_263 : BitVec 32 := 3#32
  let v430 : BitVec 32 := Scalar.addi v429 c3_i32_263
  let c8_i32_318 : BitVec 32 := 8#32
  let v509 : BitVec 32 := Scalar.muli v430 c8_i32_318
  let c6_i32_319 : BitVec 32 := 6#32
  let v510 : BitVec 32 := Scalar.addi v509 c6_i32_319
  let v511 : Index := Scalar.indexCast v510
  ![0, 0, v511.toNat]
def k0_mult34 (v512 : BitVec 32) : BitVec 32 :=
  let c3_i32_322 : BitVec 32 := 3#32
  let v513 : BitVec 32 := Scalar.shrsi v512 c3_i32_322
  let c3_i32_323 : BitVec 32 := 3#32
  let v514 : BitVec 32 := Scalar.shli v513 c3_i32_323
  v514

def k0_off65 (v512 : BitVec 32) : Fin 2 → Nat :=
  let c3_i32_322 : BitVec 32 := 3#32
  let v513 : BitVec 32 := Scalar.shrsi v512 c3_i32_322
  let c3_i32_323 : BitVec 32 := 3#32
  let v514 : BitVec 32 := Scalar.shli v513 c3_i32_323
  let v515 : BitVec 32 := v514
  let v516 : Index := Scalar.indexCast v515
  let c0_324 : Index := 0#32
  ![v516.toNat, 0]

def k0_chk31 (v512 : BitVec 32) : Prop :=
  (8 ∣ (k0_mult34 v512).toNat) ∧
  (∀ a, (k0_off65 v512) a + S8x384.size a ≤ S11328x384.size a)
theorem k0_mult34_dvd : ∀ (v512 : BitVec 32) (k0_hw31 : k0_chk31 v512), 8 ∣ (k0_mult34 v512).toNat := fun v512 k0_hw31 => k0_hw31.1
theorem k0_off65_inb : ∀ (v512 : BitVec 32) (k0_hw31 : k0_chk31 v512), ∀ a, (k0_off65 v512) a + S8x384.size a ≤ S11328x384.size a := fun v512 k0_hw31 => k0_hw31.2

def k0_off66 (k0_t1 : Fin k0_t1_loop.trips) : Fin 3 → Nat :=
  let c0_329 : Index := 0#32
  let c0_330 : Index := 0#32
  let c0_i32 : BitVec 32 := 0#32
  let c1_i32 : BitVec 32 := 1#32
  let arg17 : BitVec 32 := Scf.iv c0_i32 c1_i32 k0_t1
  let c8_i32_262 : BitVec 32 := 8#32
  let v429 : BitVec 32 := Scalar.muli arg17 c8_i32_262
  let c3_i32_263 : BitVec 32 := 3#32
  let v430 : BitVec 32 := Scalar.addi v429 c3_i32_263
  let c8_i32_327 : BitVec 32 := 8#32
  let v522 : BitVec 32 := Scalar.muli v430 c8_i32_327
  let c7_i32_328 : BitVec 32 := 7#32
  let v523 : BitVec 32 := Scalar.addi v522 c7_i32_328
  let v524 : Index := Scalar.indexCast v523
  ![0, 0, v524.toNat]
def k0_mult35 (v525 : BitVec 32) : BitVec 32 :=
  let c3_i32_331 : BitVec 32 := 3#32
  let v526 : BitVec 32 := Scalar.shrsi v525 c3_i32_331
  let c3_i32_332 : BitVec 32 := 3#32
  let v527 : BitVec 32 := Scalar.shli v526 c3_i32_332
  v527

def k0_off67 (v525 : BitVec 32) : Fin 2 → Nat :=
  let c3_i32_331 : BitVec 32 := 3#32
  let v526 : BitVec 32 := Scalar.shrsi v525 c3_i32_331
  let c3_i32_332 : BitVec 32 := 3#32
  let v527 : BitVec 32 := Scalar.shli v526 c3_i32_332
  let v528 : BitVec 32 := v527
  let v529 : Index := Scalar.indexCast v528
  let c0_333 : Index := 0#32
  ![v529.toNat, 0]

def k0_chk32 (v525 : BitVec 32) : Prop :=
  (8 ∣ (k0_mult35 v525).toNat) ∧
  (∀ a, (k0_off67 v525) a + S8x384.size a ≤ S11328x384.size a)
theorem k0_mult35_dvd : ∀ (v525 : BitVec 32) (k0_hw32 : k0_chk32 v525), 8 ∣ (k0_mult35 v525).toNat := fun v525 k0_hw32 => k0_hw32.1
theorem k0_off67_inb : ∀ (v525 : BitVec 32) (k0_hw32 : k0_chk32 v525), ∀ a, (k0_off67 v525) a + S8x384.size a ≤ S11328x384.size a := fun v525 k0_hw32 => k0_hw32.2

def k0_mult36 (k0_t1 : Fin k0_t1_loop.trips) : BitVec 32 :=
  let c0_i32 : BitVec 32 := 0#32
  let c1_i32 : BitVec 32 := 1#32
  let arg17 : BitVec 32 := Scf.iv c0_i32 c1_i32 k0_t1
  let c8_i32_262 : BitVec 32 := 8#32
  let v429 : BitVec 32 := Scalar.muli arg17 c8_i32_262
  let c3_i32_263 : BitVec 32 := 3#32
  let v430 : BitVec 32 := Scalar.addi v429 c3_i32_263
  let c8_i32_343 : BitVec 32 := 8#32
  let v556 : BitVec 32 := Scalar.muli v430 c8_i32_343
  v556
def k0_off68 (k0_t1 : Fin k0_t1_loop.trips) : Fin 2 → Nat :=
  let c0_i32 : BitVec 32 := 0#32
  let c1_i32 : BitVec 32 := 1#32
  let arg17 : BitVec 32 := Scf.iv c0_i32 c1_i32 k0_t1
  let c8_i32_262 : BitVec 32 := 8#32
  let v429 : BitVec 32 := Scalar.muli arg17 c8_i32_262
  let c3_i32_263 : BitVec 32 := 3#32
  let v430 : BitVec 32 := Scalar.addi v429 c3_i32_263
  let c8_i32_343 : BitVec 32 := 8#32
  let v556 : BitVec 32 := Scalar.muli v430 c8_i32_343
  let v557 : BitVec 32 := v556
  let v558 : Index := Scalar.indexCast v557
  let c0_344 : Index := 0#32
  ![v558.toNat, 0]
def k0_off69 (k0_t1 : Fin k0_t1_loop.trips) : Fin 3 → Nat :=
  let c0_349 : Index := 0#32
  let c0_350 : Index := 0#32
  let c0_i32 : BitVec 32 := 0#32
  let c1_i32 : BitVec 32 := 1#32
  let arg17 : BitVec 32 := Scf.iv c0_i32 c1_i32 k0_t1
  let c8_i32_345 : BitVec 32 := 8#32
  let v562 : BitVec 32 := Scalar.muli arg17 c8_i32_345
  let c4_i32_346 : BitVec 32 := 4#32
  let v563 : BitVec 32 := Scalar.addi v562 c4_i32_346
  let c8_i32_347 : BitVec 32 := 8#32
  let v564 : BitVec 32 := Scalar.muli v563 c8_i32_347
  let c0_i32_348 : BitVec 32 := 0#32
  let v565 : BitVec 32 := Scalar.addi v564 c0_i32_348
  let v566 : Index := Scalar.indexCast v565
  ![0, 0, v566.toNat]
def k0_mult37 (v567 : BitVec 32) : BitVec 32 :=
  let c3_i32_351 : BitVec 32 := 3#32
  let v568 : BitVec 32 := Scalar.shrsi v567 c3_i32_351
  let c3_i32_352 : BitVec 32 := 3#32
  let v569 : BitVec 32 := Scalar.shli v568 c3_i32_352
  v569

def k0_off70 (v567 : BitVec 32) : Fin 2 → Nat :=
  let c3_i32_351 : BitVec 32 := 3#32
  let v568 : BitVec 32 := Scalar.shrsi v567 c3_i32_351
  let c3_i32_352 : BitVec 32 := 3#32
  let v569 : BitVec 32 := Scalar.shli v568 c3_i32_352
  let v570 : BitVec 32 := v569
  let v571 : Index := Scalar.indexCast v570
  let c0_353 : Index := 0#32
  ![v571.toNat, 0]

def k0_chk33 (v567 : BitVec 32) : Prop :=
  (8 ∣ (k0_mult37 v567).toNat) ∧
  (∀ a, (k0_off70 v567) a + S8x384.size a ≤ S11328x384.size a)
theorem k0_mult37_dvd : ∀ (v567 : BitVec 32) (k0_hw33 : k0_chk33 v567), 8 ∣ (k0_mult37 v567).toNat := fun v567 k0_hw33 => k0_hw33.1
theorem k0_off70_inb : ∀ (v567 : BitVec 32) (k0_hw33 : k0_chk33 v567), ∀ a, (k0_off70 v567) a + S8x384.size a ≤ S11328x384.size a := fun v567 k0_hw33 => k0_hw33.2

def k0_off71 (k0_t1 : Fin k0_t1_loop.trips) : Fin 3 → Nat :=
  let c0_358 : Index := 0#32
  let c0_359 : Index := 0#32
  let c0_i32 : BitVec 32 := 0#32
  let c1_i32 : BitVec 32 := 1#32
  let arg17 : BitVec 32 := Scf.iv c0_i32 c1_i32 k0_t1
  let c8_i32_345 : BitVec 32 := 8#32
  let v562 : BitVec 32 := Scalar.muli arg17 c8_i32_345
  let c4_i32_346 : BitVec 32 := 4#32
  let v563 : BitVec 32 := Scalar.addi v562 c4_i32_346
  let c8_i32_356 : BitVec 32 := 8#32
  let v577 : BitVec 32 := Scalar.muli v563 c8_i32_356
  let c1_i32_357 : BitVec 32 := 1#32
  let v578 : BitVec 32 := Scalar.addi v577 c1_i32_357
  let v579 : Index := Scalar.indexCast v578
  ![0, 0, v579.toNat]
def k0_mult38 (v580 : BitVec 32) : BitVec 32 :=
  let c3_i32_360 : BitVec 32 := 3#32
  let v581 : BitVec 32 := Scalar.shrsi v580 c3_i32_360
  let c3_i32_361 : BitVec 32 := 3#32
  let v582 : BitVec 32 := Scalar.shli v581 c3_i32_361
  v582

def k0_off72 (v580 : BitVec 32) : Fin 2 → Nat :=
  let c3_i32_360 : BitVec 32 := 3#32
  let v581 : BitVec 32 := Scalar.shrsi v580 c3_i32_360
  let c3_i32_361 : BitVec 32 := 3#32
  let v582 : BitVec 32 := Scalar.shli v581 c3_i32_361
  let v583 : BitVec 32 := v582
  let v584 : Index := Scalar.indexCast v583
  let c0_362 : Index := 0#32
  ![v584.toNat, 0]

def k0_chk34 (v580 : BitVec 32) : Prop :=
  (8 ∣ (k0_mult38 v580).toNat) ∧
  (∀ a, (k0_off72 v580) a + S8x384.size a ≤ S11328x384.size a)
theorem k0_mult38_dvd : ∀ (v580 : BitVec 32) (k0_hw34 : k0_chk34 v580), 8 ∣ (k0_mult38 v580).toNat := fun v580 k0_hw34 => k0_hw34.1
theorem k0_off72_inb : ∀ (v580 : BitVec 32) (k0_hw34 : k0_chk34 v580), ∀ a, (k0_off72 v580) a + S8x384.size a ≤ S11328x384.size a := fun v580 k0_hw34 => k0_hw34.2

def k0_off73 (k0_t1 : Fin k0_t1_loop.trips) : Fin 3 → Nat :=
  let c0_367 : Index := 0#32
  let c0_368 : Index := 0#32
  let c0_i32 : BitVec 32 := 0#32
  let c1_i32 : BitVec 32 := 1#32
  let arg17 : BitVec 32 := Scf.iv c0_i32 c1_i32 k0_t1
  let c8_i32_345 : BitVec 32 := 8#32
  let v562 : BitVec 32 := Scalar.muli arg17 c8_i32_345
  let c4_i32_346 : BitVec 32 := 4#32
  let v563 : BitVec 32 := Scalar.addi v562 c4_i32_346
  let c8_i32_365 : BitVec 32 := 8#32
  let v590 : BitVec 32 := Scalar.muli v563 c8_i32_365
  let c2_i32_366 : BitVec 32 := 2#32
  let v591 : BitVec 32 := Scalar.addi v590 c2_i32_366
  let v592 : Index := Scalar.indexCast v591
  ![0, 0, v592.toNat]
def k0_mult39 (v593 : BitVec 32) : BitVec 32 :=
  let c3_i32_369 : BitVec 32 := 3#32
  let v594 : BitVec 32 := Scalar.shrsi v593 c3_i32_369
  let c3_i32_370 : BitVec 32 := 3#32
  let v595 : BitVec 32 := Scalar.shli v594 c3_i32_370
  v595

def k0_off74 (v593 : BitVec 32) : Fin 2 → Nat :=
  let c3_i32_369 : BitVec 32 := 3#32
  let v594 : BitVec 32 := Scalar.shrsi v593 c3_i32_369
  let c3_i32_370 : BitVec 32 := 3#32
  let v595 : BitVec 32 := Scalar.shli v594 c3_i32_370
  let v596 : BitVec 32 := v595
  let v597 : Index := Scalar.indexCast v596
  let c0_371 : Index := 0#32
  ![v597.toNat, 0]

def k0_chk35 (v593 : BitVec 32) : Prop :=
  (8 ∣ (k0_mult39 v593).toNat) ∧
  (∀ a, (k0_off74 v593) a + S8x384.size a ≤ S11328x384.size a)
theorem k0_mult39_dvd : ∀ (v593 : BitVec 32) (k0_hw35 : k0_chk35 v593), 8 ∣ (k0_mult39 v593).toNat := fun v593 k0_hw35 => k0_hw35.1
theorem k0_off74_inb : ∀ (v593 : BitVec 32) (k0_hw35 : k0_chk35 v593), ∀ a, (k0_off74 v593) a + S8x384.size a ≤ S11328x384.size a := fun v593 k0_hw35 => k0_hw35.2

def k0_off75 (k0_t1 : Fin k0_t1_loop.trips) : Fin 3 → Nat :=
  let c0_376 : Index := 0#32
  let c0_377 : Index := 0#32
  let c0_i32 : BitVec 32 := 0#32
  let c1_i32 : BitVec 32 := 1#32
  let arg17 : BitVec 32 := Scf.iv c0_i32 c1_i32 k0_t1
  let c8_i32_345 : BitVec 32 := 8#32
  let v562 : BitVec 32 := Scalar.muli arg17 c8_i32_345
  let c4_i32_346 : BitVec 32 := 4#32
  let v563 : BitVec 32 := Scalar.addi v562 c4_i32_346
  let c8_i32_374 : BitVec 32 := 8#32
  let v603 : BitVec 32 := Scalar.muli v563 c8_i32_374
  let c3_i32_375 : BitVec 32 := 3#32
  let v604 : BitVec 32 := Scalar.addi v603 c3_i32_375
  let v605 : Index := Scalar.indexCast v604
  ![0, 0, v605.toNat]
def k0_mult40 (v606 : BitVec 32) : BitVec 32 :=
  let c3_i32_378 : BitVec 32 := 3#32
  let v607 : BitVec 32 := Scalar.shrsi v606 c3_i32_378
  let c3_i32_379 : BitVec 32 := 3#32
  let v608 : BitVec 32 := Scalar.shli v607 c3_i32_379
  v608

def k0_off76 (v606 : BitVec 32) : Fin 2 → Nat :=
  let c3_i32_378 : BitVec 32 := 3#32
  let v607 : BitVec 32 := Scalar.shrsi v606 c3_i32_378
  let c3_i32_379 : BitVec 32 := 3#32
  let v608 : BitVec 32 := Scalar.shli v607 c3_i32_379
  let v609 : BitVec 32 := v608
  let v610 : Index := Scalar.indexCast v609
  let c0_380 : Index := 0#32
  ![v610.toNat, 0]

def k0_chk36 (v606 : BitVec 32) : Prop :=
  (8 ∣ (k0_mult40 v606).toNat) ∧
  (∀ a, (k0_off76 v606) a + S8x384.size a ≤ S11328x384.size a)
theorem k0_mult40_dvd : ∀ (v606 : BitVec 32) (k0_hw36 : k0_chk36 v606), 8 ∣ (k0_mult40 v606).toNat := fun v606 k0_hw36 => k0_hw36.1
theorem k0_off76_inb : ∀ (v606 : BitVec 32) (k0_hw36 : k0_chk36 v606), ∀ a, (k0_off76 v606) a + S8x384.size a ≤ S11328x384.size a := fun v606 k0_hw36 => k0_hw36.2

def k0_off77 (k0_t1 : Fin k0_t1_loop.trips) : Fin 3 → Nat :=
  let c0_385 : Index := 0#32
  let c0_386 : Index := 0#32
  let c0_i32 : BitVec 32 := 0#32
  let c1_i32 : BitVec 32 := 1#32
  let arg17 : BitVec 32 := Scf.iv c0_i32 c1_i32 k0_t1
  let c8_i32_345 : BitVec 32 := 8#32
  let v562 : BitVec 32 := Scalar.muli arg17 c8_i32_345
  let c4_i32_346 : BitVec 32 := 4#32
  let v563 : BitVec 32 := Scalar.addi v562 c4_i32_346
  let c8_i32_383 : BitVec 32 := 8#32
  let v616 : BitVec 32 := Scalar.muli v563 c8_i32_383
  let c4_i32_384 : BitVec 32 := 4#32
  let v617 : BitVec 32 := Scalar.addi v616 c4_i32_384
  let v618 : Index := Scalar.indexCast v617
  ![0, 0, v618.toNat]
def k0_mult41 (v619 : BitVec 32) : BitVec 32 :=
  let c3_i32_387 : BitVec 32 := 3#32
  let v620 : BitVec 32 := Scalar.shrsi v619 c3_i32_387
  let c3_i32_388 : BitVec 32 := 3#32
  let v621 : BitVec 32 := Scalar.shli v620 c3_i32_388
  v621

def k0_off78 (v619 : BitVec 32) : Fin 2 → Nat :=
  let c3_i32_387 : BitVec 32 := 3#32
  let v620 : BitVec 32 := Scalar.shrsi v619 c3_i32_387
  let c3_i32_388 : BitVec 32 := 3#32
  let v621 : BitVec 32 := Scalar.shli v620 c3_i32_388
  let v622 : BitVec 32 := v621
  let v623 : Index := Scalar.indexCast v622
  let c0_389 : Index := 0#32
  ![v623.toNat, 0]

def k0_chk37 (v619 : BitVec 32) : Prop :=
  (8 ∣ (k0_mult41 v619).toNat) ∧
  (∀ a, (k0_off78 v619) a + S8x384.size a ≤ S11328x384.size a)
theorem k0_mult41_dvd : ∀ (v619 : BitVec 32) (k0_hw37 : k0_chk37 v619), 8 ∣ (k0_mult41 v619).toNat := fun v619 k0_hw37 => k0_hw37.1
theorem k0_off78_inb : ∀ (v619 : BitVec 32) (k0_hw37 : k0_chk37 v619), ∀ a, (k0_off78 v619) a + S8x384.size a ≤ S11328x384.size a := fun v619 k0_hw37 => k0_hw37.2

def k0_off79 (k0_t1 : Fin k0_t1_loop.trips) : Fin 3 → Nat :=
  let c0_394 : Index := 0#32
  let c0_395 : Index := 0#32
  let c0_i32 : BitVec 32 := 0#32
  let c1_i32 : BitVec 32 := 1#32
  let arg17 : BitVec 32 := Scf.iv c0_i32 c1_i32 k0_t1
  let c8_i32_345 : BitVec 32 := 8#32
  let v562 : BitVec 32 := Scalar.muli arg17 c8_i32_345
  let c4_i32_346 : BitVec 32 := 4#32
  let v563 : BitVec 32 := Scalar.addi v562 c4_i32_346
  let c8_i32_392 : BitVec 32 := 8#32
  let v629 : BitVec 32 := Scalar.muli v563 c8_i32_392
  let c5_i32_393 : BitVec 32 := 5#32
  let v630 : BitVec 32 := Scalar.addi v629 c5_i32_393
  let v631 : Index := Scalar.indexCast v630
  ![0, 0, v631.toNat]
def k0_mult42 (v632 : BitVec 32) : BitVec 32 :=
  let c3_i32_396 : BitVec 32 := 3#32
  let v633 : BitVec 32 := Scalar.shrsi v632 c3_i32_396
  let c3_i32_397 : BitVec 32 := 3#32
  let v634 : BitVec 32 := Scalar.shli v633 c3_i32_397
  v634

def k0_off80 (v632 : BitVec 32) : Fin 2 → Nat :=
  let c3_i32_396 : BitVec 32 := 3#32
  let v633 : BitVec 32 := Scalar.shrsi v632 c3_i32_396
  let c3_i32_397 : BitVec 32 := 3#32
  let v634 : BitVec 32 := Scalar.shli v633 c3_i32_397
  let v635 : BitVec 32 := v634
  let v636 : Index := Scalar.indexCast v635
  let c0_398 : Index := 0#32
  ![v636.toNat, 0]

def k0_chk38 (v632 : BitVec 32) : Prop :=
  (8 ∣ (k0_mult42 v632).toNat) ∧
  (∀ a, (k0_off80 v632) a + S8x384.size a ≤ S11328x384.size a)
theorem k0_mult42_dvd : ∀ (v632 : BitVec 32) (k0_hw38 : k0_chk38 v632), 8 ∣ (k0_mult42 v632).toNat := fun v632 k0_hw38 => k0_hw38.1
theorem k0_off80_inb : ∀ (v632 : BitVec 32) (k0_hw38 : k0_chk38 v632), ∀ a, (k0_off80 v632) a + S8x384.size a ≤ S11328x384.size a := fun v632 k0_hw38 => k0_hw38.2

def k0_off81 (k0_t1 : Fin k0_t1_loop.trips) : Fin 3 → Nat :=
  let c0_403 : Index := 0#32
  let c0_404 : Index := 0#32
  let c0_i32 : BitVec 32 := 0#32
  let c1_i32 : BitVec 32 := 1#32
  let arg17 : BitVec 32 := Scf.iv c0_i32 c1_i32 k0_t1
  let c8_i32_345 : BitVec 32 := 8#32
  let v562 : BitVec 32 := Scalar.muli arg17 c8_i32_345
  let c4_i32_346 : BitVec 32 := 4#32
  let v563 : BitVec 32 := Scalar.addi v562 c4_i32_346
  let c8_i32_401 : BitVec 32 := 8#32
  let v642 : BitVec 32 := Scalar.muli v563 c8_i32_401
  let c6_i32_402 : BitVec 32 := 6#32
  let v643 : BitVec 32 := Scalar.addi v642 c6_i32_402
  let v644 : Index := Scalar.indexCast v643
  ![0, 0, v644.toNat]
def k0_mult43 (v645 : BitVec 32) : BitVec 32 :=
  let c3_i32_405 : BitVec 32 := 3#32
  let v646 : BitVec 32 := Scalar.shrsi v645 c3_i32_405
  let c3_i32_406 : BitVec 32 := 3#32
  let v647 : BitVec 32 := Scalar.shli v646 c3_i32_406
  v647

def k0_off82 (v645 : BitVec 32) : Fin 2 → Nat :=
  let c3_i32_405 : BitVec 32 := 3#32
  let v646 : BitVec 32 := Scalar.shrsi v645 c3_i32_405
  let c3_i32_406 : BitVec 32 := 3#32
  let v647 : BitVec 32 := Scalar.shli v646 c3_i32_406
  let v648 : BitVec 32 := v647
  let v649 : Index := Scalar.indexCast v648
  let c0_407 : Index := 0#32
  ![v649.toNat, 0]

def k0_chk39 (v645 : BitVec 32) : Prop :=
  (8 ∣ (k0_mult43 v645).toNat) ∧
  (∀ a, (k0_off82 v645) a + S8x384.size a ≤ S11328x384.size a)
theorem k0_mult43_dvd : ∀ (v645 : BitVec 32) (k0_hw39 : k0_chk39 v645), 8 ∣ (k0_mult43 v645).toNat := fun v645 k0_hw39 => k0_hw39.1
theorem k0_off82_inb : ∀ (v645 : BitVec 32) (k0_hw39 : k0_chk39 v645), ∀ a, (k0_off82 v645) a + S8x384.size a ≤ S11328x384.size a := fun v645 k0_hw39 => k0_hw39.2

def k0_off83 (k0_t1 : Fin k0_t1_loop.trips) : Fin 3 → Nat :=
  let c0_412 : Index := 0#32
  let c0_413 : Index := 0#32
  let c0_i32 : BitVec 32 := 0#32
  let c1_i32 : BitVec 32 := 1#32
  let arg17 : BitVec 32 := Scf.iv c0_i32 c1_i32 k0_t1
  let c8_i32_345 : BitVec 32 := 8#32
  let v562 : BitVec 32 := Scalar.muli arg17 c8_i32_345
  let c4_i32_346 : BitVec 32 := 4#32
  let v563 : BitVec 32 := Scalar.addi v562 c4_i32_346
  let c8_i32_410 : BitVec 32 := 8#32
  let v655 : BitVec 32 := Scalar.muli v563 c8_i32_410
  let c7_i32_411 : BitVec 32 := 7#32
  let v656 : BitVec 32 := Scalar.addi v655 c7_i32_411
  let v657 : Index := Scalar.indexCast v656
  ![0, 0, v657.toNat]
def k0_mult44 (v658 : BitVec 32) : BitVec 32 :=
  let c3_i32_414 : BitVec 32 := 3#32
  let v659 : BitVec 32 := Scalar.shrsi v658 c3_i32_414
  let c3_i32_415 : BitVec 32 := 3#32
  let v660 : BitVec 32 := Scalar.shli v659 c3_i32_415
  v660

def k0_off84 (v658 : BitVec 32) : Fin 2 → Nat :=
  let c3_i32_414 : BitVec 32 := 3#32
  let v659 : BitVec 32 := Scalar.shrsi v658 c3_i32_414
  let c3_i32_415 : BitVec 32 := 3#32
  let v660 : BitVec 32 := Scalar.shli v659 c3_i32_415
  let v661 : BitVec 32 := v660
  let v662 : Index := Scalar.indexCast v661
  let c0_416 : Index := 0#32
  ![v662.toNat, 0]

def k0_chk40 (v658 : BitVec 32) : Prop :=
  (8 ∣ (k0_mult44 v658).toNat) ∧
  (∀ a, (k0_off84 v658) a + S8x384.size a ≤ S11328x384.size a)
theorem k0_mult44_dvd : ∀ (v658 : BitVec 32) (k0_hw40 : k0_chk40 v658), 8 ∣ (k0_mult44 v658).toNat := fun v658 k0_hw40 => k0_hw40.1
theorem k0_off84_inb : ∀ (v658 : BitVec 32) (k0_hw40 : k0_chk40 v658), ∀ a, (k0_off84 v658) a + S8x384.size a ≤ S11328x384.size a := fun v658 k0_hw40 => k0_hw40.2

def k0_mult45 (k0_t1 : Fin k0_t1_loop.trips) : BitVec 32 :=
  let c0_i32 : BitVec 32 := 0#32
  let c1_i32 : BitVec 32 := 1#32
  let arg17 : BitVec 32 := Scf.iv c0_i32 c1_i32 k0_t1
  let c8_i32_345 : BitVec 32 := 8#32
  let v562 : BitVec 32 := Scalar.muli arg17 c8_i32_345
  let c4_i32_346 : BitVec 32 := 4#32
  let v563 : BitVec 32 := Scalar.addi v562 c4_i32_346
  let c8_i32_426 : BitVec 32 := 8#32
  let v689 : BitVec 32 := Scalar.muli v563 c8_i32_426
  v689
def k0_off85 (k0_t1 : Fin k0_t1_loop.trips) : Fin 2 → Nat :=
  let c0_i32 : BitVec 32 := 0#32
  let c1_i32 : BitVec 32 := 1#32
  let arg17 : BitVec 32 := Scf.iv c0_i32 c1_i32 k0_t1
  let c8_i32_345 : BitVec 32 := 8#32
  let v562 : BitVec 32 := Scalar.muli arg17 c8_i32_345
  let c4_i32_346 : BitVec 32 := 4#32
  let v563 : BitVec 32 := Scalar.addi v562 c4_i32_346
  let c8_i32_426 : BitVec 32 := 8#32
  let v689 : BitVec 32 := Scalar.muli v563 c8_i32_426
  let v690 : BitVec 32 := v689
  let v691 : Index := Scalar.indexCast v690
  let c0_427 : Index := 0#32
  ![v691.toNat, 0]
def k0_off86 (k0_t1 : Fin k0_t1_loop.trips) : Fin 3 → Nat :=
  let c0_432 : Index := 0#32
  let c0_433 : Index := 0#32
  let c0_i32 : BitVec 32 := 0#32
  let c1_i32 : BitVec 32 := 1#32
  let arg17 : BitVec 32 := Scf.iv c0_i32 c1_i32 k0_t1
  let c8_i32_428 : BitVec 32 := 8#32
  let v695 : BitVec 32 := Scalar.muli arg17 c8_i32_428
  let c5_i32_429 : BitVec 32 := 5#32
  let v696 : BitVec 32 := Scalar.addi v695 c5_i32_429
  let c8_i32_430 : BitVec 32 := 8#32
  let v697 : BitVec 32 := Scalar.muli v696 c8_i32_430
  let c0_i32_431 : BitVec 32 := 0#32
  let v698 : BitVec 32 := Scalar.addi v697 c0_i32_431
  let v699 : Index := Scalar.indexCast v698
  ![0, 0, v699.toNat]
def k0_mult46 (v700 : BitVec 32) : BitVec 32 :=
  let c3_i32_434 : BitVec 32 := 3#32
  let v701 : BitVec 32 := Scalar.shrsi v700 c3_i32_434
  let c3_i32_435 : BitVec 32 := 3#32
  let v702 : BitVec 32 := Scalar.shli v701 c3_i32_435
  v702

def k0_off87 (v700 : BitVec 32) : Fin 2 → Nat :=
  let c3_i32_434 : BitVec 32 := 3#32
  let v701 : BitVec 32 := Scalar.shrsi v700 c3_i32_434
  let c3_i32_435 : BitVec 32 := 3#32
  let v702 : BitVec 32 := Scalar.shli v701 c3_i32_435
  let v703 : BitVec 32 := v702
  let v704 : Index := Scalar.indexCast v703
  let c0_436 : Index := 0#32
  ![v704.toNat, 0]

def k0_chk41 (v700 : BitVec 32) : Prop :=
  (8 ∣ (k0_mult46 v700).toNat) ∧
  (∀ a, (k0_off87 v700) a + S8x384.size a ≤ S11328x384.size a)
theorem k0_mult46_dvd : ∀ (v700 : BitVec 32) (k0_hw41 : k0_chk41 v700), 8 ∣ (k0_mult46 v700).toNat := fun v700 k0_hw41 => k0_hw41.1
theorem k0_off87_inb : ∀ (v700 : BitVec 32) (k0_hw41 : k0_chk41 v700), ∀ a, (k0_off87 v700) a + S8x384.size a ≤ S11328x384.size a := fun v700 k0_hw41 => k0_hw41.2

def k0_off88 (k0_t1 : Fin k0_t1_loop.trips) : Fin 3 → Nat :=
  let c0_441 : Index := 0#32
  let c0_442 : Index := 0#32
  let c0_i32 : BitVec 32 := 0#32
  let c1_i32 : BitVec 32 := 1#32
  let arg17 : BitVec 32 := Scf.iv c0_i32 c1_i32 k0_t1
  let c8_i32_428 : BitVec 32 := 8#32
  let v695 : BitVec 32 := Scalar.muli arg17 c8_i32_428
  let c5_i32_429 : BitVec 32 := 5#32
  let v696 : BitVec 32 := Scalar.addi v695 c5_i32_429
  let c8_i32_439 : BitVec 32 := 8#32
  let v710 : BitVec 32 := Scalar.muli v696 c8_i32_439
  let c1_i32_440 : BitVec 32 := 1#32
  let v711 : BitVec 32 := Scalar.addi v710 c1_i32_440
  let v712 : Index := Scalar.indexCast v711
  ![0, 0, v712.toNat]
def k0_mult47 (v713 : BitVec 32) : BitVec 32 :=
  let c3_i32_443 : BitVec 32 := 3#32
  let v714 : BitVec 32 := Scalar.shrsi v713 c3_i32_443
  let c3_i32_444 : BitVec 32 := 3#32
  let v715 : BitVec 32 := Scalar.shli v714 c3_i32_444
  v715

def k0_off89 (v713 : BitVec 32) : Fin 2 → Nat :=
  let c3_i32_443 : BitVec 32 := 3#32
  let v714 : BitVec 32 := Scalar.shrsi v713 c3_i32_443
  let c3_i32_444 : BitVec 32 := 3#32
  let v715 : BitVec 32 := Scalar.shli v714 c3_i32_444
  let v716 : BitVec 32 := v715
  let v717 : Index := Scalar.indexCast v716
  let c0_445 : Index := 0#32
  ![v717.toNat, 0]

def k0_chk42 (v713 : BitVec 32) : Prop :=
  (8 ∣ (k0_mult47 v713).toNat) ∧
  (∀ a, (k0_off89 v713) a + S8x384.size a ≤ S11328x384.size a)
theorem k0_mult47_dvd : ∀ (v713 : BitVec 32) (k0_hw42 : k0_chk42 v713), 8 ∣ (k0_mult47 v713).toNat := fun v713 k0_hw42 => k0_hw42.1
theorem k0_off89_inb : ∀ (v713 : BitVec 32) (k0_hw42 : k0_chk42 v713), ∀ a, (k0_off89 v713) a + S8x384.size a ≤ S11328x384.size a := fun v713 k0_hw42 => k0_hw42.2

def k0_off90 (k0_t1 : Fin k0_t1_loop.trips) : Fin 3 → Nat :=
  let c0_450 : Index := 0#32
  let c0_451 : Index := 0#32
  let c0_i32 : BitVec 32 := 0#32
  let c1_i32 : BitVec 32 := 1#32
  let arg17 : BitVec 32 := Scf.iv c0_i32 c1_i32 k0_t1
  let c8_i32_428 : BitVec 32 := 8#32
  let v695 : BitVec 32 := Scalar.muli arg17 c8_i32_428
  let c5_i32_429 : BitVec 32 := 5#32
  let v696 : BitVec 32 := Scalar.addi v695 c5_i32_429
  let c8_i32_448 : BitVec 32 := 8#32
  let v723 : BitVec 32 := Scalar.muli v696 c8_i32_448
  let c2_i32_449 : BitVec 32 := 2#32
  let v724 : BitVec 32 := Scalar.addi v723 c2_i32_449
  let v725 : Index := Scalar.indexCast v724
  ![0, 0, v725.toNat]
def k0_mult48 (v726 : BitVec 32) : BitVec 32 :=
  let c3_i32_452 : BitVec 32 := 3#32
  let v727 : BitVec 32 := Scalar.shrsi v726 c3_i32_452
  let c3_i32_453 : BitVec 32 := 3#32
  let v728 : BitVec 32 := Scalar.shli v727 c3_i32_453
  v728

def k0_off91 (v726 : BitVec 32) : Fin 2 → Nat :=
  let c3_i32_452 : BitVec 32 := 3#32
  let v727 : BitVec 32 := Scalar.shrsi v726 c3_i32_452
  let c3_i32_453 : BitVec 32 := 3#32
  let v728 : BitVec 32 := Scalar.shli v727 c3_i32_453
  let v729 : BitVec 32 := v728
  let v730 : Index := Scalar.indexCast v729
  let c0_454 : Index := 0#32
  ![v730.toNat, 0]

def k0_chk43 (v726 : BitVec 32) : Prop :=
  (8 ∣ (k0_mult48 v726).toNat) ∧
  (∀ a, (k0_off91 v726) a + S8x384.size a ≤ S11328x384.size a)
theorem k0_mult48_dvd : ∀ (v726 : BitVec 32) (k0_hw43 : k0_chk43 v726), 8 ∣ (k0_mult48 v726).toNat := fun v726 k0_hw43 => k0_hw43.1
theorem k0_off91_inb : ∀ (v726 : BitVec 32) (k0_hw43 : k0_chk43 v726), ∀ a, (k0_off91 v726) a + S8x384.size a ≤ S11328x384.size a := fun v726 k0_hw43 => k0_hw43.2

def k0_off92 (k0_t1 : Fin k0_t1_loop.trips) : Fin 3 → Nat :=
  let c0_459 : Index := 0#32
  let c0_460 : Index := 0#32
  let c0_i32 : BitVec 32 := 0#32
  let c1_i32 : BitVec 32 := 1#32
  let arg17 : BitVec 32 := Scf.iv c0_i32 c1_i32 k0_t1
  let c8_i32_428 : BitVec 32 := 8#32
  let v695 : BitVec 32 := Scalar.muli arg17 c8_i32_428
  let c5_i32_429 : BitVec 32 := 5#32
  let v696 : BitVec 32 := Scalar.addi v695 c5_i32_429
  let c8_i32_457 : BitVec 32 := 8#32
  let v736 : BitVec 32 := Scalar.muli v696 c8_i32_457
  let c3_i32_458 : BitVec 32 := 3#32
  let v737 : BitVec 32 := Scalar.addi v736 c3_i32_458
  let v738 : Index := Scalar.indexCast v737
  ![0, 0, v738.toNat]
def k0_mult49 (v739 : BitVec 32) : BitVec 32 :=
  let c3_i32_461 : BitVec 32 := 3#32
  let v740 : BitVec 32 := Scalar.shrsi v739 c3_i32_461
  let c3_i32_462 : BitVec 32 := 3#32
  let v741 : BitVec 32 := Scalar.shli v740 c3_i32_462
  v741

def k0_off93 (v739 : BitVec 32) : Fin 2 → Nat :=
  let c3_i32_461 : BitVec 32 := 3#32
  let v740 : BitVec 32 := Scalar.shrsi v739 c3_i32_461
  let c3_i32_462 : BitVec 32 := 3#32
  let v741 : BitVec 32 := Scalar.shli v740 c3_i32_462
  let v742 : BitVec 32 := v741
  let v743 : Index := Scalar.indexCast v742
  let c0_463 : Index := 0#32
  ![v743.toNat, 0]

def k0_chk44 (v739 : BitVec 32) : Prop :=
  (8 ∣ (k0_mult49 v739).toNat) ∧
  (∀ a, (k0_off93 v739) a + S8x384.size a ≤ S11328x384.size a)
theorem k0_mult49_dvd : ∀ (v739 : BitVec 32) (k0_hw44 : k0_chk44 v739), 8 ∣ (k0_mult49 v739).toNat := fun v739 k0_hw44 => k0_hw44.1
theorem k0_off93_inb : ∀ (v739 : BitVec 32) (k0_hw44 : k0_chk44 v739), ∀ a, (k0_off93 v739) a + S8x384.size a ≤ S11328x384.size a := fun v739 k0_hw44 => k0_hw44.2

def k0_off94 (k0_t1 : Fin k0_t1_loop.trips) : Fin 3 → Nat :=
  let c0_468 : Index := 0#32
  let c0_469 : Index := 0#32
  let c0_i32 : BitVec 32 := 0#32
  let c1_i32 : BitVec 32 := 1#32
  let arg17 : BitVec 32 := Scf.iv c0_i32 c1_i32 k0_t1
  let c8_i32_428 : BitVec 32 := 8#32
  let v695 : BitVec 32 := Scalar.muli arg17 c8_i32_428
  let c5_i32_429 : BitVec 32 := 5#32
  let v696 : BitVec 32 := Scalar.addi v695 c5_i32_429
  let c8_i32_466 : BitVec 32 := 8#32
  let v749 : BitVec 32 := Scalar.muli v696 c8_i32_466
  let c4_i32_467 : BitVec 32 := 4#32
  let v750 : BitVec 32 := Scalar.addi v749 c4_i32_467
  let v751 : Index := Scalar.indexCast v750
  ![0, 0, v751.toNat]
def k0_mult50 (v752 : BitVec 32) : BitVec 32 :=
  let c3_i32_470 : BitVec 32 := 3#32
  let v753 : BitVec 32 := Scalar.shrsi v752 c3_i32_470
  let c3_i32_471 : BitVec 32 := 3#32
  let v754 : BitVec 32 := Scalar.shli v753 c3_i32_471
  v754

def k0_off95 (v752 : BitVec 32) : Fin 2 → Nat :=
  let c3_i32_470 : BitVec 32 := 3#32
  let v753 : BitVec 32 := Scalar.shrsi v752 c3_i32_470
  let c3_i32_471 : BitVec 32 := 3#32
  let v754 : BitVec 32 := Scalar.shli v753 c3_i32_471
  let v755 : BitVec 32 := v754
  let v756 : Index := Scalar.indexCast v755
  let c0_472 : Index := 0#32
  ![v756.toNat, 0]

def k0_chk45 (v752 : BitVec 32) : Prop :=
  (8 ∣ (k0_mult50 v752).toNat) ∧
  (∀ a, (k0_off95 v752) a + S8x384.size a ≤ S11328x384.size a)
theorem k0_mult50_dvd : ∀ (v752 : BitVec 32) (k0_hw45 : k0_chk45 v752), 8 ∣ (k0_mult50 v752).toNat := fun v752 k0_hw45 => k0_hw45.1
theorem k0_off95_inb : ∀ (v752 : BitVec 32) (k0_hw45 : k0_chk45 v752), ∀ a, (k0_off95 v752) a + S8x384.size a ≤ S11328x384.size a := fun v752 k0_hw45 => k0_hw45.2

def k0_off96 (k0_t1 : Fin k0_t1_loop.trips) : Fin 3 → Nat :=
  let c0_477 : Index := 0#32
  let c0_478 : Index := 0#32
  let c0_i32 : BitVec 32 := 0#32
  let c1_i32 : BitVec 32 := 1#32
  let arg17 : BitVec 32 := Scf.iv c0_i32 c1_i32 k0_t1
  let c8_i32_428 : BitVec 32 := 8#32
  let v695 : BitVec 32 := Scalar.muli arg17 c8_i32_428
  let c5_i32_429 : BitVec 32 := 5#32
  let v696 : BitVec 32 := Scalar.addi v695 c5_i32_429
  let c8_i32_475 : BitVec 32 := 8#32
  let v762 : BitVec 32 := Scalar.muli v696 c8_i32_475
  let c5_i32_476 : BitVec 32 := 5#32
  let v763 : BitVec 32 := Scalar.addi v762 c5_i32_476
  let v764 : Index := Scalar.indexCast v763
  ![0, 0, v764.toNat]
def k0_mult51 (v765 : BitVec 32) : BitVec 32 :=
  let c3_i32_479 : BitVec 32 := 3#32
  let v766 : BitVec 32 := Scalar.shrsi v765 c3_i32_479
  let c3_i32_480 : BitVec 32 := 3#32
  let v767 : BitVec 32 := Scalar.shli v766 c3_i32_480
  v767

def k0_off97 (v765 : BitVec 32) : Fin 2 → Nat :=
  let c3_i32_479 : BitVec 32 := 3#32
  let v766 : BitVec 32 := Scalar.shrsi v765 c3_i32_479
  let c3_i32_480 : BitVec 32 := 3#32
  let v767 : BitVec 32 := Scalar.shli v766 c3_i32_480
  let v768 : BitVec 32 := v767
  let v769 : Index := Scalar.indexCast v768
  let c0_481 : Index := 0#32
  ![v769.toNat, 0]

def k0_chk46 (v765 : BitVec 32) : Prop :=
  (8 ∣ (k0_mult51 v765).toNat) ∧
  (∀ a, (k0_off97 v765) a + S8x384.size a ≤ S11328x384.size a)
theorem k0_mult51_dvd : ∀ (v765 : BitVec 32) (k0_hw46 : k0_chk46 v765), 8 ∣ (k0_mult51 v765).toNat := fun v765 k0_hw46 => k0_hw46.1
theorem k0_off97_inb : ∀ (v765 : BitVec 32) (k0_hw46 : k0_chk46 v765), ∀ a, (k0_off97 v765) a + S8x384.size a ≤ S11328x384.size a := fun v765 k0_hw46 => k0_hw46.2

def k0_off98 (k0_t1 : Fin k0_t1_loop.trips) : Fin 3 → Nat :=
  let c0_486 : Index := 0#32
  let c0_487 : Index := 0#32
  let c0_i32 : BitVec 32 := 0#32
  let c1_i32 : BitVec 32 := 1#32
  let arg17 : BitVec 32 := Scf.iv c0_i32 c1_i32 k0_t1
  let c8_i32_428 : BitVec 32 := 8#32
  let v695 : BitVec 32 := Scalar.muli arg17 c8_i32_428
  let c5_i32_429 : BitVec 32 := 5#32
  let v696 : BitVec 32 := Scalar.addi v695 c5_i32_429
  let c8_i32_484 : BitVec 32 := 8#32
  let v775 : BitVec 32 := Scalar.muli v696 c8_i32_484
  let c6_i32_485 : BitVec 32 := 6#32
  let v776 : BitVec 32 := Scalar.addi v775 c6_i32_485
  let v777 : Index := Scalar.indexCast v776
  ![0, 0, v777.toNat]
def k0_mult52 (v778 : BitVec 32) : BitVec 32 :=
  let c3_i32_488 : BitVec 32 := 3#32
  let v779 : BitVec 32 := Scalar.shrsi v778 c3_i32_488
  let c3_i32_489 : BitVec 32 := 3#32
  let v780 : BitVec 32 := Scalar.shli v779 c3_i32_489
  v780

def k0_off99 (v778 : BitVec 32) : Fin 2 → Nat :=
  let c3_i32_488 : BitVec 32 := 3#32
  let v779 : BitVec 32 := Scalar.shrsi v778 c3_i32_488
  let c3_i32_489 : BitVec 32 := 3#32
  let v780 : BitVec 32 := Scalar.shli v779 c3_i32_489
  let v781 : BitVec 32 := v780
  let v782 : Index := Scalar.indexCast v781
  let c0_490 : Index := 0#32
  ![v782.toNat, 0]

def k0_chk47 (v778 : BitVec 32) : Prop :=
  (8 ∣ (k0_mult52 v778).toNat) ∧
  (∀ a, (k0_off99 v778) a + S8x384.size a ≤ S11328x384.size a)
theorem k0_mult52_dvd : ∀ (v778 : BitVec 32) (k0_hw47 : k0_chk47 v778), 8 ∣ (k0_mult52 v778).toNat := fun v778 k0_hw47 => k0_hw47.1
theorem k0_off99_inb : ∀ (v778 : BitVec 32) (k0_hw47 : k0_chk47 v778), ∀ a, (k0_off99 v778) a + S8x384.size a ≤ S11328x384.size a := fun v778 k0_hw47 => k0_hw47.2

def k0_off100 (k0_t1 : Fin k0_t1_loop.trips) : Fin 3 → Nat :=
  let c0_495 : Index := 0#32
  let c0_496 : Index := 0#32
  let c0_i32 : BitVec 32 := 0#32
  let c1_i32 : BitVec 32 := 1#32
  let arg17 : BitVec 32 := Scf.iv c0_i32 c1_i32 k0_t1
  let c8_i32_428 : BitVec 32 := 8#32
  let v695 : BitVec 32 := Scalar.muli arg17 c8_i32_428
  let c5_i32_429 : BitVec 32 := 5#32
  let v696 : BitVec 32 := Scalar.addi v695 c5_i32_429
  let c8_i32_493 : BitVec 32 := 8#32
  let v788 : BitVec 32 := Scalar.muli v696 c8_i32_493
  let c7_i32_494 : BitVec 32 := 7#32
  let v789 : BitVec 32 := Scalar.addi v788 c7_i32_494
  let v790 : Index := Scalar.indexCast v789
  ![0, 0, v790.toNat]
def k0_mult53 (v791 : BitVec 32) : BitVec 32 :=
  let c3_i32_497 : BitVec 32 := 3#32
  let v792 : BitVec 32 := Scalar.shrsi v791 c3_i32_497
  let c3_i32_498 : BitVec 32 := 3#32
  let v793 : BitVec 32 := Scalar.shli v792 c3_i32_498
  v793

def k0_off101 (v791 : BitVec 32) : Fin 2 → Nat :=
  let c3_i32_497 : BitVec 32 := 3#32
  let v792 : BitVec 32 := Scalar.shrsi v791 c3_i32_497
  let c3_i32_498 : BitVec 32 := 3#32
  let v793 : BitVec 32 := Scalar.shli v792 c3_i32_498
  let v794 : BitVec 32 := v793
  let v795 : Index := Scalar.indexCast v794
  let c0_499 : Index := 0#32
  ![v795.toNat, 0]

def k0_chk48 (v791 : BitVec 32) : Prop :=
  (8 ∣ (k0_mult53 v791).toNat) ∧
  (∀ a, (k0_off101 v791) a + S8x384.size a ≤ S11328x384.size a)
theorem k0_mult53_dvd : ∀ (v791 : BitVec 32) (k0_hw48 : k0_chk48 v791), 8 ∣ (k0_mult53 v791).toNat := fun v791 k0_hw48 => k0_hw48.1
theorem k0_off101_inb : ∀ (v791 : BitVec 32) (k0_hw48 : k0_chk48 v791), ∀ a, (k0_off101 v791) a + S8x384.size a ≤ S11328x384.size a := fun v791 k0_hw48 => k0_hw48.2

def k0_mult54 (k0_t1 : Fin k0_t1_loop.trips) : BitVec 32 :=
  let c0_i32 : BitVec 32 := 0#32
  let c1_i32 : BitVec 32 := 1#32
  let arg17 : BitVec 32 := Scf.iv c0_i32 c1_i32 k0_t1
  let c8_i32_428 : BitVec 32 := 8#32
  let v695 : BitVec 32 := Scalar.muli arg17 c8_i32_428
  let c5_i32_429 : BitVec 32 := 5#32
  let v696 : BitVec 32 := Scalar.addi v695 c5_i32_429
  let c8_i32_509 : BitVec 32 := 8#32
  let v822 : BitVec 32 := Scalar.muli v696 c8_i32_509
  v822
def k0_off102 (k0_t1 : Fin k0_t1_loop.trips) : Fin 2 → Nat :=
  let c0_i32 : BitVec 32 := 0#32
  let c1_i32 : BitVec 32 := 1#32
  let arg17 : BitVec 32 := Scf.iv c0_i32 c1_i32 k0_t1
  let c8_i32_428 : BitVec 32 := 8#32
  let v695 : BitVec 32 := Scalar.muli arg17 c8_i32_428
  let c5_i32_429 : BitVec 32 := 5#32
  let v696 : BitVec 32 := Scalar.addi v695 c5_i32_429
  let c8_i32_509 : BitVec 32 := 8#32
  let v822 : BitVec 32 := Scalar.muli v696 c8_i32_509
  let v823 : BitVec 32 := v822
  let v824 : Index := Scalar.indexCast v823
  let c0_510 : Index := 0#32
  ![v824.toNat, 0]
def k0_off103 (k0_t1 : Fin k0_t1_loop.trips) : Fin 3 → Nat :=
  let c0_515 : Index := 0#32
  let c0_516 : Index := 0#32
  let c0_i32 : BitVec 32 := 0#32
  let c1_i32 : BitVec 32 := 1#32
  let arg17 : BitVec 32 := Scf.iv c0_i32 c1_i32 k0_t1
  let c8_i32_511 : BitVec 32 := 8#32
  let v828 : BitVec 32 := Scalar.muli arg17 c8_i32_511
  let c6_i32_512 : BitVec 32 := 6#32
  let v829 : BitVec 32 := Scalar.addi v828 c6_i32_512
  let c8_i32_513 : BitVec 32 := 8#32
  let v830 : BitVec 32 := Scalar.muli v829 c8_i32_513
  let c0_i32_514 : BitVec 32 := 0#32
  let v831 : BitVec 32 := Scalar.addi v830 c0_i32_514
  let v832 : Index := Scalar.indexCast v831
  ![0, 0, v832.toNat]
def k0_mult55 (v833 : BitVec 32) : BitVec 32 :=
  let c3_i32_517 : BitVec 32 := 3#32
  let v834 : BitVec 32 := Scalar.shrsi v833 c3_i32_517
  let c3_i32_518 : BitVec 32 := 3#32
  let v835 : BitVec 32 := Scalar.shli v834 c3_i32_518
  v835

def k0_off104 (v833 : BitVec 32) : Fin 2 → Nat :=
  let c3_i32_517 : BitVec 32 := 3#32
  let v834 : BitVec 32 := Scalar.shrsi v833 c3_i32_517
  let c3_i32_518 : BitVec 32 := 3#32
  let v835 : BitVec 32 := Scalar.shli v834 c3_i32_518
  let v836 : BitVec 32 := v835
  let v837 : Index := Scalar.indexCast v836
  let c0_519 : Index := 0#32
  ![v837.toNat, 0]

def k0_chk49 (v833 : BitVec 32) : Prop :=
  (8 ∣ (k0_mult55 v833).toNat) ∧
  (∀ a, (k0_off104 v833) a + S8x384.size a ≤ S11328x384.size a)
theorem k0_mult55_dvd : ∀ (v833 : BitVec 32) (k0_hw49 : k0_chk49 v833), 8 ∣ (k0_mult55 v833).toNat := fun v833 k0_hw49 => k0_hw49.1
theorem k0_off104_inb : ∀ (v833 : BitVec 32) (k0_hw49 : k0_chk49 v833), ∀ a, (k0_off104 v833) a + S8x384.size a ≤ S11328x384.size a := fun v833 k0_hw49 => k0_hw49.2

def k0_off105 (k0_t1 : Fin k0_t1_loop.trips) : Fin 3 → Nat :=
  let c0_524 : Index := 0#32
  let c0_525 : Index := 0#32
  let c0_i32 : BitVec 32 := 0#32
  let c1_i32 : BitVec 32 := 1#32
  let arg17 : BitVec 32 := Scf.iv c0_i32 c1_i32 k0_t1
  let c8_i32_511 : BitVec 32 := 8#32
  let v828 : BitVec 32 := Scalar.muli arg17 c8_i32_511
  let c6_i32_512 : BitVec 32 := 6#32
  let v829 : BitVec 32 := Scalar.addi v828 c6_i32_512
  let c8_i32_522 : BitVec 32 := 8#32
  let v843 : BitVec 32 := Scalar.muli v829 c8_i32_522
  let c1_i32_523 : BitVec 32 := 1#32
  let v844 : BitVec 32 := Scalar.addi v843 c1_i32_523
  let v845 : Index := Scalar.indexCast v844
  ![0, 0, v845.toNat]
def k0_mult56 (v846 : BitVec 32) : BitVec 32 :=
  let c3_i32_526 : BitVec 32 := 3#32
  let v847 : BitVec 32 := Scalar.shrsi v846 c3_i32_526
  let c3_i32_527 : BitVec 32 := 3#32
  let v848 : BitVec 32 := Scalar.shli v847 c3_i32_527
  v848

def k0_off106 (v846 : BitVec 32) : Fin 2 → Nat :=
  let c3_i32_526 : BitVec 32 := 3#32
  let v847 : BitVec 32 := Scalar.shrsi v846 c3_i32_526
  let c3_i32_527 : BitVec 32 := 3#32
  let v848 : BitVec 32 := Scalar.shli v847 c3_i32_527
  let v849 : BitVec 32 := v848
  let v850 : Index := Scalar.indexCast v849
  let c0_528 : Index := 0#32
  ![v850.toNat, 0]

def k0_chk50 (v846 : BitVec 32) : Prop :=
  (8 ∣ (k0_mult56 v846).toNat) ∧
  (∀ a, (k0_off106 v846) a + S8x384.size a ≤ S11328x384.size a)
theorem k0_mult56_dvd : ∀ (v846 : BitVec 32) (k0_hw50 : k0_chk50 v846), 8 ∣ (k0_mult56 v846).toNat := fun v846 k0_hw50 => k0_hw50.1
theorem k0_off106_inb : ∀ (v846 : BitVec 32) (k0_hw50 : k0_chk50 v846), ∀ a, (k0_off106 v846) a + S8x384.size a ≤ S11328x384.size a := fun v846 k0_hw50 => k0_hw50.2

def k0_off107 (k0_t1 : Fin k0_t1_loop.trips) : Fin 3 → Nat :=
  let c0_533 : Index := 0#32
  let c0_534 : Index := 0#32
  let c0_i32 : BitVec 32 := 0#32
  let c1_i32 : BitVec 32 := 1#32
  let arg17 : BitVec 32 := Scf.iv c0_i32 c1_i32 k0_t1
  let c8_i32_511 : BitVec 32 := 8#32
  let v828 : BitVec 32 := Scalar.muli arg17 c8_i32_511
  let c6_i32_512 : BitVec 32 := 6#32
  let v829 : BitVec 32 := Scalar.addi v828 c6_i32_512
  let c8_i32_531 : BitVec 32 := 8#32
  let v856 : BitVec 32 := Scalar.muli v829 c8_i32_531
  let c2_i32_532 : BitVec 32 := 2#32
  let v857 : BitVec 32 := Scalar.addi v856 c2_i32_532
  let v858 : Index := Scalar.indexCast v857
  ![0, 0, v858.toNat]
def k0_mult57 (v859 : BitVec 32) : BitVec 32 :=
  let c3_i32_535 : BitVec 32 := 3#32
  let v860 : BitVec 32 := Scalar.shrsi v859 c3_i32_535
  let c3_i32_536 : BitVec 32 := 3#32
  let v861 : BitVec 32 := Scalar.shli v860 c3_i32_536
  v861

def k0_off108 (v859 : BitVec 32) : Fin 2 → Nat :=
  let c3_i32_535 : BitVec 32 := 3#32
  let v860 : BitVec 32 := Scalar.shrsi v859 c3_i32_535
  let c3_i32_536 : BitVec 32 := 3#32
  let v861 : BitVec 32 := Scalar.shli v860 c3_i32_536
  let v862 : BitVec 32 := v861
  let v863 : Index := Scalar.indexCast v862
  let c0_537 : Index := 0#32
  ![v863.toNat, 0]

def k0_chk51 (v859 : BitVec 32) : Prop :=
  (8 ∣ (k0_mult57 v859).toNat) ∧
  (∀ a, (k0_off108 v859) a + S8x384.size a ≤ S11328x384.size a)
theorem k0_mult57_dvd : ∀ (v859 : BitVec 32) (k0_hw51 : k0_chk51 v859), 8 ∣ (k0_mult57 v859).toNat := fun v859 k0_hw51 => k0_hw51.1
theorem k0_off108_inb : ∀ (v859 : BitVec 32) (k0_hw51 : k0_chk51 v859), ∀ a, (k0_off108 v859) a + S8x384.size a ≤ S11328x384.size a := fun v859 k0_hw51 => k0_hw51.2

def k0_off109 (k0_t1 : Fin k0_t1_loop.trips) : Fin 3 → Nat :=
  let c0_542 : Index := 0#32
  let c0_543 : Index := 0#32
  let c0_i32 : BitVec 32 := 0#32
  let c1_i32 : BitVec 32 := 1#32
  let arg17 : BitVec 32 := Scf.iv c0_i32 c1_i32 k0_t1
  let c8_i32_511 : BitVec 32 := 8#32
  let v828 : BitVec 32 := Scalar.muli arg17 c8_i32_511
  let c6_i32_512 : BitVec 32 := 6#32
  let v829 : BitVec 32 := Scalar.addi v828 c6_i32_512
  let c8_i32_540 : BitVec 32 := 8#32
  let v869 : BitVec 32 := Scalar.muli v829 c8_i32_540
  let c3_i32_541 : BitVec 32 := 3#32
  let v870 : BitVec 32 := Scalar.addi v869 c3_i32_541
  let v871 : Index := Scalar.indexCast v870
  ![0, 0, v871.toNat]
def k0_mult58 (v872 : BitVec 32) : BitVec 32 :=
  let c3_i32_544 : BitVec 32 := 3#32
  let v873 : BitVec 32 := Scalar.shrsi v872 c3_i32_544
  let c3_i32_545 : BitVec 32 := 3#32
  let v874 : BitVec 32 := Scalar.shli v873 c3_i32_545
  v874

def k0_off110 (v872 : BitVec 32) : Fin 2 → Nat :=
  let c3_i32_544 : BitVec 32 := 3#32
  let v873 : BitVec 32 := Scalar.shrsi v872 c3_i32_544
  let c3_i32_545 : BitVec 32 := 3#32
  let v874 : BitVec 32 := Scalar.shli v873 c3_i32_545
  let v875 : BitVec 32 := v874
  let v876 : Index := Scalar.indexCast v875
  let c0_546 : Index := 0#32
  ![v876.toNat, 0]

def k0_chk52 (v872 : BitVec 32) : Prop :=
  (8 ∣ (k0_mult58 v872).toNat) ∧
  (∀ a, (k0_off110 v872) a + S8x384.size a ≤ S11328x384.size a)
theorem k0_mult58_dvd : ∀ (v872 : BitVec 32) (k0_hw52 : k0_chk52 v872), 8 ∣ (k0_mult58 v872).toNat := fun v872 k0_hw52 => k0_hw52.1
theorem k0_off110_inb : ∀ (v872 : BitVec 32) (k0_hw52 : k0_chk52 v872), ∀ a, (k0_off110 v872) a + S8x384.size a ≤ S11328x384.size a := fun v872 k0_hw52 => k0_hw52.2

def k0_off111 (k0_t1 : Fin k0_t1_loop.trips) : Fin 3 → Nat :=
  let c0_551 : Index := 0#32
  let c0_552 : Index := 0#32
  let c0_i32 : BitVec 32 := 0#32
  let c1_i32 : BitVec 32 := 1#32
  let arg17 : BitVec 32 := Scf.iv c0_i32 c1_i32 k0_t1
  let c8_i32_511 : BitVec 32 := 8#32
  let v828 : BitVec 32 := Scalar.muli arg17 c8_i32_511
  let c6_i32_512 : BitVec 32 := 6#32
  let v829 : BitVec 32 := Scalar.addi v828 c6_i32_512
  let c8_i32_549 : BitVec 32 := 8#32
  let v882 : BitVec 32 := Scalar.muli v829 c8_i32_549
  let c4_i32_550 : BitVec 32 := 4#32
  let v883 : BitVec 32 := Scalar.addi v882 c4_i32_550
  let v884 : Index := Scalar.indexCast v883
  ![0, 0, v884.toNat]
def k0_mult59 (v885 : BitVec 32) : BitVec 32 :=
  let c3_i32_553 : BitVec 32 := 3#32
  let v886 : BitVec 32 := Scalar.shrsi v885 c3_i32_553
  let c3_i32_554 : BitVec 32 := 3#32
  let v887 : BitVec 32 := Scalar.shli v886 c3_i32_554
  v887

def k0_off112 (v885 : BitVec 32) : Fin 2 → Nat :=
  let c3_i32_553 : BitVec 32 := 3#32
  let v886 : BitVec 32 := Scalar.shrsi v885 c3_i32_553
  let c3_i32_554 : BitVec 32 := 3#32
  let v887 : BitVec 32 := Scalar.shli v886 c3_i32_554
  let v888 : BitVec 32 := v887
  let v889 : Index := Scalar.indexCast v888
  let c0_555 : Index := 0#32
  ![v889.toNat, 0]

def k0_chk53 (v885 : BitVec 32) : Prop :=
  (8 ∣ (k0_mult59 v885).toNat) ∧
  (∀ a, (k0_off112 v885) a + S8x384.size a ≤ S11328x384.size a)
theorem k0_mult59_dvd : ∀ (v885 : BitVec 32) (k0_hw53 : k0_chk53 v885), 8 ∣ (k0_mult59 v885).toNat := fun v885 k0_hw53 => k0_hw53.1
theorem k0_off112_inb : ∀ (v885 : BitVec 32) (k0_hw53 : k0_chk53 v885), ∀ a, (k0_off112 v885) a + S8x384.size a ≤ S11328x384.size a := fun v885 k0_hw53 => k0_hw53.2

def k0_off113 (k0_t1 : Fin k0_t1_loop.trips) : Fin 3 → Nat :=
  let c0_560 : Index := 0#32
  let c0_561 : Index := 0#32
  let c0_i32 : BitVec 32 := 0#32
  let c1_i32 : BitVec 32 := 1#32
  let arg17 : BitVec 32 := Scf.iv c0_i32 c1_i32 k0_t1
  let c8_i32_511 : BitVec 32 := 8#32
  let v828 : BitVec 32 := Scalar.muli arg17 c8_i32_511
  let c6_i32_512 : BitVec 32 := 6#32
  let v829 : BitVec 32 := Scalar.addi v828 c6_i32_512
  let c8_i32_558 : BitVec 32 := 8#32
  let v895 : BitVec 32 := Scalar.muli v829 c8_i32_558
  let c5_i32_559 : BitVec 32 := 5#32
  let v896 : BitVec 32 := Scalar.addi v895 c5_i32_559
  let v897 : Index := Scalar.indexCast v896
  ![0, 0, v897.toNat]
def k0_mult60 (v898 : BitVec 32) : BitVec 32 :=
  let c3_i32_562 : BitVec 32 := 3#32
  let v899 : BitVec 32 := Scalar.shrsi v898 c3_i32_562
  let c3_i32_563 : BitVec 32 := 3#32
  let v900 : BitVec 32 := Scalar.shli v899 c3_i32_563
  v900

def k0_off114 (v898 : BitVec 32) : Fin 2 → Nat :=
  let c3_i32_562 : BitVec 32 := 3#32
  let v899 : BitVec 32 := Scalar.shrsi v898 c3_i32_562
  let c3_i32_563 : BitVec 32 := 3#32
  let v900 : BitVec 32 := Scalar.shli v899 c3_i32_563
  let v901 : BitVec 32 := v900
  let v902 : Index := Scalar.indexCast v901
  let c0_564 : Index := 0#32
  ![v902.toNat, 0]

def k0_chk54 (v898 : BitVec 32) : Prop :=
  (8 ∣ (k0_mult60 v898).toNat) ∧
  (∀ a, (k0_off114 v898) a + S8x384.size a ≤ S11328x384.size a)
theorem k0_mult60_dvd : ∀ (v898 : BitVec 32) (k0_hw54 : k0_chk54 v898), 8 ∣ (k0_mult60 v898).toNat := fun v898 k0_hw54 => k0_hw54.1
theorem k0_off114_inb : ∀ (v898 : BitVec 32) (k0_hw54 : k0_chk54 v898), ∀ a, (k0_off114 v898) a + S8x384.size a ≤ S11328x384.size a := fun v898 k0_hw54 => k0_hw54.2

def k0_off115 (k0_t1 : Fin k0_t1_loop.trips) : Fin 3 → Nat :=
  let c0_569 : Index := 0#32
  let c0_570 : Index := 0#32
  let c0_i32 : BitVec 32 := 0#32
  let c1_i32 : BitVec 32 := 1#32
  let arg17 : BitVec 32 := Scf.iv c0_i32 c1_i32 k0_t1
  let c8_i32_511 : BitVec 32 := 8#32
  let v828 : BitVec 32 := Scalar.muli arg17 c8_i32_511
  let c6_i32_512 : BitVec 32 := 6#32
  let v829 : BitVec 32 := Scalar.addi v828 c6_i32_512
  let c8_i32_567 : BitVec 32 := 8#32
  let v908 : BitVec 32 := Scalar.muli v829 c8_i32_567
  let c6_i32_568 : BitVec 32 := 6#32
  let v909 : BitVec 32 := Scalar.addi v908 c6_i32_568
  let v910 : Index := Scalar.indexCast v909
  ![0, 0, v910.toNat]
def k0_mult61 (v911 : BitVec 32) : BitVec 32 :=
  let c3_i32_571 : BitVec 32 := 3#32
  let v912 : BitVec 32 := Scalar.shrsi v911 c3_i32_571
  let c3_i32_572 : BitVec 32 := 3#32
  let v913 : BitVec 32 := Scalar.shli v912 c3_i32_572
  v913

def k0_off116 (v911 : BitVec 32) : Fin 2 → Nat :=
  let c3_i32_571 : BitVec 32 := 3#32
  let v912 : BitVec 32 := Scalar.shrsi v911 c3_i32_571
  let c3_i32_572 : BitVec 32 := 3#32
  let v913 : BitVec 32 := Scalar.shli v912 c3_i32_572
  let v914 : BitVec 32 := v913
  let v915 : Index := Scalar.indexCast v914
  let c0_573 : Index := 0#32
  ![v915.toNat, 0]

def k0_chk55 (v911 : BitVec 32) : Prop :=
  (8 ∣ (k0_mult61 v911).toNat) ∧
  (∀ a, (k0_off116 v911) a + S8x384.size a ≤ S11328x384.size a)
theorem k0_mult61_dvd : ∀ (v911 : BitVec 32) (k0_hw55 : k0_chk55 v911), 8 ∣ (k0_mult61 v911).toNat := fun v911 k0_hw55 => k0_hw55.1
theorem k0_off116_inb : ∀ (v911 : BitVec 32) (k0_hw55 : k0_chk55 v911), ∀ a, (k0_off116 v911) a + S8x384.size a ≤ S11328x384.size a := fun v911 k0_hw55 => k0_hw55.2

def k0_off117 (k0_t1 : Fin k0_t1_loop.trips) : Fin 3 → Nat :=
  let c0_578 : Index := 0#32
  let c0_579 : Index := 0#32
  let c0_i32 : BitVec 32 := 0#32
  let c1_i32 : BitVec 32 := 1#32
  let arg17 : BitVec 32 := Scf.iv c0_i32 c1_i32 k0_t1
  let c8_i32_511 : BitVec 32 := 8#32
  let v828 : BitVec 32 := Scalar.muli arg17 c8_i32_511
  let c6_i32_512 : BitVec 32 := 6#32
  let v829 : BitVec 32 := Scalar.addi v828 c6_i32_512
  let c8_i32_576 : BitVec 32 := 8#32
  let v921 : BitVec 32 := Scalar.muli v829 c8_i32_576
  let c7_i32_577 : BitVec 32 := 7#32
  let v922 : BitVec 32 := Scalar.addi v921 c7_i32_577
  let v923 : Index := Scalar.indexCast v922
  ![0, 0, v923.toNat]
def k0_mult62 (v924 : BitVec 32) : BitVec 32 :=
  let c3_i32_580 : BitVec 32 := 3#32
  let v925 : BitVec 32 := Scalar.shrsi v924 c3_i32_580
  let c3_i32_581 : BitVec 32 := 3#32
  let v926 : BitVec 32 := Scalar.shli v925 c3_i32_581
  v926

def k0_off118 (v924 : BitVec 32) : Fin 2 → Nat :=
  let c3_i32_580 : BitVec 32 := 3#32
  let v925 : BitVec 32 := Scalar.shrsi v924 c3_i32_580
  let c3_i32_581 : BitVec 32 := 3#32
  let v926 : BitVec 32 := Scalar.shli v925 c3_i32_581
  let v927 : BitVec 32 := v926
  let v928 : Index := Scalar.indexCast v927
  let c0_582 : Index := 0#32
  ![v928.toNat, 0]

def k0_chk56 (v924 : BitVec 32) : Prop :=
  (8 ∣ (k0_mult62 v924).toNat) ∧
  (∀ a, (k0_off118 v924) a + S8x384.size a ≤ S11328x384.size a)
theorem k0_mult62_dvd : ∀ (v924 : BitVec 32) (k0_hw56 : k0_chk56 v924), 8 ∣ (k0_mult62 v924).toNat := fun v924 k0_hw56 => k0_hw56.1
theorem k0_off118_inb : ∀ (v924 : BitVec 32) (k0_hw56 : k0_chk56 v924), ∀ a, (k0_off118 v924) a + S8x384.size a ≤ S11328x384.size a := fun v924 k0_hw56 => k0_hw56.2

def k0_mult63 (k0_t1 : Fin k0_t1_loop.trips) : BitVec 32 :=
  let c0_i32 : BitVec 32 := 0#32
  let c1_i32 : BitVec 32 := 1#32
  let arg17 : BitVec 32 := Scf.iv c0_i32 c1_i32 k0_t1
  let c8_i32_511 : BitVec 32 := 8#32
  let v828 : BitVec 32 := Scalar.muli arg17 c8_i32_511
  let c6_i32_512 : BitVec 32 := 6#32
  let v829 : BitVec 32 := Scalar.addi v828 c6_i32_512
  let c8_i32_592 : BitVec 32 := 8#32
  let v955 : BitVec 32 := Scalar.muli v829 c8_i32_592
  v955
def k0_off119 (k0_t1 : Fin k0_t1_loop.trips) : Fin 2 → Nat :=
  let c0_i32 : BitVec 32 := 0#32
  let c1_i32 : BitVec 32 := 1#32
  let arg17 : BitVec 32 := Scf.iv c0_i32 c1_i32 k0_t1
  let c8_i32_511 : BitVec 32 := 8#32
  let v828 : BitVec 32 := Scalar.muli arg17 c8_i32_511
  let c6_i32_512 : BitVec 32 := 6#32
  let v829 : BitVec 32 := Scalar.addi v828 c6_i32_512
  let c8_i32_592 : BitVec 32 := 8#32
  let v955 : BitVec 32 := Scalar.muli v829 c8_i32_592
  let v956 : BitVec 32 := v955
  let v957 : Index := Scalar.indexCast v956
  let c0_593 : Index := 0#32
  ![v957.toNat, 0]
def k0_off120 (k0_t1 : Fin k0_t1_loop.trips) : Fin 3 → Nat :=
  let c0_598 : Index := 0#32
  let c0_599 : Index := 0#32
  let c0_i32 : BitVec 32 := 0#32
  let c1_i32 : BitVec 32 := 1#32
  let arg17 : BitVec 32 := Scf.iv c0_i32 c1_i32 k0_t1
  let c8_i32_594 : BitVec 32 := 8#32
  let v961 : BitVec 32 := Scalar.muli arg17 c8_i32_594
  let c7_i32_595 : BitVec 32 := 7#32
  let v962 : BitVec 32 := Scalar.addi v961 c7_i32_595
  let c8_i32_596 : BitVec 32 := 8#32
  let v963 : BitVec 32 := Scalar.muli v962 c8_i32_596
  let c0_i32_597 : BitVec 32 := 0#32
  let v964 : BitVec 32 := Scalar.addi v963 c0_i32_597
  let v965 : Index := Scalar.indexCast v964
  ![0, 0, v965.toNat]
def k0_mult64 (v966 : BitVec 32) : BitVec 32 :=
  let c3_i32_600 : BitVec 32 := 3#32
  let v967 : BitVec 32 := Scalar.shrsi v966 c3_i32_600
  let c3_i32_601 : BitVec 32 := 3#32
  let v968 : BitVec 32 := Scalar.shli v967 c3_i32_601
  v968

def k0_off121 (v966 : BitVec 32) : Fin 2 → Nat :=
  let c3_i32_600 : BitVec 32 := 3#32
  let v967 : BitVec 32 := Scalar.shrsi v966 c3_i32_600
  let c3_i32_601 : BitVec 32 := 3#32
  let v968 : BitVec 32 := Scalar.shli v967 c3_i32_601
  let v969 : BitVec 32 := v968
  let v970 : Index := Scalar.indexCast v969
  let c0_602 : Index := 0#32
  ![v970.toNat, 0]

def k0_chk57 (v966 : BitVec 32) : Prop :=
  (8 ∣ (k0_mult64 v966).toNat) ∧
  (∀ a, (k0_off121 v966) a + S8x384.size a ≤ S11328x384.size a)
theorem k0_mult64_dvd : ∀ (v966 : BitVec 32) (k0_hw57 : k0_chk57 v966), 8 ∣ (k0_mult64 v966).toNat := fun v966 k0_hw57 => k0_hw57.1
theorem k0_off121_inb : ∀ (v966 : BitVec 32) (k0_hw57 : k0_chk57 v966), ∀ a, (k0_off121 v966) a + S8x384.size a ≤ S11328x384.size a := fun v966 k0_hw57 => k0_hw57.2

def k0_off122 (k0_t1 : Fin k0_t1_loop.trips) : Fin 3 → Nat :=
  let c0_607 : Index := 0#32
  let c0_608 : Index := 0#32
  let c0_i32 : BitVec 32 := 0#32
  let c1_i32 : BitVec 32 := 1#32
  let arg17 : BitVec 32 := Scf.iv c0_i32 c1_i32 k0_t1
  let c8_i32_594 : BitVec 32 := 8#32
  let v961 : BitVec 32 := Scalar.muli arg17 c8_i32_594
  let c7_i32_595 : BitVec 32 := 7#32
  let v962 : BitVec 32 := Scalar.addi v961 c7_i32_595
  let c8_i32_605 : BitVec 32 := 8#32
  let v976 : BitVec 32 := Scalar.muli v962 c8_i32_605
  let c1_i32_606 : BitVec 32 := 1#32
  let v977 : BitVec 32 := Scalar.addi v976 c1_i32_606
  let v978 : Index := Scalar.indexCast v977
  ![0, 0, v978.toNat]
def k0_mult65 (v979 : BitVec 32) : BitVec 32 :=
  let c3_i32_609 : BitVec 32 := 3#32
  let v980 : BitVec 32 := Scalar.shrsi v979 c3_i32_609
  let c3_i32_610 : BitVec 32 := 3#32
  let v981 : BitVec 32 := Scalar.shli v980 c3_i32_610
  v981

def k0_off123 (v979 : BitVec 32) : Fin 2 → Nat :=
  let c3_i32_609 : BitVec 32 := 3#32
  let v980 : BitVec 32 := Scalar.shrsi v979 c3_i32_609
  let c3_i32_610 : BitVec 32 := 3#32
  let v981 : BitVec 32 := Scalar.shli v980 c3_i32_610
  let v982 : BitVec 32 := v981
  let v983 : Index := Scalar.indexCast v982
  let c0_611 : Index := 0#32
  ![v983.toNat, 0]

def k0_chk58 (v979 : BitVec 32) : Prop :=
  (8 ∣ (k0_mult65 v979).toNat) ∧
  (∀ a, (k0_off123 v979) a + S8x384.size a ≤ S11328x384.size a)
theorem k0_mult65_dvd : ∀ (v979 : BitVec 32) (k0_hw58 : k0_chk58 v979), 8 ∣ (k0_mult65 v979).toNat := fun v979 k0_hw58 => k0_hw58.1
theorem k0_off123_inb : ∀ (v979 : BitVec 32) (k0_hw58 : k0_chk58 v979), ∀ a, (k0_off123 v979) a + S8x384.size a ≤ S11328x384.size a := fun v979 k0_hw58 => k0_hw58.2

def k0_off124 (k0_t1 : Fin k0_t1_loop.trips) : Fin 3 → Nat :=
  let c0_616 : Index := 0#32
  let c0_617 : Index := 0#32
  let c0_i32 : BitVec 32 := 0#32
  let c1_i32 : BitVec 32 := 1#32
  let arg17 : BitVec 32 := Scf.iv c0_i32 c1_i32 k0_t1
  let c8_i32_594 : BitVec 32 := 8#32
  let v961 : BitVec 32 := Scalar.muli arg17 c8_i32_594
  let c7_i32_595 : BitVec 32 := 7#32
  let v962 : BitVec 32 := Scalar.addi v961 c7_i32_595
  let c8_i32_614 : BitVec 32 := 8#32
  let v989 : BitVec 32 := Scalar.muli v962 c8_i32_614
  let c2_i32_615 : BitVec 32 := 2#32
  let v990 : BitVec 32 := Scalar.addi v989 c2_i32_615
  let v991 : Index := Scalar.indexCast v990
  ![0, 0, v991.toNat]
def k0_mult66 (v992 : BitVec 32) : BitVec 32 :=
  let c3_i32_618 : BitVec 32 := 3#32
  let v993 : BitVec 32 := Scalar.shrsi v992 c3_i32_618
  let c3_i32_619 : BitVec 32 := 3#32
  let v994 : BitVec 32 := Scalar.shli v993 c3_i32_619
  v994

def k0_off125 (v992 : BitVec 32) : Fin 2 → Nat :=
  let c3_i32_618 : BitVec 32 := 3#32
  let v993 : BitVec 32 := Scalar.shrsi v992 c3_i32_618
  let c3_i32_619 : BitVec 32 := 3#32
  let v994 : BitVec 32 := Scalar.shli v993 c3_i32_619
  let v995 : BitVec 32 := v994
  let v996 : Index := Scalar.indexCast v995
  let c0_620 : Index := 0#32
  ![v996.toNat, 0]

def k0_chk59 (v992 : BitVec 32) : Prop :=
  (8 ∣ (k0_mult66 v992).toNat) ∧
  (∀ a, (k0_off125 v992) a + S8x384.size a ≤ S11328x384.size a)
theorem k0_mult66_dvd : ∀ (v992 : BitVec 32) (k0_hw59 : k0_chk59 v992), 8 ∣ (k0_mult66 v992).toNat := fun v992 k0_hw59 => k0_hw59.1
theorem k0_off125_inb : ∀ (v992 : BitVec 32) (k0_hw59 : k0_chk59 v992), ∀ a, (k0_off125 v992) a + S8x384.size a ≤ S11328x384.size a := fun v992 k0_hw59 => k0_hw59.2

def k0_off126 (k0_t1 : Fin k0_t1_loop.trips) : Fin 3 → Nat :=
  let c0_625 : Index := 0#32
  let c0_626 : Index := 0#32
  let c0_i32 : BitVec 32 := 0#32
  let c1_i32 : BitVec 32 := 1#32
  let arg17 : BitVec 32 := Scf.iv c0_i32 c1_i32 k0_t1
  let c8_i32_594 : BitVec 32 := 8#32
  let v961 : BitVec 32 := Scalar.muli arg17 c8_i32_594
  let c7_i32_595 : BitVec 32 := 7#32
  let v962 : BitVec 32 := Scalar.addi v961 c7_i32_595
  let c8_i32_623 : BitVec 32 := 8#32
  let v1002 : BitVec 32 := Scalar.muli v962 c8_i32_623
  let c3_i32_624 : BitVec 32 := 3#32
  let v1003 : BitVec 32 := Scalar.addi v1002 c3_i32_624
  let v1004 : Index := Scalar.indexCast v1003
  ![0, 0, v1004.toNat]
def k0_mult67 (v1005 : BitVec 32) : BitVec 32 :=
  let c3_i32_627 : BitVec 32 := 3#32
  let v1006 : BitVec 32 := Scalar.shrsi v1005 c3_i32_627
  let c3_i32_628 : BitVec 32 := 3#32
  let v1007 : BitVec 32 := Scalar.shli v1006 c3_i32_628
  v1007

def k0_off127 (v1005 : BitVec 32) : Fin 2 → Nat :=
  let c3_i32_627 : BitVec 32 := 3#32
  let v1006 : BitVec 32 := Scalar.shrsi v1005 c3_i32_627
  let c3_i32_628 : BitVec 32 := 3#32
  let v1007 : BitVec 32 := Scalar.shli v1006 c3_i32_628
  let v1008 : BitVec 32 := v1007
  let v1009 : Index := Scalar.indexCast v1008
  let c0_629 : Index := 0#32
  ![v1009.toNat, 0]

def k0_chk60 (v1005 : BitVec 32) : Prop :=
  (8 ∣ (k0_mult67 v1005).toNat) ∧
  (∀ a, (k0_off127 v1005) a + S8x384.size a ≤ S11328x384.size a)
theorem k0_mult67_dvd : ∀ (v1005 : BitVec 32) (k0_hw60 : k0_chk60 v1005), 8 ∣ (k0_mult67 v1005).toNat := fun v1005 k0_hw60 => k0_hw60.1
theorem k0_off127_inb : ∀ (v1005 : BitVec 32) (k0_hw60 : k0_chk60 v1005), ∀ a, (k0_off127 v1005) a + S8x384.size a ≤ S11328x384.size a := fun v1005 k0_hw60 => k0_hw60.2

def k0_off128 (k0_t1 : Fin k0_t1_loop.trips) : Fin 3 → Nat :=
  let c0_634 : Index := 0#32
  let c0_635 : Index := 0#32
  let c0_i32 : BitVec 32 := 0#32
  let c1_i32 : BitVec 32 := 1#32
  let arg17 : BitVec 32 := Scf.iv c0_i32 c1_i32 k0_t1
  let c8_i32_594 : BitVec 32 := 8#32
  let v961 : BitVec 32 := Scalar.muli arg17 c8_i32_594
  let c7_i32_595 : BitVec 32 := 7#32
  let v962 : BitVec 32 := Scalar.addi v961 c7_i32_595
  let c8_i32_632 : BitVec 32 := 8#32
  let v1015 : BitVec 32 := Scalar.muli v962 c8_i32_632
  let c4_i32_633 : BitVec 32 := 4#32
  let v1016 : BitVec 32 := Scalar.addi v1015 c4_i32_633
  let v1017 : Index := Scalar.indexCast v1016
  ![0, 0, v1017.toNat]
def k0_mult68 (v1018 : BitVec 32) : BitVec 32 :=
  let c3_i32_636 : BitVec 32 := 3#32
  let v1019 : BitVec 32 := Scalar.shrsi v1018 c3_i32_636
  let c3_i32_637 : BitVec 32 := 3#32
  let v1020 : BitVec 32 := Scalar.shli v1019 c3_i32_637
  v1020

def k0_off129 (v1018 : BitVec 32) : Fin 2 → Nat :=
  let c3_i32_636 : BitVec 32 := 3#32
  let v1019 : BitVec 32 := Scalar.shrsi v1018 c3_i32_636
  let c3_i32_637 : BitVec 32 := 3#32
  let v1020 : BitVec 32 := Scalar.shli v1019 c3_i32_637
  let v1021 : BitVec 32 := v1020
  let v1022 : Index := Scalar.indexCast v1021
  let c0_638 : Index := 0#32
  ![v1022.toNat, 0]

def k0_chk61 (v1018 : BitVec 32) : Prop :=
  (8 ∣ (k0_mult68 v1018).toNat) ∧
  (∀ a, (k0_off129 v1018) a + S8x384.size a ≤ S11328x384.size a)
theorem k0_mult68_dvd : ∀ (v1018 : BitVec 32) (k0_hw61 : k0_chk61 v1018), 8 ∣ (k0_mult68 v1018).toNat := fun v1018 k0_hw61 => k0_hw61.1
theorem k0_off129_inb : ∀ (v1018 : BitVec 32) (k0_hw61 : k0_chk61 v1018), ∀ a, (k0_off129 v1018) a + S8x384.size a ≤ S11328x384.size a := fun v1018 k0_hw61 => k0_hw61.2

def k0_off130 (k0_t1 : Fin k0_t1_loop.trips) : Fin 3 → Nat :=
  let c0_643 : Index := 0#32
  let c0_644 : Index := 0#32
  let c0_i32 : BitVec 32 := 0#32
  let c1_i32 : BitVec 32 := 1#32
  let arg17 : BitVec 32 := Scf.iv c0_i32 c1_i32 k0_t1
  let c8_i32_594 : BitVec 32 := 8#32
  let v961 : BitVec 32 := Scalar.muli arg17 c8_i32_594
  let c7_i32_595 : BitVec 32 := 7#32
  let v962 : BitVec 32 := Scalar.addi v961 c7_i32_595
  let c8_i32_641 : BitVec 32 := 8#32
  let v1028 : BitVec 32 := Scalar.muli v962 c8_i32_641
  let c5_i32_642 : BitVec 32 := 5#32
  let v1029 : BitVec 32 := Scalar.addi v1028 c5_i32_642
  let v1030 : Index := Scalar.indexCast v1029
  ![0, 0, v1030.toNat]
def k0_mult69 (v1031 : BitVec 32) : BitVec 32 :=
  let c3_i32_645 : BitVec 32 := 3#32
  let v1032 : BitVec 32 := Scalar.shrsi v1031 c3_i32_645
  let c3_i32_646 : BitVec 32 := 3#32
  let v1033 : BitVec 32 := Scalar.shli v1032 c3_i32_646
  v1033

def k0_off131 (v1031 : BitVec 32) : Fin 2 → Nat :=
  let c3_i32_645 : BitVec 32 := 3#32
  let v1032 : BitVec 32 := Scalar.shrsi v1031 c3_i32_645
  let c3_i32_646 : BitVec 32 := 3#32
  let v1033 : BitVec 32 := Scalar.shli v1032 c3_i32_646
  let v1034 : BitVec 32 := v1033
  let v1035 : Index := Scalar.indexCast v1034
  let c0_647 : Index := 0#32
  ![v1035.toNat, 0]

def k0_chk62 (v1031 : BitVec 32) : Prop :=
  (8 ∣ (k0_mult69 v1031).toNat) ∧
  (∀ a, (k0_off131 v1031) a + S8x384.size a ≤ S11328x384.size a)
theorem k0_mult69_dvd : ∀ (v1031 : BitVec 32) (k0_hw62 : k0_chk62 v1031), 8 ∣ (k0_mult69 v1031).toNat := fun v1031 k0_hw62 => k0_hw62.1
theorem k0_off131_inb : ∀ (v1031 : BitVec 32) (k0_hw62 : k0_chk62 v1031), ∀ a, (k0_off131 v1031) a + S8x384.size a ≤ S11328x384.size a := fun v1031 k0_hw62 => k0_hw62.2

def k0_off132 (k0_t1 : Fin k0_t1_loop.trips) : Fin 3 → Nat :=
  let c0_652 : Index := 0#32
  let c0_653 : Index := 0#32
  let c0_i32 : BitVec 32 := 0#32
  let c1_i32 : BitVec 32 := 1#32
  let arg17 : BitVec 32 := Scf.iv c0_i32 c1_i32 k0_t1
  let c8_i32_594 : BitVec 32 := 8#32
  let v961 : BitVec 32 := Scalar.muli arg17 c8_i32_594
  let c7_i32_595 : BitVec 32 := 7#32
  let v962 : BitVec 32 := Scalar.addi v961 c7_i32_595
  let c8_i32_650 : BitVec 32 := 8#32
  let v1041 : BitVec 32 := Scalar.muli v962 c8_i32_650
  let c6_i32_651 : BitVec 32 := 6#32
  let v1042 : BitVec 32 := Scalar.addi v1041 c6_i32_651
  let v1043 : Index := Scalar.indexCast v1042
  ![0, 0, v1043.toNat]
def k0_mult70 (v1044 : BitVec 32) : BitVec 32 :=
  let c3_i32_654 : BitVec 32 := 3#32
  let v1045 : BitVec 32 := Scalar.shrsi v1044 c3_i32_654
  let c3_i32_655 : BitVec 32 := 3#32
  let v1046 : BitVec 32 := Scalar.shli v1045 c3_i32_655
  v1046

def k0_off133 (v1044 : BitVec 32) : Fin 2 → Nat :=
  let c3_i32_654 : BitVec 32 := 3#32
  let v1045 : BitVec 32 := Scalar.shrsi v1044 c3_i32_654
  let c3_i32_655 : BitVec 32 := 3#32
  let v1046 : BitVec 32 := Scalar.shli v1045 c3_i32_655
  let v1047 : BitVec 32 := v1046
  let v1048 : Index := Scalar.indexCast v1047
  let c0_656 : Index := 0#32
  ![v1048.toNat, 0]

def k0_chk63 (v1044 : BitVec 32) : Prop :=
  (8 ∣ (k0_mult70 v1044).toNat) ∧
  (∀ a, (k0_off133 v1044) a + S8x384.size a ≤ S11328x384.size a)
theorem k0_mult70_dvd : ∀ (v1044 : BitVec 32) (k0_hw63 : k0_chk63 v1044), 8 ∣ (k0_mult70 v1044).toNat := fun v1044 k0_hw63 => k0_hw63.1
theorem k0_off133_inb : ∀ (v1044 : BitVec 32) (k0_hw63 : k0_chk63 v1044), ∀ a, (k0_off133 v1044) a + S8x384.size a ≤ S11328x384.size a := fun v1044 k0_hw63 => k0_hw63.2

def k0_off134 (k0_t1 : Fin k0_t1_loop.trips) : Fin 3 → Nat :=
  let c0_661 : Index := 0#32
  let c0_662 : Index := 0#32
  let c0_i32 : BitVec 32 := 0#32
  let c1_i32 : BitVec 32 := 1#32
  let arg17 : BitVec 32 := Scf.iv c0_i32 c1_i32 k0_t1
  let c8_i32_594 : BitVec 32 := 8#32
  let v961 : BitVec 32 := Scalar.muli arg17 c8_i32_594
  let c7_i32_595 : BitVec 32 := 7#32
  let v962 : BitVec 32 := Scalar.addi v961 c7_i32_595
  let c8_i32_659 : BitVec 32 := 8#32
  let v1054 : BitVec 32 := Scalar.muli v962 c8_i32_659
  let c7_i32_660 : BitVec 32 := 7#32
  let v1055 : BitVec 32 := Scalar.addi v1054 c7_i32_660
  let v1056 : Index := Scalar.indexCast v1055
  ![0, 0, v1056.toNat]
def k0_mult71 (v1057 : BitVec 32) : BitVec 32 :=
  let c3_i32_663 : BitVec 32 := 3#32
  let v1058 : BitVec 32 := Scalar.shrsi v1057 c3_i32_663
  let c3_i32_664 : BitVec 32 := 3#32
  let v1059 : BitVec 32 := Scalar.shli v1058 c3_i32_664
  v1059

def k0_off135 (v1057 : BitVec 32) : Fin 2 → Nat :=
  let c3_i32_663 : BitVec 32 := 3#32
  let v1058 : BitVec 32 := Scalar.shrsi v1057 c3_i32_663
  let c3_i32_664 : BitVec 32 := 3#32
  let v1059 : BitVec 32 := Scalar.shli v1058 c3_i32_664
  let v1060 : BitVec 32 := v1059
  let v1061 : Index := Scalar.indexCast v1060
  let c0_665 : Index := 0#32
  ![v1061.toNat, 0]

def k0_chk64 (v1057 : BitVec 32) : Prop :=
  (8 ∣ (k0_mult71 v1057).toNat) ∧
  (∀ a, (k0_off135 v1057) a + S8x384.size a ≤ S11328x384.size a)
theorem k0_mult71_dvd : ∀ (v1057 : BitVec 32) (k0_hw64 : k0_chk64 v1057), 8 ∣ (k0_mult71 v1057).toNat := fun v1057 k0_hw64 => k0_hw64.1
theorem k0_off135_inb : ∀ (v1057 : BitVec 32) (k0_hw64 : k0_chk64 v1057), ∀ a, (k0_off135 v1057) a + S8x384.size a ≤ S11328x384.size a := fun v1057 k0_hw64 => k0_hw64.2

def k0_mult72 (k0_t1 : Fin k0_t1_loop.trips) : BitVec 32 :=
  let c0_i32 : BitVec 32 := 0#32
  let c1_i32 : BitVec 32 := 1#32
  let arg17 : BitVec 32 := Scf.iv c0_i32 c1_i32 k0_t1
  let c8_i32_594 : BitVec 32 := 8#32
  let v961 : BitVec 32 := Scalar.muli arg17 c8_i32_594
  let c7_i32_595 : BitVec 32 := 7#32
  let v962 : BitVec 32 := Scalar.addi v961 c7_i32_595
  let c8_i32_675 : BitVec 32 := 8#32
  let v1088 : BitVec 32 := Scalar.muli v962 c8_i32_675
  v1088
def k0_off136 (k0_t1 : Fin k0_t1_loop.trips) : Fin 2 → Nat :=
  let c0_i32 : BitVec 32 := 0#32
  let c1_i32 : BitVec 32 := 1#32
  let arg17 : BitVec 32 := Scf.iv c0_i32 c1_i32 k0_t1
  let c8_i32_594 : BitVec 32 := 8#32
  let v961 : BitVec 32 := Scalar.muli arg17 c8_i32_594
  let c7_i32_595 : BitVec 32 := 7#32
  let v962 : BitVec 32 := Scalar.addi v961 c7_i32_595
  let c8_i32_675 : BitVec 32 := 8#32
  let v1088 : BitVec 32 := Scalar.muli v962 c8_i32_675
  let v1089 : BitVec 32 := v1088
  let v1090 : Index := Scalar.indexCast v1089
  let c0_676 : Index := 0#32
  ![v1090.toNat, 0]
@[reducible] def k0_t2_loop : Scf.Loop 32 :=
  let c0_i32_10 : BitVec 32 := 0#32
  let c20_i32 : BitVec 32 := 20#32
  let v19 : BitVec 32 := Scalar.addi c0_i32_10 c20_i32
  let c1_i32_11 : BitVec 32 := 1#32
  ⟨c0_i32_10, v19, c1_i32_11⟩
def k0_mult73 (k0_t2 : Fin k0_t2_loop.trips) : BitVec 32 :=
  let c0_i32_10 : BitVec 32 := 0#32
  let c1_i32_11 : BitVec 32 := 1#32
  let arg17 : BitVec 32 := Scf.iv c0_i32_10 c1_i32_11 k0_t2
  let c256_i32 : BitVec 32 := 256#32
  let v30 : BitVec 32 := Scalar.muli arg17 c256_i32
  v30
def k0_off137 (k0_t2 : Fin k0_t2_loop.trips) : Fin 2 → Nat :=
  let c0_i32_10 : BitVec 32 := 0#32
  let c1_i32_11 : BitVec 32 := 1#32
  let arg17 : BitVec 32 := Scf.iv c0_i32_10 c1_i32_11 k0_t2
  let c256_i32 : BitVec 32 := 256#32
  let v30 : BitVec 32 := Scalar.muli arg17 c256_i32
  let v31 : BitVec 32 := v30
  let v32 : Index := Scalar.indexCast v31
  let c0_20 : Index := 0#32
  ![v32.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x5120 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11328x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S64x512 : Shape := ⟨2, ![64, 512]⟩
abbrev S64x100x20 : Shape := ⟨3, ![64, 100, 20]⟩
abbrev S64x100 : Shape := ⟨2, ![64, 100]⟩
abbrev S11322x300 : Shape := ⟨2, ![11322, 300]⟩
abbrev S2048x300 : Shape := ⟨2, ![2048, 300]⟩
abbrev S2048x512 : Shape := ⟨2, ![2048, 512]⟩
abbrev S2048 : Shape := ⟨1, ![2048]⟩
abbrev S6400x20 : Shape := ⟨2, ![6400, 20]⟩
abbrev S6400 : Shape := ⟨1, ![6400]⟩
abbrev S_ : Shape := ⟨0, ![]⟩
abbrev S6400x20x1 : Shape := ⟨3, ![6400, 20, 1]⟩
abbrev S6400x20x300 : Shape := ⟨3, ![6400, 20, 300]⟩
abbrev S6400x512 : Shape := ⟨2, ![6400, 512]⟩
abbrev S20x6400x300 : Shape := ⟨3, ![20, 6400, 300]⟩
abbrev S20 : Shape := ⟨1, ![20]⟩
abbrev S1x6400x300 : Shape := ⟨3, ![1, 6400, 300]⟩
abbrev S6400x300 : Shape := ⟨2, ![6400, 300]⟩
abbrev S1 : Shape := ⟨1, ![1]⟩
abbrev S6400x1 : Shape := ⟨2, ![6400, 1]⟩
abbrev S300x2048 : Shape := ⟨2, ![300, 2048]⟩
abbrev S6400x2048 : Shape := ⟨2, ![6400, 2048]⟩
abbrev S512x2048 : Shape := ⟨2, ![512, 2048]⟩
abbrev S1x2048 : Shape := ⟨2, ![1, 2048]⟩
abbrev S64x100x512 : Shape := ⟨3, ![64, 100, 512]⟩

abbrev nBuf : Space → Nat
  | .hbm => 160
  | .vmem => 0
  | .smem => 0
  | _ => 0

abbrev hbmTy0_0 (i : Nat) : BufTy := match i % 128 with
  | 0 => ⟨S64x512, .f32⟩
  | 1 => ⟨S64x100x20, .i32⟩
  | 2 => ⟨S64x100, .i32⟩
  | 3 => ⟨S11322x300, .f32⟩
  | 4 => ⟨S2048x300, .f32⟩
  | 5 => ⟨S2048x512, .f32⟩
  | 6 => ⟨S2048, .f32⟩
  | 7 => ⟨S2048, .f32⟩
  | 8 => ⟨S2048x512, .f32⟩
  | 9 => ⟨S2048x512, .f32⟩
  | 10 => ⟨S2048, .f32⟩
  | 11 => ⟨S2048, .f32⟩
  | 12 => ⟨S6400x20, .i32⟩
  | 13 => ⟨S6400, .i32⟩
  | 14 => ⟨S_, .i32⟩
  | 15 => ⟨S6400x20, .i32⟩
  | 16 => ⟨S6400x20, .i1⟩
  | 17 => ⟨S_, .i32⟩
  | 18 => ⟨S6400x20, .i32⟩
  | 19 => ⟨S6400x20, .i32⟩
  | 20 => ⟨S6400x20, .i32⟩
  | 21 => ⟨S6400x20x1, .i32⟩
  | 22 => ⟨S6400x20x300, .f32⟩
  | 23 => ⟨S_, .i32⟩
  | 24 => ⟨S6400x20, .i32⟩
  | 25 => ⟨S6400x20, .i1⟩
  | 26 => ⟨S6400x20x1, .i1⟩
  | 27 => ⟨S6400x20x1, .f32⟩
  | 28 => ⟨S6400x20x300, .f32⟩
  | 29 => ⟨S6400x20x300, .f32⟩
  | 30 => ⟨S_, .f32⟩
  | 31 => ⟨S6400x512, .f32⟩
  | 32 => ⟨S20x6400x300, .f32⟩
  | 33 => ⟨S20, .i32⟩
  | 34 => ⟨S_, .i32⟩
  | 35 => ⟨S20x6400x300, .f32⟩
  | 36 => ⟨S20, .i32⟩
  | 37 => ⟨S6400, .i32⟩
  | 38 => ⟨S2048x300, .f32⟩
  | 39 => ⟨S2048x512, .f32⟩
  | 40 => ⟨S2048, .f32⟩
  | 41 => ⟨S2048, .f32⟩
  | 42 => ⟨S2048x512, .f32⟩
  | 43 => ⟨S2048x512, .f32⟩
  | 44 => ⟨S2048, .f32⟩
  | 45 => ⟨S2048, .f32⟩
  | 46 => ⟨S_, .i32⟩
  | 47 => ⟨S6400x512, .f32⟩
  | 48 => ⟨S6400x512, .f32⟩
  | 49 => ⟨S6400x512, .f32⟩
  | 50 => ⟨S6400x512, .f32⟩
  | 51 => ⟨S_, .i32⟩
  | 52 => ⟨S_, .i1⟩
  | 53 => ⟨S_, .i32⟩
  | 54 => ⟨S_, .i32⟩
  | 55 => ⟨S1x6400x300, .f32⟩
  | 56 => ⟨S6400x300, .f32⟩
  | 57 => ⟨S1, .i32⟩
  | 58 => ⟨S_, .i32⟩
  | 59 => ⟨S6400, .i32⟩
  | 60 => ⟨S6400, .i1⟩
  | 61 => ⟨S6400x1, .i1⟩
  | 62 => ⟨S300x2048, .f32⟩
  | 63 => ⟨S6400x2048, .f32⟩
  | 64 => ⟨S512x2048, .f32⟩
  | 65 => ⟨S6400x2048, .f32⟩
  | 66 => ⟨S6400x2048, .f32⟩
  | 67 => ⟨S2048, .f32⟩
  | 68 => ⟨S1x2048, .f32⟩
  | 69 => ⟨S6400x2048, .f32⟩
  | 70 => ⟨S6400x2048, .f32⟩
  | 71 => ⟨S6400x512, .f32⟩
  | 72 => ⟨S6400x512, .f32⟩
  | 73 => ⟨S6400x512, .f32⟩
  | 74 => ⟨S6400x512, .f32⟩
  | 75 => ⟨S6400x512, .f32⟩
  | 76 => ⟨S6400x512, .f32⟩
  | 77 => ⟨S_, .f32⟩
  | 78 => ⟨S6400x512, .f32⟩
  | 79 => ⟨S6400x512, .f32⟩
  | 80 => ⟨S_, .f32⟩
  | 81 => ⟨S6400x512, .f32⟩
  | 82 => ⟨S6400x512, .f32⟩
  | 83 => ⟨S6400x512, .f32⟩
  | 84 => ⟨S6400x512, .f32⟩
  | 85 => ⟨S6400x512, .f32⟩
  | 86 => ⟨S_, .f32⟩
  | 87 => ⟨S6400x512, .f32⟩
  | 88 => ⟨S6400x512, .f32⟩
  | 89 => ⟨S_, .f32⟩
  | 90 => ⟨S6400x512, .f32⟩
  | 91 => ⟨S6400x512, .f32⟩
  | 92 => ⟨S6400x512, .f32⟩
  | 93 => ⟨S6400x512, .f32⟩
  | 94 => ⟨S6400x512, .f32⟩
  | 95 => ⟨S6400x512, .f32⟩
  | 96 => ⟨S6400x512, .f32⟩
  | 97 => ⟨S_, .f32⟩
  | 98 => ⟨S6400x512, .f32⟩
  | 99 => ⟨S6400x512, .f32⟩
  | 100 => ⟨S_, .f32⟩
  | 101 => ⟨S6400x512, .f32⟩
  | 102 => ⟨S6400x512, .f32⟩
  | 103 => ⟨S6400x512, .f32⟩
  | 104 => ⟨S6400x512, .f32⟩
  | 105 => ⟨S6400x512, .i1⟩
  | 106 => ⟨S6400x512, .f32⟩
  | 107 => ⟨S6400x512, .i1⟩
  | 108 => ⟨S6400x512, .f32⟩
  | 109 => ⟨S512x2048, .f32⟩
  | 110 => ⟨S6400x2048, .f32⟩
  | 111 => ⟨S512x2048, .f32⟩
  | 112 => ⟨S6400x2048, .f32⟩
  | 113 => ⟨S6400x2048, .f32⟩
  | 114 => ⟨S2048, .f32⟩
  | 115 => ⟨S1x2048, .f32⟩
  | 116 => ⟨S6400x2048, .f32⟩
  | 117 => ⟨S6400x2048, .f32⟩
  | 118 => ⟨S6400x512, .f32⟩
  | 119 => ⟨S6400x512, .f32⟩
  | 120 => ⟨S6400x512, .f32⟩
  | 121 => ⟨S6400x512, .f32⟩
  | 122 => ⟨S6400x512, .f32⟩
  | 123 => ⟨S6400x512, .f32⟩
  | 124 => ⟨S_, .f32⟩
  | 125 => ⟨S6400x512, .f32⟩
  | 126 => ⟨S6400x512, .f32⟩
  | 127 => ⟨S_, .f32⟩
  | _ => ⟨S64x512, .f32⟩

abbrev hbmTy0_1 (i : Nat) : BufTy := match i % 128 with
  | 0 => ⟨S6400x512, .f32⟩
  | 1 => ⟨S6400x512, .f32⟩
  | 2 => ⟨S6400x512, .f32⟩
  | 3 => ⟨S6400x512, .f32⟩
  | 4 => ⟨S6400x512, .f32⟩
  | 5 => ⟨S_, .f32⟩
  | 6 => ⟨S6400x512, .f32⟩
  | 7 => ⟨S6400x512, .f32⟩
  | 8 => ⟨S_, .f32⟩
  | 9 => ⟨S6400x512, .f32⟩
  | 10 => ⟨S6400x512, .f32⟩
  | 11 => ⟨S6400x512, .f32⟩
  | 12 => ⟨S6400x512, .f32⟩
  | 13 => ⟨S6400x512, .f32⟩
  | 14 => ⟨S6400x512, .f32⟩
  | 15 => ⟨S6400x512, .f32⟩
  | 16 => ⟨S_, .f32⟩
  | 17 => ⟨S6400x512, .f32⟩
  | 18 => ⟨S6400x512, .f32⟩
  | 19 => ⟨S_, .f32⟩
  | 20 => ⟨S6400x512, .f32⟩
  | 21 => ⟨S6400x512, .f32⟩
  | 22 => ⟨S6400x512, .f32⟩
  | 23 => ⟨S6400x512, .f32⟩
  | 24 => ⟨S6400x512, .i1⟩
  | 25 => ⟨S6400x512, .f32⟩
  | 26 => ⟨S6400x512, .i1⟩
  | 27 => ⟨S6400x512, .f32⟩
  | 28 => ⟨S_, .i32⟩
  | 29 => ⟨S_, .i32⟩
  | 30 => ⟨S64x100x512, .f32⟩
  | 31 => ⟨S64x100, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18_0 : Ref sig .tc := ⟨.hbm, 35, rfl⟩
abbrev main_v18_1 : Ref sig .tc := ⟨.hbm, 36, rfl⟩
abbrev main_v18_2 : Ref sig .tc := ⟨.hbm, 37, rfl⟩
abbrev main_v18_3 : Ref sig .tc := ⟨.hbm, 38, rfl⟩
abbrev main_v18_4 : Ref sig .tc := ⟨.hbm, 39, rfl⟩
abbrev main_v18_5 : Ref sig .tc := ⟨.hbm, 40, rfl⟩
abbrev main_v18_6 : Ref sig .tc := ⟨.hbm, 41, rfl⟩
abbrev main_v18_7 : Ref sig .tc := ⟨.hbm, 42, rfl⟩
abbrev main_v18_8 : Ref sig .tc := ⟨.hbm, 43, rfl⟩
abbrev main_v18_9 : Ref sig .tc := ⟨.hbm, 44, rfl⟩
abbrev main_v18_10 : Ref sig .tc := ⟨.hbm, 45, rfl⟩
abbrev main_v18_11 : Ref sig .tc := ⟨.hbm, 46, rfl⟩
abbrev main_v18_12 : Ref sig .tc := ⟨.hbm, 47, rfl⟩
abbrev main_v18_13 : Ref sig .tc := ⟨.hbm, 48, rfl⟩
abbrev main_v18_14 : Ref sig .tc := ⟨.hbm, 49, rfl⟩
abbrev main_v18_15 : Ref sig .tc := ⟨.hbm, 50, rfl⟩
abbrev main_while0c_c_18 : Ref sig .tc := ⟨.hbm, 51, rfl⟩
abbrev main_while0c_v21 : Ref sig .tc := ⟨.hbm, 52, rfl⟩
abbrev main_while0b_call0_c : Ref sig .tc := ⟨.hbm, 53, rfl⟩
abbrev main_while0b_call0_c_0 : Ref sig .tc := ⟨.hbm, 54, rfl⟩
abbrev main_while0b_call0_v0 : Ref sig .tc := ⟨.hbm, 55, rfl⟩
abbrev main_while0b_v21 : Ref sig .tc := ⟨.hbm, 56, rfl⟩
abbrev main_while0b_call1_v0 : Ref sig .tc := ⟨.hbm, 57, rfl⟩
abbrev main_while0b_v22 : Ref sig .tc := ⟨.hbm, 58, rfl⟩
abbrev main_while0b_v23 : Ref sig .tc := ⟨.hbm, 59, rfl⟩
abbrev main_while0b_v24 : Ref sig .tc := ⟨.hbm, 60, rfl⟩
abbrev main_while0b_v25 : Ref sig .tc := ⟨.hbm, 61, rfl⟩
abbrev main_while0b_v26 : Ref sig .tc := ⟨.hbm, 62, rfl⟩
abbrev main_while0b_v27 : Ref sig .tc := ⟨.hbm, 63, rfl⟩
abbrev main_while0b_v28 : Ref sig .tc := ⟨.hbm, 64, rfl⟩
abbrev main_while0b_v29 : Ref sig .tc := ⟨.hbm, 65, rfl⟩
abbrev main_while0b_v30 : Ref sig .tc := ⟨.hbm, 66, rfl⟩
abbrev main_while0b_v31 : Ref sig .tc := ⟨.hbm, 67, rfl⟩
abbrev main_while0b_v32 : Ref sig .tc := ⟨.hbm, 68, rfl⟩
abbrev main_while0b_v33 : Ref sig .tc := ⟨.hbm, 69, rfl⟩
abbrev main_while0b_v34 : Ref sig .tc := ⟨.hbm, 70, rfl⟩
abbrev main_while0b_v35 : Ref sig .tc := ⟨.hbm, 71, rfl⟩
abbrev main_while0b_v36 : Ref sig .tc := ⟨.hbm, 72, rfl⟩
abbrev main_while0b_v37 : Ref sig .tc := ⟨.hbm, 73, rfl⟩
abbrev main_while0b_v38 : Ref sig .tc := ⟨.hbm, 74, rfl⟩
abbrev main_while0b_v39 : Ref sig .tc := ⟨.hbm, 75, rfl⟩
abbrev main_while0b_v40 : Ref sig .tc := ⟨.hbm, 76, rfl⟩
abbrev main_while0b_cst_18 : Ref sig .tc := ⟨.hbm, 77, rfl⟩
abbrev main_while0b_v41 : Ref sig .tc := ⟨.hbm, 78, rfl⟩
abbrev main_while0b_v42 : Ref sig .tc := ⟨.hbm, 79, rfl⟩
abbrev main_while0b_cst_19 : Ref sig .tc := ⟨.hbm, 80, rfl⟩
abbrev main_while0b_v43 : Ref sig .tc := ⟨.hbm, 81, rfl⟩
abbrev main_while0b_v44 : Ref sig .tc := ⟨.hbm, 82, rfl⟩
abbrev main_while0b_v45 : Ref sig .tc := ⟨.hbm, 83, rfl⟩
abbrev main_while0b_v46 : Ref sig .tc := ⟨.hbm, 84, rfl⟩
abbrev main_while0b_v47 : Ref sig .tc := ⟨.hbm, 85, rfl⟩
abbrev main_while0b_cst_20 : Ref sig .tc := ⟨.hbm, 86, rfl⟩
abbrev main_while0b_v48 : Ref sig .tc := ⟨.hbm, 87, rfl⟩
abbrev main_while0b_v49 : Ref sig .tc := ⟨.hbm, 88, rfl⟩
abbrev main_while0b_cst_21 : Ref sig .tc := ⟨.hbm, 89, rfl⟩
abbrev main_while0b_v50 : Ref sig .tc := ⟨.hbm, 90, rfl⟩
abbrev main_while0b_v51 : Ref sig .tc := ⟨.hbm, 91, rfl⟩
abbrev main_while0b_v52 : Ref sig .tc := ⟨.hbm, 92, rfl⟩
abbrev main_while0b_v53 : Ref sig .tc := ⟨.hbm, 93, rfl⟩
abbrev main_while0b_v54 : Ref sig .tc := ⟨.hbm, 94, rfl⟩
abbrev main_while0b_v55 : Ref sig .tc := ⟨.hbm, 95, rfl⟩
abbrev main_while0b_v56 : Ref sig .tc := ⟨.hbm, 96, rfl⟩
abbrev main_while0b_cst_22 : Ref sig .tc := ⟨.hbm, 97, rfl⟩
abbrev main_while0b_v57 : Ref sig .tc := ⟨.hbm, 98, rfl⟩
abbrev main_while0b_v58 : Ref sig .tc := ⟨.hbm, 99, rfl⟩
abbrev main_while0b_cst_23 : Ref sig .tc := ⟨.hbm, 100, rfl⟩
abbrev main_while0b_v59 : Ref sig .tc := ⟨.hbm, 101, rfl⟩
abbrev main_while0b_v60 : Ref sig .tc := ⟨.hbm, 102, rfl⟩
abbrev main_while0b_v61 : Ref sig .tc := ⟨.hbm, 103, rfl⟩
abbrev main_while0b_v62 : Ref sig .tc := ⟨.hbm, 104, rfl⟩
abbrev main_while0b_call2_v0 : Ref sig .tc := ⟨.hbm, 105, rfl⟩
abbrev main_while0b_v63 : Ref sig .tc := ⟨.hbm, 106, rfl⟩
abbrev main_while0b_call3_v0 : Ref sig .tc := ⟨.hbm, 107, rfl⟩
abbrev main_while0b_v64 : Ref sig .tc := ⟨.hbm, 108, rfl⟩
abbrev main_while0b_v65 : Ref sig .tc := ⟨.hbm, 109, rfl⟩
abbrev main_while0b_v66 : Ref sig .tc := ⟨.hbm, 110, rfl⟩
abbrev main_while0b_v67 : Ref sig .tc := ⟨.hbm, 111, rfl⟩
abbrev main_while0b_v68 : Ref sig .tc := ⟨.hbm, 112, rfl⟩
abbrev main_while0b_v69 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_v75 : Ref sig .tc := ⟨.hbm, 119, rfl⟩
abbrev main_while0b_v76 : Ref sig .tc := ⟨.hbm, 120, rfl⟩
abbrev main_while0b_v77 : Ref sig .tc := ⟨.hbm, 121, rfl⟩
abbrev main_while0b_v78 : Ref sig .tc := ⟨.hbm, 122, rfl⟩
abbrev main_while0b_v79 : Ref sig .tc := ⟨.hbm, 123, rfl⟩
abbrev main_while0b_cst_24 : Ref sig .tc := ⟨.hbm, 124, rfl⟩
abbrev main_while0b_v80 : Ref sig .tc := ⟨.hbm, 125, rfl⟩
abbrev main_while0b_v81 : Ref sig .tc := ⟨.hbm, 126, rfl⟩
abbrev main_while0b_cst_25 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_v86 : Ref sig .tc := ⟨.hbm, 132, rfl⟩
abbrev main_while0b_cst_26 : Ref sig .tc := ⟨.hbm, 133, rfl⟩
abbrev main_while0b_v87 : Ref sig .tc := ⟨.hbm, 134, rfl⟩
abbrev main_while0b_v88 : Ref sig .tc := ⟨.hbm, 135, rfl⟩
abbrev main_while0b_cst_27 : Ref sig .tc := ⟨.hbm, 136, rfl⟩
abbrev main_while0b_v89 : Ref sig .tc := ⟨.hbm, 137, rfl⟩
abbrev main_while0b_v90 : Ref sig .tc := ⟨.hbm, 138, rfl⟩
abbrev main_while0b_v91 : Ref sig .tc := ⟨.hbm, 139, rfl⟩
abbrev main_while0b_v92 : Ref sig .tc := ⟨.hbm, 140, rfl⟩
abbrev main_while0b_v93 : Ref sig .tc := ⟨.hbm, 141, rfl⟩
abbrev main_while0b_v94 : Ref sig .tc := ⟨.hbm, 142, rfl⟩
abbrev main_while0b_v95 : Ref sig .tc := ⟨.hbm, 143, rfl⟩
abbrev main_while0b_cst_28 : Ref sig .tc := ⟨.hbm, 144, rfl⟩
abbrev main_while0b_v96 : Ref sig .tc := ⟨.hbm, 145, rfl⟩
abbrev main_while0b_v97 : Ref sig .tc := ⟨.hbm, 146, rfl⟩
abbrev main_while0b_cst_29 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_call4_v0 : Ref sig .tc := ⟨.hbm, 152, rfl⟩
abbrev main_while0b_v102 : Ref sig .tc := ⟨.hbm, 153, rfl⟩
abbrev main_while0b_call5_v0 : Ref sig .tc := ⟨.hbm, 154, rfl⟩
abbrev main_while0b_v103 : Ref sig .tc := ⟨.hbm, 155, rfl⟩
abbrev main_while0b_c_30 : Ref sig .tc := ⟨.hbm, 156, rfl⟩
abbrev main_while0b_v104 : Ref sig .tc := ⟨.hbm, 157, rfl⟩
abbrev main_v19 : Ref sig .tc := ⟨.hbm, 158, rfl⟩
abbrev main_v20 : Ref sig .tc := ⟨.hbm, 159, rfl⟩

abbrev nD : Nat := 1
abbrev τ : Topo := Topo.v7x

variable {F : FTy → Type} [FloatOps F]

abbrev main_while0_count : Scf.Loop 32 := ⟨0#32, 20#32, 1#32⟩
-- ==== Kernel2.lean ====
abbrev S64 : Shape := ⟨1, ![64]⟩
abbrev S64x100 : Shape := ⟨2, ![64, 100]⟩
abbrev S84x30000 : Shape := ⟨2, ![84, 30000]⟩
abbrev S_ : Shape := ⟨0, ![]⟩
abbrev S84x30720 : Shape := ⟨2, ![84, 30720]⟩
abbrev S84x240x128 : Shape := ⟨3, ![84, 240, 128]⟩
abbrev S64x1x128 : Shape := ⟨3, ![64, 1, 128]⟩
abbrev S64x1x100 : Shape := ⟨3, ![64, 1, 100]⟩
abbrev S1x240x128 : Shape := ⟨3, ![1, 240, 128]⟩
abbrev S1 : Shape := ⟨1, ![1]⟩
abbrev S1x1x128 : Shape := ⟨3, ![1, 1, 128]⟩
abbrev S8x128 : Shape := ⟨2, ![8, 128]⟩
abbrev S1x128 : Shape := ⟨2, ![1, 128]⟩
abbrev S1x1 : Shape := ⟨2, ![1, 1]⟩
abbrev S1x8x128 : Shape := ⟨3, ![1, 8, 128]⟩
abbrev S128 : Shape := ⟨1, ![128]⟩

abbrev nBuf : Space → Nat
  | .hbm => 9
  | .vmem => 4
  | .smem => 2
  | _ => 0

abbrev bufTy : (tb : Table) → Fin (tcTables nBuf tb) → BufTy
  | .hbm, ⟨0, _⟩ => ⟨S84x30000, .i1⟩
  | .hbm, ⟨1, _⟩ => ⟨S84x30000, .f32⟩
  | .hbm, ⟨2, _⟩ => ⟨S_, .i32⟩
  | .hbm, ⟨3, _⟩ => ⟨S_, .f32⟩
  | .hbm, ⟨4, _⟩ => ⟨S84x30720, .f32⟩
  | .hbm, ⟨5, _⟩ => ⟨S84x240x128, .f32⟩
  | .hbm, ⟨6, _⟩ => ⟨S64x1x128, .f32⟩
  | .hbm, ⟨7, _⟩ => ⟨S64x1x100, .f32⟩
  | .hbm, ⟨8, _⟩ => ⟨S64x100, .f32⟩
  | .local _ .vmem, ⟨0, _⟩ => ⟨S1x240x128, .f32⟩
  | .local _ .vmem, ⟨1, _⟩ => ⟨S1x240x128, .f32⟩
  | .local _ .vmem, ⟨2, _⟩ => ⟨S1x1x128, .f32⟩
  | .local _ .vmem, ⟨3, _⟩ => ⟨S1x1x128, .f32⟩
  | .local _ .smem, ⟨0, _⟩ => ⟨S64, .i32⟩
  | .local _ .smem, ⟨1, _⟩ => ⟨S64x100, .i32⟩
  | _, _ => ⟨S84x30000, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg2 : Ref sig .tc := ⟨.hbm, 0, rfl⟩
abbrev main_call0_v0 : Ref sig .tc := ⟨.hbm, 1, rfl⟩
abbrev main_call0_c : Ref sig .tc := ⟨.hbm, 2, rfl⟩
abbrev main_call0_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v3 : Index := Scalar.indexCast arg0
  let c0 : Index := 0#32
  ![v3.toNat, 0]
def k0_off3 (v4 : BitVec 32) : Fin 3 → Nat :=
  let c0_1 : Index := 0#32
  let c7_i32 : BitVec 32 := 7#32
  let v5 : BitVec 32 := Scalar.shrsi v4 c7_i32
  let c3_i32 : BitVec 32 := 3#32
  let v7 : BitVec 32 := Scalar.shrsi v5 c3_i32
  let c3_i32_0 : BitVec 32 := 3#32
  let v8 : BitVec 32 := Scalar.shli v7 c3_i32_0
  let v9 : Index := Scalar.indexCast v8
  let c0_2 : Index := 0#32
  ![0, v9.toNat, 0]

def k0_chk1 (v4 : BitVec 32) : Prop :=
  (∀ a, (k0_off3 v4) a + S1x8x128.size a ≤ S1x240x128.size a)
theorem k0_off3_inb : ∀ (v4 : BitVec 32) (k0_hw1 : k0_chk1 v4), ∀ a, (k0_off3 v4) a + S1x8x128.size a ≤ S1x240x128.size a := fun v4 k0_hw1 => k0_hw1

def k0_off4 (i : grid0.Coords) : Fin 2 → Nat :=
  let arg0 : BitVec 32 := BitVec.ofNat 32 (i 0).val
  let v28 : Index := Scalar.indexCast arg0
  let c1 : Index := 1#32
  ![v28.toNat, 1]
def k0_off5 (v29 : BitVec 32) : Fin 3 → Nat :=
  let c0_9 : Index := 0#32
  let c7_i32_5 : BitVec 32 := 7#32
  let v30 : BitVec 32 := Scalar.shrsi v29 c7_i32_5
  let c3_i32_7 : BitVec 32 := 3#32
  let v32 : BitVec 32 := Scalar.shrsi v30 c3_i32_7
  let c3_i32_8 : BitVec 32 := 3#32
  let v33 : BitVec 32 := Scalar.shli v32 c3_i32_8
  let v34 : Index := Scalar.indexCast v33
  let c0_10 : Index := 0#32
  ![0, v34.toNat, 0]

def k0_chk2 (v29 : BitVec 32) : Prop :=
  (∀ a, (k0_off5 v29) a + S1x8x128.size a ≤ S1x240x128.size a)
theorem k0_off5_inb : ∀ (v29 : BitVec 32) (k0_hw2 : k0_chk2 v29), ∀ a, (k0_off5 v29) a + S1x8x128.size a ≤ S1x240x128.size a := fun v29 k0_hw2 => k0_hw2

def k0_off6 (i : grid0.Coords) : Fin 2 → Nat :=
  let arg0 : BitVec 32 := BitVec.ofNat 32 (i 0).val
  let v53 : Index := Scalar.indexCast arg0
  let c2 : Index := 2#32
  ![v53.toNat, 2]
def k0_off7 (v54 : BitVec 32) : Fin 3 → Nat :=
  let c0_17 : Index := 0#32
  let c7_i32_13 : BitVec 32 := 7#32
  let v55 : BitVec 32 := Scalar.shrsi v54 c7_i32_13
  let c3_i32_15 : BitVec 32 := 3#32
  let v57 : BitVec 32 := Scalar.shrsi v55 c3_i32_15
  let c3_i32_16 : BitVec 32 := 3#32
  let v58 : BitVec 32 := Scalar.shli v57 c3_i32_16
  let v59 : Index := Scalar.indexCast v58
  let c0_18 : Index := 0#32
  ![0, v59.toNat, 0]

def k0_chk3 (v54 : BitVec 32) : Prop :=
  (∀ a, (k0_off7 v54) a + S1x8x128.size a ≤ S1x240x128.size a)
theorem k0_off7_inb : ∀ (v54 : BitVec 32) (k0_hw3 : k0_chk3 v54), ∀ a, (k0_off7 v54) a + S1x8x128.size a ≤ S1x240x128.size a := fun v54 k0_hw3 => k0_hw3

def k0_off8 (i : grid0.Coords) : Fin 2 → Nat :=
  let arg0 : BitVec 32 := BitVec.ofNat 32 (i 0).val
  let v78 : Index := Scalar.indexCast arg0
  let c3 : Index := 3#32
  ![v78.toNat, 3]
def k0_off9 (v79 : BitVec 32) : Fin 3 → Nat :=
  let c0_25 : Index := 0#32
  let c7_i32_21 : BitVec 32 := 7#32
  let v80 : BitVec 32 := Scalar.shrsi v79 c7_i32_21
  let c3_i32_23 : BitVec 32 := 3#32
  let v82 : BitVec 32 := Scalar.shrsi v80 c3_i32_23
  let c3_i32_24 : BitVec 32 := 3#32
  let v83 : BitVec 32 := Scalar.shli v82 c3_i32_24
  let v84 : Index := Scalar.indexCast v83
  let c0_26 : Index := 0#32
  ![0, v84.toNat, 0]

def k0_chk4 (v79 : BitVec 32) : Prop :=
  (∀ a, (k0_off9 v79) a + S1x8x128.size a ≤ S1x240x128.size a)
theorem k0_off9_inb : ∀ (v79 : BitVec 32) (k0_hw4 : k0_chk4 v79), ∀ a, (k0_off9 v79) a + S1x8x128.size a ≤ S1x240x128.size a := fun v79 k0_hw4 => k0_hw4

def k0_off10 (i : grid0.Coords) : Fin 2 → Nat :=
  let arg0 : BitVec 32 := BitVec.ofNat 32 (i 0).val
  let v103 : Index := Scalar.indexCast arg0
  let c4 : Index := 4#32
  ![v103.toNat, 4]
def k0_off11 (v104 : BitVec 32) : Fin 3 → Nat :=
  let c0_34 : Index := 0#32
  let c7_i32_30 : BitVec 32 := 7#32
  let v105 : BitVec 32 := Scalar.shrsi v104 c7_i32_30
  let c3_i32_32 : BitVec 32 := 3#32
  let v107 : BitVec 32 := Scalar.shrsi v105 c3_i32_32
  let c3_i32_33 : BitVec 32 := 3#32
  let v108 : BitVec 32 := Scalar.shli v107 c3_i32_33
  let v109 : Index := Scalar.indexCast v108
  let c0_35 : Index := 0#32
  ![0, v109.toNat, 0]

def k0_chk5 (v104 : BitVec 32) : Prop :=
  (∀ a, (k0_off11 v104) a + S1x8x128.size a ≤ S1x240x128.size a)
theorem k0_off11_inb : ∀ (v104 : BitVec 32) (k0_hw5 : k0_chk5 v104), ∀ a, (k0_off11 v104) a + S1x8x128.size a ≤ S1x240x128.size a := fun v104 k0_hw5 => k0_hw5

def k0_off12 (i : grid0.Coords) : Fin 2 → Nat :=
  let arg0 : BitVec 32 := BitVec.ofNat 32 (i 0).val
  let v128 : Index := Scalar.indexCast arg0
  let c5 : Index := 5#32
  ![v128.toNat, 5]
def k0_off13 (v129 : BitVec 32) : Fin 3 → Nat :=
  let c0_42 : Index := 0#32
  let c7_i32_38 : BitVec 32 := 7#32
  let v130 : BitVec 32 := Scalar.shrsi v129 c7_i32_38
  let c3_i32_40 : BitVec 32 := 3#32
  let v132 : BitVec 32 := Scalar.shrsi v130 c3_i32_40
  let c3_i32_41 : BitVec 32 := 3#32
  let v133 : BitVec 32 := Scalar.shli v132 c3_i32_41
  let v134 : Index := Scalar.indexCast v133
  let c0_43 : Index := 0#32
  ![0, v134.toNat, 0]

def k0_chk6 (v129 : BitVec 32) : Prop :=
  (∀ a, (k0_off13 v129) a + S1x8x128.size a ≤ S1x240x128.size a)
theorem k0_off13_inb : ∀ (v129 : BitVec 32) (k0_hw6 : k0_chk6 v129), ∀ a, (k0_off13 v129) a + S1x8x128.size a ≤ S1x240x128.size a := fun v129 k0_hw6 => k0_hw6

def k0_off14 (i : grid0.Coords) : Fin 2 → Nat :=
  let arg0 : BitVec 32 := BitVec.ofNat 32 (i 0).val
  let v153 : Index := Scalar.indexCast arg0
  let c6 : Index := 6#32
  ![v153.toNat, 6]
def k0_off15 (v154 : BitVec 32) : Fin 3 → Nat :=
  let c0_50 : Index := 0#32
  let c7_i32_46 : BitVec 32 := 7#32
  let v155 : BitVec 32 := Scalar.shrsi v154 c7_i32_46
  let c3_i32_48 : BitVec 32 := 3#32
  let v157 : BitVec 32 := Scalar.shrsi v155 c3_i32_48
  let c3_i32_49 : BitVec 32 := 3#32
  let v158 : BitVec 32 := Scalar.shli v157 c3_i32_49
  let v159 : Index := Scalar.indexCast v158
  let c0_51 : Index := 0#32
  ![0, v159.toNat, 0]

def k0_chk7 (v154 : BitVec 32) : Prop :=
  (∀ a, (k0_off15 v154) a + S1x8x128.size a ≤ S1x240x128.size a)
theorem k0_off15_inb : ∀ (v154 : BitVec 32) (k0_hw7 : k0_chk7 v154), ∀ a, (k0_off15 v154) a + S1x8x128.size a ≤ S1x240x128.size a := fun v154 k0_hw7 => k0_hw7

def k0_off16 (i : grid0.Coords) : Fin 2 → Nat :=
  let arg0 : BitVec 32 := BitVec.ofNat 32 (i 0).val
  let v178 : Index := Scalar.indexCast arg0
  let c7 : Index := 7#32
  ![v178.toNat, 7]
def k0_off17 (v179 : BitVec 32) : Fin 3 → Nat :=
  let c0_58 : Index := 0#32
  let c7_i32_54 : BitVec 32 := 7#32
  let v180 : BitVec 32 := Scalar.shrsi v179 c7_i32_54
  let c3_i32_56 : BitVec 32 := 3#32
  let v182 : BitVec 32 := Scalar.shrsi v180 c3_i32_56
  let c3_i32_57 : BitVec 32 := 3#32
  let v183 : BitVec 32 := Scalar.shli v182 c3_i32_57
  let v184 : Index := Scalar.indexCast v183
  let c0_59 : Index := 0#32
  ![0, v184.toNat, 0]

def k0_chk8 (v179 : BitVec 32) : Prop :=
  (∀ a, (k0_off17 v179) a + S1x8x128.size a ≤ S1x240x128.size a)
theorem k0_off17_inb : ∀ (v179 : BitVec 32) (k0_hw8 : k0_chk8 v179), ∀ a, (k0_off17 v179) a + S1x8x128.size a ≤ S1x240x128.size a := fun v179 k0_hw8 => k0_hw8

def k0_off18 (i : grid0.Coords) : Fin 2 → Nat :=
  let arg0 : BitVec 32 := BitVec.ofNat 32 (i 0).val
  let v203 : Index := Scalar.indexCast arg0
  let c8 : Index := 8#32
  ![v203.toNat, 8]
def k0_off19 (v204 : BitVec 32) : Fin 3 → Nat :=
  let c0_67 : Index := 0#32
  let c7_i32_63 : BitVec 32 := 7#32
  let v205 : BitVec 32 := Scalar.shrsi v204 c7_i32_63
  let c3_i32_65 : BitVec 32 := 3#32
  let v207 : BitVec 32 := Scalar.shrsi v205 c3_i32_65
  let c3_i32_66 : BitVec 32 := 3#32
  let v208 : BitVec 32 := Scalar.shli v207 c3_i32_66
  let v209 : Index := Scalar.indexCast v208
  let c0_68 : Index := 0#32
  ![0, v209.toNat, 0]

def k0_chk9 (v204 : BitVec 32) : Prop :=
  (∀ a, (k0_off19 v204) a + S1x8x128.size a ≤ S1x240x128.size a)
theorem k0_off19_inb : ∀ (v204 : BitVec 32) (k0_hw9 : k0_chk9 v204), ∀ a, (k0_off19 v204) a + S1x8x128.size a ≤ S1x240x128.size a := fun v204 k0_hw9 => k0_hw9

def k0_off20 (i : grid0.Coords) : Fin 2 → Nat :=
  let arg0 : BitVec 32 := BitVec.ofNat 32 (i 0).val
  let v228 : Index := Scalar.indexCast arg0
  let c9 : Index := 9#32
  ![v228.toNat, 9]
def k0_off21 (v229 : BitVec 32) : Fin 3 → Nat :=
  let c0_75 : Index := 0#32
  let c7_i32_71 : BitVec 32 := 7#32
  let v230 : BitVec 32 := Scalar.shrsi v229 c7_i32_71
  let c3_i32_73 : BitVec 32 := 3#32
  let v232 : BitVec 32 := Scalar.shrsi v230 c3_i32_73
  let c3_i32_74 : BitVec 32 := 3#32
  let v233 : BitVec 32 := Scalar.shli v232 c3_i32_74
  let v234 : Index := Scalar.indexCast v233
  let c0_76 : Index := 0#32
  ![0, v234.toNat, 0]

def k0_chk10 (v229 : BitVec 32) : Prop :=
  (∀ a, (k0_off21 v229) a + S1x8x128.size a ≤ S1x240x128.size a)
theorem k0_off21_inb : ∀ (v229 : BitVec 32) (k0_hw10 : k0_chk10 v229), ∀ a, (k0_off21 v229) a + S1x8x128.size a ≤ S1x240x128.size a := fun v229 k0_hw10 => k0_hw10

def k0_off22 (i : grid0.Coords) : Fin 2 → Nat :=
  let arg0 : BitVec 32 := BitVec.ofNat 32 (i 0).val
  let v253 : Index := Scalar.indexCast arg0
  let c10 : Index := 10#32
  ![v253.toNat, 10]
def k0_off23 (v254 : BitVec 32) : Fin 3 → Nat :=
  let c0_83 : Index := 0#32
  let c7_i32_79 : BitVec 32 := 7#32
  let v255 : BitVec 32 := Scalar.shrsi v254 c7_i32_79
  let c3_i32_81 : BitVec 32 := 3#32
  let v257 : BitVec 32 := Scalar.shrsi v255 c3_i32_81
  let c3_i32_82 : BitVec 32 := 3#32
  let v258 : BitVec 32 := Scalar.shli v257 c3_i32_82
  let v259 : Index := Scalar.indexCast v258
  let c0_84 : Index := 0#32
  ![0, v259.toNat, 0]

def k0_chk11 (v254 : BitVec 32) : Prop :=
  (∀ a, (k0_off23 v254) a + S1x8x128.size a ≤ S1x240x128.size a)
theorem k0_off23_inb : ∀ (v254 : BitVec 32) (k0_hw11 : k0_chk11 v254), ∀ a, (k0_off23 v254) a + S1x8x128.size a ≤ S1x240x128.size a := fun v254 k0_hw11 => k0_hw11

def k0_off24 (i : grid0.Coords) : Fin 2 → Nat :=
  let arg0 : BitVec 32 := BitVec.ofNat 32 (i 0).val
  let v278 : Index := Scalar.indexCast arg0
  let c11 : Index := 11#32
  ![v278.toNat, 11]
def k0_off25 (v279 : BitVec 32) : Fin 3 → Nat :=
  let c0_91 : Index := 0#32
  let c7_i32_87 : BitVec 32 := 7#32
  let v280 : BitVec 32 := Scalar.shrsi v279 c7_i32_87
  let c3_i32_89 : BitVec 32 := 3#32
  let v282 : BitVec 32 := Scalar.shrsi v280 c3_i32_89
  let c3_i32_90 : BitVec 32 := 3#32
  let v283 : BitVec 32 := Scalar.shli v282 c3_i32_90
  let v284 : Index := Scalar.indexCast v283
  let c0_92 : Index := 0#32
  ![0, v284.toNat, 0]

def k0_chk12 (v279 : BitVec 32) : Prop :=
  (∀ a, (k0_off25 v279) a + S1x8x128.size a ≤ S1x240x128.size a)
theorem k0_off25_inb : ∀ (v279 : BitVec 32) (k0_hw12 : k0_chk12 v279), ∀ a, (k0_off25 v279) a + S1x8x128.size a ≤ S1x240x128.size a := fun v279 k0_hw12 => k0_hw12

def k0_off26 (i : grid0.Coords) : Fin 2 → Nat :=
  let arg0 : BitVec 32 := BitVec.ofNat 32 (i 0).val
  let v303 : Index := Scalar.indexCast arg0
  let c12 : Index := 12#32
  ![v303.toNat, 12]
def k0_off27 (v304 : BitVec 32) : Fin 3 → Nat :=
  let c0_99 : Index := 0#32
  let c7_i32_95 : BitVec 32 := 7#32
  let v305 : BitVec 32 := Scalar.shrsi v304 c7_i32_95
  let c3_i32_97 : BitVec 32 := 3#32
  let v307 : BitVec 32 := Scalar.shrsi v305 c3_i32_97
  let c3_i32_98 : BitVec 32 := 3#32
  let v308 : BitVec 32 := Scalar.shli v307 c3_i32_98
  let v309 : Index := Scalar.indexCast v308
  let c0_100 : Index := 0#32
  ![0, v309.toNat, 0]

def k0_chk13 (v304 : BitVec 32) : Prop :=
  (∀ a, (k0_off27 v304) a + S1x8x128.size a ≤ S1x240x128.size a)
theorem k0_off27_inb : ∀ (v304 : BitVec 32) (k0_hw13 : k0_chk13 v304), ∀ a, (k0_off27 v304) a + S1x8x128.size a ≤ S1x240x128.size a := fun v304 k0_hw13 => k0_hw13

def k0_off28 (i : grid0.Coords) : Fin 2 → Nat :=
  let arg0 : BitVec 32 := BitVec.ofNat 32 (i 0).val
  let v328 : Index := Scalar.indexCast arg0
  let c13 : Index := 13#32
  ![v328.toNat, 13]
def k0_off29 (v329 : BitVec 32) : Fin 3 → Nat :=
  let c0_107 : Index := 0#32
  let c7_i32_103 : BitVec 32 := 7#32
  let v330 : BitVec 32 := Scalar.shrsi v329 c7_i32_103
  let c3_i32_105 : BitVec 32 := 3#32
  let v332 : BitVec 32 := Scalar.shrsi v330 c3_i32_105
  let c3_i32_106 : BitVec 32 := 3#32
  let v333 : BitVec 32 := Scalar.shli v332 c3_i32_106
  let v334 : Index := Scalar.indexCast v333
  let c0_108 : Index := 0#32
  ![0, v334.toNat, 0]

def k0_chk14 (v329 : BitVec 32) : Prop :=
  (∀ a, (k0_off29 v329) a + S1x8x128.size a ≤ S1x240x128.size a)
theorem k0_off29_inb : ∀ (v329 : BitVec 32) (k0_hw14 : k0_chk14 v329), ∀ a, (k0_off29 v329) a + S1x8x128.size a ≤ S1x240x128.size a := fun v329 k0_hw14 => k0_hw14

def k0_off30 (i : grid0.Coords) : Fin 2 → Nat :=
  let arg0 : BitVec 32 := BitVec.ofNat 32 (i 0).val
  let v353 : Index := Scalar.indexCast arg0
  let c14 : Index := 14#32
  ![v353.toNat, 14]
def k0_off31 (v354 : BitVec 32) : Fin 3 → Nat :=
  let c0_115 : Index := 0#32
  let c7_i32_111 : BitVec 32 := 7#32
  let v355 : BitVec 32 := Scalar.shrsi v354 c7_i32_111
  let c3_i32_113 : BitVec 32 := 3#32
  let v357 : BitVec 32 := Scalar.shrsi v355 c3_i32_113
  let c3_i32_114 : BitVec 32 := 3#32
  let v358 : BitVec 32 := Scalar.shli v357 c3_i32_114
  let v359 : Index := Scalar.indexCast v358
  let c0_116 : Index := 0#32
  ![0, v359.toNat, 0]

def k0_chk15 (v354 : BitVec 32) : Prop :=
  (∀ a, (k0_off31 v354) a + S1x8x128.size a ≤ S1x240x128.size a)
theorem k0_off31_inb : ∀ (v354 : BitVec 32) (k0_hw15 : k0_chk15 v354), ∀ a, (k0_off31 v354) a + S1x8x128.size a ≤ S1x240x128.size a := fun v354 k0_hw15 => k0_hw15

def k0_off32 (i : grid0.Coords) : Fin 2 → Nat :=
  let arg0 : BitVec 32 := BitVec.ofNat 32 (i 0).val
  let v378 : Index := Scalar.indexCast arg0
  let c15 : Index := 15#32
  ![v378.toNat, 15]
def k0_off33 (v379 : BitVec 32) : Fin 3 → Nat :=
  let c0_123 : Index := 0#32
  let c7_i32_119 : BitVec 32 := 7#32
  let v380 : BitVec 32 := Scalar.shrsi v379 c7_i32_119
  let c3_i32_121 : BitVec 32 := 3#32
  let v382 : BitVec 32 := Scalar.shrsi v380 c3_i32_121
  let c3_i32_122 : BitVec 32 := 3#32
  let v383 : BitVec 32 := Scalar.shli v382 c3_i32_122
  let v384 : Index := Scalar.indexCast v383
  let c0_124 : Index := 0#32
  ![0, v384.toNat, 0]

def k0_chk16 (v379 : BitVec 32) : Prop :=
  (∀ a, (k0_off33 v379) a + S1x8x128.size a ≤ S1x240x128.size a)
theorem k0_off33_inb : ∀ (v379 : BitVec 32) (k0_hw16 : k0_chk16 v379), ∀ a, (k0_off33 v379) a + S1x8x128.size a ≤ S1x240x128.size a := fun v379 k0_hw16 => k0_hw16

def k0_off34 (i : grid0.Coords) : Fin 2 → Nat :=
  let arg0 : BitVec 32 := BitVec.ofNat 32 (i 0).val
  let v403 : Index := Scalar.indexCast arg0
  let c16 : Index := 16#32
  ![v403.toNat, 16]
def k0_off35 (v404 : BitVec 32) : Fin 3 → Nat :=
  let c0_131 : Index := 0#32
  let c7_i32_127 : BitVec 32 := 7#32
  let v405 : BitVec 32 := Scalar.shrsi v404 c7_i32_127
  let c3_i32_129 : BitVec 32 := 3#32
  let v407 : BitVec 32 := Scalar.shrsi v405 c3_i32_129
  let c3_i32_130 : BitVec 32 := 3#32
  let v408 : BitVec 32 := Scalar.shli v407 c3_i32_130
  let v409 : Index := Scalar.indexCast v408
  let c0_132 : Index := 0#32
  ![0, v409.toNat, 0]

def k0_chk17 (v404 : BitVec 32) : Prop :=
  (∀ a, (k0_off35 v404) a + S1x8x128.size a ≤ S1x240x128.size a)
theorem k0_off35_inb : ∀ (v404 : BitVec 32) (k0_hw17 : k0_chk17 v404), ∀ a, (k0_off35 v404) a + S1x8x128.size a ≤ S1x240x128.size a := fun v404 k0_hw17 => k0_hw17

def k0_off36 (i : grid0.Coords) : Fin 2 → Nat :=
  let arg0 : BitVec 32 := BitVec.ofNat 32 (i 0).val
  let v428 : Index := Scalar.indexCast arg0
  let c17 : Index := 17#32
  ![v428.toNat, 17]
def k0_off37 (v429 : BitVec 32) : Fin 3 → Nat :=
  let c0_139 : Index := 0#32
  let c7_i32_135 : BitVec 32 := 7#32
  let v430 : BitVec 32 := Scalar.shrsi v429 c7_i32_135
  let c3_i32_137 : BitVec 32 := 3#32
  let v432 : BitVec 32 := Scalar.shrsi v430 c3_i32_137
  let c3_i32_138 : BitVec 32 := 3#32
  let v433 : BitVec 32 := Scalar.shli v432 c3_i32_138
  let v434 : Index := Scalar.indexCast v433
  let c0_140 : Index := 0#32
  ![0, v434.toNat, 0]

def k0_chk18 (v429 : BitVec 32) : Prop :=
  (∀ a, (k0_off37 v429) a + S1x8x128.size a ≤ S1x240x128.size a)
theorem k0_off37_inb : ∀ (v429 : BitVec 32) (k0_hw18 : k0_chk18 v429), ∀ a, (k0_off37 v429) a + S1x8x128.size a ≤ S1x240x128.size a := fun v429 k0_hw18 => k0_hw18

def k0_off38 (i : grid0.Coords) : Fin 2 → Nat :=
  let arg0 : BitVec 32 := BitVec.ofNat 32 (i 0).val
  let v453 : Index := Scalar.indexCast arg0
  let c18 : Index := 18#32
  ![v453.toNat, 18]
def k0_off39 (v454 : BitVec 32) : Fin 3 → Nat :=
  let c0_147 : Index := 0#32
  let c7_i32_143 : BitVec 32 := 7#32
  let v455 : BitVec 32 := Scalar.shrsi v454 c7_i32_143
  let c3_i32_145 : BitVec 32 := 3#32
  let v457 : BitVec 32 := Scalar.shrsi v455 c3_i32_145
  let c3_i32_146 : BitVec 32 := 3#32
  let v458 : BitVec 32 := Scalar.shli v457 c3_i32_146
  let v459 : Index := Scalar.indexCast v458
  let c0_148 : Index := 0#32
  ![0, v459.toNat, 0]

def k0_chk19 (v454 : BitVec 32) : Prop :=
  (∀ a, (k0_off39 v454) a + S1x8x128.size a ≤ S1x240x128.size a)
theorem k0_off39_inb : ∀ (v454 : BitVec 32) (k0_hw19 : k0_chk19 v454), ∀ a, (k0_off39 v454) a + S1x8x128.size a ≤ S1x240x128.size a := fun v454 k0_hw19 => k0_hw19

def k0_off40 (i : grid0.Coords) : Fin 2 → Nat :=
  let arg0 : BitVec 32 := BitVec.ofNat 32 (i 0).val
  let v478 : Index := Scalar.indexCast arg0
  let c19 : Index := 19#32
  ![v478.toNat, 19]
def k0_off41 (v479 : BitVec 32) : Fin 3 → Nat :=
  let c0_155 : Index := 0#32
  let c7_i32_151 : BitVec 32 := 7#32
  let v480 : BitVec 32 := Scalar.shrsi v479 c7_i32_151
  let c3_i32_153 : BitVec 32 := 3#32
  let v482 : BitVec 32 := Scalar.shrsi v480 c3_i32_153
  let c3_i32_154 : BitVec 32 := 3#32
  let v483 : BitVec 32 := Scalar.shli v482 c3_i32_154
  let v484 : Index := Scalar.indexCast v483
  let c0_156 : Index := 0#32
  ![0, v484.toNat, 0]

def k0_chk20 (v479 : BitVec 32) : Prop :=
  (∀ a, (k0_off41 v479) a + S1x8x128.size a ≤ S1x240x128.size a)
theorem k0_off41_inb : ∀ (v479 : BitVec 32) (k0_hw20 : k0_chk20 v479), ∀ a, (k0_off41 v479) a + S1x8x128.size a ≤ S1x240x128.size a := fun v479 k0_hw20 => k0_hw20

def k0_off42 (i : grid0.Coords) : Fin 2 → Nat :=
  let arg0 : BitVec 32 := BitVec.ofNat 32 (i 0).val
  let v503 : Index := Scalar.indexCast arg0
  let c20 : Index := 20#32
  ![v503.toNat, 20]
def k0_off43 (v504 : BitVec 32) : Fin 3 → Nat :=
  let c0_163 : Index := 0#32
  let c7_i32_159 : BitVec 32 := 7#32
  let v505 : BitVec 32 := Scalar.shrsi v504 c7_i32_159
  let c3_i32_161 : BitVec 32 := 3#32
  let v507 : BitVec 32 := Scalar.shrsi v505 c3_i32_161
  let c3_i32_162 : BitVec 32 := 3#32
  let v508 : BitVec 32 := Scalar.shli v507 c3_i32_162
  let v509 : Index := Scalar.indexCast v508
  let c0_164 : Index := 0#32
  ![0, v509.toNat, 0]

def k0_chk21 (v504 : BitVec 32) : Prop :=
  (∀ a, (k0_off43 v504) a + S1x8x128.size a ≤ S1x240x128.size a)
theorem k0_off43_inb : ∀ (v504 : BitVec 32) (k0_hw21 : k0_chk21 v504), ∀ a, (k0_off43 v504) a + S1x8x128.size a ≤ S1x240x128.size a := fun v504 k0_hw21 => k0_hw21

def k0_off44 (i : grid0.Coords) : Fin 2 → Nat :=
  let arg0 : BitVec 32 := BitVec.ofNat 32 (i 0).val
  let v528 : Index := Scalar.indexCast arg0
  let c21 : Index := 21#32
  ![v528.toNat, 21]
def k0_off45 (v529 : BitVec 32) : Fin 3 → Nat :=
  let c0_171 : Index := 0#32
  let c7_i32_167 : BitVec 32 := 7#32
  let v530 : BitVec 32 := Scalar.shrsi v529 c7_i32_167
  let c3_i32_169 : BitVec 32 := 3#32
  let v532 : BitVec 32 := Scalar.shrsi v530 c3_i32_169
  let c3_i32_170 : BitVec 32 := 3#32
  let v533 : BitVec 32 := Scalar.shli v532 c3_i32_170
  let v534 : Index := Scalar.indexCast v533
  let c0_172 : Index := 0#32
  ![0, v534.toNat, 0]

def k0_chk22 (v529 : BitVec 32) : Prop :=
  (∀ a, (k0_off45 v529) a + S1x8x128.size a ≤ S1x240x128.size a)
theorem k0_off45_inb : ∀ (v529 : BitVec 32) (k0_hw22 : k0_chk22 v529), ∀ a, (k0_off45 v529) a + S1x8x128.size a ≤ S1x240x128.size a := fun v529 k0_hw22 => k0_hw22

def k0_off46 (i : grid0.Coords) : Fin 2 → Nat :=
  let arg0 : BitVec 32 := BitVec.ofNat 32 (i 0).val
  let v553 : Index := Scalar.indexCast arg0
  let c22 : Index := 22#32
  ![v553.toNat, 22]
def k0_off47 (v554 : BitVec 32) : Fin 3 → Nat :=
  let c0_179 : Index := 0#32
  let c7_i32_175 : BitVec 32 := 7#32
  let v555 : BitVec 32 := Scalar.shrsi v554 c7_i32_175
  let c3_i32_177 : BitVec 32 := 3#32
  let v557 : BitVec 32 := Scalar.shrsi v555 c3_i32_177
  let c3_i32_178 : BitVec 32 := 3#32
  let v558 : BitVec 32 := Scalar.shli v557 c3_i32_178
  let v559 : Index := Scalar.indexCast v558
  let c0_180 : Index := 0#32
  ![0, v559.toNat, 0]

def k0_chk23 (v554 : BitVec 32) : Prop :=
  (∀ a, (k0_off47 v554) a + S1x8x128.size a ≤ S1x240x128.size a)
theorem k0_off47_inb : ∀ (v554 : BitVec 32) (k0_hw23 : k0_chk23 v554), ∀ a, (k0_off47 v554) a + S1x8x128.size a ≤ S1x240x128.size a := fun v554 k0_hw23 => k0_hw23

def k0_off48 (i : grid0.Coords) : Fin 2 → Nat :=
  let arg0 : BitVec 32 := BitVec.ofNat 32 (i 0).val
  let v578 : Index := Scalar.indexCast arg0
  let c23 : Index := 23#32
  ![v578.toNat, 23]
def k0_off49 (v579 : BitVec 32) : Fin 3 → Nat :=
  let c0_187 : Index := 0#32
  let c7_i32_183 : BitVec 32 := 7#32
  let v580 : BitVec 32 := Scalar.shrsi v579 c7_i32_183
  let c3_i32_185 : BitVec 32 := 3#32
  let v582 : BitVec 32 := Scalar.shrsi v580 c3_i32_185
  let c3_i32_186 : BitVec 32 := 3#32
  let v583 : BitVec 32 := Scalar.shli v582 c3_i32_186
  let v584 : Index := Scalar.indexCast v583
  let c0_188 : Index := 0#32
  ![0, v584.toNat, 0]

def k0_chk24 (v579 : BitVec 32) : Prop :=
  (∀ a, (k0_off49 v579) a + S1x8x128.size a ≤ S1x240x128.size a)
theorem k0_off49_inb : ∀ (v579 : BitVec 32) (k0_hw24 : k0_chk24 v579), ∀ a, (k0_off49 v579) a + S1x8x128.size a ≤ S1x240x128.size a := fun v579 k0_hw24 => k0_hw24

def k0_off50 (i : grid0.Coords) : Fin 2 → Nat :=
  let arg0 : BitVec 32 := BitVec.ofNat 32 (i 0).val
  let v603 : Index := Scalar.indexCast arg0
  let c24 : Index := 24#32
  ![v603.toNat, 24]
def k0_off51 (v604 : BitVec 32) : Fin 3 → Nat :=
  let c0_195 : Index := 0#32
  let c7_i32_191 : BitVec 32 := 7#32
  let v605 : BitVec 32 := Scalar.shrsi v604 c7_i32_191
  let c3_i32_193 : BitVec 32 := 3#32
  let v607 : BitVec 32 := Scalar.shrsi v605 c3_i32_193
  let c3_i32_194 : BitVec 32 := 3#32
  let v608 : BitVec 32 := Scalar.shli v607 c3_i32_194
  let v609 : Index := Scalar.indexCast v608
  let c0_196 : Index := 0#32
  ![0, v609.toNat, 0]

def k0_chk25 (v604 : BitVec 32) : Prop :=
  (∀ a, (k0_off51 v604) a + S1x8x128.size a ≤ S1x240x128.size a)
theorem k0_off51_inb : ∀ (v604 : BitVec 32) (k0_hw25 : k0_chk25 v604), ∀ a, (k0_off51 v604) a + S1x8x128.size a ≤ S1x240x128.size a := fun v604 k0_hw25 => k0_hw25

def k0_off52 (i : grid0.Coords) : Fin 2 → Nat :=
  let arg0 : BitVec 32 := BitVec.ofNat 32 (i 0).val
  let v628 : Index := Scalar.indexCast arg0
  let c25 : Index := 25#32
  ![v628.toNat, 25]
def k0_off53 (v629 : BitVec 32) : Fin 3 → Nat :=
  let c0_203 : Index := 0#32
  let c7_i32_199 : BitVec 32 := 7#32
  let v630 : BitVec 32 := Scalar.shrsi v629 c7_i32_199
  let c3_i32_201 : BitVec 32 := 3#32
  let v632 : BitVec 32 := Scalar.shrsi v630 c3_i32_201
  let c3_i32_202 : BitVec 32 := 3#32
  let v633 : BitVec 32 := Scalar.shli v632 c3_i32_202
  let v634 : Index := Scalar.indexCast v633
  let c0_204 : Index := 0#32
  ![0, v634.toNat, 0]

def k0_chk26 (v629 : BitVec 32) : Prop :=
  (∀ a, (k0_off53 v629) a + S1x8x128.size a ≤ S1x240x128.size a)
theorem k0_off53_inb : ∀ (v629 : BitVec 32) (k0_hw26 : k0_chk26 v629), ∀ a, (k0_off53 v629) a + S1x8x128.size a ≤ S1x240x128.size a := fun v629 k0_hw26 => k0_hw26

def k0_off54 (i : grid0.Coords) : Fin 2 → Nat :=
  let arg0 : BitVec 32 := BitVec.ofNat 32 (i 0).val
  let v653 : Index := Scalar.indexCast arg0
  let c26 : Index := 26#32
  ![v653.toNat, 26]
def k0_off55 (v654 : BitVec 32) : Fin 3 → Nat :=
  let c0_211 : Index := 0#32
  let c7_i32_207 : BitVec 32 := 7#32
  let v655 : BitVec 32 := Scalar.shrsi v654 c7_i32_207
  let c3_i32_209 : BitVec 32 := 3#32
  let v657 : BitVec 32 := Scalar.shrsi v655 c3_i32_209
  let c3_i32_210 : BitVec 32 := 3#32
  let v658 : BitVec 32 := Scalar.shli v657 c3_i32_210
  let v659 : Index := Scalar.indexCast v658
  let c0_212 : Index := 0#32
  ![0, v659.toNat, 0]

def k0_chk27 (v654 : BitVec 32) : Prop :=
  (∀ a, (k0_off55 v654) a + S1x8x128.size a ≤ S1x240x128.size a)
theorem k0_off55_inb : ∀ (v654 : BitVec 32) (k0_hw27 : k0_chk27 v654), ∀ a, (k0_off55 v654) a + S1x8x128.size a ≤ S1x240x128.size a := fun v654 k0_hw27 => k0_hw27

def k0_off56 (i : grid0.Coords) : Fin 2 → Nat :=
  let arg0 : BitVec 32 := BitVec.ofNat 32 (i 0).val
  let v678 : Index := Scalar.indexCast arg0
  let c27 : Index := 27#32
  ![v678.toNat, 27]
def k0_off57 (v679 : BitVec 32) : Fin 3 → Nat :=
  let c0_219 : Index := 0#32
  let c7_i32_215 : BitVec 32 := 7#32
  let v680 : BitVec 32 := Scalar.shrsi v679 c7_i32_215
  let c3_i32_217 : BitVec 32 := 3#32
  let v682 : BitVec 32 := Scalar.shrsi v680 c3_i32_217
  let c3_i32_218 : BitVec 32 := 3#32
  let v683 : BitVec 32 := Scalar.shli v682 c3_i32_218
  let v684 : Index := Scalar.indexCast v683
  let c0_220 : Index := 0#32
  ![0, v684.toNat, 0]

def k0_chk28 (v679 : BitVec 32) : Prop :=
  (∀ a, (k0_off57 v679) a + S1x8x128.size a ≤ S1x240x128.size a)
theorem k0_off57_inb : ∀ (v679 : BitVec 32) (k0_hw28 : k0_chk28 v679), ∀ a, (k0_off57 v679) a + S1x8x128.size a ≤ S1x240x128.size a := fun v679 k0_hw28 => k0_hw28

def k0_off58 (i : grid0.Coords) : Fin 2 → Nat :=
  let arg0 : BitVec 32 := BitVec.ofNat 32 (i 0).val
  let v703 : Index := Scalar.indexCast arg0
  let c28 : Index := 28#32
  ![v703.toNat, 28]
def k0_off59 (v704 : BitVec 32) : Fin 3 → Nat :=
  let c0_227 : Index := 0#32
  let c7_i32_223 : BitVec 32 := 7#32
  let v705 : BitVec 32 := Scalar.shrsi v704 c7_i32_223
  let c3_i32_225 : BitVec 32 := 3#32
  let v707 : BitVec 32 := Scalar.shrsi v705 c3_i32_225
  let c3_i32_226 : BitVec 32 := 3#32
  let v708 : BitVec 32 := Scalar.shli v707 c3_i32_226
  let v709 : Index := Scalar.indexCast v708
  let c0_228 : Index := 0#32
  ![0, v709.toNat, 0]

def k0_chk29 (v704 : BitVec 32) : Prop :=
  (∀ a, (k0_off59 v704) a + S1x8x128.size a ≤ S1x240x128.size a)
theorem k0_off59_inb : ∀ (v704 : BitVec 32) (k0_hw29 : k0_chk29 v704), ∀ a, (k0_off59 v704) a + S1x8x128.size a ≤ S1x240x128.size a := fun v704 k0_hw29 => k0_hw29

def k0_off60 (i : grid0.Coords) : Fin 2 → Nat :=
  let arg0 : BitVec 32 := BitVec.ofNat 32 (i 0).val
  let v728 : Index := Scalar.indexCast arg0
  let c29 : Index := 29#32
  ![v728.toNat, 29]
def k0_off61 (v729 : BitVec 32) : Fin 3 → Nat :=
  let c0_235 : Index := 0#32
  let c7_i32_231 : BitVec 32 := 7#32
  let v730 : BitVec 32 := Scalar.shrsi v729 c7_i32_231
  let c3_i32_233 : BitVec 32 := 3#32
  let v732 : BitVec 32 := Scalar.shrsi v730 c3_i32_233
  let c3_i32_234 : BitVec 32 := 3#32
  let v733 : BitVec 32 := Scalar.shli v732 c3_i32_234
  let v734 : Index := Scalar.indexCast v733
  let c0_236 : Index := 0#32
  ![0, v734.toNat, 0]

def k0_chk30 (v729 : BitVec 32) : Prop :=
  (∀ a, (k0_off61 v729) a + S1x8x128.size a ≤ S1x240x128.size a)
theorem k0_off61_inb : ∀ (v729 : BitVec 32) (k0_hw30 : k0_chk30 v729), ∀ a, (k0_off61 v729) a + S1x8x128.size a ≤ S1x240x128.size a := fun v729 k0_hw30 => k0_hw30

def k0_off62 (i : grid0.Coords) : Fin 2 → Nat :=
  let arg0 : BitVec 32 := BitVec.ofNat 32 (i 0).val
  let v753 : Index := Scalar.indexCast arg0
  let c30 : Index := 30#32
  ![v753.toNat, 30]
def k0_off63 (v754 : BitVec 32) : Fin 3 → Nat :=
  let c0_243 : Index := 0#32
  let c7_i32_239 : BitVec 32 := 7#32
  let v755 : BitVec 32 := Scalar.shrsi v754 c7_i32_239
  let c3_i32_241 : BitVec 32 := 3#32
  let v757 : BitVec 32 := Scalar.shrsi v755 c3_i32_241
  let c3_i32_242 : BitVec 32 := 3#32
  let v758 : BitVec 32 := Scalar.shli v757 c3_i32_242
  let v759 : Index := Scalar.indexCast v758
  let c0_244 : Index := 0#32
  ![0, v759.toNat, 0]

def k0_chk31 (v754 : BitVec 32) : Prop :=
  (∀ a, (k0_off63 v754) a + S1x8x128.size a ≤ S1x240x128.size a)
theorem k0_off63_inb : ∀ (v754 : BitVec 32) (k0_hw31 : k0_chk31 v754), ∀ a, (k0_off63 v754) a + S1x8x128.size a ≤ S1x240x128.size a := fun v754 k0_hw31 => k0_hw31

def k0_off64 (i : grid0.Coords) : Fin 2 → Nat :=
  let arg0 : BitVec 32 := BitVec.ofNat 32 (i 0).val
  let v778 : Index := Scalar.indexCast arg0
  let c31 : Index := 31#32
  ![v778.toNat, 31]
def k0_off65 (v779 : BitVec 32) : Fin 3 → Nat :=
  let c0_251 : Index := 0#32
  let c7_i32_247 : BitVec 32 := 7#32
  let v780 : BitVec 32 := Scalar.shrsi v779 c7_i32_247
  let c3_i32_249 : BitVec 32 := 3#32
  let v782 : BitVec 32 := Scalar.shrsi v780 c3_i32_249
  let c3_i32_250 : BitVec 32 := 3#32
  let v783 : BitVec 32 := Scalar.shli v782 c3_i32_250
  let v784 : Index := Scalar.indexCast v783
  let c0_252 : Index := 0#32
  ![0, v784.toNat, 0]

def k0_chk32 (v779 : BitVec 32) : Prop :=
  (∀ a, (k0_off65 v779) a + S1x8x128.size a ≤ S1x240x128.size a)
theorem k0_off65_inb : ∀ (v779 : BitVec 32) (k0_hw32 : k0_chk32 v779), ∀ a, (k0_off65 v779) a + S1x8x128.size a ≤ S1x240x128.size a := fun v779 k0_hw32 => k0_hw32

def k0_off66 (i : grid0.Coords) : Fin 2 → Nat :=
  let arg0 : BitVec 32 := BitVec.ofNat 32 (i 0).val
  let v803 : Index := Scalar.indexCast arg0
  let c32 : Index := 32#32
  ![v803.toNat, 32]
def k0_off67 (v804 : BitVec 32) : Fin 3 → Nat :=
  let c0_259 : Index := 0#32
  let c7_i32_255 : BitVec 32 := 7#32
  let v805 : BitVec 32 := Scalar.shrsi v804 c7_i32_255
  let c3_i32_257 : BitVec 32 := 3#32
  let v807 : BitVec 32 := Scalar.shrsi v805 c3_i32_257
  let c3_i32_258 : BitVec 32 := 3#32
  let v808 : BitVec 32 := Scalar.shli v807 c3_i32_258
  let v809 : Index := Scalar.indexCast v808
  let c0_260 : Index := 0#32
  ![0, v809.toNat, 0]

def k0_chk33 (v804 : BitVec 32) : Prop :=
  (∀ a, (k0_off67 v804) a + S1x8x128.size a ≤ S1x240x128.size a)
theorem k0_off67_inb : ∀ (v804 : BitVec 32) (k0_hw33 : k0_chk33 v804), ∀ a, (k0_off67 v804) a + S1x8x128.size a ≤ S1x240x128.size a := fun v804 k0_hw33 => k0_hw33

def k0_off68 (i : grid0.Coords) : Fin 2 → Nat :=
  let arg0 : BitVec 32 := BitVec.ofNat 32 (i 0).val
  let v828 : Index := Scalar.indexCast arg0
  let c33 : Index := 33#32
  ![v828.toNat, 33]
def k0_off69 (v829 : BitVec 32) : Fin 3 → Nat :=
  let c0_267 : Index := 0#32
  let c7_i32_263 : BitVec 32 := 7#32
  let v830 : BitVec 32 := Scalar.shrsi v829 c7_i32_263
  let c3_i32_265 : BitVec 32 := 3#32
  let v832 : BitVec 32 := Scalar.shrsi v830 c3_i32_265
  let c3_i32_266 : BitVec 32 := 3#32
  let v833 : BitVec 32 := Scalar.shli v832 c3_i32_266
  let v834 : Index := Scalar.indexCast v833
  let c0_268 : Index := 0#32
  ![0, v834.toNat, 0]

def k0_chk34 (v829 : BitVec 32) : Prop :=
  (∀ a, (k0_off69 v829) a + S1x8x128.size a ≤ S1x240x128.size a)
theorem k0_off69_inb : ∀ (v829 : BitVec 32) (k0_hw34 : k0_chk34 v829), ∀ a, (k0_off69 v829) a + S1x8x128.size a ≤ S1x240x128.size a := fun v829 k0_hw34 => k0_hw34

def k0_off70 (i : grid0.Coords) : Fin 2 → Nat :=
  let arg0 : BitVec 32 := BitVec.ofNat 32 (i 0).val
  let v853 : Index := Scalar.indexCast arg0
  let c34 : Index := 34#32
  ![v853.toNat, 34]
def k0_off71 (v854 : BitVec 32) : Fin 3 → Nat :=
  let c0_275 : Index := 0#32
  let c7_i32_271 : BitVec 32 := 7#32
  let v855 : BitVec 32 := Scalar.shrsi v854 c7_i32_271
  let c3_i32_273 : BitVec 32 := 3#32
  let v857 : BitVec 32 := Scalar.shrsi v855 c3_i32_273
  let c3_i32_274 : BitVec 32 := 3#32
  let v858 : BitVec 32 := Scalar.shli v857 c3_i32_274
  let v859 : Index := Scalar.indexCast v858
  let c0_276 : Index := 0#32
  ![0, v859.toNat, 0]

def k0_chk35 (v854 : BitVec 32) : Prop :=
  (∀ a, (k0_off71 v854) a + S1x8x128.size a ≤ S1x240x128.size a)
theorem k0_off71_inb : ∀ (v854 : BitVec 32) (k0_hw35 : k0_chk35 v854), ∀ a, (k0_off71 v854) a + S1x8x128.size a ≤ S1x240x128.size a := fun v854 k0_hw35 => k0_hw35

def k0_off72 (i : grid0.Coords) : Fin 2 → Nat :=
  let arg0 : BitVec 32 := BitVec.ofNat 32 (i 0).val
  let v878 : Index := Scalar.indexCast arg0
  let c35 : Index := 35#32
  ![v878.toNat, 35]
def k0_off73 (v879 : BitVec 32) : Fin 3 → Nat :=
  let c0_283 : Index := 0#32
  let c7_i32_279 : BitVec 32 := 7#32
  let v880 : BitVec 32 := Scalar.shrsi v879 c7_i32_279
  let c3_i32_281 : BitVec 32 := 3#32
  let v882 : BitVec 32 := Scalar.shrsi v880 c3_i32_281
  let c3_i32_282 : BitVec 32 := 3#32
  let v883 : BitVec 32 := Scalar.shli v882 c3_i32_282
  let v884 : Index := Scalar.indexCast v883
  let c0_284 : Index := 0#32
  ![0, v884.toNat, 0]

def k0_chk36 (v879 : BitVec 32) : Prop :=
  (∀ a, (k0_off73 v879) a + S1x8x128.size a ≤ S1x240x128.size a)
theorem k0_off73_inb : ∀ (v879 : BitVec 32) (k0_hw36 : k0_chk36 v879), ∀ a, (k0_off73 v879) a + S1x8x128.size a ≤ S1x240x128.size a := fun v879 k0_hw36 => k0_hw36

def k0_off74 (i : grid0.Coords) : Fin 2 → Nat :=
  let arg0 : BitVec 32 := BitVec.ofNat 32 (i 0).val
  let v903 : Index := Scalar.indexCast arg0
  let c36 : Index := 36#32
  ![v903.toNat, 36]
def k0_off75 (v904 : BitVec 32) : Fin 3 → Nat :=
  let c0_291 : Index := 0#32
  let c7_i32_287 : BitVec 32 := 7#32
  let v905 : BitVec 32 := Scalar.shrsi v904 c7_i32_287
  let c3_i32_289 : BitVec 32 := 3#32
  let v907 : BitVec 32 := Scalar.shrsi v905 c3_i32_289
  let c3_i32_290 : BitVec 32 := 3#32
  let v908 : BitVec 32 := Scalar.shli v907 c3_i32_290
  let v909 : Index := Scalar.indexCast v908
  let c0_292 : Index := 0#32
  ![0, v909.toNat, 0]

def k0_chk37 (v904 : BitVec 32) : Prop :=
  (∀ a, (k0_off75 v904) a + S1x8x128.size a ≤ S1x240x128.size a)
theorem k0_off75_inb : ∀ (v904 : BitVec 32) (k0_hw37 : k0_chk37 v904), ∀ a, (k0_off75 v904) a + S1x8x128.size a ≤ S1x240x128.size a := fun v904 k0_hw37 => k0_hw37

def k0_off76 (i : grid0.Coords) : Fin 2 → Nat :=
  let arg0 : BitVec 32 := BitVec.ofNat 32 (i 0).val
  let v928 : Index := Scalar.indexCast arg0
  let c37 : Index := 37#32
  ![v928.toNat, 37]
def k0_off77 (v929 : BitVec 32) : Fin 3 → Nat :=
  let c0_299 : Index := 0#32
  let c7_i32_295 : BitVec 32 := 7#32
  let v930 : BitVec 32 := Scalar.shrsi v929 c7_i32_295
  let c3_i32_297 : BitVec 32 := 3#32
  let v932 : BitVec 32 := Scalar.shrsi v930 c3_i32_297
  let c3_i32_298 : BitVec 32 := 3#32
  let v933 : BitVec 32 := Scalar.shli v932 c3_i32_298
  let v934 : Index := Scalar.indexCast v933
  let c0_300 : Index := 0#32
  ![0, v934.toNat, 0]

def k0_chk38 (v929 : BitVec 32) : Prop :=
  (∀ a, (k0_off77 v929) a + S1x8x128.size a ≤ S1x240x128.size a)
theorem k0_off77_inb : ∀ (v929 : BitVec 32) (k0_hw38 : k0_chk38 v929), ∀ a, (k0_off77 v929) a + S1x8x128.size a ≤ S1x240x128.size a := fun v929 k0_hw38 => k0_hw38

def k0_off78 (i : grid0.Coords) : Fin 2 → Nat :=
  let arg0 : BitVec 32 := BitVec.ofNat 32 (i 0).val
  let v953 : Index := Scalar.indexCast arg0
  let c38 : Index := 38#32
  ![v953.toNat, 38]
def k0_off79 (v954 : BitVec 32) : Fin 3 → Nat :=
  let c0_307 : Index := 0#32
  let c7_i32_303 : BitVec 32 := 7#32
  let v955 : BitVec 32 := Scalar.shrsi v954 c7_i32_303
  let c3_i32_305 : BitVec 32 := 3#32
  let v957 : BitVec 32 := Scalar.shrsi v955 c3_i32_305
  let c3_i32_306 : BitVec 32 := 3#32
  let v958 : BitVec 32 := Scalar.shli v957 c3_i32_306
  let v959 : Index := Scalar.indexCast v958
  let c0_308 : Index := 0#32
  ![0, v959.toNat, 0]

def k0_chk39 (v954 : BitVec 32) : Prop :=
  (∀ a, (k0_off79 v954) a + S1x8x128.size a ≤ S1x240x128.size a)
theorem k0_off79_inb : ∀ (v954 : BitVec 32) (k0_hw39 : k0_chk39 v954), ∀ a, (k0_off79 v954) a + S1x8x128.size a ≤ S1x240x128.size a := fun v954 k0_hw39 => k0_hw39

def k0_off80 (i : grid0.Coords) : Fin 2 → Nat :=
  let arg0 : BitVec 32 := BitVec.ofNat 32 (i 0).val
  let v978 : Index := Scalar.indexCast arg0
  let c39 : Index := 39#32
  ![v978.toNat, 39]
def k0_off81 (v979 : BitVec 32) : Fin 3 → Nat :=
  let c0_315 : Index := 0#32
  let c7_i32_311 : BitVec 32 := 7#32
  let v980 : BitVec 32 := Scalar.shrsi v979 c7_i32_311
  let c3_i32_313 : BitVec 32 := 3#32
  let v982 : BitVec 32 := Scalar.shrsi v980 c3_i32_313
  let c3_i32_314 : BitVec 32 := 3#32
  let v983 : BitVec 32 := Scalar.shli v982 c3_i32_314
  let v984 : Index := Scalar.indexCast v983
  let c0_316 : Index := 0#32
  ![0, v984.toNat, 0]

def k0_chk40 (v979 : BitVec 32) : Prop :=
  (∀ a, (k0_off81 v979) a + S1x8x128.size a ≤ S1x240x128.size a)
theorem k0_off81_inb : ∀ (v979 : BitVec 32) (k0_hw40 : k0_chk40 v979), ∀ a, (k0_off81 v979) a + S1x8x128.size a ≤ S1x240x128.size a := fun v979 k0_hw40 => k0_hw40

def k0_off82 (i : grid0.Coords) : Fin 2 → Nat :=
  let arg0 : BitVec 32 := BitVec.ofNat 32 (i 0).val
  let v1003 : Index := Scalar.indexCast arg0
  let c40 : Index := 40#32
  ![v1003.toNat, 40]
def k0_off83 (v1004 : BitVec 32) : Fin 3 → Nat :=
  let c0_323 : Index := 0#32
  let c7_i32_319 : BitVec 32 := 7#32
  let v1005 : BitVec 32 := Scalar.shrsi v1004 c7_i32_319
  let c3_i32_321 : BitVec 32 := 3#32
  let v1007 : BitVec 32 := Scalar.shrsi v1005 c3_i32_321
  let c3_i32_322 : BitVec 32 := 3#32
  let v1008 : BitVec 32 := Scalar.shli v1007 c3_i32_322
  let v1009 : Index := Scalar.indexCast v1008
  let c0_324 : Index := 0#32
  ![0, v1009.toNat, 0]

def k0_chk41 (v1004 : BitVec 32) : Prop :=
  (∀ a, (k0_off83 v1004) a + S1x8x128.size a ≤ S1x240x128.size a)
theorem k0_off83_inb : ∀ (v1004 : BitVec 32) (k0_hw41 : k0_chk41 v1004), ∀ a, (k0_off83 v1004) a + S1x8x128.size a ≤ S1x240x128.size a := fun v1004 k0_hw41 => k0_hw41

def k0_off84 (i : grid0.Coords) : Fin 2 → Nat :=
  let arg0 : BitVec 32 := BitVec.ofNat 32 (i 0).val
  let v1028 : Index := Scalar.indexCast arg0
  let c41 : Index := 41#32
  ![v1028.toNat, 41]
def k0_off85 (v1029 : BitVec 32) : Fin 3 → Nat :=
  let c0_331 : Index := 0#32
  let c7_i32_327 : BitVec 32 := 7#32
  let v1030 : BitVec 32 := Scalar.shrsi v1029 c7_i32_327
  let c3_i32_329 : BitVec 32 := 3#32
  let v1032 : BitVec 32 := Scalar.shrsi v1030 c3_i32_329
  let c3_i32_330 : BitVec 32 := 3#32
  let v1033 : BitVec 32 := Scalar.shli v1032 c3_i32_330
  let v1034 : Index := Scalar.indexCast v1033
  let c0_332 : Index := 0#32
  ![0, v1034.toNat, 0]

def k0_chk42 (v1029 : BitVec 32) : Prop :=
  (∀ a, (k0_off85 v1029) a + S1x8x128.size a ≤ S1x240x128.size a)
theorem k0_off85_inb : ∀ (v1029 : BitVec 32) (k0_hw42 : k0_chk42 v1029), ∀ a, (k0_off85 v1029) a + S1x8x128.size a ≤ S1x240x128.size a := fun v1029 k0_hw42 => k0_hw42

def k0_off86 (i : grid0.Coords) : Fin 2 → Nat :=
  let arg0 : BitVec 32 := BitVec.ofNat 32 (i 0).val
  let v1053 : Index := Scalar.indexCast arg0
  let c42 : Index := 42#32
  ![v1053.toNat, 42]
def k0_off87 (v1054 : BitVec 32) : Fin 3 → Nat :=
  let c0_339 : Index := 0#32
  let c7_i32_335 : BitVec 32 := 7#32
  let v1055 : BitVec 32 := Scalar.shrsi v1054 c7_i32_335
  let c3_i32_337 : BitVec 32 := 3#32
  let v1057 : BitVec 32 := Scalar.shrsi v1055 c3_i32_337
  let c3_i32_338 : BitVec 32 := 3#32
  let v1058 : BitVec 32 := Scalar.shli v1057 c3_i32_338
  let v1059 : Index := Scalar.indexCast v1058
  let c0_340 : Index := 0#32
  ![0, v1059.toNat, 0]

def k0_chk43 (v1054 : BitVec 32) : Prop :=
  (∀ a, (k0_off87 v1054) a + S1x8x128.size a ≤ S1x240x128.size a)
theorem k0_off87_inb : ∀ (v1054 : BitVec 32) (k0_hw43 : k0_chk43 v1054), ∀ a, (k0_off87 v1054) a + S1x8x128.size a ≤ S1x240x128.size a := fun v1054 k0_hw43 => k0_hw43

def k0_off88 (i : grid0.Coords) : Fin 2 → Nat :=
  let arg0 : BitVec 32 := BitVec.ofNat 32 (i 0).val
  let v1078 : Index := Scalar.indexCast arg0
  let c43 : Index := 43#32
  ![v1078.toNat, 43]
def k0_off89 (v1079 : BitVec 32) : Fin 3 → Nat :=
  let c0_347 : Index := 0#32
  let c7_i32_343 : BitVec 32 := 7#32
  let v1080 : BitVec 32 := Scalar.shrsi v1079 c7_i32_343
  let c3_i32_345 : BitVec 32 := 3#32
  let v1082 : BitVec 32 := Scalar.shrsi v1080 c3_i32_345
  let c3_i32_346 : BitVec 32 := 3#32
  let v1083 : BitVec 32 := Scalar.shli v1082 c3_i32_346
  let v1084 : Index := Scalar.indexCast v1083
  let c0_348 : Index := 0#32
  ![0, v1084.toNat, 0]

def k0_chk44 (v1079 : BitVec 32) : Prop :=
  (∀ a, (k0_off89 v1079) a + S1x8x128.size a ≤ S1x240x128.size a)
theorem k0_off89_inb : ∀ (v1079 : BitVec 32) (k0_hw44 : k0_chk44 v1079), ∀ a, (k0_off89 v1079) a + S1x8x128.size a ≤ S1x240x128.size a := fun v1079 k0_hw44 => k0_hw44

def k0_off90 (i : grid0.Coords) : Fin 2 → Nat :=
  let arg0 : BitVec 32 := BitVec.ofNat 32 (i 0).val
  let v1103 : Index := Scalar.indexCast arg0
  let c44 : Index := 44#32
  ![v1103.toNat, 44]
def k0_off91 (v1104 : BitVec 32) : Fin 3 → Nat :=
  let c0_355 : Index := 0#32
  let c7_i32_351 : BitVec 32 := 7#32
  let v1105 : BitVec 32 := Scalar.shrsi v1104 c7_i32_351
  let c3_i32_353 : BitVec 32 := 3#32
  let v1107 : BitVec 32 := Scalar.shrsi v1105 c3_i32_353
  let c3_i32_354 : BitVec 32 := 3#32
  let v1108 : BitVec 32 := Scalar.shli v1107 c3_i32_354
  let v1109 : Index := Scalar.indexCast v1108
  let c0_356 : Index := 0#32
  ![0, v1109.toNat, 0]

def k0_chk45 (v1104 : BitVec 32) : Prop :=
  (∀ a, (k0_off91 v1104) a + S1x8x128.size a ≤ S1x240x128.size a)
theorem k0_off91_inb : ∀ (v1104 : BitVec 32) (k0_hw45 : k0_chk45 v1104), ∀ a, (k0_off91 v1104) a + S1x8x128.size a ≤ S1x240x128.size a := fun v1104 k0_hw45 => k0_hw45

def k0_off92 (i : grid0.Coords) : Fin 2 → Nat :=
  let arg0 : BitVec 32 := BitVec.ofNat 32 (i 0).val
  let v1128 : Index := Scalar.indexCast arg0
  let c45 : Index := 45#32
  ![v1128.toNat, 45]
def k0_off93 (v1129 : BitVec 32) : Fin 3 → Nat :=
  let c0_363 : Index := 0#32
  let c7_i32_359 : BitVec 32 := 7#32
  let v1130 : BitVec 32 := Scalar.shrsi v1129 c7_i32_359
  let c3_i32_361 : BitVec 32 := 3#32
  let v1132 : BitVec 32 := Scalar.shrsi v1130 c3_i32_361
  let c3_i32_362 : BitVec 32 := 3#32
  let v1133 : BitVec 32 := Scalar.shli v1132 c3_i32_362
  let v1134 : Index := Scalar.indexCast v1133
  let c0_364 : Index := 0#32
  ![0, v1134.toNat, 0]

def k0_chk46 (v1129 : BitVec 32) : Prop :=
  (∀ a, (k0_off93 v1129) a + S1x8x128.size a ≤ S1x240x128.size a)
theorem k0_off93_inb : ∀ (v1129 : BitVec 32) (k0_hw46 : k0_chk46 v1129), ∀ a, (k0_off93 v1129) a + S1x8x128.size a ≤ S1x240x128.size a := fun v1129 k0_hw46 => k0_hw46

def k0_off94 (i : grid0.Coords) : Fin 2 → Nat :=
  let arg0 : BitVec 32 := BitVec.ofNat 32 (i 0).val
  let v1153 : Index := Scalar.indexCast arg0
  let c46 : Index := 46#32
  ![v1153.toNat, 46]
def k0_off95 (v1154 : BitVec 32) : Fin 3 → Nat :=
  let c0_371 : Index := 0#32
  let c7_i32_367 : BitVec 32 := 7#32
  let v1155 : BitVec 32 := Scalar.shrsi v1154 c7_i32_367
  let c3_i32_369 : BitVec 32 := 3#32
  let v1157 : BitVec 32 := Scalar.shrsi v1155 c3_i32_369
  let c3_i32_370 : BitVec 32 := 3#32
  let v1158 : BitVec 32 := Scalar.shli v1157 c3_i32_370
  let v1159 : Index := Scalar.indexCast v1158
  let c0_372 : Index := 0#32
  ![0, v1159.toNat, 0]

def k0_chk47 (v1154 : BitVec 32) : Prop :=
  (∀ a, (k0_off95 v1154) a + S1x8x128.size a ≤ S1x240x128.size a)
theorem k0_off95_inb : ∀ (v1154 : BitVec 32) (k0_hw47 : k0_chk47 v1154), ∀ a, (k0_off95 v1154) a + S1x8x128.size a ≤ S1x240x128.size a := fun v1154 k0_hw47 => k0_hw47

def k0_off96 (i : grid0.Coords) : Fin 2 → Nat :=
  let arg0 : BitVec 32 := BitVec.ofNat 32 (i 0).val
  let v1178 : Index := Scalar.indexCast arg0
  let c47 : Index := 47#32
  ![v1178.toNat, 47]
def k0_off97 (v1179 : BitVec 32) : Fin 3 → Nat :=
  let c0_379 : Index := 0#32
  let c7_i32_375 : BitVec 32 := 7#32
  let v1180 : BitVec 32 := Scalar.shrsi v1179 c7_i32_375
  let c3_i32_377 : BitVec 32 := 3#32
  let v1182 : BitVec 32 := Scalar.shrsi v1180 c3_i32_377
  let c3_i32_378 : BitVec 32 := 3#32
  let v1183 : BitVec 32 := Scalar.shli v1182 c3_i32_378
  let v1184 : Index := Scalar.indexCast v1183
  let c0_380 : Index := 0#32
  ![0, v1184.toNat, 0]

def k0_chk48 (v1179 : BitVec 32) : Prop :=
  (∀ a, (k0_off97 v1179) a + S1x8x128.size a ≤ S1x240x128.size a)
theorem k0_off97_inb : ∀ (v1179 : BitVec 32) (k0_hw48 : k0_chk48 v1179), ∀ a, (k0_off97 v1179) a + S1x8x128.size a ≤ S1x240x128.size a := fun v1179 k0_hw48 => k0_hw48

def k0_off98 (i : grid0.Coords) : Fin 2 → Nat :=
  let arg0 : BitVec 32 := BitVec.ofNat 32 (i 0).val
  let v1203 : Index := Scalar.indexCast arg0
  let c48 : Index := 48#32
  ![v1203.toNat, 48]
def k0_off99 (v1204 : BitVec 32) : Fin 3 → Nat :=
  let c0_387 : Index := 0#32
  let c7_i32_383 : BitVec 32 := 7#32
  let v1205 : BitVec 32 := Scalar.shrsi v1204 c7_i32_383
  let c3_i32_385 : BitVec 32 := 3#32
  let v1207 : BitVec 32 := Scalar.shrsi v1205 c3_i32_385
  let c3_i32_386 : BitVec 32 := 3#32
  let v1208 : BitVec 32 := Scalar.shli v1207 c3_i32_386
  let v1209 : Index := Scalar.indexCast v1208
  let c0_388 : Index := 0#32
  ![0, v1209.toNat, 0]

def k0_chk49 (v1204 : BitVec 32) : Prop :=
  (∀ a, (k0_off99 v1204) a + S1x8x128.size a ≤ S1x240x128.size a)
theorem k0_off99_inb : ∀ (v1204 : BitVec 32) (k0_hw49 : k0_chk49 v1204), ∀ a, (k0_off99 v1204) a + S1x8x128.size a ≤ S1x240x128.size a := fun v1204 k0_hw49 => k0_hw49

def k0_off100 (i : grid0.Coords) : Fin 2 → Nat :=
  let arg0 : BitVec 32 := BitVec.ofNat 32 (i 0).val
  let v1228 : Index := Scalar.indexCast arg0
  let c49 : Index := 49#32
  ![v1228.toNat, 49]
def k0_off101 (v1229 : BitVec 32) : Fin 3 → Nat :=
  let c0_395 : Index := 0#32
  let c7_i32_391 : BitVec 32 := 7#32
  let v1230 : BitVec 32 := Scalar.shrsi v1229 c7_i32_391
  let c3_i32_393 : BitVec 32 := 3#32
  let v1232 : BitVec 32 := Scalar.shrsi v1230 c3_i32_393
  let c3_i32_394 : BitVec 32 := 3#32
  let v1233 : BitVec 32 := Scalar.shli v1232 c3_i32_394
  let v1234 : Index := Scalar.indexCast v1233
  let c0_396 : Index := 0#32
  ![0, v1234.toNat, 0]

def k0_chk50 (v1229 : BitVec 32) : Prop :=
  (∀ a, (k0_off101 v1229) a + S1x8x128.size a ≤ S1x240x128.size a)
theorem k0_off101_inb : ∀ (v1229 : BitVec 32) (k0_hw50 : k0_chk50 v1229), ∀ a, (k0_off101 v1229) a + S1x8x128.size a ≤ S1x240x128.size a := fun v1229 k0_hw50 => k0_hw50

def k0_off102 (i : grid0.Coords) : Fin 2 → Nat :=
  let arg0 : BitVec 32 := BitVec.ofNat 32 (i 0).val
  let v1253 : Index := Scalar.indexCast arg0
  let c50 : Index := 50#32
  ![v1253.toNat, 50]
def k0_off103 (v1254 : BitVec 32) : Fin 3 → Nat :=
  let c0_403 : Index := 0#32
  let c7_i32_399 : BitVec 32 := 7#32
  let v1255 : BitVec 32 := Scalar.shrsi v1254 c7_i32_399
  let c3_i32_401 : BitVec 32 := 3#32
  let v1257 : BitVec 32 := Scalar.shrsi v1255 c3_i32_401
  let c3_i32_402 : BitVec 32 := 3#32
  let v1258 : BitVec 32 := Scalar.shli v1257 c3_i32_402
  let v1259 : Index := Scalar.indexCast v1258
  let c0_404 : Index := 0#32
  ![0, v1259.toNat, 0]

def k0_chk51 (v1254 : BitVec 32) : Prop :=
  (∀ a, (k0_off103 v1254) a + S1x8x128.size a ≤ S1x240x128.size a)
theorem k0_off103_inb : ∀ (v1254 : BitVec 32) (k0_hw51 : k0_chk51 v1254), ∀ a, (k0_off103 v1254) a + S1x8x128.size a ≤ S1x240x128.size a := fun v1254 k0_hw51 => k0_hw51

def k0_off104 (i : grid0.Coords) : Fin 2 → Nat :=
  let arg0 : BitVec 32 := BitVec.ofNat 32 (i 0).val
  let v1278 : Index := Scalar.indexCast arg0
  let c51 : Index := 51#32
  ![v1278.toNat, 51]
def k0_off105 (v1279 : BitVec 32) : Fin 3 → Nat :=
  let c0_411 : Index := 0#32
  let c7_i32_407 : BitVec 32 := 7#32
  let v1280 : BitVec 32 := Scalar.shrsi v1279 c7_i32_407
  let c3_i32_409 : BitVec 32 := 3#32
  let v1282 : BitVec 32 := Scalar.shrsi v1280 c3_i32_409
  let c3_i32_410 : BitVec 32 := 3#32
  let v1283 : BitVec 32 := Scalar.shli v1282 c3_i32_410
  let v1284 : Index := Scalar.indexCast v1283
  let c0_412 : Index := 0#32
  ![0, v1284.toNat, 0]

def k0_chk52 (v1279 : BitVec 32) : Prop :=
  (∀ a, (k0_off105 v1279) a + S1x8x128.size a ≤ S1x240x128.size a)
theorem k0_off105_inb : ∀ (v1279 : BitVec 32) (k0_hw52 : k0_chk52 v1279), ∀ a, (k0_off105 v1279) a + S1x8x128.size a ≤ S1x240x128.size a := fun v1279 k0_hw52 => k0_hw52

def k0_off106 (i : grid0.Coords) : Fin 2 → Nat :=
  let arg0 : BitVec 32 := BitVec.ofNat 32 (i 0).val
  let v1303 : Index := Scalar.indexCast arg0
  let c52 : Index := 52#32
  ![v1303.toNat, 52]
def k0_off107 (v1304 : BitVec 32) : Fin 3 → Nat :=
  let c0_419 : Index := 0#32
  let c7_i32_415 : BitVec 32 := 7#32
  let v1305 : BitVec 32 := Scalar.shrsi v1304 c7_i32_415
  let c3_i32_417 : BitVec 32 := 3#32
  let v1307 : BitVec 32 := Scalar.shrsi v1305 c3_i32_417
  let c3_i32_418 : BitVec 32 := 3#32
  let v1308 : BitVec 32 := Scalar.shli v1307 c3_i32_418
  let v1309 : Index := Scalar.indexCast v1308
  let c0_420 : Index := 0#32
  ![0, v1309.toNat, 0]

def k0_chk53 (v1304 : BitVec 32) : Prop :=
  (∀ a, (k0_off107 v1304) a + S1x8x128.size a ≤ S1x240x128.size a)
theorem k0_off107_inb : ∀ (v1304 : BitVec 32) (k0_hw53 : k0_chk53 v1304), ∀ a, (k0_off107 v1304) a + S1x8x128.size a ≤ S1x240x128.size a := fun v1304 k0_hw53 => k0_hw53

def k0_off108 (i : grid0.Coords) : Fin 2 → Nat :=
  let arg0 : BitVec 32 := BitVec.ofNat 32 (i 0).val
  let v1328 : Index := Scalar.indexCast arg0
  let c53 : Index := 53#32
  ![v1328.toNat, 53]
def k0_off109 (v1329 : BitVec 32) : Fin 3 → Nat :=
  let c0_427 : Index := 0#32
  let c7_i32_423 : BitVec 32 := 7#32
  let v1330 : BitVec 32 := Scalar.shrsi v1329 c7_i32_423
  let c3_i32_425 : BitVec 32 := 3#32
  let v1332 : BitVec 32 := Scalar.shrsi v1330 c3_i32_425
  let c3_i32_426 : BitVec 32 := 3#32
  let v1333 : BitVec 32 := Scalar.shli v1332 c3_i32_426
  let v1334 : Index := Scalar.indexCast v1333
  let c0_428 : Index := 0#32
  ![0, v1334.toNat, 0]

def k0_chk54 (v1329 : BitVec 32) : Prop :=
  (∀ a, (k0_off109 v1329) a + S1x8x128.size a ≤ S1x240x128.size a)
theorem k0_off109_inb : ∀ (v1329 : BitVec 32) (k0_hw54 : k0_chk54 v1329), ∀ a, (k0_off109 v1329) a + S1x8x128.size a ≤ S1x240x128.size a := fun v1329 k0_hw54 => k0_hw54

def k0_off110 (i : grid0.Coords) : Fin 2 → Nat :=
  let arg0 : BitVec 32 := BitVec.ofNat 32 (i 0).val
  let v1353 : Index := Scalar.indexCast arg0
  let c54 : Index := 54#32
  ![v1353.toNat, 54]
def k0_off111 (v1354 : BitVec 32) : Fin 3 → Nat :=
  let c0_435 : Index := 0#32
  let c7_i32_431 : BitVec 32 := 7#32
  let v1355 : BitVec 32 := Scalar.shrsi v1354 c7_i32_431
  let c3_i32_433 : BitVec 32 := 3#32
  let v1357 : BitVec 32 := Scalar.shrsi v1355 c3_i32_433
  let c3_i32_434 : BitVec 32 := 3#32
  let v1358 : BitVec 32 := Scalar.shli v1357 c3_i32_434
  let v1359 : Index := Scalar.indexCast v1358
  let c0_436 : Index := 0#32
  ![0, v1359.toNat, 0]

def k0_chk55 (v1354 : BitVec 32) : Prop :=
  (∀ a, (k0_off111 v1354) a + S1x8x128.size a ≤ S1x240x128.size a)
theorem k0_off111_inb : ∀ (v1354 : BitVec 32) (k0_hw55 : k0_chk55 v1354), ∀ a, (k0_off111 v1354) a + S1x8x128.size a ≤ S1x240x128.size a := fun v1354 k0_hw55 => k0_hw55

def k0_off112 (i : grid0.Coords) : Fin 2 → Nat :=
  let arg0 : BitVec 32 := BitVec.ofNat 32 (i 0).val
  let v1378 : Index := Scalar.indexCast arg0
  let c55 : Index := 55#32
  ![v1378.toNat, 55]
def k0_off113 (v1379 : BitVec 32) : Fin 3 → Nat :=
  let c0_443 : Index := 0#32
  let c7_i32_439 : BitVec 32 := 7#32
  let v1380 : BitVec 32 := Scalar.shrsi v1379 c7_i32_439
  let c3_i32_441 : BitVec 32 := 3#32
  let v1382 : BitVec 32 := Scalar.shrsi v1380 c3_i32_441
  let c3_i32_442 : BitVec 32 := 3#32
  let v1383 : BitVec 32 := Scalar.shli v1382 c3_i32_442
  let v1384 : Index := Scalar.indexCast v1383
  let c0_444 : Index := 0#32
  ![0, v1384.toNat, 0]

def k0_chk56 (v1379 : BitVec 32) : Prop :=
  (∀ a, (k0_off113 v1379) a + S1x8x128.size a ≤ S1x240x128.size a)
theorem k0_off113_inb : ∀ (v1379 : BitVec 32) (k0_hw56 : k0_chk56 v1379), ∀ a, (k0_off113 v1379) a + S1x8x128.size a ≤ S1x240x128.size a := fun v1379 k0_hw56 => k0_hw56

def k0_off114 (i : grid0.Coords) : Fin 2 → Nat :=
  let arg0 : BitVec 32 := BitVec.ofNat 32 (i 0).val
  let v1403 : Index := Scalar.indexCast arg0
  let c56 : Index := 56#32
  ![v1403.toNat, 56]
def k0_off115 (v1404 : BitVec 32) : Fin 3 → Nat :=
  let c0_451 : Index := 0#32
  let c7_i32_447 : BitVec 32 := 7#32
  let v1405 : BitVec 32 := Scalar.shrsi v1404 c7_i32_447
  let c3_i32_449 : BitVec 32 := 3#32
  let v1407 : BitVec 32 := Scalar.shrsi v1405 c3_i32_449
  let c3_i32_450 : BitVec 32 := 3#32
  let v1408 : BitVec 32 := Scalar.shli v1407 c3_i32_450
  let v1409 : Index := Scalar.indexCast v1408
  let c0_452 : Index := 0#32
  ![0, v1409.toNat, 0]

def k0_chk57 (v1404 : BitVec 32) : Prop :=
  (∀ a, (k0_off115 v1404) a + S1x8x128.size a ≤ S1x240x128.size a)
theorem k0_off115_inb : ∀ (v1404 : BitVec 32) (k0_hw57 : k0_chk57 v1404), ∀ a, (k0_off115 v1404) a + S1x8x128.size a ≤ S1x240x128.size a := fun v1404 k0_hw57 => k0_hw57

def k0_off116 (i : grid0.Coords) : Fin 2 → Nat :=
  let arg0 : BitVec 32 := BitVec.ofNat 32 (i 0).val
  let v1428 : Index := Scalar.indexCast arg0
  let c57 : Index := 57#32
  ![v1428.toNat, 57]
def k0_off117 (v1429 : BitVec 32) : Fin 3 → Nat :=
  let c0_459 : Index := 0#32
  let c7_i32_455 : BitVec 32 := 7#32
  let v1430 : BitVec 32 := Scalar.shrsi v1429 c7_i32_455
  let c3_i32_457 : BitVec 32 := 3#32
  let v1432 : BitVec 32 := Scalar.shrsi v1430 c3_i32_457
  let c3_i32_458 : BitVec 32 := 3#32
  let v1433 : BitVec 32 := Scalar.shli v1432 c3_i32_458
  let v1434 : Index := Scalar.indexCast v1433
  let c0_460 : Index := 0#32
  ![0, v1434.toNat, 0]

def k0_chk58 (v1429 : BitVec 32) : Prop :=
  (∀ a, (k0_off117 v1429) a + S1x8x128.size a ≤ S1x240x128.size a)
theorem k0_off117_inb : ∀ (v1429 : BitVec 32) (k0_hw58 : k0_chk58 v1429), ∀ a, (k0_off117 v1429) a + S1x8x128.size a ≤ S1x240x128.size a := fun v1429 k0_hw58 => k0_hw58

def k0_off118 (i : grid0.Coords) : Fin 2 → Nat :=
  let arg0 : BitVec 32 := BitVec.ofNat 32 (i 0).val
  let v1453 : Index := Scalar.indexCast arg0
  let c58 : Index := 58#32
  ![v1453.toNat, 58]
def k0_off119 (v1454 : BitVec 32) : Fin 3 → Nat :=
  let c0_467 : Index := 0#32
  let c7_i32_463 : BitVec 32 := 7#32
  let v1455 : BitVec 32 := Scalar.shrsi v1454 c7_i32_463
  let c3_i32_465 : BitVec 32 := 3#32
  let v1457 : BitVec 32 := Scalar.shrsi v1455 c3_i32_465
  let c3_i32_466 : BitVec 32 := 3#32
  let v1458 : BitVec 32 := Scalar.shli v1457 c3_i32_466
  let v1459 : Index := Scalar.indexCast v1458
  let c0_468 : Index := 0#32
  ![0, v1459.toNat, 0]

def k0_chk59 (v1454 : BitVec 32) : Prop :=
  (∀ a, (k0_off119 v1454) a + S1x8x128.size a ≤ S1x240x128.size a)
theorem k0_off119_inb : ∀ (v1454 : BitVec 32) (k0_hw59 : k0_chk59 v1454), ∀ a, (k0_off119 v1454) a + S1x8x128.size a ≤ S1x240x128.size a := fun v1454 k0_hw59 => k0_hw59

def k0_off120 (i : grid0.Coords) : Fin 2 → Nat :=
  let arg0 : BitVec 32 := BitVec.ofNat 32 (i 0).val
  let v1478 : Index := Scalar.indexCast arg0
  let c59 : Index := 59#32
  ![v1478.toNat, 59]
def k0_off121 (v1479 : BitVec 32) : Fin 3 → Nat :=
  let c0_475 : Index := 0#32
  let c7_i32_471 : BitVec 32 := 7#32
  let v1480 : BitVec 32 := Scalar.shrsi v1479 c7_i32_471
  let c3_i32_473 : BitVec 32 := 3#32
  let v1482 : BitVec 32 := Scalar.shrsi v1480 c3_i32_473
  let c3_i32_474 : BitVec 32 := 3#32
  let v1483 : BitVec 32 := Scalar.shli v1482 c3_i32_474
  let v1484 : Index := Scalar.indexCast v1483
  let c0_476 : Index := 0#32
  ![0, v1484.toNat, 0]

def k0_chk60 (v1479 : BitVec 32) : Prop :=
  (∀ a, (k0_off121 v1479) a + S1x8x128.size a ≤ S1x240x128.size a)
theorem k0_off121_inb : ∀ (v1479 : BitVec 32) (k0_hw60 : k0_chk60 v1479), ∀ a, (k0_off121 v1479) a + S1x8x128.size a ≤ S1x240x128.size a := fun v1479 k0_hw60 => k0_hw60

def k0_off122 (i : grid0.Coords) : Fin 2 → Nat :=
  let arg0 : BitVec 32 := BitVec.ofNat 32 (i 0).val
  let v1503 : Index := Scalar.indexCast arg0
  let c60 : Index := 60#32
  ![v1503.toNat, 60]
def k0_off123 (v1504 : BitVec 32) : Fin 3 → Nat :=
  let c0_483 : Index := 0#32
  let c7_i32_479 : BitVec 32 := 7#32
  let v1505 : BitVec 32 := Scalar.shrsi v1504 c7_i32_479
  let c3_i32_481 : BitVec 32 := 3#32
  let v1507 : BitVec 32 := Scalar.shrsi v1505 c3_i32_481
  let c3_i32_482 : BitVec 32 := 3#32
  let v1508 : BitVec 32 := Scalar.shli v1507 c3_i32_482
  let v1509 : Index := Scalar.indexCast v1508
  let c0_484 : Index := 0#32
  ![0, v1509.toNat, 0]

def k0_chk61 (v1504 : BitVec 32) : Prop :=
  (∀ a, (k0_off123 v1504) a + S1x8x128.size a ≤ S1x240x128.size a)
theorem k0_off123_inb : ∀ (v1504 : BitVec 32) (k0_hw61 : k0_chk61 v1504), ∀ a, (k0_off123 v1504) a + S1x8x128.size a ≤ S1x240x128.size a := fun v1504 k0_hw61 => k0_hw61

def k0_off124 (i : grid0.Coords) : Fin 2 → Nat :=
  let arg0 : BitVec 32 := BitVec.ofNat 32 (i 0).val
  let v1528 : Index := Scalar.indexCast arg0
  let c61 : Index := 61#32
  ![v1528.toNat, 61]
def k0_off125 (v1529 : BitVec 32) : Fin 3 → Nat :=
  let c0_491 : Index := 0#32
  let c7_i32_487 : BitVec 32 := 7#32
  let v1530 : BitVec 32 := Scalar.shrsi v1529 c7_i32_487
  let c3_i32_489 : BitVec 32 := 3#32
  let v1532 : BitVec 32 := Scalar.shrsi v1530 c3_i32_489
  let c3_i32_490 : BitVec 32 := 3#32
  let v1533 : BitVec 32 := Scalar.shli v1532 c3_i32_490
  let v1534 : Index := Scalar.indexCast v1533
  let c0_492 : Index := 0#32
  ![0, v1534.toNat, 0]

def k0_chk62 (v1529 : BitVec 32) : Prop :=
  (∀ a, (k0_off125 v1529) a + S1x8x128.size a ≤ S1x240x128.size a)
theorem k0_off125_inb : ∀ (v1529 : BitVec 32) (k0_hw62 : k0_chk62 v1529), ∀ a, (k0_off125 v1529) a + S1x8x128.size a ≤ S1x240x128.size a := fun v1529 k0_hw62 => k0_hw62

def k0_off126 (i : grid0.Coords) : Fin 2 → Nat :=
  let arg0 : BitVec 32 := BitVec.ofNat 32 (i 0).val
  let v1553 : Index := Scalar.indexCast arg0
  let c62 : Index := 62#32
  ![v1553.toNat, 62]
def k0_off127 (v1554 : BitVec 32) : Fin 3 → Nat :=
  let c0_499 : Index := 0#32
  let c7_i32_495 : BitVec 32 := 7#32
  let v1555 : BitVec 32 := Scalar.shrsi v1554 c7_i32_495
  let c3_i32_497 : BitVec 32 := 3#32
  let v1557 : BitVec 32 := Scalar.shrsi v1555 c3_i32_497
  let c3_i32_498 : BitVec 32 := 3#32
  let v1558 : BitVec 32 := Scalar.shli v1557 c3_i32_498
  let v1559 : Index := Scalar.indexCast v1558
  let c0_500 : Index := 0#32
  ![0, v1559.toNat, 0]

def k0_chk63 (v1554 : BitVec 32) : Prop :=
  (∀ a, (k0_off127 v1554) a + S1x8x128.size a ≤ S1x240x128.size a)
theorem k0_off127_inb : ∀ (v1554 : BitVec 32) (k0_hw63 : k0_chk63 v1554), ∀ a, (k0_off127 v1554) a + S1x8x128.size a ≤ S1x240x128.size a := fun v1554 k0_hw63 => k0_hw63

def k0_off128 (i : grid0.Coords) : Fin 2 → Nat :=
  let arg0 : BitVec 32 := BitVec.ofNat 32 (i 0).val
  let v1578 : Index := Scalar.indexCast arg0
  let c63 : Index := 63#32
  ![v1578.toNat, 63]
def k0_off129 (v1579 : BitVec 32) : Fin 3 → Nat :=
  let c0_507 : Index := 0#32
  let c7_i32_503 : BitVec 32 := 7#32
  let v1580 : BitVec 32 := Scalar.shrsi v1579 c7_i32_503
  let c3_i32_505 : BitVec 32 := 3#32
  let v1582 : BitVec 32 := Scalar.shrsi v1580 c3_i32_505
  let c3_i32_506 : BitVec 32 := 3#32
  let v1583 : BitVec 32 := Scalar.shli v1582 c3_i32_506
  let v1584 : Index := Scalar.indexCast v1583
  let c0_508 : Index := 0#32
  ![0, v1584.toNat, 0]

def k0_chk64 (v1579 : BitVec 32) : Prop :=
  (∀ a, (k0_off129 v1579) a + S1x8x128.size a ≤ S1x240x128.size a)
theorem k0_off129_inb : ∀ (v1579 : BitVec 32) (k0_hw64 : k0_chk64 v1579), ∀ a, (k0_off129 v1579) a + S1x8x128.size a ≤ S1x240x128.size a := fun v1579 k0_hw64 => k0_hw64

def k0_off130 (i : grid0.Coords) : Fin 2 → Nat :=
  let arg0 : BitVec 32 := BitVec.ofNat 32 (i 0).val
  let v1603 : Index := Scalar.indexCast arg0
  let c64 : Index := 64#32
  ![v1603.toNat, 64]
def k0_off131 (v1604 : BitVec 32) : Fin 3 → Nat :=
  let c0_515 : Index := 0#32
  let c7_i32_511 : BitVec 32 := 7#32
  let v1605 : BitVec 32 := Scalar.shrsi v1604 c7_i32_511
  let c3_i32_513 : BitVec 32 := 3#32
  let v1607 : BitVec 32 := Scalar.shrsi v1605 c3_i32_513
  let c3_i32_514 : BitVec 32 := 3#32
  let v1608 : BitVec 32 := Scalar.shli v1607 c3_i32_514
  let v1609 : Index := Scalar.indexCast v1608
  let c0_516 : Index := 0#32
  ![0, v1609.toNat, 0]

def k0_chk65 (v1604 : BitVec 32) : Prop :=
  (∀ a, (k0_off131 v1604) a + S1x8x128.size a ≤ S1x240x128.size a)
theorem k0_off131_inb : ∀ (v1604 : BitVec 32) (k0_hw65 : k0_chk65 v1604), ∀ a, (k0_off131 v1604) a + S1x8x128.size a ≤ S1x240x128.size a := fun v1604 k0_hw65 => k0_hw65

def k0_off132 (i : grid0.Coords) : Fin 2 → Nat :=
  let arg0 : BitVec 32 := BitVec.ofNat 32 (i 0).val
  let v1628 : Index := Scalar.indexCast arg0
  let c65 : Index := 65#32
  ![v1628.toNat, 65]
def k0_off133 (v1629 : BitVec 32) : Fin 3 → Nat :=
  let c0_523 : Index := 0#32
  let c7_i32_519 : BitVec 32 := 7#32
  let v1630 : BitVec 32 := Scalar.shrsi v1629 c7_i32_519
  let c3_i32_521 : BitVec 32 := 3#32
  let v1632 : BitVec 32 := Scalar.shrsi v1630 c3_i32_521
  let c3_i32_522 : BitVec 32 := 3#32
  let v1633 : BitVec 32 := Scalar.shli v1632 c3_i32_522
  let v1634 : Index := Scalar.indexCast v1633
  let c0_524 : Index := 0#32
  ![0, v1634.toNat, 0]

def k0_chk66 (v1629 : BitVec 32) : Prop :=
  (∀ a, (k0_off133 v1629) a + S1x8x128.size a ≤ S1x240x128.size a)
theorem k0_off133_inb : ∀ (v1629 : BitVec 32) (k0_hw66 : k0_chk66 v1629), ∀ a, (k0_off133 v1629) a + S1x8x128.size a ≤ S1x240x128.size a := fun v1629 k0_hw66 => k0_hw66

def k0_off134 (i : grid0.Coords) : Fin 2 → Nat :=
  let arg0 : BitVec 32 := BitVec.ofNat 32 (i 0).val
  let v1653 : Index := Scalar.indexCast arg0
  let c66 : Index := 66#32
  ![v1653.toNat, 66]
def k0_off135 (v1654 : BitVec 32) : Fin 3 → Nat :=
  let c0_531 : Index := 0#32
  let c7_i32_527 : BitVec 32 := 7#32
  let v1655 : BitVec 32 := Scalar.shrsi v1654 c7_i32_527
  let c3_i32_529 : BitVec 32 := 3#32
  let v1657 : BitVec 32 := Scalar.shrsi v1655 c3_i32_529
  let c3_i32_530 : BitVec 32 := 3#32
  let v1658 : BitVec 32 := Scalar.shli v1657 c3_i32_530
  let v1659 : Index := Scalar.indexCast v1658
  let c0_532 : Index := 0#32
  ![0, v1659.toNat, 0]

def k0_chk67 (v1654 : BitVec 32) : Prop :=
  (∀ a, (k0_off135 v1654) a + S1x8x128.size a ≤ S1x240x128.size a)
theorem k0_off135_inb : ∀ (v1654 : BitVec 32) (k0_hw67 : k0_chk67 v1654), ∀ a, (k0_off135 v1654) a + S1x8x128.size a ≤ S1x240x128.size a := fun v1654 k0_hw67 => k0_hw67

def k0_off136 (i : grid0.Coords) : Fin 2 → Nat :=
  let arg0 : BitVec 32 := BitVec.ofNat 32 (i 0).val
  let v1678 : Index := Scalar.indexCast arg0
  let c67 : Index := 67#32
  ![v1678.toNat, 67]
def k0_off137 (v1679 : BitVec 32) : Fin 3 → Nat :=
  let c0_539 : Index := 0#32
  let c7_i32_535 : BitVec 32 := 7#32
  let v1680 : BitVec 32 := Scalar.shrsi v1679 c7_i32_535
  let c3_i32_537 : BitVec 32 := 3#32
  let v1682 : BitVec 32 := Scalar.shrsi v1680 c3_i32_537
  let c3_i32_538 : BitVec 32 := 3#32
  let v1683 : BitVec 32 := Scalar.shli v1682 c3_i32_538
  let v1684 : Index := Scalar.indexCast v1683
  let c0_540 : Index := 0#32
  ![0, v1684.toNat, 0]

def k0_chk68 (v1679 : BitVec 32) : Prop :=
  (∀ a, (k0_off137 v1679) a + S1x8x128.size a ≤ S1x240x128.size a)
theorem k0_off137_inb : ∀ (v1679 : BitVec 32) (k0_hw68 : k0_chk68 v1679), ∀ a, (k0_off137 v1679) a + S1x8x128.size a ≤ S1x240x128.size a := fun v1679 k0_hw68 => k0_hw68

def k0_off138 (i : grid0.Coords) : Fin 2 → Nat :=
  let arg0 : BitVec 32 := BitVec.ofNat 32 (i 0).val
  let v1703 : Index := Scalar.indexCast arg0
  let c68 : Index := 68#32
  ![v1703.toNat, 68]
def k0_off139 (v1704 : BitVec 32) : Fin 3 → Nat :=
  let c0_547 : Index := 0#32
  let c7_i32_543 : BitVec 32 := 7#32
  let v1705 : BitVec 32 := Scalar.shrsi v1704 c7_i32_543
  let c3_i32_545 : BitVec 32 := 3#32
  let v1707 : BitVec 32 := Scalar.shrsi v1705 c3_i32_545
  let c3_i32_546 : BitVec 32 := 3#32
  let v1708 : BitVec 32 := Scalar.shli v1707 c3_i32_546
  let v1709 : Index := Scalar.indexCast v1708
  let c0_548 : Index := 0#32
  ![0, v1709.toNat, 0]

def k0_chk69 (v1704 : BitVec 32) : Prop :=
  (∀ a, (k0_off139 v1704) a + S1x8x128.size a ≤ S1x240x128.size a)
theorem k0_off139_inb : ∀ (v1704 : BitVec 32) (k0_hw69 : k0_chk69 v1704), ∀ a, (k0_off139 v1704) a + S1x8x128.size a ≤ S1x240x128.size a := fun v1704 k0_hw69 => k0_hw69

def k0_off140 (i : grid0.Coords) : Fin 2 → Nat :=
  let arg0 : BitVec 32 := BitVec.ofNat 32 (i 0).val
  let v1728 : Index := Scalar.indexCast arg0
  let c69 : Index := 69#32
  ![v1728.toNat, 69]
def k0_off141 (v1729 : BitVec 32) : Fin 3 → Nat :=
  let c0_555 : Index := 0#32
  let c7_i32_551 : BitVec 32 := 7#32
  let v1730 : BitVec 32 := Scalar.shrsi v1729 c7_i32_551
  let c3_i32_553 : BitVec 32 := 3#32
  let v1732 : BitVec 32 := Scalar.shrsi v1730 c3_i32_553
  let c3_i32_554 : BitVec 32 := 3#32
  let v1733 : BitVec 32 := Scalar.shli v1732 c3_i32_554
  let v1734 : Index := Scalar.indexCast v1733
  let c0_556 : Index := 0#32
  ![0, v1734.toNat, 0]

def k0_chk70 (v1729 : BitVec 32) : Prop :=
  (∀ a, (k0_off141 v1729) a + S1x8x128.size a ≤ S1x240x128.size a)
theorem k0_off141_inb : ∀ (v1729 : BitVec 32) (k0_hw70 : k0_chk70 v1729), ∀ a, (k0_off141 v1729) a + S1x8x128.size a ≤ S1x240x128.size a := fun v1729 k0_hw70 => k0_hw70

def k0_off142 (i : grid0.Coords) : Fin 2 → Nat :=
  let arg0 : BitVec 32 := BitVec.ofNat 32 (i 0).val
  let v1753 : Index := Scalar.indexCast arg0
  let c70 : Index := 70#32
  ![v1753.toNat, 70]
def k0_off143 (v1754 : BitVec 32) : Fin 3 → Nat :=
  let c0_563 : Index := 0#32
  let c7_i32_559 : BitVec 32 := 7#32
  let v1755 : BitVec 32 := Scalar.shrsi v1754 c7_i32_559
  let c3_i32_561 : BitVec 32 := 3#32
  let v1757 : BitVec 32 := Scalar.shrsi v1755 c3_i32_561
  let c3_i32_562 : BitVec 32 := 3#32
  let v1758 : BitVec 32 := Scalar.shli v1757 c3_i32_562
  let v1759 : Index := Scalar.indexCast v1758
  let c0_564 : Index := 0#32
  ![0, v1759.toNat, 0]

def k0_chk71 (v1754 : BitVec 32) : Prop :=
  (∀ a, (k0_off143 v1754) a + S1x8x128.size a ≤ S1x240x128.size a)
theorem k0_off143_inb : ∀ (v1754 : BitVec 32) (k0_hw71 : k0_chk71 v1754), ∀ a, (k0_off143 v1754) a + S1x8x128.size a ≤ S1x240x128.size a := fun v1754 k0_hw71 => k0_hw71

def k0_off144 (i : grid0.Coords) : Fin 2 → Nat :=
  let arg0 : BitVec 32 := BitVec.ofNat 32 (i 0).val
  let v1778 : Index := Scalar.indexCast arg0
  let c71 : Index := 71#32
  ![v1778.toNat, 71]
def k0_off145 (v1779 : BitVec 32) : Fin 3 → Nat :=
  let c0_571 : Index := 0#32
  let c7_i32_567 : BitVec 32 := 7#32
  let v1780 : BitVec 32 := Scalar.shrsi v1779 c7_i32_567
  let c3_i32_569 : BitVec 32 := 3#32
  let v1782 : BitVec 32 := Scalar.shrsi v1780 c3_i32_569
  let c3_i32_570 : BitVec 32 := 3#32
  let v1783 : BitVec 32 := Scalar.shli v1782 c3_i32_570
  let v1784 : Index := Scalar.indexCast v1783
  let c0_572 : Index := 0#32
  ![0, v1784.toNat, 0]

def k0_chk72 (v1779 : BitVec 32) : Prop :=
  (∀ a, (k0_off145 v1779) a + S1x8x128.size a ≤ S1x240x128.size a)
theorem k0_off145_inb : ∀ (v1779 : BitVec 32) (k0_hw72 : k0_chk72 v1779), ∀ a, (k0_off145 v1779) a + S1x8x128.size a ≤ S1x240x128.size a := fun v1779 k0_hw72 => k0_hw72

def k0_off146 (i : grid0.Coords) : Fin 2 → Nat :=
  let arg0 : BitVec 32 := BitVec.ofNat 32 (i 0).val
  let v1803 : Index := Scalar.indexCast arg0
  let c72 : Index := 72#32
  ![v1803.toNat, 72]
def k0_off147 (v1804 : BitVec 32) : Fin 3 → Nat :=
  let c0_579 : Index := 0#32
  let c7_i32_575 : BitVec 32 := 7#32
  let v1805 : BitVec 32 := Scalar.shrsi v1804 c7_i32_575
  let c3_i32_577 : BitVec 32 := 3#32
  let v1807 : BitVec 32 := Scalar.shrsi v1805 c3_i32_577
  let c3_i32_578 : BitVec 32 := 3#32
  let v1808 : BitVec 32 := Scalar.shli v1807 c3_i32_578
  let v1809 : Index := Scalar.indexCast v1808
  let c0_580 : Index := 0#32
  ![0, v1809.toNat, 0]

def k0_chk73 (v1804 : BitVec 32) : Prop :=
  (∀ a, (k0_off147 v1804) a + S1x8x128.size a ≤ S1x240x128.size a)
theorem k0_off147_inb : ∀ (v1804 : BitVec 32) (k0_hw73 : k0_chk73 v1804), ∀ a, (k0_off147 v1804) a + S1x8x128.size a ≤ S1x240x128.size a := fun v1804 k0_hw73 => k0_hw73

def k0_off148 (i : grid0.Coords) : Fin 2 → Nat :=
  let arg0 : BitVec 32 := BitVec.ofNat 32 (i 0).val
  let v1828 : Index := Scalar.indexCast arg0
  let c73 : Index := 73#32
  ![v1828.toNat, 73]
def k0_off149 (v1829 : BitVec 32) : Fin 3 → Nat :=
  let c0_587 : Index := 0#32
  let c7_i32_583 : BitVec 32 := 7#32
  let v1830 : BitVec 32 := Scalar.shrsi v1829 c7_i32_583
  let c3_i32_585 : BitVec 32 := 3#32
  let v1832 : BitVec 32 := Scalar.shrsi v1830 c3_i32_585
  let c3_i32_586 : BitVec 32 := 3#32
  let v1833 : BitVec 32 := Scalar.shli v1832 c3_i32_586
  let v1834 : Index := Scalar.indexCast v1833
  let c0_588 : Index := 0#32
  ![0, v1834.toNat, 0]

def k0_chk74 (v1829 : BitVec 32) : Prop :=
  (∀ a, (k0_off149 v1829) a + S1x8x128.size a ≤ S1x240x128.size a)
theorem k0_off149_inb : ∀ (v1829 : BitVec 32) (k0_hw74 : k0_chk74 v1829), ∀ a, (k0_off149 v1829) a + S1x8x128.size a ≤ S1x240x128.size a := fun v1829 k0_hw74 => k0_hw74

def k0_off150 (i : grid0.Coords) : Fin 2 → Nat :=
  let arg0 : BitVec 32 := BitVec.ofNat 32 (i 0).val
  let v1853 : Index := Scalar.indexCast arg0
  let c74 : Index := 74#32
  ![v1853.toNat, 74]
def k0_off151 (v1854 : BitVec 32) : Fin 3 → Nat :=
  let c0_595 : Index := 0#32
  let c7_i32_591 : BitVec 32 := 7#32
  let v1855 : BitVec 32 := Scalar.shrsi v1854 c7_i32_591
  let c3_i32_593 : BitVec 32 := 3#32
  let v1857 : BitVec 32 := Scalar.shrsi v1855 c3_i32_593
  let c3_i32_594 : BitVec 32 := 3#32
  let v1858 : BitVec 32 := Scalar.shli v1857 c3_i32_594
  let v1859 : Index := Scalar.indexCast v1858
  let c0_596 : Index := 0#32
  ![0, v1859.toNat, 0]

def k0_chk75 (v1854 : BitVec 32) : Prop :=
  (∀ a, (k0_off151 v1854) a + S1x8x128.size a ≤ S1x240x128.size a)
theorem k0_off151_inb : ∀ (v1854 : BitVec 32) (k0_hw75 : k0_chk75 v1854), ∀ a, (k0_off151 v1854) a + S1x8x128.size a ≤ S1x240x128.size a := fun v1854 k0_hw75 => k0_hw75

def k0_off152 (i : grid0.Coords) : Fin 2 → Nat :=
  let arg0 : BitVec 32 := BitVec.ofNat 32 (i 0).val
  let v1878 : Index := Scalar.indexCast arg0
  let c75 : Index := 75#32
  ![v1878.toNat, 75]
def k0_off153 (v1879 : BitVec 32) : Fin 3 → Nat :=
  let c0_603 : Index := 0#32
  let c7_i32_599 : BitVec 32 := 7#32
  let v1880 : BitVec 32 := Scalar.shrsi v1879 c7_i32_599
  let c3_i32_601 : BitVec 32 := 3#32
  let v1882 : BitVec 32 := Scalar.shrsi v1880 c3_i32_601
  let c3_i32_602 : BitVec 32 := 3#32
  let v1883 : BitVec 32 := Scalar.shli v1882 c3_i32_602
  let v1884 : Index := Scalar.indexCast v1883
  let c0_604 : Index := 0#32
  ![0, v1884.toNat, 0]

def k0_chk76 (v1879 : BitVec 32) : Prop :=
  (∀ a, (k0_off153 v1879) a + S1x8x128.size a ≤ S1x240x128.size a)
theorem k0_off153_inb : ∀ (v1879 : BitVec 32) (k0_hw76 : k0_chk76 v1879), ∀ a, (k0_off153 v1879) a + S1x8x128.size a ≤ S1x240x128.size a := fun v1879 k0_hw76 => k0_hw76

def k0_off154 (i : grid0.Coords) : Fin 2 → Nat :=
  let arg0 : BitVec 32 := BitVec.ofNat 32 (i 0).val
  let v1903 : Index := Scalar.indexCast arg0
  let c76 : Index := 76#32
  ![v1903.toNat, 76]
def k0_off155 (v1904 : BitVec 32) : Fin 3 → Nat :=
  let c0_611 : Index := 0#32
  let c7_i32_607 : BitVec 32 := 7#32
  let v1905 : BitVec 32 := Scalar.shrsi v1904 c7_i32_607
  let c3_i32_609 : BitVec 32 := 3#32
  let v1907 : BitVec 32 := Scalar.shrsi v1905 c3_i32_609
  let c3_i32_610 : BitVec 32 := 3#32
  let v1908 : BitVec 32 := Scalar.shli v1907 c3_i32_610
  let v1909 : Index := Scalar.indexCast v1908
  let c0_612 : Index := 0#32
  ![0, v1909.toNat, 0]

def k0_chk77 (v1904 : BitVec 32) : Prop :=
  (∀ a, (k0_off155 v1904) a + S1x8x128.size a ≤ S1x240x128.size a)
theorem k0_off155_inb : ∀ (v1904 : BitVec 32) (k0_hw77 : k0_chk77 v1904), ∀ a, (k0_off155 v1904) a + S1x8x128.size a ≤ S1x240x128.size a := fun v1904 k0_hw77 => k0_hw77

def k0_off156 (i : grid0.Coords) : Fin 2 → Nat :=
  let arg0 : BitVec 32 := BitVec.ofNat 32 (i 0).val
  let v1928 : Index := Scalar.indexCast arg0
  let c77 : Index := 77#32
  ![v1928.toNat, 77]
def k0_off157 (v1929 : BitVec 32) : Fin 3 → Nat :=
  let c0_619 : Index := 0#32
  let c7_i32_615 : BitVec 32 := 7#32
  let v1930 : BitVec 32 := Scalar.shrsi v1929 c7_i32_615
  let c3_i32_617 : BitVec 32 := 3#32
  let v1932 : BitVec 32 := Scalar.shrsi v1930 c3_i32_617
  let c3_i32_618 : BitVec 32 := 3#32
  let v1933 : BitVec 32 := Scalar.shli v1932 c3_i32_618
  let v1934 : Index := Scalar.indexCast v1933
  let c0_620 : Index := 0#32
  ![0, v1934.toNat, 0]

def k0_chk78 (v1929 : BitVec 32) : Prop :=
  (∀ a, (k0_off157 v1929) a + S1x8x128.size a ≤ S1x240x128.size a)
theorem k0_off157_inb : ∀ (v1929 : BitVec 32) (k0_hw78 : k0_chk78 v1929), ∀ a, (k0_off157 v1929) a + S1x8x128.size a ≤ S1x240x128.size a := fun v1929 k0_hw78 => k0_hw78

def k0_off158 (i : grid0.Coords) : Fin 2 → Nat :=
  let arg0 : BitVec 32 := BitVec.ofNat 32 (i 0).val
  let v1953 : Index := Scalar.indexCast arg0
  let c78 : Index := 78#32
  ![v1953.toNat, 78]
def k0_off159 (v1954 : BitVec 32) : Fin 3 → Nat :=
  let c0_627 : Index := 0#32
  let c7_i32_623 : BitVec 32 := 7#32
  let v1955 : BitVec 32 := Scalar.shrsi v1954 c7_i32_623
  let c3_i32_625 : BitVec 32 := 3#32
  let v1957 : BitVec 32 := Scalar.shrsi v1955 c3_i32_625
  let c3_i32_626 : BitVec 32 := 3#32
  let v1958 : BitVec 32 := Scalar.shli v1957 c3_i32_626
  let v1959 : Index := Scalar.indexCast v1958
  let c0_628 : Index := 0#32
  ![0, v1959.toNat, 0]

def k0_chk79 (v1954 : BitVec 32) : Prop :=
  (∀ a, (k0_off159 v1954) a + S1x8x128.size a ≤ S1x240x128.size a)
theorem k0_off159_inb : ∀ (v1954 : BitVec 32) (k0_hw79 : k0_chk79 v1954), ∀ a, (k0_off159 v1954) a + S1x8x128.size a ≤ S1x240x128.size a := fun v1954 k0_hw79 => k0_hw79

def k0_off160 (i : grid0.Coords) : Fin 2 → Nat :=
  let arg0 : BitVec 32 := BitVec.ofNat 32 (i 0).val
  let v1978 : Index := Scalar.indexCast arg0
  let c79 : Index := 79#32
  ![v1978.toNat, 79]
def k0_off161 (v1979 : BitVec 32) : Fin 3 → Nat :=
  let c0_635 : Index := 0#32
  let c7_i32_631 : BitVec 32 := 7#32
  let v1980 : BitVec 32 := Scalar.shrsi v1979 c7_i32_631
  let c3_i32_633 : BitVec 32 := 3#32
  let v1982 : BitVec 32 := Scalar.shrsi v1980 c3_i32_633
  let c3_i32_634 : BitVec 32 := 3#32
  let v1983 : BitVec 32 := Scalar.shli v1982 c3_i32_634
  let v1984 : Index := Scalar.indexCast v1983
  let c0_636 : Index := 0#32
  ![0, v1984.toNat, 0]

def k0_chk80 (v1979 : BitVec 32) : Prop :=
  (∀ a, (k0_off161 v1979) a + S1x8x128.size a ≤ S1x240x128.size a)
theorem k0_off161_inb : ∀ (v1979 : BitVec 32) (k0_hw80 : k0_chk80 v1979), ∀ a, (k0_off161 v1979) a + S1x8x128.size a ≤ S1x240x128.size a := fun v1979 k0_hw80 => k0_hw80

def k0_off162 (i : grid0.Coords) : Fin 2 → Nat :=
  let arg0 : BitVec 32 := BitVec.ofNat 32 (i 0).val
  let v2003 : Index := Scalar.indexCast arg0
  let c80 : Index := 80#32
  ![v2003.toNat, 80]
def k0_off163 (v2004 : BitVec 32) : Fin 3 → Nat :=
  let c0_643 : Index := 0#32
  let c7_i32_639 : BitVec 32 := 7#32
  let v2005 : BitVec 32 := Scalar.shrsi v2004 c7_i32_639
  let c3_i32_641 : BitVec 32 := 3#32
  let v2007 : BitVec 32 := Scalar.shrsi v2005 c3_i32_641
  let c3_i32_642 : BitVec 32 := 3#32
  let v2008 : BitVec 32 := Scalar.shli v2007 c3_i32_642
  let v2009 : Index := Scalar.indexCast v2008
  let c0_644 : Index := 0#32
  ![0, v2009.toNat, 0]

def k0_chk81 (v2004 : BitVec 32) : Prop :=
  (∀ a, (k0_off163 v2004) a + S1x8x128.size a ≤ S1x240x128.size a)
theorem k0_off163_inb : ∀ (v2004 : BitVec 32) (k0_hw81 : k0_chk81 v2004), ∀ a, (k0_off163 v2004) a + S1x8x128.size a ≤ S1x240x128.size a := fun v2004 k0_hw81 => k0_hw81

def k0_off164 (i : grid0.Coords) : Fin 2 → Nat :=
  let arg0 : BitVec 32 := BitVec.ofNat 32 (i 0).val
  let v2028 : Index := Scalar.indexCast arg0
  let c81 : Index := 81#32
  ![v2028.toNat, 81]
def k0_off165 (v2029 : BitVec 32) : Fin 3 → Nat :=
  let c0_651 : Index := 0#32
  let c7_i32_647 : BitVec 32 := 7#32
  let v2030 : BitVec 32 := Scalar.shrsi v2029 c7_i32_647
  let c3_i32_649 : BitVec 32 := 3#32
  let v2032 : BitVec 32 := Scalar.shrsi v2030 c3_i32_649
  let c3_i32_650 : BitVec 32 := 3#32
  let v2033 : BitVec 32 := Scalar.shli v2032 c3_i32_650
  let v2034 : Index := Scalar.indexCast v2033
  let c0_652 : Index := 0#32
  ![0, v2034.toNat, 0]

def k0_chk82 (v2029 : BitVec 32) : Prop :=
  (∀ a, (k0_off165 v2029) a + S1x8x128.size a ≤ S1x240x128.size a)
theorem k0_off165_inb : ∀ (v2029 : BitVec 32) (k0_hw82 : k0_chk82 v2029), ∀ a, (k0_off165 v2029) a + S1x8x128.size a ≤ S1x240x128.size a := fun v2029 k0_hw82 => k0_hw82

def k0_off166 (i : grid0.Coords) : Fin 2 → Nat :=
  let arg0 : BitVec 32 := BitVec.ofNat 32 (i 0).val
  let v2053 : Index := Scalar.indexCast arg0
  let c82 : Index := 82#32
  ![v2053.toNat, 82]
def k0_off167 (v2054 : BitVec 32) : Fin 3 → Nat :=
  let c0_659 : Index := 0#32
  let c7_i32_655 : BitVec 32 := 7#32
  let v2055 : BitVec 32 := Scalar.shrsi v2054 c7_i32_655
  let c3_i32_657 : BitVec 32 := 3#32
  let v2057 : BitVec 32 := Scalar.shrsi v2055 c3_i32_657
  let c3_i32_658 : BitVec 32 := 3#32
  let v2058 : BitVec 32 := Scalar.shli v2057 c3_i32_658
  let v2059 : Index := Scalar.indexCast v2058
  let c0_660 : Index := 0#32
  ![0, v2059.toNat, 0]

def k0_chk83 (v2054 : BitVec 32) : Prop :=
  (∀ a, (k0_off167 v2054) a + S1x8x128.size a ≤ S1x240x128.size a)
theorem k0_off167_inb : ∀ (v2054 : BitVec 32) (k0_hw83 : k0_chk83 v2054), ∀ a, (k0_off167 v2054) a + S1x8x128.size a ≤ S1x240x128.size a := fun v2054 k0_hw83 => k0_hw83

def k0_off168 (i : grid0.Coords) : Fin 2 → Nat :=
  let arg0 : BitVec 32 := BitVec.ofNat 32 (i 0).val
  let v2078 : Index := Scalar.indexCast arg0
  let c83 : Index := 83#32
  ![v2078.toNat, 83]
def k0_off169 (v2079 : BitVec 32) : Fin 3 → Nat :=
  let c0_667 : Index := 0#32
  let c7_i32_663 : BitVec 32 := 7#32
  let v2080 : BitVec 32 := Scalar.shrsi v2079 c7_i32_663
  let c3_i32_665 : BitVec 32 := 3#32
  let v2082 : BitVec 32 := Scalar.shrsi v2080 c3_i32_665
  let c3_i32_666 : BitVec 32 := 3#32
  let v2083 : BitVec 32 := Scalar.shli v2082 c3_i32_666
  let v2084 : Index := Scalar.indexCast v2083
  let c0_668 : Index := 0#32
  ![0, v2084.toNat, 0]

def k0_chk84 (v2079 : BitVec 32) : Prop :=
  (∀ a, (k0_off169 v2079) a + S1x8x128.size a ≤ S1x240x128.size a)
theorem k0_off169_inb : ∀ (v2079 : BitVec 32) (k0_hw84 : k0_chk84 v2079), ∀ a, (k0_off169 v2079) a + S1x8x128.size a ≤ S1x240x128.size a := fun v2079 k0_hw84 => k0_hw84

def k0_off170 (i : grid0.Coords) : Fin 2 → Nat :=
  let arg0 : BitVec 32 := BitVec.ofNat 32 (i 0).val
  let v2103 : Index := Scalar.indexCast arg0
  let c84 : Index := 84#32
  ![v2103.toNat, 84]
def k0_off171 (v2104 : BitVec 32) : Fin 3 → Nat :=
  let c0_675 : Index := 0#32
  let c7_i32_671 : BitVec 32 := 7#32
  let v2105 : BitVec 32 := Scalar.shrsi v2104 c7_i32_671
  let c3_i32_673 : BitVec 32 := 3#32
  let v2107 : BitVec 32 := Scalar.shrsi v2105 c3_i32_673
  let c3_i32_674 : BitVec 32 := 3#32
  let v2108 : BitVec 32 := Scalar.shli v2107 c3_i32_674
  let v2109 : Index := Scalar.indexCast v2108
  let c0_676 : Index := 0#32
  ![0, v2109.toNat, 0]

def k0_chk85 (v2104 : BitVec 32) : Prop :=
  (∀ a, (k0_off171 v2104) a + S1x8x128.size a ≤ S1x240x128.size a)
theorem k0_off171_inb : ∀ (v2104 : BitVec 32) (k0_hw85 : k0_chk85 v2104), ∀ a, (k0_off171 v2104) a + S1x8x128.size a ≤ S1x240x128.size a := fun v2104 k0_hw85 => k0_hw85

def k0_off172 (i : grid0.Coords) : Fin 2 → Nat :=
  let arg0 : BitVec 32 := BitVec.ofNat 32 (i 0).val
  let v2128 : Index := Scalar.indexCast arg0
  let c85 : Index := 85#32
  ![v2128.toNat, 85]
def k0_off173 (v2129 : BitVec 32) : Fin 3 → Nat :=
  let c0_683 : Index := 0#32
  let c7_i32_679 : BitVec 32 := 7#32
  let v2130 : BitVec 32 := Scalar.shrsi v2129 c7_i32_679
  let c3_i32_681 : BitVec 32 := 3#32
  let v2132 : BitVec 32 := Scalar.shrsi v2130 c3_i32_681
  let c3_i32_682 : BitVec 32 := 3#32
  let v2133 : BitVec 32 := Scalar.shli v2132 c3_i32_682
  let v2134 : Index := Scalar.indexCast v2133
  let c0_684 : Index := 0#32
  ![0, v2134.toNat, 0]

def k0_chk86 (v2129 : BitVec 32) : Prop :=
  (∀ a, (k0_off173 v2129) a + S1x8x128.size a ≤ S1x240x128.size a)
theorem k0_off173_inb : ∀ (v2129 : BitVec 32) (k0_hw86 : k0_chk86 v2129), ∀ a, (k0_off173 v2129) a + S1x8x128.size a ≤ S1x240x128.size a := fun v2129 k0_hw86 => k0_hw86

def k0_off174 (i : grid0.Coords) : Fin 2 → Nat :=
  let arg0 : BitVec 32 := BitVec.ofNat 32 (i 0).val
  let v2153 : Index := Scalar.indexCast arg0
  let c86 : Index := 86#32
  ![v2153.toNat, 86]
def k0_off175 (v2154 : BitVec 32) : Fin 3 → Nat :=
  let c0_691 : Index := 0#32
  let c7_i32_687 : BitVec 32 := 7#32
  let v2155 : BitVec 32 := Scalar.shrsi v2154 c7_i32_687
  let c3_i32_689 : BitVec 32 := 3#32
  let v2157 : BitVec 32 := Scalar.shrsi v2155 c3_i32_689
  let c3_i32_690 : BitVec 32 := 3#32
  let v2158 : BitVec 32 := Scalar.shli v2157 c3_i32_690
  let v2159 : Index := Scalar.indexCast v2158
  let c0_692 : Index := 0#32
  ![0, v2159.toNat, 0]

def k0_chk87 (v2154 : BitVec 32) : Prop :=
  (∀ a, (k0_off175 v2154) a + S1x8x128.size a ≤ S1x240x128.size a)
theorem k0_off175_inb : ∀ (v2154 : BitVec 32) (k0_hw87 : k0_chk87 v2154), ∀ a, (k0_off175 v2154) a + S1x8x128.size a ≤ S1x240x128.size a := fun v2154 k0_hw87 => k0_hw87

def k0_off176 (i : grid0.Coords) : Fin 2 → Nat :=
  let arg0 : BitVec 32 := BitVec.ofNat 32 (i 0).val
  let v2178 : Index := Scalar.indexCast arg0
  let c87 : Index := 87#32
  ![v2178.toNat, 87]
def k0_off177 (v2179 : BitVec 32) : Fin 3 → Nat :=
  let c0_699 : Index := 0#32
  let c7_i32_695 : BitVec 32 := 7#32
  let v2180 : BitVec 32 := Scalar.shrsi v2179 c7_i32_695
  let c3_i32_697 : BitVec 32 := 3#32
  let v2182 : BitVec 32 := Scalar.shrsi v2180 c3_i32_697
  let c3_i32_698 : BitVec 32 := 3#32
  let v2183 : BitVec 32 := Scalar.shli v2182 c3_i32_698
  let v2184 : Index := Scalar.indexCast v2183
  let c0_700 : Index := 0#32
  ![0, v2184.toNat, 0]

def k0_chk88 (v2179 : BitVec 32) : Prop :=
  (∀ a, (k0_off177 v2179) a + S1x8x128.size a ≤ S1x240x128.size a)
theorem k0_off177_inb : ∀ (v2179 : BitVec 32) (k0_hw88 : k0_chk88 v2179), ∀ a, (k0_off177 v2179) a + S1x8x128.size a ≤ S1x240x128.size a := fun v2179 k0_hw88 => k0_hw88

def k0_off178 (i : grid0.Coords) : Fin 2 → Nat :=
  let arg0 : BitVec 32 := BitVec.ofNat 32 (i 0).val
  let v2203 : Index := Scalar.indexCast arg0
  let c88 : Index := 88#32
  ![v2203.toNat, 88]
def k0_off179 (v2204 : BitVec 32) : Fin 3 → Nat :=
  let c0_707 : Index := 0#32
  let c7_i32_703 : BitVec 32 := 7#32
  let v2205 : BitVec 32 := Scalar.shrsi v2204 c7_i32_703
  let c3_i32_705 : BitVec 32 := 3#32
  let v2207 : BitVec 32 := Scalar.shrsi v2205 c3_i32_705
  let c3_i32_706 : BitVec 32 := 3#32
  let v2208 : BitVec 32 := Scalar.shli v2207 c3_i32_706
  let v2209 : Index := Scalar.indexCast v2208
  let c0_708 : Index := 0#32
  ![0, v2209.toNat, 0]

def k0_chk89 (v2204 : BitVec 32) : Prop :=
  (∀ a, (k0_off179 v2204) a + S1x8x128.size a ≤ S1x240x128.size a)
theorem k0_off179_inb : ∀ (v2204 : BitVec 32) (k0_hw89 : k0_chk89 v2204), ∀ a, (k0_off179 v2204) a + S1x8x128.size a ≤ S1x240x128.size a := fun v2204 k0_hw89 => k0_hw89

def k0_off180 (i : grid0.Coords) : Fin 2 → Nat :=
  let arg0 : BitVec 32 := BitVec.ofNat 32 (i 0).val
  let v2228 : Index := Scalar.indexCast arg0
  let c89 : Index := 89#32
  ![v2228.toNat, 89]
def k0_off181 (v2229 : BitVec 32) : Fin 3 → Nat :=
  let c0_715 : Index := 0#32
  let c7_i32_711 : BitVec 32 := 7#32
  let v2230 : BitVec 32 := Scalar.shrsi v2229 c7_i32_711
  let c3_i32_713 : BitVec 32 := 3#32
  let v2232 : BitVec 32 := Scalar.shrsi v2230 c3_i32_713
  let c3_i32_714 : BitVec 32 := 3#32
  let v2233 : BitVec 32 := Scalar.shli v2232 c3_i32_714
  let v2234 : Index := Scalar.indexCast v2233
  let c0_716 : Index := 0#32
  ![0, v2234.toNat, 0]

def k0_chk90 (v2229 : BitVec 32) : Prop :=
  (∀ a, (k0_off181 v2229) a + S1x8x128.size a ≤ S1x240x128.size a)
theorem k0_off181_inb : ∀ (v2229 : BitVec 32) (k0_hw90 : k0_chk90 v2229), ∀ a, (k0_off181 v2229) a + S1x8x128.size a ≤ S1x240x128.size a := fun v2229 k0_hw90 => k0_hw90

def k0_off182 (i : grid0.Coords) : Fin 2 → Nat :=
  let arg0 : BitVec 32 := BitVec.ofNat 32 (i 0).val
  let v2253 : Index := Scalar.indexCast arg0
  let c90 : Index := 90#32
  ![v2253.toNat, 90]
def k0_off183 (v2254 : BitVec 32) : Fin 3 → Nat :=
  let c0_723 : Index := 0#32
  let c7_i32_719 : BitVec 32 := 7#32
  let v2255 : BitVec 32 := Scalar.shrsi v2254 c7_i32_719
  let c3_i32_721 : BitVec 32 := 3#32
  let v2257 : BitVec 32 := Scalar.shrsi v2255 c3_i32_721
  let c3_i32_722 : BitVec 32 := 3#32
  let v2258 : BitVec 32 := Scalar.shli v2257 c3_i32_722
  let v2259 : Index := Scalar.indexCast v2258
  let c0_724 : Index := 0#32
  ![0, v2259.toNat, 0]

def k0_chk91 (v2254 : BitVec 32) : Prop :=
  (∀ a, (k0_off183 v2254) a + S1x8x128.size a ≤ S1x240x128.size a)
theorem k0_off183_inb : ∀ (v2254 : BitVec 32) (k0_hw91 : k0_chk91 v2254), ∀ a, (k0_off183 v2254) a + S1x8x128.size a ≤ S1x240x128.size a := fun v2254 k0_hw91 => k0_hw91

def k0_off184 (i : grid0.Coords) : Fin 2 → Nat :=
  let arg0 : BitVec 32 := BitVec.ofNat 32 (i 0).val
  let v2278 : Index := Scalar.indexCast arg0
  let c91 : Index := 91#32
  ![v2278.toNat, 91]
def k0_off185 (v2279 : BitVec 32) : Fin 3 → Nat :=
  let c0_731 : Index := 0#32
  let c7_i32_727 : BitVec 32 := 7#32
  let v2280 : BitVec 32 := Scalar.shrsi v2279 c7_i32_727
  let c3_i32_729 : BitVec 32 := 3#32
  let v2282 : BitVec 32 := Scalar.shrsi v2280 c3_i32_729
  let c3_i32_730 : BitVec 32 := 3#32
  let v2283 : BitVec 32 := Scalar.shli v2282 c3_i32_730
  let v2284 : Index := Scalar.indexCast v2283
  let c0_732 : Index := 0#32
  ![0, v2284.toNat, 0]

def k0_chk92 (v2279 : BitVec 32) : Prop :=
  (∀ a, (k0_off185 v2279) a + S1x8x128.size a ≤ S1x240x128.size a)
theorem k0_off185_inb : ∀ (v2279 : BitVec 32) (k0_hw92 : k0_chk92 v2279), ∀ a, (k0_off185 v2279) a + S1x8x128.size a ≤ S1x240x128.size a := fun v2279 k0_hw92 => k0_hw92

def k0_off186 (i : grid0.Coords) : Fin 2 → Nat :=
  let arg0 : BitVec 32 := BitVec.ofNat 32 (i 0).val
  let v2303 : Index := Scalar.indexCast arg0
  let c92 : Index := 92#32
  ![v2303.toNat, 92]
def k0_off187 (v2304 : BitVec 32) : Fin 3 → Nat :=
  let c0_739 : Index := 0#32
  let c7_i32_735 : BitVec 32 := 7#32
  let v2305 : BitVec 32 := Scalar.shrsi v2304 c7_i32_735
  let c3_i32_737 : BitVec 32 := 3#32
  let v2307 : BitVec 32 := Scalar.shrsi v2305 c3_i32_737
  let c3_i32_738 : BitVec 32 := 3#32
  let v2308 : BitVec 32 := Scalar.shli v2307 c3_i32_738
  let v2309 : Index := Scalar.indexCast v2308
  let c0_740 : Index := 0#32
  ![0, v2309.toNat, 0]

def k0_chk93 (v2304 : BitVec 32) : Prop :=
  (∀ a, (k0_off187 v2304) a + S1x8x128.size a ≤ S1x240x128.size a)
theorem k0_off187_inb : ∀ (v2304 : BitVec 32) (k0_hw93 : k0_chk93 v2304), ∀ a, (k0_off187 v2304) a + S1x8x128.size a ≤ S1x240x128.size a := fun v2304 k0_hw93 => k0_hw93

def k0_off188 (i : grid0.Coords) : Fin 2 → Nat :=
  let arg0 : BitVec 32 := BitVec.ofNat 32 (i 0).val
  let v2328 : Index := Scalar.indexCast arg0
  let c93 : Index := 93#32
  ![v2328.toNat, 93]
def k0_off189 (v2329 : BitVec 32) : Fin 3 → Nat :=
  let c0_747 : Index := 0#32
  let c7_i32_743 : BitVec 32 := 7#32
  let v2330 : BitVec 32 := Scalar.shrsi v2329 c7_i32_743
  let c3_i32_745 : BitVec 32 := 3#32
  let v2332 : BitVec 32 := Scalar.shrsi v2330 c3_i32_745
  let c3_i32_746 : BitVec 32 := 3#32
  let v2333 : BitVec 32 := Scalar.shli v2332 c3_i32_746
  let v2334 : Index := Scalar.indexCast v2333
  let c0_748 : Index := 0#32
  ![0, v2334.toNat, 0]

def k0_chk94 (v2329 : BitVec 32) : Prop :=
  (∀ a, (k0_off189 v2329) a + S1x8x128.size a ≤ S1x240x128.size a)
theorem k0_off189_inb : ∀ (v2329 : BitVec 32) (k0_hw94 : k0_chk94 v2329), ∀ a, (k0_off189 v2329) a + S1x8x128.size a ≤ S1x240x128.size a := fun v2329 k0_hw94 => k0_hw94

def k0_off190 (i : grid0.Coords) : Fin 2 → Nat :=
  let arg0 : BitVec 32 := BitVec.ofNat 32 (i 0).val
  let v2353 : Index := Scalar.indexCast arg0
  let c94 : Index := 94#32
  ![v2353.toNat, 94]
def k0_off191 (v2354 : BitVec 32) : Fin 3 → Nat :=
  let c0_755 : Index := 0#32
  let c7_i32_751 : BitVec 32 := 7#32
  let v2355 : BitVec 32 := Scalar.shrsi v2354 c7_i32_751
  let c3_i32_753 : BitVec 32 := 3#32
  let v2357 : BitVec 32 := Scalar.shrsi v2355 c3_i32_753
  let c3_i32_754 : BitVec 32 := 3#32
  let v2358 : BitVec 32 := Scalar.shli v2357 c3_i32_754
  let v2359 : Index := Scalar.indexCast v2358
  let c0_756 : Index := 0#32
  ![0, v2359.toNat, 0]

def k0_chk95 (v2354 : BitVec 32) : Prop :=
  (∀ a, (k0_off191 v2354) a + S1x8x128.size a ≤ S1x240x128.size a)
theorem k0_off191_inb : ∀ (v2354 : BitVec 32) (k0_hw95 : k0_chk95 v2354), ∀ a, (k0_off191 v2354) a + S1x8x128.size a ≤ S1x240x128.size a := fun v2354 k0_hw95 => k0_hw95

def k0_off192 (i : grid0.Coords) : Fin 2 → Nat :=
  let arg0 : BitVec 32 := BitVec.ofNat 32 (i 0).val
  let v2378 : Index := Scalar.indexCast arg0
  let c95 : Index := 95#32
  ![v2378.toNat, 95]
def k0_off193 (v2379 : BitVec 32) : Fin 3 → Nat :=
  let c0_763 : Index := 0#32
  let c7_i32_759 : BitVec 32 := 7#32
  let v2380 : BitVec 32 := Scalar.shrsi v2379 c7_i32_759
  let c3_i32_761 : BitVec 32 := 3#32
  let v2382 : BitVec 32 := Scalar.shrsi v2380 c3_i32_761
  let c3_i32_762 : BitVec 32 := 3#32
  let v2383 : BitVec 32 := Scalar.shli v2382 c3_i32_762
  let v2384 : Index := Scalar.indexCast v2383
  let c0_764 : Index := 0#32
  ![0, v2384.toNat, 0]

def k0_chk96 (v2379 : BitVec 32) : Prop :=
  (∀ a, (k0_off193 v2379) a + S1x8x128.size a ≤ S1x240x128.size a)
theorem k0_off193_inb : ∀ (v2379 : BitVec 32) (k0_hw96 : k0_chk96 v2379), ∀ a, (k0_off193 v2379) a + S1x8x128.size a ≤ S1x240x128.size a := fun v2379 k0_hw96 => k0_hw96

def k0_off194 (i : grid0.Coords) : Fin 2 → Nat :=
  let arg0 : BitVec 32 := BitVec.ofNat 32 (i 0).val
  let v2403 : Index := Scalar.indexCast arg0
  let c96 : Index := 96#32
  ![v2403.toNat, 96]
def k0_off195 (v2404 : BitVec 32) : Fin 3 → Nat :=
  let c0_771 : Index := 0#32
  let c7_i32_767 : BitVec 32 := 7#32
  let v2405 : BitVec 32 := Scalar.shrsi v2404 c7_i32_767
  let c3_i32_769 : BitVec 32 := 3#32
  let v2407 : BitVec 32 := Scalar.shrsi v2405 c3_i32_769
  let c3_i32_770 : BitVec 32 := 3#32
  let v2408 : BitVec 32 := Scalar.shli v2407 c3_i32_770
  let v2409 : Index := Scalar.indexCast v2408
  let c0_772 : Index := 0#32
  ![0, v2409.toNat, 0]

def k0_chk97 (v2404 : BitVec 32) : Prop :=
  (∀ a, (k0_off195 v2404) a + S1x8x128.size a ≤ S1x240x128.size a)
theorem k0_off195_inb : ∀ (v2404 : BitVec 32) (k0_hw97 : k0_chk97 v2404), ∀ a, (k0_off195 v2404) a + S1x8x128.size a ≤ S1x240x128.size a := fun v2404 k0_hw97 => k0_hw97

def k0_off196 (i : grid0.Coords) : Fin 2 → Nat :=
  let arg0 : BitVec 32 := BitVec.ofNat 32 (i 0).val
  let v2428 : Index := Scalar.indexCast arg0
  let c97 : Index := 97#32
  ![v2428.toNat, 97]
def k0_off197 (v2429 : BitVec 32) : Fin 3 → Nat :=
  let c0_779 : Index := 0#32
  let c7_i32_775 : BitVec 32 := 7#32
  let v2430 : BitVec 32 := Scalar.shrsi v2429 c7_i32_775
  let c3_i32_777 : BitVec 32 := 3#32
  let v2432 : BitVec 32 := Scalar.shrsi v2430 c3_i32_777
  let c3_i32_778 : BitVec 32 := 3#32
  let v2433 : BitVec 32 := Scalar.shli v2432 c3_i32_778
  let v2434 : Index := Scalar.indexCast v2433
  let c0_780 : Index := 0#32
  ![0, v2434.toNat, 0]

def k0_chk98 (v2429 : BitVec 32) : Prop :=
  (∀ a, (k0_off197 v2429) a + S1x8x128.size a ≤ S1x240x128.size a)
theorem k0_off197_inb : ∀ (v2429 : BitVec 32) (k0_hw98 : k0_chk98 v2429), ∀ a, (k0_off197 v2429) a + S1x8x128.size a ≤ S1x240x128.size a := fun v2429 k0_hw98 => k0_hw98

def k0_off198 (i : grid0.Coords) : Fin 2 → Nat :=
  let arg0 : BitVec 32 := BitVec.ofNat 32 (i 0).val
  let v2453 : Index := Scalar.indexCast arg0
  let c98 : Index := 98#32
  ![v2453.toNat, 98]
def k0_off199 (v2454 : BitVec 32) : Fin 3 → Nat :=
  let c0_787 : Index := 0#32
  let c7_i32_783 : BitVec 32 := 7#32
  let v2455 : BitVec 32 := Scalar.shrsi v2454 c7_i32_783
  let c3_i32_785 : BitVec 32 := 3#32
  let v2457 : BitVec 32 := Scalar.shrsi v2455 c3_i32_785
  let c3_i32_786 : BitVec 32 := 3#32
  let v2458 : BitVec 32 := Scalar.shli v2457 c3_i32_786
  let v2459 : Index := Scalar.indexCast v2458
  let c0_788 : Index := 0#32
  ![0, v2459.toNat, 0]

def k0_chk99 (v2454 : BitVec 32) : Prop :=
  (∀ a, (k0_off199 v2454) a + S1x8x128.size a ≤ S1x240x128.size a)
theorem k0_off199_inb : ∀ (v2454 : BitVec 32) (k0_hw99 : k0_chk99 v2454), ∀ a, (k0_off199 v2454) a + S1x8x128.size a ≤ S1x240x128.size a := fun v2454 k0_hw99 => k0_hw99

def k0_off200 (i : grid0.Coords) : Fin 2 → Nat :=
  let arg0 : BitVec 32 := BitVec.ofNat 32 (i 0).val
  let v2478 : Index := Scalar.indexCast arg0
  let c99 : Index := 99#32
  ![v2478.toNat, 99]
def k0_off201 (v2479 : BitVec 32) : Fin 3 → Nat :=
  let c0_795 : Index := 0#32
  let c7_i32_791 : BitVec 32 := 7#32
  let v2480 : BitVec 32 := Scalar.shrsi v2479 c7_i32_791
  let c3_i32_793 : BitVec 32 := 3#32
  let v2482 : BitVec 32 := Scalar.shrsi v2480 c3_i32_793
  let c3_i32_794 : BitVec 32 := 3#32
  let v2483 : BitVec 32 := Scalar.shli v2482 c3_i32_794
  let v2484 : Index := Scalar.indexCast v2483
  let c0_796 : Index := 0#32
  ![0, v2484.toNat, 0]

def k0_chk100 (v2479 : BitVec 32) : Prop :=
  (∀ a, (k0_off201 v2479) a + S1x8x128.size a ≤ S1x240x128.size a)
theorem k0_off201_inb : ∀ (v2479 : BitVec 32) (k0_hw100 : k0_chk100 v2479), ∀ a, (k0_off201 v2479) a + S1x8x128.size a ≤ S1x240x128.size a := fun v2479 k0_hw100 => k0_hw100

def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x240x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference2Ideal.lean ====
abbrev S64 : Shape := ⟨1, ![64]⟩
abbrev S64x100 : Shape := ⟨2, ![64, 100]⟩
abbrev S84x30000 : Shape := ⟨2, ![84, 30000]⟩
abbrev S64x1 : Shape := ⟨2, ![64, 1]⟩
abbrev S_ : Shape := ⟨0, ![]⟩
abbrev S64x100x1 : Shape := ⟨3, ![64, 100, 1]⟩
abbrev S64x100x2 : Shape := ⟨3, ![64, 100, 2]⟩

abbrev nBuf : Space → Nat
  | .hbm => 24
  | .vmem => 0
  | .smem => 0
  | _ => 0

abbrev bufTy : (tb : Table) → Fin (tcTables nBuf tb) → BufTy
  | .hbm, ⟨0, _⟩ => ⟨S64, .i32⟩
  | .hbm, ⟨1, _⟩ => ⟨S64x100, .i32⟩
  | .hbm, ⟨2, _⟩ => ⟨S84x30000, .i1⟩
  | .hbm, ⟨3, _⟩ => ⟨S64x1, .i32⟩
  | .hbm, ⟨4, _⟩ => ⟨S_, .i32⟩
  | .hbm, ⟨5, _⟩ => ⟨S64x1, .i32⟩
  | .hbm, ⟨6, _⟩ => ⟨S64x1, .i1⟩
  | .hbm, ⟨7, _⟩ => ⟨S_, .i32⟩
  | .hbm, ⟨8, _⟩ => ⟨S64x1, .i32⟩
  | .hbm, ⟨9, _⟩ => ⟨S64x1, .i32⟩
  | .hbm, ⟨10, _⟩ => ⟨S64x1, .i32⟩
  | .hbm, ⟨11, _⟩ => ⟨S_, .i32⟩
  | .hbm, ⟨12, _⟩ => ⟨S64x100, .i32⟩
  | .hbm, ⟨13, _⟩ => ⟨S64x100, .i1⟩
  | .hbm, ⟨14, _⟩ => ⟨S_, .i32⟩
  | .hbm, ⟨15, _⟩ => ⟨S64x100, .i32⟩
  | .hbm, ⟨16, _⟩ => ⟨S64x100, .i32⟩
  | .hbm, ⟨17, _⟩ => ⟨S64x100, .i32⟩
  | .hbm, ⟨18, _⟩ => ⟨S64x100, .i32⟩
  | .hbm, ⟨19, _⟩ => ⟨S64x100x1, .i32⟩
  | .hbm, ⟨20, _⟩ => ⟨S64x100x1, .i32⟩
  | .hbm, ⟨21, _⟩ => ⟨S64x100x2, .i32⟩
  | .hbm, ⟨22, _⟩ => ⟨S64x100, .i1⟩
  | .hbm, ⟨23, _⟩ => ⟨S64x100, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.KRow.lean ====
/- The gather of the kernel body: a word picks eight aligned rows of the table, which are rotated so that the row the
   word names comes to its place, and eight such groups are merged row by row into one stored block. -/
module

public import proofs.«01_k».proof.Proof.Gen.KernelIdeal.Loops
public import Idealize.ShloMosaic.Lib.WritesUnit
public import Idealize.ShloMosaic.Lib.VecWindow
public import Idealize.ShloMosaic.Lib.Pipeline.Value
public import Idealize.ShloMosaic.Lib.Pointwise.Index

@[expose] public section

set_option maxRecDepth 16384

noncomputable section

namespace Cert.KernelIdeal.Gather

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Words -/

theorem shr3 (w : BitVec 32) (h : w.toNat < 2 ^ 31) : (Scalar.shrsi w 3#32).toNat = w.toNat / 8 := by
  have e : Scalar.shrsi w 3#32 = w.sshiftRight 3 := rfl
  rw [e, BitVec.sshiftRight_eq_of_msb_false (by rw [BitVec.msb_eq_false_iff_two_mul_lt]; omega), BitVec.toNat_ushiftRight,
    Nat.shiftRight_eq_div_pow]

theorem shl3 (w : BitVec 32) (h : w.toNat < 2 ^ 28) : (Scalar.shli w 3#32).toNat = w.toNat * 8 := by
  have e : Scalar.shli w 3#32 = w <<< 3 := rfl
  rw [e, BitVec.toNat_shiftLeft, Nat.shiftLeft_eq]
  omega

theorem and7 (w : BitVec 32) : (Scalar.andi w 7#32).toNat = w.toNat % 8 := by
  have e : Scalar.andi w 7#32 = w &&& 7#32 := rfl
  rw [e, BitVec.toNat_and]
  exact Nat.and_two_pow_sub_one_eq_mod _ 3

/-- The first of the eight aligned rows a word's row lies among. -/
theorem base_toNat (w : BitVec 32) (h : w.toNat < 11322) : (Scalar.shli (Scalar.shrsi w 3#32) 3#32).toNat = w.toNat / 8 * 8 := by
  have e := shr3 w (by omega)
  rw [shl3 _ (by omega), e]

theorem off2_eq (w : BitVec 32) (h : w.toNat < 11322) : k0_off2 w = ![w.toNat / 8 * 8, 0] := by
  rw [← base_toNat w h]; rfl

/-- A word naming a row of the table passes the check the kernel body makes of it. -/
theorem chk_of (w : BitVec 32) (h : w.toNat < 11322) : k0_chk1 w := by
  refine ⟨?_, ?_⟩
  · have e : k0_mult1 w = Scalar.shli (Scalar.shrsi w 3#32) 3#32 := rfl
    rw [e, base_toNat w h]; exact Nat.dvd_mul_left _ _
  · rw [off2_eq w h]
    intro a
    fin_cases a
    · show w.toNat / 8 * 8 + 8 ≤ 11328
      omega
    · show 0 + 384 ≤ 384
      omega

/-! ## One row -/

/-- Row `q` of the rotated group of eight rows is the row the word names. -/
def rot (q w : BitVec 32) (ld : Vec F S8x384 .f32) : FVec F S8x384 .f32 :=
  dynamicRotate (s := S8x384) 0 (Scalar.subi q (Scalar.andi w 7#32)) none (shapeCast S8x384 ld shapeCasts_S8x384_S8x384) rotates_S8x384_d0

/-- The eight aligned rows a word picks. -/
def ld (arg2 : Memref sig .tc .vmem S11328x384 .f32) (X2 : BufTy.Contents (Elt F) arg2.view.ty) (w : BitVec 32) (h : k0_chk1 w) : Vec F S8x384 .f32 :=
  arg2.view.readAt (Elt F) (Rect.unit (s := S11328x384) (k0_off2 w) S8x384.size (k0_off2_inb w h)).toLoadRect X2

/-- The index of row `r`, column `c`, of the table. -/
def ixT (r : ℕ) (c : Fin 384) : S11328x384.Idx := ix2 (n0 := 11328) (n1 := 384) ⟨r % 11328, Nat.mod_lt _ (by decide)⟩ c

/-- Row `q`, column `c`, of a group of eight rows. -/
def ix8 (q : Fin 8) (c : Fin 384) : S8x384.Idx := ix2 (n0 := 8) (n1 := 384) q c

theorem rot_apply (arg2 : Memref sig .tc .vmem S11328x384 .f32) (X2 : BufTy.Contents (Elt F) arg2.view.ty) (w : BitVec 32)
    (h : k0_chk1 w) (hw : w.toNat < 11322) (q : Fin 8) (c : Fin 384) :
    rot (BitVec.ofNat 32 q.val) w (ld arg2 X2 w h) (ix8 q c) = arg2.view.read (Elt F) X2 (ixT w.toNat c) := by
  unfold rot ld
  rw [shapeCast_self]
  unfold dynamicRotate
  dsimp only
  rw [View.readAt_apply]
  congr 1
  funext a
  have hs : (Scalar.subi (BitVec.ofNat 32 q.val) (Scalar.andi w 7#32)).toNat = (2 ^ 32 - w.toNat % 8 + q.val) % 2 ^ 32 := by
    have e : Scalar.subi (BitVec.ofNat 32 q.val) (Scalar.andi w 7#32) = BitVec.ofNat 32 q.val - Scalar.andi w 7#32 := rfl
    rw [e, BitVec.toNat_sub, and7, BitVec.toNat_ofNat, Nat.mod_eq_of_lt (show q.val < 2 ^ 32 by omega)]
  apply Fin.ext
  have ho := off2_eq w hw
  fin_cases a
  · show (k0_off2 w) 0 + 1 * ((q.val + 8 - ((Scalar.subi (BitVec.ofNat 32 q.val) (Scalar.andi w 7#32)).toNat + 0) % 8) % 8) = w.toNat % 11328
    rw [hs, ho]
    show w.toNat / 8 * 8 + _ = _
    have := q.isLt
    omega
  · show (k0_off2 w) 1 + 1 * c.val = c.val
    rw [ho]
    show 0 + 1 * c.val = c.val
    omega

/-! ## Eight rows merged -/

/-- Row `q` of the merged block is row `q` of the `q`-th group. -/
def merge (v : IVec S8x384 32) (r : Fin 8 → FVec F S8x384 .f32) : FVec F S8x384 .f32 :=
  shapeCast S8x384 (select (cmpi .eq v (broadcast S8x384 7#32)) (r 7) (select (cmpi .eq v (broadcast S8x384 6#32)) (r 6)
    (select (cmpi .eq v (broadcast S8x384 5#32)) (r 5) (select (cmpi .eq v (broadcast S8x384 4#32)) (r 4)
    (select (cmpi .eq v (broadcast S8x384 3#32)) (r 3) (select (cmpi .eq v (broadcast S8x384 2#32)) (r 2)
    (select (cmpi .eq v (broadcast S8x384 1#32)) (r 1) (r 0)))))))) shapeCasts_S8x384_S8x384

/-- The row numbers of a group of eight rows. -/
abbrev rowNo : IVec S8x384 32 := iota .tc S8x384 32 [0] iota_S8x384_d0_w32

theorem rowNo_apply (q : Fin 8) (c : Fin 384) : rowNo (ix8 q c) = BitVec.ofNat 32 q.val := by
  unfold rowNo
  rw [iota_single_apply]
  rfl

theorem merge_apply (r : Fin 8 → FVec F S8x384 .f32) (q : Fin 8) (c : Fin 384) :
    merge rowNo r (ix8 q c) = r q (ix8 q c) := by
  unfold merge
  rw [shapeCast_self]
  have hb (k : BitVec 32) : broadcast S8x384 k (ix8 q c) = k := rfl
  simp only [select, cmpi, IntOp.cmpi, rowNo_apply, hb]
  fin_cases q <;> rfl

end Cert.KernelIdeal.Gather
-- ==== Proof.KGather.lean ====
/- The gather loop of the kernel body: after its eighty trips row `r` of the chunk's 5120 embedded rows is the row of the
   table that word `r` of the chunk names. -/
module

public import proofs.«01_k».proof.Proof.Gen.KernelIdeal.Loops
public import proofs.«01_k».proof.Proof.KRow
public import Idealize.ShloMosaic.Lib.WritesUnit
public import Idealize.ShloMosaic.Lib.VecWindow

@[expose] public section

set_option maxRecDepth 16384

noncomputable section

namespace Cert.KernelIdeal.Gather

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Word `r` of the chunk. -/
def word (arg1 : Memref sig .tc .smem S1x1x5120 .i32) (X1 : BufTy.Contents (Elt F) arg1.view.ty) (r : ℕ) : BitVec 32 :=
  arg1.view.read (Elt F) X1 (ix3 (n0 := 1) (n1 := 1) (n2 := 5120) 0 0 ⟨r % 5120, Nat.mod_lt _ (by decide)⟩)

/-- The word read at one place. -/
abbrev wordAt (arg1 : Memref sig .tc .smem S1x1x5120 .i32) (X1 : BufTy.Contents (Elt F) arg1.view.ty) (off : Fin 3 → ℕ)
    (inb : ∀ a : Fin S1x1x5120.rank, off a + S1x1x1.size a ≤ S1x1x5120.size a) : BitVec 32 :=
  arg1.view.readAt (Elt F) (Rect.unit (s := S1x1x5120) off S1x1x1.size inb).toLoadRect X1 (Shape.Idx.first (numel1_S1x1x1.symm ▸ Nat.one_pos))

theorem wordAt_eq (arg1 : Memref sig .tc .smem S1x1x5120 .i32) (X1 : BufTy.Contents (Elt F) arg1.view.ty) (off : Fin 3 → ℕ)
    (inb : ∀ a : Fin S1x1x5120.rank, off a + S1x1x1.size a ≤ S1x1x5120.size a) (n : ℕ) (hn : n < 5120) (h : off = ![0, 0, n]) :
    wordAt arg1 X1 off inb = word arg1 X1 n := by
  subst h
  unfold wordAt word
  rw [View.readAt_apply]
  congr 1
  funext a
  apply Fin.ext
  fin_cases a
  · rfl
  · rfl
  · exact (Nat.mod_eq_of_lt hn).symm

/-- What row `r`, column `c`, of the embedded rows is to hold. -/
def want (arg1 : Memref sig .tc .smem S1x1x5120 .i32) (arg2 : Memref sig .tc .vmem S11328x384 .f32)
    (X1 : BufTy.Contents (Elt F) arg1.view.ty) (X2 : BufTy.Contents (Elt F) arg2.view.ty) (r : ℕ) (c : Fin 384) : F .f32 :=
  arg2.view.read (Elt F) X2 (ixT (word arg1 X1 r).toNat c)

/-- One stored block of eight rows. -/
def blk (arg1 : Memref sig .tc .smem S1x1x5120 .i32) (arg2 : Memref sig .tc .vmem S11328x384 .f32)
    (X1 : BufTy.Contents (Elt F) arg1.view.ty) (X2 : BufTy.Contents (Elt F) arg2.view.ty) (off : Fin 8 → Fin 3 → ℕ)
    (inb : ∀ q, ∀ a : Fin S1x1x5120.rank, off q a + S1x1x1.size a ≤ S1x1x5120.size a)
    (h : ∀ q, k0_chk1 (wordAt arg1 X1 (off q) (inb q))) : FVec F S8x384 .f32 :=
  merge rowNo fun q => rot (BitVec.ofNat 32 q.val) (wordAt arg1 X1 (off q) (inb q)) (ld arg2 X2 (wordAt arg1 X1 (off q) (inb q)) (h q))

theorem blk_apply (arg1 : Memref sig .tc .smem S1x1x5120 .i32) (arg2 : Memref sig .tc .vmem S11328x384 .f32)
    (X1 : BufTy.Contents (Elt F) arg1.view.ty) (X2 : BufTy.Contents (Elt F) arg2.view.ty) (off : Fin 8 → Fin 3 → ℕ)
    (inb : ∀ q, ∀ a : Fin S1x1x5120.rank, off q a + S1x1x1.size a ≤ S1x1x5120.size a)
    (h : ∀ q, k0_chk1 (wordAt arg1 X1 (off q) (inb q))) (hX : ∀ r, (word arg1 X1 r).toNat < 11322) (o : ℕ) (ho : o + 8 ≤ 5120)
    (hoff : ∀ q, off q = ![0, 0, o + q.val]) (q : Fin 8) (c : Fin 384) :
    blk arg1 arg2 X1 X2 off inb h (ix8 q c) = want arg1 arg2 X1 X2 (o + q.val) c := by
  have e := wordAt_eq arg1 X1 (off q) (inb q) (o + q.val) (by have := q.isLt; omega) (hoff q)
  unfold blk want
  rw [merge_apply, rot_apply _ _ _ _ (by rw [e]; exact hX _), e]

/-- A stored block of eight rows read back. -/
theorem piece_read (arg1 : Memref sig .tc .smem S1x1x5120 .i32) (arg2 : Memref sig .tc .vmem S11328x384 .f32) (arg12 : Memref sig .tc .vmem S5120x384 .f32)
    (X1 : BufTy.Contents (Elt F) arg1.view.ty) (X2 : BufTy.Contents (Elt F) arg2.view.ty) (f : BufTy.Contents (Elt F) arg12.view.ty)
    (o : ℕ) (off : Fin 2 → ℕ) (inb : ∀ a : Fin S5120x384.rank, off a + S8x384.size a ≤ S5120x384.size a) (hoff : off = ![o, 0])
    (w : FVec F S8x384 .f32) (hw : ∀ q c, w (ix8 q c) = want arg1 arg2 X1 X2 (o + q.val) c) (L : List (View.Piece (Elt F) S5120x384 .f32)) (y : S5120x384.Idx) :
    arg12.view.read (Elt F) (arg12.view.writes (Elt F) f (⟨Rect.unit (s := S5120x384) off S8x384.size inb, w⟩ :: L)) y
      = if o ≤ (y (0 : Fin 2)).val ∧ (y (0 : Fin 2)).val < o + 8 then want arg1 arg2 X1 X2 (y (0 : Fin 2)).val (y (1 : Fin 2))
        else arg12.view.read (Elt F) (arg12.view.writes (Elt F) f L) y := by
  refine (View.read_writes_cons_rows arg12.view f inb w L y hoff rfl rfl).trans ?_
  by_cases hy : o ≤ (y (0 : Fin 2)).val ∧ (y (0 : Fin 2)).val < o + 8
  · rw [if_pos hy]
    refine (dif_pos hy).trans ?_
    have hq : (y (0 : Fin 2)).val - o < 8 := by omega
    have e := hw ⟨(y (0 : Fin 2)).val - o, hq⟩ (y (1 : Fin 2))
    rw [show o + ((y (0 : Fin 2)).val - o) = (y (0 : Fin 2)).val by omega] at e
    refine Eq.trans (congrArg w ?_) e
    funext a
    apply Fin.ext
    rw [Rect.unitLocal_val]
    fin_cases a
    · rfl
    · exact Nat.sub_zero _
  · rw [if_neg hy]
    exact dif_neg hy

/-- One trip stores the sixty-four rows its words name, and no other row. -/
theorem trip_reads (𝒱 : Variants) (c : Dev nD) (bd : Option 𝒱.V) (i : grid0.Coords) (arg1 : Memref sig .tc .smem S1x1x5120 .i32) (harg1 : arg1.IsWhole) (arg2 : Memref sig .tc .vmem S11328x384 .f32) (harg2 : arg2.IsWhole) (arg3 : Memref sig .tc .vmem S256x512 .i32) (harg3 : arg3.IsWhole) (arg4 : Memref sig .tc .vmem S256x512 .f32) (harg4 : arg4.IsWhole) (arg5 : Memref sig .tc .vmem S384x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S256x128 .f32) (harg11 : arg11.IsWhole) (arg12 : Memref sig .tc .vmem S5120x384 .f32) (harg12 : arg12.IsWhole) (arg13 : Memref sig .tc .vmem S256x512 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S256x512 .f32) (harg16 : arg16.IsWhole)  (X_arg1 : BufTy.Contents (Elt F) arg1.view.ty) (X_arg2 : BufTy.Contents (Elt F) arg2.view.ty) (k : Fin k0_t1_loop.trips) (k0_hw1 : k0_chk1 (arg1.view.readAt (Elt F) (Rect.unit (s := S1x1x5120) (k0_off1 k) S1x1x1.size (k0_off1_inb k)).toLoadRect X_arg1 (Shape.Idx.first (numel1_S1x1x1.symm ▸ Nat.one_pos)))) (k0_hw2 : k0_chk2 (arg1.view.readAt (Elt F) (Rect.unit (s := S1x1x5120) (k0_off3 k) S1x1x1.size (k0_off3_inb k)).toLoadRect X_arg1 (Shape.Idx.first (numel1_S1x1x1.symm ▸ Nat.one_pos)))) (k0_hw3 : k0_chk3 (arg1.view.readAt (Elt F) (Rect.unit (s := S1x1x5120) (k0_off5 k) S1x1x1.size (k0_off5_inb k)).toLoadRect X_arg1 (Shape.Idx.first (numel1_S1x1x1.symm ▸ Nat.one_pos)))) (k0_hw4 : k0_chk4 (arg1.view.readAt (Elt F) (Rect.unit (s := S1x1x5120) (k0_off7 k) S1x1x1.size (k0_off7_inb k)).toLoadRect X_arg1 (Shape.Idx.first (numel1_S1x1x1.symm ▸ Nat.one_pos)))) (k0_hw5 : k0_chk5 (arg1.view.readAt (Elt F) (Rect.unit (s := S1x1x5120) (k0_off9 k) S1x1x1.size (k0_off9_inb k)).toLoadRect X_arg1 (Shape.Idx.first (numel1_S1x1x1.symm ▸ Nat.one_pos)))) (k0_hw6 : k0_chk6 (arg1.view.readAt (Elt F) (Rect.unit (s := S1x1x5120) (k0_off11 k) S1x1x1.size (k0_off11_inb k)).toLoadRect X_arg1 (Shape.Idx.first (numel1_S1x1x1.symm ▸ Nat.one_pos)))) (k0_hw7 : k0_chk7 (arg1.view.readAt (Elt F) (Rect.unit (s := S1x1x5120) (k0_off13 k) S1x1x1.size (k0_off13_inb k)).toLoadRect X_arg1 (Shape.Idx.first (numel1_S1x1x1.symm ▸ Nat.one_pos)))) (k0_hw8 : k0_chk8 (arg1.view.readAt (Elt F) (Rect.unit (s := S1x1x5120) (k0_off15 k) S1x1x1.size (k0_off15_inb k)).toLoadRect X_arg1 (Shape.Idx.first (numel1_S1x1x1.symm ▸ Nat.one_pos)))) (k0_hw9 : k0_chk9 (arg1.view.readAt (Elt F) (Rect.unit (s := S1x1x5120) (k0_off18 k) S1x1x1.size (k0_off18_inb k)).toLoadRect X_arg1 (Shape.Idx.first (numel1_S1x1x1.symm ▸ Nat.one_pos)))) (k0_hw10 : k0_chk10 (arg1.view.readAt (Elt F) (Rect.unit (s := S1x1x5120) (k0_off20 k) S1x1x1.size (k0_off20_inb k)).toLoadRect X_arg1 (Shape.Idx.first (numel1_S1x1x1.symm ▸ Nat.one_pos)))) (k0_hw11 : k0_chk11 (arg1.view.readAt (Elt F) (Rect.unit (s := S1x1x5120) (k0_off22 k) S1x1x1.size (k0_off22_inb k)).toLoadRect X_arg1 (Shape.Idx.first (numel1_S1x1x1.symm ▸ Nat.one_pos)))) (k0_hw12 : k0_chk12 (arg1.view.readAt (Elt F) (Rect.unit (s := S1x1x5120) (k0_off24 k) S1x1x1.size (k0_off24_inb k)).toLoadRect X_arg1 (Shape.Idx.first (numel1_S1x1x1.symm ▸ Nat.one_pos)))) (k0_hw13 : k0_chk13 (arg1.view.readAt (Elt F) (Rect.unit (s := S1x1x5120) (k0_off26 k) S1x1x1.size (k0_off26_inb k)).toLoadRect X_arg1 (Shape.Idx.first (numel1_S1x1x1.symm ▸ Nat.one_pos)))) (k0_hw14 : k0_chk14 (arg1.view.readAt (Elt F) (Rect.unit (s := S1x1x5120) (k0_off28 k) S1x1x1.size (k0_off28_inb k)).toLoadRect X_arg1 (Shape.Idx.first (numel1_S1x1x1.symm ▸ Nat.one_pos)))) (k0_hw15 : k0_chk15 (arg1.view.readAt (Elt F) (Rect.unit (s := S1x1x5120) (k0_off30 k) S1x1x1.size (k0_off30_inb k)).toLoadRect X_arg1 (Shape.Idx.first (numel1_S1x1x1.symm ▸ Nat.one_pos)))) (k0_hw16 : k0_chk16 (arg1.view.readAt (Elt F) (Rect.unit (s := S1x1x5120) (k0_off32 k) S1x1x1.size (k0_off32_inb k)).toLoadRect X_arg1 (Shape.Idx.first (numel1_S1x1x1.symm ▸ Nat.one_pos)))) (k0_hw17 : k0_chk17 (arg1.view.readAt (Elt F) (Rect.unit (s := S1x1x5120) (k0_off35 k) S1x1x1.size (k0_off35_inb k)).toLoadRect X_arg1 (Shape.Idx.first (numel1_S1x1x1.symm ▸ Nat.one_pos)))) (k0_hw18 : k0_chk18 (arg1.view.readAt (Elt F) (Rect.unit (s := S1x1x5120) (k0_off37 k) S1x1x1.size (k0_off37_inb k)).toLoadRect X_arg1 (Shape.Idx.first (numel1_S1x1x1.symm ▸ Nat.one_pos)))) (k0_hw19 : k0_chk19 (arg1.view.readAt (Elt F) (Rect.unit (s := S1x1x5120) (k0_off39 k) S1x1x1.size (k0_off39_inb k)).toLoadRect X_arg1 (Shape.Idx.first (numel1_S1x1x1.symm ▸ Nat.one_pos)))) (k0_hw20 : k0_chk20 (arg1.view.readAt (Elt F) (Rect.unit (s := S1x1x5120) (k0_off41 k) S1x1x1.size (k0_off41_inb k)).toLoadRect X_arg1 (Shape.Idx.first (numel1_S1x1x1.symm ▸ Nat.one_pos)))) (k0_hw21 : k0_chk21 (arg1.view.readAt (Elt F) (Rect.unit (s := S1x1x5120) (k0_off43 k) S1x1x1.size (k0_off43_inb k)).toLoadRect X_arg1 (Shape.Idx.first (numel1_S1x1x1.symm ▸ Nat.one_pos)))) (k0_hw22 : k0_chk22 (arg1.view.readAt (Elt F) (Rect.unit (s := S1x1x5120) (k0_off45 k) S1x1x1.size (k0_off45_inb k)).toLoadRect X_arg1 (Shape.Idx.first (numel1_S1x1x1.symm ▸ Nat.one_pos)))) (k0_hw23 : k0_chk23 (arg1.view.readAt (Elt F) (Rect.unit (s := S1x1x5120) (k0_off47 k) S1x1x1.size (k0_off47_inb k)).toLoadRect X_arg1 (Shape.Idx.first (numel1_S1x1x1.symm ▸ Nat.one_pos)))) (k0_hw24 : k0_chk24 (arg1.view.readAt (Elt F) (Rect.unit (s := S1x1x5120) (k0_off49 k) S1x1x1.size (k0_off49_inb k)).toLoadRect X_arg1 (Shape.Idx.first (numel1_S1x1x1.symm ▸ Nat.one_pos)))) (k0_hw25 : k0_chk25 (arg1.view.readAt (Elt F) (Rect.unit (s := S1x1x5120) (k0_off52 k) S1x1x1.size (k0_off52_inb k)).toLoadRect X_arg1 (Shape.Idx.first (numel1_S1x1x1.symm ▸ Nat.one_pos)))) (k0_hw26 : k0_chk26 (arg1.view.readAt (Elt F) (Rect.unit (s := S1x1x5120) (k0_off54 k) S1x1x1.size (k0_off54_inb k)).toLoadRect X_arg1 (Shape.Idx.first (numel1_S1x1x1.symm ▸ Nat.one_pos)))) (k0_hw27 : k0_chk27 (arg1.view.readAt (Elt F) (Rect.unit (s := S1x1x5120) (k0_off56 k) S1x1x1.size (k0_off56_inb k)).toLoadRect X_arg1 (Shape.Idx.first (numel1_S1x1x1.symm ▸ Nat.one_pos)))) (k0_hw28 : k0_chk28 (arg1.view.readAt (Elt F) (Rect.unit (s := S1x1x5120) (k0_off58 k) S1x1x1.size (k0_off58_inb k)).toLoadRect X_arg1 (Shape.Idx.first (numel1_S1x1x1.symm ▸ Nat.one_pos)))) (k0_hw29 : k0_chk29 (arg1.view.readAt (Elt F) (Rect.unit (s := S1x1x5120) (k0_off60 k) S1x1x1.size (k0_off60_inb k)).toLoadRect X_arg1 (Shape.Idx.first (numel1_S1x1x1.symm ▸ Nat.one_pos)))) (k0_hw30 : k0_chk30 (arg1.view.readAt (Elt F) (Rect.unit (s := S1x1x5120) (k0_off62 k) S1x1x1.size (k0_off62_inb k)).toLoadRect X_arg1 (Shape.Idx.first (numel1_S1x1x1.symm ▸ Nat.one_pos)))) (k0_hw31 : k0_chk31 (arg1.view.readAt (Elt F) (Rect.unit (s := S1x1x5120) (k0_off64 k) S1x1x1.size (k0_off64_inb k)).toLoadRect X_arg1 (Shape.Idx.first (numel1_S1x1x1.symm ▸ Nat.one_pos)))) (k0_hw32 : k0_chk32 (arg1.view.readAt (Elt F) (Rect.unit (s := S1x1x5120) (k0_off66 k) S1x1x1.size (k0_off66_inb k)).toLoadRect X_arg1 (Shape.Idx.first (numel1_S1x1x1.symm ▸ Nat.one_pos)))) (k0_hw33 : k0_chk33 (arg1.view.readAt (Elt F) (Rect.unit (s := S1x1x5120) (k0_off69 k) S1x1x1.size (k0_off69_inb k)).toLoadRect X_arg1 (Shape.Idx.first (numel1_S1x1x1.symm ▸ Nat.one_pos)))) (k0_hw34 : k0_chk34 (arg1.view.readAt (Elt F) (Rect.unit (s := S1x1x5120) (k0_off71 k) S1x1x1.size (k0_off71_inb k)).toLoadRect X_arg1 (Shape.Idx.first (numel1_S1x1x1.symm ▸ Nat.one_pos)))) (k0_hw35 : k0_chk35 (arg1.view.readAt (Elt F) (Rect.unit (s := S1x1x5120) (k0_off73 k) S1x1x1.size (k0_off73_inb k)).toLoadRect X_arg1 (Shape.Idx.first (numel1_S1x1x1.symm ▸ Nat.one_pos)))) (k0_hw36 : k0_chk36 (arg1.view.readAt (Elt F) (Rect.unit (s := S1x1x5120) (k0_off75 k) S1x1x1.size (k0_off75_inb k)).toLoadRect X_arg1 (Shape.Idx.first (numel1_S1x1x1.symm ▸ Nat.one_pos)))) (k0_hw37 : k0_chk37 (arg1.view.readAt (Elt F) (Rect.unit (s := S1x1x5120) (k0_off77 k) S1x1x1.size (k0_off77_inb k)).toLoadRect X_arg1 (Shape.Idx.first (numel1_S1x1x1.symm ▸ Nat.one_pos)))) (k0_hw38 : k0_chk38 (arg1.view.readAt (Elt F) (Rect.unit (s := S1x1x5120) (k0_off79 k) S1x1x1.size (k0_off79_inb k)).toLoadRect X_arg1 (Shape.Idx.first (numel1_S1x1x1.symm ▸ Nat.one_pos)))) (k0_hw39 : k0_chk39 (arg1.view.readAt (Elt F) (Rect.unit (s := S1x1x5120) (k0_off81 k) S1x1x1.size (k0_off81_inb k)).toLoadRect X_arg1 (Shape.Idx.first (numel1_S1x1x1.symm ▸ Nat.one_pos)))) (k0_hw40 : k0_chk40 (arg1.view.readAt (Elt F) (Rect.unit (s := S1x1x5120) (k0_off83 k) S1x1x1.size (k0_off83_inb k)).toLoadRect X_arg1 (Shape.Idx.first (numel1_S1x1x1.symm ▸ Nat.one_pos)))) (k0_hw41 : k0_chk41 (arg1.view.readAt (Elt F) (Rect.unit (s := S1x1x5120) (k0_off86 k) S1x1x1.size (k0_off86_inb k)).toLoadRect X_arg1 (Shape.Idx.first (numel1_S1x1x1.symm ▸ Nat.one_pos)))) (k0_hw42 : k0_chk42 (arg1.view.readAt (Elt F) (Rect.unit (s := S1x1x5120) (k0_off88 k) S1x1x1.size (k0_off88_inb k)).toLoadRect X_arg1 (Shape.Idx.first (numel1_S1x1x1.symm ▸ Nat.one_pos)))) (k0_hw43 : k0_chk43 (arg1.view.readAt (Elt F) (Rect.unit (s := S1x1x5120) (k0_off90 k) S1x1x1.size (k0_off90_inb k)).toLoadRect X_arg1 (Shape.Idx.first (numel1_S1x1x1.symm ▸ Nat.one_pos)))) (k0_hw44 : k0_chk44 (arg1.view.readAt (Elt F) (Rect.unit (s := S1x1x5120) (k0_off92 k) S1x1x1.size (k0_off92_inb k)).toLoadRect X_arg1 (Shape.Idx.first (numel1_S1x1x1.symm ▸ Nat.one_pos)))) (k0_hw45 : k0_chk45 (arg1.view.readAt (Elt F) (Rect.unit (s := S1x1x5120) (k0_off94 k) S1x1x1.size (k0_off94_inb k)).toLoadRect X_arg1 (Shape.Idx.first (numel1_S1x1x1.symm ▸ Nat.one_pos)))) (k0_hw46 : k0_chk46 (arg1.view.readAt (Elt F) (Rect.unit (s := S1x1x5120) (k0_off96 k) S1x1x1.size (k0_off96_inb k)).toLoadRect X_arg1 (Shape.Idx.first (numel1_S1x1x1.symm ▸ Nat.one_pos)))) (k0_hw47 : k0_chk47 (arg1.view.readAt (Elt F) (Rect.unit (s := S1x1x5120) (k0_off98 k) S1x1x1.size (k0_off98_inb k)).toLoadRect X_arg1 (Shape.Idx.first (numel1_S1x1x1.symm ▸ Nat.one_pos)))) (k0_hw48 : k0_chk48 (arg1.view.readAt (Elt F) (Rect.unit (s := S1x1x5120) (k0_off100 k) S1x1x1.size (k0_off100_inb k)).toLoadRect X_arg1 (Shape.Idx.first (numel1_S1x1x1.symm ▸ Nat.one_pos)))) (k0_hw49 : k0_chk49 (arg1.view.readAt (Elt F) (Rect.unit (s := S1x1x5120) (k0_off103 k) S1x1x1.size (k0_off103_inb k)).toLoadRect X_arg1 (Shape.Idx.first (numel1_S1x1x1.symm ▸ Nat.one_pos)))) (k0_hw50 : k0_chk50 (arg1.view.readAt (Elt F) (Rect.unit (s := S1x1x5120) (k0_off105 k) S1x1x1.size (k0_off105_inb k)).toLoadRect X_arg1 (Shape.Idx.first (numel1_S1x1x1.symm ▸ Nat.one_pos)))) (k0_hw51 : k0_chk51 (arg1.view.readAt (Elt F) (Rect.unit (s := S1x1x5120) (k0_off107 k) S1x1x1.size (k0_off107_inb k)).toLoadRect X_arg1 (Shape.Idx.first (numel1_S1x1x1.symm ▸ Nat.one_pos)))) (k0_hw52 : k0_chk52 (arg1.view.readAt (Elt F) (Rect.unit (s := S1x1x5120) (k0_off109 k) S1x1x1.size (k0_off109_inb k)).toLoadRect X_arg1 (Shape.Idx.first (numel1_S1x1x1.symm ▸ Nat.one_pos)))) (k0_hw53 : k0_chk53 (arg1.view.readAt (Elt F) (Rect.unit (s := S1x1x5120) (k0_off111 k) S1x1x1.size (k0_off111_inb k)).toLoadRect X_arg1 (Shape.Idx.first (numel1_S1x1x1.symm ▸ Nat.one_pos)))) (k0_hw54 : k0_chk54 (arg1.view.readAt (Elt F) (Rect.unit (s := S1x1x5120) (k0_off113 k) S1x1x1.size (k0_off113_inb k)).toLoadRect X_arg1 (Shape.Idx.first (numel1_S1x1x1.symm ▸ Nat.one_pos)))) (k0_hw55 : k0_chk55 (arg1.view.readAt (Elt F) (Rect.unit (s := S1x1x5120) (k0_off115 k) S1x1x1.size (k0_off115_inb k)).toLoadRect X_arg1 (Shape.Idx.first (numel1_S1x1x1.symm ▸ Nat.one_pos)))) (k0_hw56 : k0_chk56 (arg1.view.readAt (Elt F) (Rect.unit (s := S1x1x5120) (k0_off117 k) S1x1x1.size (k0_off117_inb k)).toLoadRect X_arg1 (Shape.Idx.first (numel1_S1x1x1.symm ▸ Nat.one_pos)))) (k0_hw57 : k0_chk57 (arg1.view.readAt (Elt F) (Rect.unit (s := S1x1x5120) (k0_off120 k) S1x1x1.size (k0_off120_inb k)).toLoadRect X_arg1 (Shape.Idx.first (numel1_S1x1x1.symm ▸ Nat.one_pos)))) (k0_hw58 : k0_chk58 (arg1.view.readAt (Elt F) (Rect.unit (s := S1x1x5120) (k0_off122 k) S1x1x1.size (k0_off122_inb k)).toLoadRect X_arg1 (Shape.Idx.first (numel1_S1x1x1.symm ▸ Nat.one_pos)))) (k0_hw59 : k0_chk59 (arg1.view.readAt (Elt F) (Rect.unit (s := S1x1x5120) (k0_off124 k) S1x1x1.size (k0_off124_inb k)).toLoadRect X_arg1 (Shape.Idx.first (numel1_S1x1x1.symm ▸ Nat.one_pos)))) (k0_hw60 : k0_chk60 (arg1.view.readAt (Elt F) (Rect.unit (s := S1x1x5120) (k0_off126 k) S1x1x1.size (k0_off126_inb k)).toLoadRect X_arg1 (Shape.Idx.first (numel1_S1x1x1.symm ▸ Nat.one_pos)))) (k0_hw61 : k0_chk61 (arg1.view.readAt (Elt F) (Rect.unit (s := S1x1x5120) (k0_off128 k) S1x1x1.size (k0_off128_inb k)).toLoadRect X_arg1 (Shape.Idx.first (numel1_S1x1x1.symm ▸ Nat.one_pos)))) (k0_hw62 : k0_chk62 (arg1.view.readAt (Elt F) (Rect.unit (s := S1x1x5120) (k0_off130 k) S1x1x1.size (k0_off130_inb k)).toLoadRect X_arg1 (Shape.Idx.first (numel1_S1x1x1.symm ▸ Nat.one_pos)))) (k0_hw63 : k0_chk63 (arg1.view.readAt (Elt F) (Rect.unit (s := S1x1x5120) (k0_off132 k) S1x1x1.size (k0_off132_inb k)).toLoadRect X_arg1 (Shape.Idx.first (numel1_S1x1x1.symm ▸ Nat.one_pos)))) (k0_hw64 : k0_chk64 (arg1.view.readAt (Elt F) (Rect.unit (s := S1x1x5120) (k0_off134 k) S1x1x1.size (k0_off134_inb k)).toLoadRect X_arg1 (Shape.Idx.first (numel1_S1x1x1.symm ▸ Nat.one_pos)))) (hX : ∀ r, (word arg1 X_arg1 r).toNat < 11322)
    (f_arg12 : BufTy.Contents (Elt F) arg12.view.ty) (y : S5120x384.Idx) :
    arg12.view.read (Elt F) (arg12.view.writes (Elt F) f_arg12 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rowNo X_arg1 X_arg2 k k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64)) y
      = if 64 * k.val ≤ (y (0 : Fin 2)).val ∧ (y (0 : Fin 2)).val < 64 * k.val + 64 then want arg1 arg2 X_arg1 X_arg2 (y (0 : Fin 2)).val (y (1 : Fin 2))
        else arg12.view.read (Elt F) f_arg12 y := by
  have hk : k.val < 80 := Nat.lt_of_lt_of_le k.isLt k0_t1_abs.2.1
  unfold tripL_k0_t1 trip_k0_t1
  dsimp only
  refine (
    piece_read arg1 arg2 arg12 X_arg1 X_arg2 f_arg12 (64 * k.val + 56) (k0_off136 k) (k0_off136_inb k) (k0_off136_eq k) _
      (blk_apply arg1 arg2 X_arg1 X_arg2 ![k0_off120 k, k0_off122 k, k0_off124 k, k0_off126 k, k0_off128 k, k0_off130 k, k0_off132 k, k0_off134 k]
        (by intro q; fin_cases q; exacts [k0_off120_inb k, k0_off122_inb k, k0_off124_inb k, k0_off126_inb k, k0_off128_inb k, k0_off130_inb k, k0_off132_inb k, k0_off134_inb k]) (by intro q; fin_cases q; exacts [k0_hw57, k0_hw58, k0_hw59, k0_hw60, k0_hw61, k0_hw62, k0_hw63, k0_hw64]) hX (64 * k.val + 56) (by omega)
        (by intro q; fin_cases q; exacts [k0_off120_eq k, k0_off122_eq k, k0_off124_eq k, k0_off126_eq k, k0_off128_eq k, k0_off130_eq k, k0_off132_eq k, k0_off134_eq k])) _ y).trans ?_
  split
  · rw [if_pos (by omega)]
  refine (
    piece_read arg1 arg2 arg12 X_arg1 X_arg2 f_arg12 (64 * k.val + 48) (k0_off119 k) (k0_off119_inb k) (k0_off119_eq k) _
      (blk_apply arg1 arg2 X_arg1 X_arg2 ![k0_off103 k, k0_off105 k, k0_off107 k, k0_off109 k, k0_off111 k, k0_off113 k, k0_off115 k, k0_off117 k]
        (by intro q; fin_cases q; exacts [k0_off103_inb k, k0_off105_inb k, k0_off107_inb k, k0_off109_inb k, k0_off111_inb k, k0_off113_inb k, k0_off115_inb k, k0_off117_inb k]) (by intro q; fin_cases q; exacts [k0_hw49, k0_hw50, k0_hw51, k0_hw52, k0_hw53, k0_hw54, k0_hw55, k0_hw56]) hX (64 * k.val + 48) (by omega)
        (by intro q; fin_cases q; exacts [k0_off103_eq k, k0_off105_eq k, k0_off107_eq k, k0_off109_eq k, k0_off111_eq k, k0_off113_eq k, k0_off115_eq k, k0_off117_eq k])) _ y).trans ?_
  split
  · rw [if_pos (by omega)]
  refine (
    piece_read arg1 arg2 arg12 X_arg1 X_arg2 f_arg12 (64 * k.val + 40) (k0_off102 k) (k0_off102_inb k) (k0_off102_eq k) _
      (blk_apply arg1 arg2 X_arg1 X_arg2 ![k0_off86 k, k0_off88 k, k0_off90 k, k0_off92 k, k0_off94 k, k0_off96 k, k0_off98 k, k0_off100 k]
        (by intro q; fin_cases q; exacts [k0_off86_inb k, k0_off88_inb k, k0_off90_inb k, k0_off92_inb k, k0_off94_inb k, k0_off96_inb k, k0_off98_inb k, k0_off100_inb k]) (by intro q; fin_cases q; exacts [k0_hw41, k0_hw42, k0_hw43, k0_hw44, k0_hw45, k0_hw46, k0_hw47, k0_hw48]) hX (64 * k.val + 40) (by omega)
        (by intro q; fin_cases q; exacts [k0_off86_eq k, k0_off88_eq k, k0_off90_eq k, k0_off92_eq k, k0_off94_eq k, k0_off96_eq k, k0_off98_eq k, k0_off100_eq k])) _ y).trans ?_
  split
  · rw [if_pos (by omega)]
  refine (
    piece_read arg1 arg2 arg12 X_arg1 X_arg2 f_arg12 (64 * k.val + 32) (k0_off85 k) (k0_off85_inb k) (k0_off85_eq k) _
      (blk_apply arg1 arg2 X_arg1 X_arg2 ![k0_off69 k, k0_off71 k, k0_off73 k, k0_off75 k, k0_off77 k, k0_off79 k, k0_off81 k, k0_off83 k]
        (by intro q; fin_cases q; exacts [k0_off69_inb k, k0_off71_inb k, k0_off73_inb k, k0_off75_inb k, k0_off77_inb k, k0_off79_inb k, k0_off81_inb k, k0_off83_inb k]) (by intro q; fin_cases q; exacts [k0_hw33, k0_hw34, k0_hw35, k0_hw36, k0_hw37, k0_hw38, k0_hw39, k0_hw40]) hX (64 * k.val + 32) (by omega)
        (by intro q; fin_cases q; exacts [k0_off69_eq k, k0_off71_eq k, k0_off73_eq k, k0_off75_eq k, k0_off77_eq k, k0_off79_eq k, k0_off81_eq k, k0_off83_eq k])) _ y).trans ?_
  split
  · rw [if_pos (by omega)]
  refine (
    piece_read arg1 arg2 arg12 X_arg1 X_arg2 f_arg12 (64 * k.val + 24) (k0_off68 k) (k0_off68_inb k) (k0_off68_eq k) _
      (blk_apply arg1 arg2 X_arg1 X_arg2 ![k0_off52 k, k0_off54 k, k0_off56 k, k0_off58 k, k0_off60 k, k0_off62 k, k0_off64 k, k0_off66 k]
        (by intro q; fin_cases q; exacts [k0_off52_inb k, k0_off54_inb k, k0_off56_inb k, k0_off58_inb k, k0_off60_inb k, k0_off62_inb k, k0_off64_inb k, k0_off66_inb k]) (by intro q; fin_cases q; exacts [k0_hw25, k0_hw26, k0_hw27, k0_hw28, k0_hw29, k0_hw30, k0_hw31, k0_hw32]) hX (64 * k.val + 24) (by omega)
        (by intro q; fin_cases q; exacts [k0_off52_eq k, k0_off54_eq k, k0_off56_eq k, k0_off58_eq k, k0_off60_eq k, k0_off62_eq k, k0_off64_eq k, k0_off66_eq k])) _ y).trans ?_
  split
  · rw [if_pos (by omega)]
  refine (
    piece_read arg1 arg2 arg12 X_arg1 X_arg2 f_arg12 (64 * k.val + 16) (k0_off51 k) (k0_off51_inb k) (k0_off51_eq k) _
      (blk_apply arg1 arg2 X_arg1 X_arg2 ![k0_off35 k, k0_off37 k, k0_off39 k, k0_off41 k, k0_off43 k, k0_off45 k, k0_off47 k, k0_off49 k]
        (by intro q; fin_cases q; exacts [k0_off35_inb k, k0_off37_inb k, k0_off39_inb k, k0_off41_inb k, k0_off43_inb k, k0_off45_inb k, k0_off47_inb k, k0_off49_inb k]) (by intro q; fin_cases q; exacts [k0_hw17, k0_hw18, k0_hw19, k0_hw20, k0_hw21, k0_hw22, k0_hw23, k0_hw24]) hX (64 * k.val + 16) (by omega)
        (by intro q; fin_cases q; exacts [k0_off35_eq k, k0_off37_eq k, k0_off39_eq k, k0_off41_eq k, k0_off43_eq k, k0_off45_eq k, k0_off47_eq k, k0_off49_eq k])) _ y).trans ?_
  split
  · rw [if_pos (by omega)]
  refine (
    piece_read arg1 arg2 arg12 X_arg1 X_arg2 f_arg12 (64 * k.val + 8) (k0_off34 k) (k0_off34_inb k) (k0_off34_eq k) _
      (blk_apply arg1 arg2 X_arg1 X_arg2 ![k0_off18 k, k0_off20 k, k0_off22 k, k0_off24 k, k0_off26 k, k0_off28 k, k0_off30 k, k0_off32 k]
        (by intro q; fin_cases q; exacts [k0_off18_inb k, k0_off20_inb k, k0_off22_inb k, k0_off24_inb k, k0_off26_inb k, k0_off28_inb k, k0_off30_inb k, k0_off32_inb k]) (by intro q; fin_cases q; exacts [k0_hw9, k0_hw10, k0_hw11, k0_hw12, k0_hw13, k0_hw14, k0_hw15, k0_hw16]) hX (64 * k.val + 8) (by omega)
        (by intro q; fin_cases q; exacts [k0_off18_eq k, k0_off20_eq k, k0_off22_eq k, k0_off24_eq k, k0_off26_eq k, k0_off28_eq k, k0_off30_eq k, k0_off32_eq k])) _ y).trans ?_
  split
  · rw [if_pos (by omega)]
  refine (
    piece_read arg1 arg2 arg12 X_arg1 X_arg2 f_arg12 (64 * k.val + 0) (k0_off17 k) (k0_off17_inb k) (k0_off17_eq k) _
      (blk_apply arg1 arg2 X_arg1 X_arg2 ![k0_off1 k, k0_off3 k, k0_off5 k, k0_off7 k, k0_off9 k, k0_off11 k, k0_off13 k, k0_off15 k]
        (by intro q; fin_cases q; exacts [k0_off1_inb k, k0_off3_inb k, k0_off5_inb k, k0_off7_inb k, k0_off9_inb k, k0_off11_inb k, k0_off13_inb k, k0_off15_inb k]) (by intro q; fin_cases q; exacts [k0_hw1, k0_hw2, k0_hw3, k0_hw4, k0_hw5, k0_hw6, k0_hw7, k0_hw8]) hX (64 * k.val + 0) (by omega)
        (by intro q; fin_cases q; exacts [k0_off1_eq k, k0_off3_eq k, k0_off5_eq k, k0_off7_eq k, k0_off9_eq k, k0_off11_eq k, k0_off13_eq k, k0_off15_eq k])) _ y).trans ?_
  split
  · rw [if_pos (by omega)]
  rw [View.writes_nil, if_neg (by omega)]

/-- After `n` trips the first `64 * n` rows are the rows the words name. -/
theorem loop_reads (𝒱 : Variants) (c : Dev nD) (bd : Option 𝒱.V) (i : grid0.Coords) (arg1 : Memref sig .tc .smem S1x1x5120 .i32) (harg1 : arg1.IsWhole) (arg2 : Memref sig .tc .vmem S11328x384 .f32) (harg2 : arg2.IsWhole) (arg3 : Memref sig .tc .vmem S256x512 .i32) (harg3 : arg3.IsWhole) (arg4 : Memref sig .tc .vmem S256x512 .f32) (harg4 : arg4.IsWhole) (arg5 : Memref sig .tc .vmem S384x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S256x128 .f32) (harg11 : arg11.IsWhole) (arg12 : Memref sig .tc .vmem S5120x384 .f32) (harg12 : arg12.IsWhole) (arg13 : Memref sig .tc .vmem S256x512 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S256x512 .f32) (harg16 : arg16.IsWhole)  (X_arg1 : BufTy.Contents (Elt F) arg1.view.ty) (X_arg2 : BufTy.Contents (Elt F) arg2.view.ty) (k0_hw1L : ∀ (kq : ℕ) (hkq : kq < k0_t1_loop.trips), k0_chk1 (arg1.view.readAt (Elt F) (Rect.unit (s := S1x1x5120) (k0_off1 ⟨kq, hkq⟩) S1x1x1.size (k0_off1_inb ⟨kq, hkq⟩)).toLoadRect X_arg1 (Shape.Idx.first (numel1_S1x1x1.symm ▸ Nat.one_pos)))) (k0_hw2L : ∀ (kq : ℕ) (hkq : kq < k0_t1_loop.trips), k0_chk2 (arg1.view.readAt (Elt F) (Rect.unit (s := S1x1x5120) (k0_off3 ⟨kq, hkq⟩) S1x1x1.size (k0_off3_inb ⟨kq, hkq⟩)).toLoadRect X_arg1 (Shape.Idx.first (numel1_S1x1x1.symm ▸ Nat.one_pos)))) (k0_hw3L : ∀ (kq : ℕ) (hkq : kq < k0_t1_loop.trips), k0_chk3 (arg1.view.readAt (Elt F) (Rect.unit (s := S1x1x5120) (k0_off5 ⟨kq, hkq⟩) S1x1x1.size (k0_off5_inb ⟨kq, hkq⟩)).toLoadRect X_arg1 (Shape.Idx.first (numel1_S1x1x1.symm ▸ Nat.one_pos)))) (k0_hw4L : ∀ (kq : ℕ) (hkq : kq < k0_t1_loop.trips), k0_chk4 (arg1.view.readAt (Elt F) (Rect.unit (s := S1x1x5120) (k0_off7 ⟨kq, hkq⟩) S1x1x1.size (k0_off7_inb ⟨kq, hkq⟩)).toLoadRect X_arg1 (Shape.Idx.first (numel1_S1x1x1.symm ▸ Nat.one_pos)))) (k0_hw5L : ∀ (kq : ℕ) (hkq : kq < k0_t1_loop.trips), k0_chk5 (arg1.view.readAt (Elt F) (Rect.unit (s := S1x1x5120) (k0_off9 ⟨kq, hkq⟩) S1x1x1.size (k0_off9_inb ⟨kq, hkq⟩)).toLoadRect X_arg1 (Shape.Idx.first (numel1_S1x1x1.symm ▸ Nat.one_pos)))) (k0_hw6L : ∀ (kq : ℕ) (hkq : kq < k0_t1_loop.trips), k0_chk6 (arg1.view.readAt (Elt F) (Rect.unit (s := S1x1x5120) (k0_off11 ⟨kq, hkq⟩) S1x1x1.size (k0_off11_inb ⟨kq, hkq⟩)).toLoadRect X_arg1 (Shape.Idx.first (numel1_S1x1x1.symm ▸ Nat.one_pos)))) (k0_hw7L : ∀ (kq : ℕ) (hkq : kq < k0_t1_loop.trips), k0_chk7 (arg1.view.readAt (Elt F) (Rect.unit (s := S1x1x5120) (k0_off13 ⟨kq, hkq⟩) S1x1x1.size (k0_off13_inb ⟨kq, hkq⟩)).toLoadRect X_arg1 (Shape.Idx.first (numel1_S1x1x1.symm ▸ Nat.one_pos)))) (k0_hw8L : ∀ (kq : ℕ) (hkq : kq < k0_t1_loop.trips), k0_chk8 (arg1.view.readAt (Elt F) (Rect.unit (s := S1x1x5120) (k0_off15 ⟨kq, hkq⟩) S1x1x1.size (k0_off15_inb ⟨kq, hkq⟩)).toLoadRect X_arg1 (Shape.Idx.first (numel1_S1x1x1.symm ▸ Nat.one_pos)))) (k0_hw9L : ∀ (kq : ℕ) (hkq : kq < k0_t1_loop.trips), k0_chk9 (arg1.view.readAt (Elt F) (Rect.unit (s := S1x1x5120) (k0_off18 ⟨kq, hkq⟩) S1x1x1.size (k0_off18_inb ⟨kq, hkq⟩)).toLoadRect X_arg1 (Shape.Idx.first (numel1_S1x1x1.symm ▸ Nat.one_pos)))) (k0_hw10L : ∀ (kq : ℕ) (hkq : kq < k0_t1_loop.trips), k0_chk10 (arg1.view.readAt (Elt F) (Rect.unit (s := S1x1x5120) (k0_off20 ⟨kq, hkq⟩) S1x1x1.size (k0_off20_inb ⟨kq, hkq⟩)).toLoadRect X_arg1 (Shape.Idx.first (numel1_S1x1x1.symm ▸ Nat.one_pos)))) (k0_hw11L : ∀ (kq : ℕ) (hkq : kq < k0_t1_loop.trips), k0_chk11 (arg1.view.readAt (Elt F) (Rect.unit (s := S1x1x5120) (k0_off22 ⟨kq, hkq⟩) S1x1x1.size (k0_off22_inb ⟨kq, hkq⟩)).toLoadRect X_arg1 (Shape.Idx.first (numel1_S1x1x1.symm ▸ Nat.one_pos)))) (k0_hw12L : ∀ (kq : ℕ) (hkq : kq < k0_t1_loop.trips), k0_chk12 (arg1.view.readAt (Elt F) (Rect.unit (s := S1x1x5120) (k0_off24 ⟨kq, hkq⟩) S1x1x1.size (k0_off24_inb ⟨kq, hkq⟩)).toLoadRect X_arg1 (Shape.Idx.first (numel1_S1x1x1.symm ▸ Nat.one_pos)))) (k0_hw13L : ∀ (kq : ℕ) (hkq : kq < k0_t1_loop.trips), k0_chk13 (arg1.view.readAt (Elt F) (Rect.unit (s := S1x1x5120) (k0_off26 ⟨kq, hkq⟩) S1x1x1.size (k0_off26_inb ⟨kq, hkq⟩)).toLoadRect X_arg1 (Shape.Idx.first (numel1_S1x1x1.symm ▸ Nat.one_pos)))) (k0_hw14L : ∀ (kq : ℕ) (hkq : kq < k0_t1_loop.trips), k0_chk14 (arg1.view.readAt (Elt F) (Rect.unit (s := S1x1x5120) (k0_off28 ⟨kq, hkq⟩) S1x1x1.size (k0_off28_inb ⟨kq, hkq⟩)).toLoadRect X_arg1 (Shape.Idx.first (numel1_S1x1x1.symm ▸ Nat.one_pos)))) (k0_hw15L : ∀ (kq : ℕ) (hkq : kq < k0_t1_loop.trips), k0_chk15 (arg1.view.readAt (Elt F) (Rect.unit (s := S1x1x5120) (k0_off30 ⟨kq, hkq⟩) S1x1x1.size (k0_off30_inb ⟨kq, hkq⟩)).toLoadRect X_arg1 (Shape.Idx.first (numel1_S1x1x1.symm ▸ Nat.one_pos)))) (k0_hw16L : ∀ (kq : ℕ) (hkq : kq < k0_t1_loop.trips), k0_chk16 (arg1.view.readAt (Elt F) (Rect.unit (s := S1x1x5120) (k0_off32 ⟨kq, hkq⟩) S1x1x1.size (k0_off32_inb ⟨kq, hkq⟩)).toLoadRect X_arg1 (Shape.Idx.first (numel1_S1x1x1.symm ▸ Nat.one_pos)))) (k0_hw17L : ∀ (kq : ℕ) (hkq : kq < k0_t1_loop.trips), k0_chk17 (arg1.view.readAt (Elt F) (Rect.unit (s := S1x1x5120) (k0_off35 ⟨kq, hkq⟩) S1x1x1.size (k0_off35_inb ⟨kq, hkq⟩)).toLoadRect X_arg1 (Shape.Idx.first (numel1_S1x1x1.symm ▸ Nat.one_pos)))) (k0_hw18L : ∀ (kq : ℕ) (hkq : kq < k0_t1_loop.trips), k0_chk18 (arg1.view.readAt (Elt F) (Rect.unit (s := S1x1x5120) (k0_off37 ⟨kq, hkq⟩) S1x1x1.size (k0_off37_inb ⟨kq, hkq⟩)).toLoadRect X_arg1 (Shape.Idx.first (numel1_S1x1x1.symm ▸ Nat.one_pos)))) (k0_hw19L : ∀ (kq : ℕ) (hkq : kq < k0_t1_loop.trips), k0_chk19 (arg1.view.readAt (Elt F) (Rect.unit (s := S1x1x5120) (k0_off39 ⟨kq, hkq⟩) S1x1x1.size (k0_off39_inb ⟨kq, hkq⟩)).toLoadRect X_arg1 (Shape.Idx.first (numel1_S1x1x1.symm ▸ Nat.one_pos)))) (k0_hw20L : ∀ (kq : ℕ) (hkq : kq < k0_t1_loop.trips), k0_chk20 (arg1.view.readAt (Elt F) (Rect.unit (s := S1x1x5120) (k0_off41 ⟨kq, hkq⟩) S1x1x1.size (k0_off41_inb ⟨kq, hkq⟩)).toLoadRect X_arg1 (Shape.Idx.first (numel1_S1x1x1.symm ▸ Nat.one_pos)))) (k0_hw21L : ∀ (kq : ℕ) (hkq : kq < k0_t1_loop.trips), k0_chk21 (arg1.view.readAt (Elt F) (Rect.unit (s := S1x1x5120) (k0_off43 ⟨kq, hkq⟩) S1x1x1.size (k0_off43_inb ⟨kq, hkq⟩)).toLoadRect X_arg1 (Shape.Idx.first (numel1_S1x1x1.symm ▸ Nat.one_pos)))) (k0_hw22L : ∀ (kq : ℕ) (hkq : kq < k0_t1_loop.trips), k0_chk22 (arg1.view.readAt (Elt F) (Rect.unit (s := S1x1x5120) (k0_off45 ⟨kq, hkq⟩) S1x1x1.size (k0_off45_inb ⟨kq, hkq⟩)).toLoadRect X_arg1 (Shape.Idx.first (numel1_S1x1x1.symm ▸ Nat.one_pos)))) (k0_hw23L : ∀ (kq : ℕ) (hkq : kq < k0_t1_loop.trips), k0_chk23 (arg1.view.readAt (Elt F) (Rect.unit (s := S1x1x5120) (k0_off47 ⟨kq, hkq⟩) S1x1x1.size (k0_off47_inb ⟨kq, hkq⟩)).toLoadRect X_arg1 (Shape.Idx.first (numel1_S1x1x1.symm ▸ Nat.one_pos)))) (k0_hw24L : ∀ (kq : ℕ) (hkq : kq < k0_t1_loop.trips), k0_chk24 (arg1.view.readAt (Elt F) (Rect.unit (s := S1x1x5120) (k0_off49 ⟨kq, hkq⟩) S1x1x1.size (k0_off49_inb ⟨kq, hkq⟩)).toLoadRect X_arg1 (Shape.Idx.first (numel1_S1x1x1.symm ▸ Nat.one_pos)))) (k0_hw25L : ∀ (kq : ℕ) (hkq : kq < k0_t1_loop.trips), k0_chk25 (arg1.view.readAt (Elt F) (Rect.unit (s := S1x1x5120) (k0_off52 ⟨kq, hkq⟩) S1x1x1.size (k0_off52_inb ⟨kq, hkq⟩)).toLoadRect X_arg1 (Shape.Idx.first (numel1_S1x1x1.symm ▸ Nat.one_pos)))) (k0_hw26L : ∀ (kq : ℕ) (hkq : kq < k0_t1_loop.trips), k0_chk26 (arg1.view.readAt (Elt F) (Rect.unit (s := S1x1x5120) (k0_off54 ⟨kq, hkq⟩) S1x1x1.size (k0_off54_inb ⟨kq, hkq⟩)).toLoadRect X_arg1 (Shape.Idx.first (numel1_S1x1x1.symm ▸ Nat.one_pos)))) (k0_hw27L : ∀ (kq : ℕ) (hkq : kq < k0_t1_loop.trips), k0_chk27 (arg1.view.readAt (Elt F) (Rect.unit (s := S1x1x5120) (k0_off56 ⟨kq, hkq⟩) S1x1x1.size (k0_off56_inb ⟨kq, hkq⟩)).toLoadRect X_arg1 (Shape.Idx.first (numel1_S1x1x1.symm ▸ Nat.one_pos)))) (k0_hw28L : ∀ (kq : ℕ) (hkq : kq < k0_t1_loop.trips), k0_chk28 (arg1.view.readAt (Elt F) (Rect.unit (s := S1x1x5120) (k0_off58 ⟨kq, hkq⟩) S1x1x1.size (k0_off58_inb ⟨kq, hkq⟩)).toLoadRect X_arg1 (Shape.Idx.first (numel1_S1x1x1.symm ▸ Nat.one_pos)))) (k0_hw29L : ∀ (kq : ℕ) (hkq : kq < k0_t1_loop.trips), k0_chk29 (arg1.view.readAt (Elt F) (Rect.unit (s := S1x1x5120) (k0_off60 ⟨kq, hkq⟩) S1x1x1.size (k0_off60_inb ⟨kq, hkq⟩)).toLoadRect X_arg1 (Shape.Idx.first (numel1_S1x1x1.symm ▸ Nat.one_pos)))) (k0_hw30L : ∀ (kq : ℕ) (hkq : kq < k0_t1_loop.trips), k0_chk30 (arg1.view.readAt (Elt F) (Rect.unit (s := S1x1x5120) (k0_off62 ⟨kq, hkq⟩) S1x1x1.size (k0_off62_inb ⟨kq, hkq⟩)).toLoadRect X_arg1 (Shape.Idx.first (numel1_S1x1x1.symm ▸ Nat.one_pos)))) (k0_hw31L : ∀ (kq : ℕ) (hkq : kq < k0_t1_loop.trips), k0_chk31 (arg1.view.readAt (Elt F) (Rect.unit (s := S1x1x5120) (k0_off64 ⟨kq, hkq⟩) S1x1x1.size (k0_off64_inb ⟨kq, hkq⟩)).toLoadRect X_arg1 (Shape.Idx.first (numel1_S1x1x1.symm ▸ Nat.one_pos)))) (k0_hw32L : ∀ (kq : ℕ) (hkq : kq < k0_t1_loop.trips), k0_chk32 (arg1.view.readAt (Elt F) (Rect.unit (s := S1x1x5120) (k0_off66 ⟨kq, hkq⟩) S1x1x1.size (k0_off66_inb ⟨kq, hkq⟩)).toLoadRect X_arg1 (Shape.Idx.first (numel1_S1x1x1.symm ▸ Nat.one_pos)))) (k0_hw33L : ∀ (kq : ℕ) (hkq : kq < k0_t1_loop.trips), k0_chk33 (arg1.view.readAt (Elt F) (Rect.unit (s := S1x1x5120) (k0_off69 ⟨kq, hkq⟩) S1x1x1.size (k0_off69_inb ⟨kq, hkq⟩)).toLoadRect X_arg1 (Shape.Idx.first (numel1_S1x1x1.symm ▸ Nat.one_pos)))) (k0_hw34L : ∀ (kq : ℕ) (hkq : kq < k0_t1_loop.trips), k0_chk34 (arg1.view.readAt (Elt F) (Rect.unit (s := S1x1x5120) (k0_off71 ⟨kq, hkq⟩) S1x1x1.size (k0_off71_inb ⟨kq, hkq⟩)).toLoadRect X_arg1 (Shape.Idx.first (numel1_S1x1x1.symm ▸ Nat.one_pos)))) (k0_hw35L : ∀ (kq : ℕ) (hkq : kq < k0_t1_loop.trips), k0_chk35 (arg1.view.readAt (Elt F) (Rect.unit (s := S1x1x5120) (k0_off73 ⟨kq, hkq⟩) S1x1x1.size (k0_off73_inb ⟨kq, hkq⟩)).toLoadRect X_arg1 (Shape.Idx.first (numel1_S1x1x1.symm ▸ Nat.one_pos)))) (k0_hw36L : ∀ (kq : ℕ) (hkq : kq < k0_t1_loop.trips), k0_chk36 (arg1.view.readAt (Elt F) (Rect.unit (s := S1x1x5120) (k0_off75 ⟨kq, hkq⟩) S1x1x1.size (k0_off75_inb ⟨kq, hkq⟩)).toLoadRect X_arg1 (Shape.Idx.first (numel1_S1x1x1.symm ▸ Nat.one_pos)))) (k0_hw37L : ∀ (kq : ℕ) (hkq : kq < k0_t1_loop.trips), k0_chk37 (arg1.view.readAt (Elt F) (Rect.unit (s := S1x1x5120) (k0_off77 ⟨kq, hkq⟩) S1x1x1.size (k0_off77_inb ⟨kq, hkq⟩)).toLoadRect X_arg1 (Shape.Idx.first (numel1_S1x1x1.symm ▸ Nat.one_pos)))) (k0_hw38L : ∀ (kq : ℕ) (hkq : kq < k0_t1_loop.trips), k0_chk38 (arg1.view.readAt (Elt F) (Rect.unit (s := S1x1x5120) (k0_off79 ⟨kq, hkq⟩) S1x1x1.size (k0_off79_inb ⟨kq, hkq⟩)).toLoadRect X_arg1 (Shape.Idx.first (numel1_S1x1x1.symm ▸ Nat.one_pos)))) (k0_hw39L : ∀ (kq : ℕ) (hkq : kq < k0_t1_loop.trips), k0_chk39 (arg1.view.readAt (Elt F) (Rect.unit (s := S1x1x5120) (k0_off81 ⟨kq, hkq⟩) S1x1x1.size (k0_off81_inb ⟨kq, hkq⟩)).toLoadRect X_arg1 (Shape.Idx.first (numel1_S1x1x1.symm ▸ Nat.one_pos)))) (k0_hw40L : ∀ (kq : ℕ) (hkq : kq < k0_t1_loop.trips), k0_chk40 (arg1.view.readAt (Elt F) (Rect.unit (s := S1x1x5120) (k0_off83 ⟨kq, hkq⟩) S1x1x1.size (k0_off83_inb ⟨kq, hkq⟩)).toLoadRect X_arg1 (Shape.Idx.first (numel1_S1x1x1.symm ▸ Nat.one_pos)))) (k0_hw41L : ∀ (kq : ℕ) (hkq : kq < k0_t1_loop.trips), k0_chk41 (arg1.view.readAt (Elt F) (Rect.unit (s := S1x1x5120) (k0_off86 ⟨kq, hkq⟩) S1x1x1.size (k0_off86_inb ⟨kq, hkq⟩)).toLoadRect X_arg1 (Shape.Idx.first (numel1_S1x1x1.symm ▸ Nat.one_pos)))) (k0_hw42L : ∀ (kq : ℕ) (hkq : kq < k0_t1_loop.trips), k0_chk42 (arg1.view.readAt (Elt F) (Rect.unit (s := S1x1x5120) (k0_off88 ⟨kq, hkq⟩) S1x1x1.size (k0_off88_inb ⟨kq, hkq⟩)).toLoadRect X_arg1 (Shape.Idx.first (numel1_S1x1x1.symm ▸ Nat.one_pos)))) (k0_hw43L : ∀ (kq : ℕ) (hkq : kq < k0_t1_loop.trips), k0_chk43 (arg1.view.readAt (Elt F) (Rect.unit (s := S1x1x5120) (k0_off90 ⟨kq, hkq⟩) S1x1x1.size (k0_off90_inb ⟨kq, hkq⟩)).toLoadRect X_arg1 (Shape.Idx.first (numel1_S1x1x1.symm ▸ Nat.one_pos)))) (k0_hw44L : ∀ (kq : ℕ) (hkq : kq < k0_t1_loop.trips), k0_chk44 (arg1.view.readAt (Elt F) (Rect.unit (s := S1x1x5120) (k0_off92 ⟨kq, hkq⟩) S1x1x1.size (k0_off92_inb ⟨kq, hkq⟩)).toLoadRect X_arg1 (Shape.Idx.first (numel1_S1x1x1.symm ▸ Nat.one_pos)))) (k0_hw45L : ∀ (kq : ℕ) (hkq : kq < k0_t1_loop.trips), k0_chk45 (arg1.view.readAt (Elt F) (Rect.unit (s := S1x1x5120) (k0_off94 ⟨kq, hkq⟩) S1x1x1.size (k0_off94_inb ⟨kq, hkq⟩)).toLoadRect X_arg1 (Shape.Idx.first (numel1_S1x1x1.symm ▸ Nat.one_pos)))) (k0_hw46L : ∀ (kq : ℕ) (hkq : kq < k0_t1_loop.trips), k0_chk46 (arg1.view.readAt (Elt F) (Rect.unit (s := S1x1x5120) (k0_off96 ⟨kq, hkq⟩) S1x1x1.size (k0_off96_inb ⟨kq, hkq⟩)).toLoadRect X_arg1 (Shape.Idx.first (numel1_S1x1x1.symm ▸ Nat.one_pos)))) (k0_hw47L : ∀ (kq : ℕ) (hkq : kq < k0_t1_loop.trips), k0_chk47 (arg1.view.readAt (Elt F) (Rect.unit (s := S1x1x5120) (k0_off98 ⟨kq, hkq⟩) S1x1x1.size (k0_off98_inb ⟨kq, hkq⟩)).toLoadRect X_arg1 (Shape.Idx.first (numel1_S1x1x1.symm ▸ Nat.one_pos)))) (k0_hw48L : ∀ (kq : ℕ) (hkq : kq < k0_t1_loop.trips), k0_chk48 (arg1.view.readAt (Elt F) (Rect.unit (s := S1x1x5120) (k0_off100 ⟨kq, hkq⟩) S1x1x1.size (k0_off100_inb ⟨kq, hkq⟩)).toLoadRect X_arg1 (Shape.Idx.first (numel1_S1x1x1.symm ▸ Nat.one_pos)))) (k0_hw49L : ∀ (kq : ℕ) (hkq : kq < k0_t1_loop.trips), k0_chk49 (arg1.view.readAt (Elt F) (Rect.unit (s := S1x1x5120) (k0_off103 ⟨kq, hkq⟩) S1x1x1.size (k0_off103_inb ⟨kq, hkq⟩)).toLoadRect X_arg1 (Shape.Idx.first (numel1_S1x1x1.symm ▸ Nat.one_pos)))) (k0_hw50L : ∀ (kq : ℕ) (hkq : kq < k0_t1_loop.trips), k0_chk50 (arg1.view.readAt (Elt F) (Rect.unit (s := S1x1x5120) (k0_off105 ⟨kq, hkq⟩) S1x1x1.size (k0_off105_inb ⟨kq, hkq⟩)).toLoadRect X_arg1 (Shape.Idx.first (numel1_S1x1x1.symm ▸ Nat.one_pos)))) (k0_hw51L : ∀ (kq : ℕ) (hkq : kq < k0_t1_loop.trips), k0_chk51 (arg1.view.readAt (Elt F) (Rect.unit (s := S1x1x5120) (k0_off107 ⟨kq, hkq⟩) S1x1x1.size (k0_off107_inb ⟨kq, hkq⟩)).toLoadRect X_arg1 (Shape.Idx.first (numel1_S1x1x1.symm ▸ Nat.one_pos)))) (k0_hw52L : ∀ (kq : ℕ) (hkq : kq < k0_t1_loop.trips), k0_chk52 (arg1.view.readAt (Elt F) (Rect.unit (s := S1x1x5120) (k0_off109 ⟨kq, hkq⟩) S1x1x1.size (k0_off109_inb ⟨kq, hkq⟩)).toLoadRect X_arg1 (Shape.Idx.first (numel1_S1x1x1.symm ▸ Nat.one_pos)))) (k0_hw53L : ∀ (kq : ℕ) (hkq : kq < k0_t1_loop.trips), k0_chk53 (arg1.view.readAt (Elt F) (Rect.unit (s := S1x1x5120) (k0_off111 ⟨kq, hkq⟩) S1x1x1.size (k0_off111_inb ⟨kq, hkq⟩)).toLoadRect X_arg1 (Shape.Idx.first (numel1_S1x1x1.symm ▸ Nat.one_pos)))) (k0_hw54L : ∀ (kq : ℕ) (hkq : kq < k0_t1_loop.trips), k0_chk54 (arg1.view.readAt (Elt F) (Rect.unit (s := S1x1x5120) (k0_off113 ⟨kq, hkq⟩) S1x1x1.size (k0_off113_inb ⟨kq, hkq⟩)).toLoadRect X_arg1 (Shape.Idx.first (numel1_S1x1x1.symm ▸ Nat.one_pos)))) (k0_hw55L : ∀ (kq : ℕ) (hkq : kq < k0_t1_loop.trips), k0_chk55 (arg1.view.readAt (Elt F) (Rect.unit (s := S1x1x5120) (k0_off115 ⟨kq, hkq⟩) S1x1x1.size (k0_off115_inb ⟨kq, hkq⟩)).toLoadRect X_arg1 (Shape.Idx.first (numel1_S1x1x1.symm ▸ Nat.one_pos)))) (k0_hw56L : ∀ (kq : ℕ) (hkq : kq < k0_t1_loop.trips), k0_chk56 (arg1.view.readAt (Elt F) (Rect.unit (s := S1x1x5120) (k0_off117 ⟨kq, hkq⟩) S1x1x1.size (k0_off117_inb ⟨kq, hkq⟩)).toLoadRect X_arg1 (Shape.Idx.first (numel1_S1x1x1.symm ▸ Nat.one_pos)))) (k0_hw57L : ∀ (kq : ℕ) (hkq : kq < k0_t1_loop.trips), k0_chk57 (arg1.view.readAt (Elt F) (Rect.unit (s := S1x1x5120) (k0_off120 ⟨kq, hkq⟩) S1x1x1.size (k0_off120_inb ⟨kq, hkq⟩)).toLoadRect X_arg1 (Shape.Idx.first (numel1_S1x1x1.symm ▸ Nat.one_pos)))) (k0_hw58L : ∀ (kq : ℕ) (hkq : kq < k0_t1_loop.trips), k0_chk58 (arg1.view.readAt (Elt F) (Rect.unit (s := S1x1x5120) (k0_off122 ⟨kq, hkq⟩) S1x1x1.size (k0_off122_inb ⟨kq, hkq⟩)).toLoadRect X_arg1 (Shape.Idx.first (numel1_S1x1x1.symm ▸ Nat.one_pos)))) (k0_hw59L : ∀ (kq : ℕ) (hkq : kq < k0_t1_loop.trips), k0_chk59 (arg1.view.readAt (Elt F) (Rect.unit (s := S1x1x5120) (k0_off124 ⟨kq, hkq⟩) S1x1x1.size (k0_off124_inb ⟨kq, hkq⟩)).toLoadRect X_arg1 (Shape.Idx.first (numel1_S1x1x1.symm ▸ Nat.one_pos)))) (k0_hw60L : ∀ (kq : ℕ) (hkq : kq < k0_t1_loop.trips), k0_chk60 (arg1.view.readAt (Elt F) (Rect.unit (s := S1x1x5120) (k0_off126 ⟨kq, hkq⟩) S1x1x1.size (k0_off126_inb ⟨kq, hkq⟩)).toLoadRect X_arg1 (Shape.Idx.first (numel1_S1x1x1.symm ▸ Nat.one_pos)))) (k0_hw61L : ∀ (kq : ℕ) (hkq : kq < k0_t1_loop.trips), k0_chk61 (arg1.view.readAt (Elt F) (Rect.unit (s := S1x1x5120) (k0_off128 ⟨kq, hkq⟩) S1x1x1.size (k0_off128_inb ⟨kq, hkq⟩)).toLoadRect X_arg1 (Shape.Idx.first (numel1_S1x1x1.symm ▸ Nat.one_pos)))) (k0_hw62L : ∀ (kq : ℕ) (hkq : kq < k0_t1_loop.trips), k0_chk62 (arg1.view.readAt (Elt F) (Rect.unit (s := S1x1x5120) (k0_off130 ⟨kq, hkq⟩) S1x1x1.size (k0_off130_inb ⟨kq, hkq⟩)).toLoadRect X_arg1 (Shape.Idx.first (numel1_S1x1x1.symm ▸ Nat.one_pos)))) (k0_hw63L : ∀ (kq : ℕ) (hkq : kq < k0_t1_loop.trips), k0_chk63 (arg1.view.readAt (Elt F) (Rect.unit (s := S1x1x5120) (k0_off132 ⟨kq, hkq⟩) S1x1x1.size (k0_off132_inb ⟨kq, hkq⟩)).toLoadRect X_arg1 (Shape.Idx.first (numel1_S1x1x1.symm ▸ Nat.one_pos)))) (k0_hw64L : ∀ (kq : ℕ) (hkq : kq < k0_t1_loop.trips), k0_chk64 (arg1.view.readAt (Elt F) (Rect.unit (s := S1x1x5120) (k0_off134 ⟨kq, hkq⟩) S1x1x1.size (k0_off134_inb ⟨kq, hkq⟩)).toLoadRect X_arg1 (Shape.Idx.first (numel1_S1x1x1.symm ▸ Nat.one_pos)))) (hX : ∀ r, (word arg1 X_arg1 r).toNat < 11322) (G_arg12 : BufTy.Contents (Elt F) arg12.view.ty) (y : S5120x384.Idx) (n : ℕ) (hn : n ≤ k0_t1_loop.trips) :
    arg12.view.read (Elt F) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rowNo X_arg1 X_arg2 k0_hw1L k0_hw2L k0_hw3L k0_hw4L k0_hw5L k0_hw6L k0_hw7L k0_hw8L k0_hw9L k0_hw10L k0_hw11L k0_hw12L k0_hw13L k0_hw14L k0_hw15L k0_hw16L k0_hw17L k0_hw18L k0_hw19L k0_hw20L k0_hw21L k0_hw22L k0_hw23L k0_hw24L k0_hw25L k0_hw26L k0_hw27L k0_hw28L k0_hw29L k0_hw30L k0_hw31L k0_hw32L k0_hw33L k0_hw34L k0_hw35L k0_hw36L k0_hw37L k0_hw38L k0_hw39L k0_hw40L k0_hw41L k0_hw42L k0_hw43L k0_hw44L k0_hw45L k0_hw46L k0_hw47L k0_hw48L k0_hw49L k0_hw50L k0_hw51L k0_hw52L k0_hw53L k0_hw54L k0_hw55L k0_hw56L k0_hw57L k0_hw58L k0_hw59L k0_hw60L k0_hw61L k0_hw62L k0_hw63L k0_hw64L n)) y
      = if (y (0 : Fin 2)).val < 64 * n then want arg1 arg2 X_arg1 X_arg2 (y (0 : Fin 2)).val (y (1 : Fin 2))
        else arg12.view.read (Elt F) G_arg12 y := by
  induction n with
  | zero => rw [if_neg (by omega)]; rfl
  | succ n ih =>
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rowNo X_arg1 X_arg2 k0_hw1L k0_hw2L k0_hw3L k0_hw4L k0_hw5L k0_hw6L k0_hw7L k0_hw8L k0_hw9L k0_hw10L k0_hw11L k0_hw12L k0_hw13L k0_hw14L k0_hw15L k0_hw16L k0_hw17L k0_hw18L k0_hw19L k0_hw20L k0_hw21L k0_hw22L k0_hw23L k0_hw24L k0_hw25L k0_hw26L k0_hw27L k0_hw28L k0_hw29L k0_hw30L k0_hw31L k0_hw32L k0_hw33L k0_hw34L k0_hw35L k0_hw36L k0_hw37L k0_hw38L k0_hw39L k0_hw40L k0_hw41L k0_hw42L k0_hw43L k0_hw44L k0_hw45L k0_hw46L k0_hw47L k0_hw48L k0_hw49L k0_hw50L k0_hw51L k0_hw52L k0_hw53L k0_hw54L k0_hw55L k0_hw56L k0_hw57L k0_hw58L k0_hw59L k0_hw60L k0_hw61L k0_hw62L k0_hw63L k0_hw64L ⟨n, hn⟩
    rw [show pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rowNo X_arg1 X_arg2 k0_hw1L k0_hw2L k0_hw3L k0_hw4L k0_hw5L k0_hw6L k0_hw7L k0_hw8L k0_hw9L k0_hw10L k0_hw11L k0_hw12L k0_hw13L k0_hw14L k0_hw15L k0_hw16L k0_hw17L k0_hw18L k0_hw19L k0_hw20L k0_hw21L k0_hw22L k0_hw23L k0_hw24L k0_hw25L k0_hw26L k0_hw27L k0_hw28L k0_hw29L k0_hw30L k0_hw31L k0_hw32L k0_hw33L k0_hw34L k0_hw35L k0_hw36L k0_hw37L k0_hw38L k0_hw39L k0_hw40L k0_hw41L k0_hw42L k0_hw43L k0_hw44L k0_hw45L k0_hw46L k0_hw47L k0_hw48L k0_hw49L k0_hw50L k0_hw51L k0_hw52L k0_hw53L k0_hw54L k0_hw55L k0_hw56L k0_hw57L k0_hw58L k0_hw59L k0_hw60L k0_hw61L k0_hw62L k0_hw63L k0_hw64L (n + 1) = _ from e]
    rw [View.writes_append, trip_reads (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 ⟨n, hn⟩ (hX := hX), ih (Nat.le_of_succ_le hn)]
    dsimp only
    by_cases h1 : (y (0 : Fin 2)).val < 64 * n
    · rw [if_neg (by omega), if_pos h1, if_pos (by omega)]
    · by_cases h2 : (y (0 : Fin 2)).val < 64 * n + 64
      · rw [if_pos (by omega), if_pos (by omega)]
      · rw [if_neg (by omega), if_neg h1, if_neg (by omega)]

end Cert.KernelIdeal.Gather
-- ==== Proof.KSteps.lean ====
/- The twenty time steps of the recurrent loop of the kernel body: what one trip leaves in the four state
   buffers, as a function of what it found there, and the whole loop as the iteration of that function. -/
module

public import proofs.«01_k».proof.Proof.Gen.KernelIdeal.Loops
public import Idealize.ShloMosaic.Lib.WritesUnit
public import Idealize.ShloMosaic.Lib.VecWindow

@[expose] public section

set_option maxRecDepth 16384

noncomputable section

namespace Cert.KernelIdeal.Steps

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The state the recurrent loop carries for one chunk of 256 rows: hidden and cell state of both layers. -/
structure KS (F : FTy → Type) where
  h1 : Vec F S256x512 .bf16
  c1 : Vec F S256x512 .f32
  h2 : Vec F S256x512 .bf16
  c2 : Vec F S256x512 .f32

/-- The 256 embedded rows of time step `k`, out of the chunk's 5120. -/
def rowsAt (xs : Vec F S5120x384 .f32) (k : Fin k0_t2_loop.trips) : Vec F S256x384 .f32 :=
  fun y => xs ((Rect.unit (s := S5120x384) (k0_off137 k) S256x384.size (k0_off137_inb k)).toLoadRect.idx y)

/-- First layer: the new cell state, kept where the sequence has ended. -/
def newC1 (ln : Vec F S256x512 .i32) (x : Vec F S256x384 .f32) (w0 : Vec F S384x2048 .bf16) (wh0 : Vec F S512x2048 .bf16)
    (b0 : Vec F S1x2048 .f32) (k : Fin k0_t2_loop.trips) (s : KS F) : Vec F S256x512 .f32 :=
  k0_pay82 (k0_pay75 (k0_pay95 ln) 0#32 1#32 k) (k0_pay77 x w0 s.h1 wh0 b0) (k0_pay78 x w0 s.h1 wh0 b0) (k0_pay79 x w0 s.h1 wh0 b0) s.c1 s.c1

/-- First layer: the new hidden state, kept where the sequence has ended. -/
def newH1 (ln : Vec F S256x512 .i32) (x : Vec F S256x384 .f32) (w0 : Vec F S384x2048 .bf16) (wh0 : Vec F S512x2048 .bf16)
    (b0 : Vec F S1x2048 .f32) (k : Fin k0_t2_loop.trips) (s : KS F) : Vec F S256x512 .bf16 :=
  k0_pay83 (k0_pay75 (k0_pay95 ln) 0#32 1#32 k) (k0_pay77 x w0 s.h1 wh0 b0) (k0_pay78 x w0 s.h1 wh0 b0) (k0_pay79 x w0 s.h1 wh0 b0)
    (k0_pay80 x w0 s.h1 wh0 b0) s.c1 s.h1

/-- Second layer: the new cell state from the first layer's new hidden state `y`. -/
def newC2 (ln : Vec F S256x512 .i32) (y : Vec F S256x512 .bf16) (w1 wh1 : Vec F S512x2048 .bf16)
    (b1 : Vec F S1x2048 .f32) (k : Fin k0_t2_loop.trips) (s : KS F) : Vec F S256x512 .f32 :=
  k0_pay88 (k0_pay75 (k0_pay95 ln) 0#32 1#32 k) (k0_pay84 y w1 s.h2 wh1) (k0_pay85 b1) s.c2 s.c2

/-- Second layer: the new hidden state from the first layer's new hidden state `y`. -/
def newH2 (ln : Vec F S256x512 .i32) (y : Vec F S256x512 .bf16) (w1 wh1 : Vec F S512x2048 .bf16)
    (b1 : Vec F S1x2048 .f32) (k : Fin k0_t2_loop.trips) (s : KS F) : Vec F S256x512 .bf16 :=
  k0_pay96 (k0_pay89 (k0_pay75 (k0_pay95 ln) 0#32 1#32 k) (k0_pay84 y w1 s.h2 wh1) (k0_pay85 b1) s.c2 s.h2)

/-- One time step on the chunk's state. -/
def kstep (ln : Vec F S256x512 .i32) (xs : Vec F S5120x384 .f32) (w0 : Vec F S384x2048 .bf16) (wh0 : Vec F S512x2048 .bf16)
    (b0 : Vec F S1x2048 .f32) (w1 wh1 : Vec F S512x2048 .bf16) (b1 : Vec F S1x2048 .f32) (k : Fin k0_t2_loop.trips) (s : KS F) : KS F where
  h1 := newH1 ln (rowsAt xs k) w0 wh0 b0 k s
  c1 := newC1 ln (rowsAt xs k) w0 wh0 b0 k s
  h2 := newH2 ln (newH1 ln (rowsAt xs k) w0 wh0 b0 k s) w1 wh1 b1 k s
  c2 := newC2 ln (newH1 ln (rowsAt xs k) w0 wh0 b0 k s) w1 wh1 b1 k s

/-- The zero state. -/
def kzero : KS F := ⟨k0_pay91, k0_pay92, k0_pay93, k0_pay94⟩

/-- The state before time step `k`, from `s`. -/
def kiter (ln : Vec F S256x512 .i32) (xs : Vec F S5120x384 .f32) (w0 : Vec F S384x2048 .bf16) (wh0 : Vec F S512x2048 .bf16)
    (b0 : Vec F S1x2048 .f32) (w1 wh1 : Vec F S512x2048 .bf16) (b1 : Vec F S1x2048 .f32) (s : KS F) : ℕ → KS F
  | 0 => s
  | k + 1 => if h : k < k0_t2_loop.trips then kstep ln xs w0 wh0 b0 w1 wh1 b1 ⟨k, h⟩ (kiter ln xs w0 wh0 b0 w1 wh1 b1 s k)
      else kiter ln xs w0 wh0 b0 w1 wh1 b1 s k

variable (𝒱 : Variants) (c : Dev nD) (bd : Option 𝒱.V) (i : grid0.Coords)
  (arg1 : Memref sig .tc .smem S1x1x5120 .i32) (harg1 : arg1.IsWhole)
  (arg2 : Memref sig .tc .vmem S11328x384 .f32) (harg2 : arg2.IsWhole)
  (arg3 : Memref sig .tc .vmem S256x512 .i32) (harg3 : arg3.IsWhole)
  (arg4 : Memref sig .tc .vmem S256x512 .f32) (harg4 : arg4.IsWhole)
  (arg5 : Memref sig .tc .vmem S384x2048 .bf16) (harg5 : arg5.IsWhole)
  (arg6 : Memref sig .tc .vmem S512x2048 .bf16) (harg6 : arg6.IsWhole)
  (arg7 : Memref sig .tc .vmem S1x2048 .f32) (harg7 : arg7.IsWhole)
  (arg8 : Memref sig .tc .vmem S512x2048 .bf16) (harg8 : arg8.IsWhole)
  (arg9 : Memref sig .tc .vmem S512x2048 .bf16) (harg9 : arg9.IsWhole)
  (arg10 : Memref sig .tc .vmem S1x2048 .f32) (harg10 : arg10.IsWhole)
  (arg11 : Memref sig .tc .vmem S256x128 .f32) (harg11 : arg11.IsWhole)
  (arg12 : Memref sig .tc .vmem S5120x384 .f32) (harg12 : arg12.IsWhole)
  (arg13 : Memref sig .tc .vmem S256x512 .bf16) (harg13 : arg13.IsWhole)
  (arg14 : Memref sig .tc .vmem S256x512 .f32) (harg14 : arg14.IsWhole)
  (arg15 : Memref sig .tc .vmem S256x512 .bf16) (harg15 : arg15.IsWhole)
  (arg16 : Memref sig .tc .vmem S256x512 .f32) (harg16 : arg16.IsWhole)

/-- What the four state buffers read. -/
abbrev readKS (f_arg13 : BufTy.Contents (Elt F) arg13.view.ty) (f_arg14 : BufTy.Contents (Elt F) arg14.view.ty) (f_arg15 : BufTy.Contents (Elt F) arg15.view.ty) (f_arg16 : BufTy.Contents (Elt F) arg16.view.ty) : KS F := ⟨(arg13.view.read (Elt F) f_arg13), (arg14.view.read (Elt F) f_arg14), (arg15.view.read (Elt F) f_arg15), (arg16.view.read (Elt F) f_arg16)⟩

/-- One trip's stores leave the state stepped once. -/
theorem trip_reads (v15 : Vec F S256x512 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg12 : BufTy.Contents (Elt F) arg12.view.ty) (k : Fin k0_t2_loop.trips) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) :
    readKS arg13 arg14 arg15 arg16 (arg13.view.writes (Elt F) f_arg13 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 k f_arg13 f_arg14 f_arg15 f_arg16).1) (arg14.view.writes (Elt F) f_arg14 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 k f_arg13 f_arg14 f_arg15 f_arg16).2.1)
      (arg15.view.writes (Elt F) f_arg15 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 k f_arg13 f_arg14 f_arg15 f_arg16).2.2.1) (arg16.view.writes (Elt F) f_arg16 (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 k f_arg13 f_arg14 f_arg15 f_arg16).2.2.2)
      = kstep v15 (arg12.view.read (Elt F) X_arg12) (arg5.view.read (Elt F) X_arg5) (arg6.view.read (Elt F) X_arg6) (arg7.view.read (Elt F) X_arg7) (arg8.view.read (Elt F) X_arg8) (arg9.view.read (Elt F) X_arg9) (arg10.view.read (Elt F) X_arg10) k (readKS arg13 arg14 arg15 arg16 f_arg13 f_arg14 f_arg15 f_arg16) := by
  have e5 (e : EltTy) (m : Memref sig .tc .vmem S256x512 e) (g : BufTy.Contents (Elt F) m.view.ty) :
      m.view.readAt (Elt F) (Rect.unit (s := S256x512) ![0, 0] S256x512.size inb_S256x512_S256x512_0_0).toLoadRect g = m.view.read (Elt F) g :=
    View.readAt_full _ _ _
  have e6 (e : EltTy) (m : Memref sig .tc .vmem S512x2048 e) (g : BufTy.Contents (Elt F) m.view.ty) :
      m.view.readAt (Elt F) (Rect.unit (s := S512x2048) ![0, 0] S512x2048.size inb_S512x2048_S512x2048_0_0).toLoadRect g = m.view.read (Elt F) g :=
    View.readAt_full _ _ _
  have e7 (e : EltTy) (m : Memref sig .tc .vmem S384x2048 e) (g : BufTy.Contents (Elt F) m.view.ty) :
      m.view.readAt (Elt F) (Rect.unit (s := S384x2048) ![0, 0] S384x2048.size inb_S384x2048_S384x2048_0_0).toLoadRect g = m.view.read (Elt F) g :=
    View.readAt_full _ _ _
  have e8 (e : EltTy) (m : Memref sig .tc .vmem S1x2048 e) (g : BufTy.Contents (Elt F) m.view.ty) :
      m.view.readAt (Elt F) (Rect.unit (s := S1x2048) ![0, 0] S1x2048.size inb_S1x2048_S1x2048_0_0).toLoadRect g = m.view.read (Elt F) g :=
    View.readAt_full _ _ _
  have e9 (e : EltTy) (m : Memref sig .tc .vmem S256x512 e) (g : BufTy.Contents (Elt F) m.view.ty) (w : Vec F S256x512 e) :
      m.view.read (Elt F) (m.view.writes (Elt F) g [⟨Rect.unit (s := S256x512) ![0, 0] S256x512.size inb_S256x512_S256x512_0_0, w⟩]) = w :=
    View.read_writes_full _ _ _ _ _
  have e10 (e : EltTy) (m : Memref sig .tc .vmem S256x512 e) (w : Vec F S256x512 e) :
      m.view.readCov (Val := Elt F) [⟨Rect.unit (s := S256x512) ![0, 0] S256x512.size inb_S256x512_S256x512_0_0, w⟩]
        (Rect.unit (s := S256x512) ![0, 0] S256x512.size inb_S256x512_S256x512_0_0).toLoadRect = w :=
    View.readCov_full _ _ _ _ _
  unfold tripL_k0_t2 trip_k0_t2
  unfold readKS kstep newH2 newC2 newC1 newH1 rowsAt
  dsimp only at e5 e6 e7 e8 e9 e10 ⊢
  unfold trip_k0_t2.sl.HW_arg13_1 trip_k0_t2.sl.r_7 trip_k0_t2.sl.r_5 trip_k0_t2.sl.v92
  unfold trip_k0_t2.sl.HW_arg13_1 trip_k0_t2.sl.r_1 trip_k0_t2.sl.r_2 trip_k0_t2.sl.r_3 trip_k0_t2.sl.r_4 trip_k0_t2.sl.r_6 trip_k0_t2.sl.r
  dsimp only
  refine congr (congr (congr (congrArg KS.mk ?_) ?_) ?_) ?_
  · rw [e9]; simp only [e5, e6, e7, e8]; rfl
  · rw [e9]; simp only [e5, e6, e7, e8]; rfl
  · rw [e9]; simp only [e5, e6, e7, e8, e10]; rfl
  · rw [e9]; simp only [e5, e6, e7, e8, e10]; rfl

/-- The pieces the first `n` time steps store. -/
abbrev stepPieces (v15 : Vec F S256x512 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg12 : BufTy.Contents (Elt F) arg12.view.ty)  (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (n : ℕ) :=
  pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 f_arg13 f_arg14 f_arg15 f_arg16 n

/-- After `n` time steps the state buffers read the state stepped `n` times. -/
theorem loop_reads (v15 : Vec F S256x512 .i32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg12 : BufTy.Contents (Elt F) arg12.view.ty)  (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (n : ℕ) (hn : n ≤ k0_t2_loop.trips) :
    readKS arg13 arg14 arg15 arg16 (arg13.view.writes (Elt F) f_arg13 (stepPieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 f_arg13 f_arg14 f_arg15 f_arg16 n).1) (arg14.view.writes (Elt F) f_arg14 (stepPieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 f_arg13 f_arg14 f_arg15 f_arg16 n).2.1) (arg15.view.writes (Elt F) f_arg15 (stepPieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 f_arg13 f_arg14 f_arg15 f_arg16 n).2.2.1) (arg16.view.writes (Elt F) f_arg16 (stepPieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 f_arg13 f_arg14 f_arg15 f_arg16 n).2.2.2)
      = kiter v15 (arg12.view.read (Elt F) X_arg12) (arg5.view.read (Elt F) X_arg5) (arg6.view.read (Elt F) X_arg6) (arg7.view.read (Elt F) X_arg7) (arg8.view.read (Elt F) X_arg8) (arg9.view.read (Elt F) X_arg9) (arg10.view.read (Elt F) X_arg10)
          (readKS arg13 arg14 arg15 arg16 f_arg13 f_arg14 f_arg15 f_arg16) n := by
  induction n with
  | zero => rfl
  | succ n ih =>
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 f_arg13 f_arg14 f_arg15 f_arg16 ⟨n, hn⟩
    have ih := ih (Nat.le_of_succ_le hn)
    unfold stepPieces at ih ⊢
    rw [show pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 f_arg13 f_arg14 f_arg15 f_arg16 (n + 1) = _ from e]
    dsimp only at ih ⊢
    rw [View.writes_append, View.writes_append, View.writes_append, View.writes_append,
      trip_reads (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 X_arg5 X_arg6 X_arg7 X_arg8 X_arg9 X_arg10 X_arg12 ⟨n, hn⟩, ih, kiter, dif_pos (show n < k0_t2_loop.trips from hn)]

end Cert.KernelIdeal.Steps
-- ==== Proof.KTriple.lean ====
/- The kernel body on one chunk of 256 rows: what it leaves in the output block. -/
module

public import proofs.«01_k».proof.Proof.Gen.KernelIdeal.Loops
public import proofs.«01_k».proof.Proof.KGather
public import proofs.«01_k».proof.Proof.KSteps
public import proofs.«01_k».proof.Proof.Gen.KernelIdeal.Frame
public import Idealize.ShloMosaic.Lib.WritesUnit
public import Idealize.ShloMosaic.Lib.VecWindow

@[expose] public section

set_option maxRecDepth 16384

noncomputable section

namespace Cert.KernelIdeal.Body

open Idealize.ShloMosaic Idealize.ShloMosaic.TcCoe Idealize.ShloMosaic.Tactic
open Cert.KernelIdeal Cert.KernelIdeal.Gen
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The chunk's 5120 embedded rows: row `r` is the row of the table its word names. -/
def rows (x0 : Vec F S1x1x5120 .i32) (x1 : Vec F S11328x384 .f32) : Vec F S5120x384 .f32 :=
  fun y => x1 (Gather.ixT (x0 (ix3 (n0 := 1) (n1 := 1) (n2 := 5120) 0 0 (y (0 : Fin 2))) : BitVec 32).toNat (y (1 : Fin 2)))

/-- What the body leaves in the output block. -/
def outBlk (x0 : Vec F S1x1x5120 .i32) (x1 : Vec F S11328x384 .f32) (x2 : Vec F S256x512 .i32) (x3 : Vec F S256x512 .f32) (x4 : Vec F S384x2048 .bf16)
    (x5 : Vec F S512x2048 .bf16) (x6 : Vec F S1x2048 .f32) (x7 x8 : Vec F S512x2048 .bf16) (x9 : Vec F S1x2048 .f32) : Vec F S256x128 .f32 :=
  k0_pay97 (Steps.kiter x2 (rows x0 x1) x4 x5 x6 x7 x8 x9 Steps.kzero k0_t2_loop.trips).h2 x3

/-- The gather loop leaves the chunk's embedded rows in the scratch `arg12`, whatever was there before. -/
theorem rows_read (c : Dev nD) (i : grid0.Coords) (arg1 : Memref sig .tc .smem S1x1x5120 .i32) (harg1 : arg1.IsWhole) (arg2 : Memref sig .tc .vmem S11328x384 .f32) (harg2 : arg2.IsWhole) (arg3 : Memref sig .tc .vmem S256x512 .i32) (harg3 : arg3.IsWhole) (arg4 : Memref sig .tc .vmem S256x512 .f32) (harg4 : arg4.IsWhole) (arg5 : Memref sig .tc .vmem S384x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S256x128 .f32) (harg11 : arg11.IsWhole) (arg12 : Memref sig .tc .vmem S5120x384 .f32) (harg12 : arg12.IsWhole) (arg13 : Memref sig .tc .vmem S256x512 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S256x512 .f32) (harg16 : arg16.IsWhole)
    (x0 : Vec F S1x1x5120 .i32) (x1 : Vec F S11328x384 .f32) (k0_hw1L : (∀ (kq : ℕ) (hkq : kq < k0_t1_loop.trips), k0_chk1 (arg1.view.readAt (Elt F) (Rect.unit (s := S1x1x5120) (k0_off1 ⟨kq, hkq⟩) S1x1x1.size (k0_off1_inb ⟨kq, hkq⟩)).toLoadRect (harg1.unread x0) (Shape.Idx.first (numel1_S1x1x1.symm ▸ Nat.one_pos))))) (k0_hw2L : (∀ (kq : ℕ) (hkq : kq < k0_t1_loop.trips), k0_chk2 (arg1.view.readAt (Elt F) (Rect.unit (s := S1x1x5120) (k0_off3 ⟨kq, hkq⟩) S1x1x1.size (k0_off3_inb ⟨kq, hkq⟩)).toLoadRect (harg1.unread x0) (Shape.Idx.first (numel1_S1x1x1.symm ▸ Nat.one_pos))))) (k0_hw3L : (∀ (kq : ℕ) (hkq : kq < k0_t1_loop.trips), k0_chk3 (arg1.view.readAt (Elt F) (Rect.unit (s := S1x1x5120) (k0_off5 ⟨kq, hkq⟩) S1x1x1.size (k0_off5_inb ⟨kq, hkq⟩)).toLoadRect (harg1.unread x0) (Shape.Idx.first (numel1_S1x1x1.symm ▸ Nat.one_pos))))) (k0_hw4L : (∀ (kq : ℕ) (hkq : kq < k0_t1_loop.trips), k0_chk4 (arg1.view.readAt (Elt F) (Rect.unit (s := S1x1x5120) (k0_off7 ⟨kq, hkq⟩) S1x1x1.size (k0_off7_inb ⟨kq, hkq⟩)).toLoadRect (harg1.unread x0) (Shape.Idx.first (numel1_S1x1x1.symm ▸ Nat.one_pos))))) (k0_hw5L : (∀ (kq : ℕ) (hkq : kq < k0_t1_loop.trips), k0_chk5 (arg1.view.readAt (Elt F) (Rect.unit (s := S1x1x5120) (k0_off9 ⟨kq, hkq⟩) S1x1x1.size (k0_off9_inb ⟨kq, hkq⟩)).toLoadRect (harg1.unread x0) (Shape.Idx.first (numel1_S1x1x1.symm ▸ Nat.one_pos))))) (k0_hw6L : (∀ (kq : ℕ) (hkq : kq < k0_t1_loop.trips), k0_chk6 (arg1.view.readAt (Elt F) (Rect.unit (s := S1x1x5120) (k0_off11 ⟨kq, hkq⟩) S1x1x1.size (k0_off11_inb ⟨kq, hkq⟩)).toLoadRect (harg1.unread x0) (Shape.Idx.first (numel1_S1x1x1.symm ▸ Nat.one_pos))))) (k0_hw7L : (∀ (kq : ℕ) (hkq : kq < k0_t1_loop.trips), k0_chk7 (arg1.view.readAt (Elt F) (Rect.unit (s := S1x1x5120) (k0_off13 ⟨kq, hkq⟩) S1x1x1.size (k0_off13_inb ⟨kq, hkq⟩)).toLoadRect (harg1.unread x0) (Shape.Idx.first (numel1_S1x1x1.symm ▸ Nat.one_pos))))) (k0_hw8L : (∀ (kq : ℕ) (hkq : kq < k0_t1_loop.trips), k0_chk8 (arg1.view.readAt (Elt F) (Rect.unit (s := S1x1x5120) (k0_off15 ⟨kq, hkq⟩) S1x1x1.size (k0_off15_inb ⟨kq, hkq⟩)).toLoadRect (harg1.unread x0) (Shape.Idx.first (numel1_S1x1x1.symm ▸ Nat.one_pos))))) (k0_hw9L : (∀ (kq : ℕ) (hkq : kq < k0_t1_loop.trips), k0_chk9 (arg1.view.readAt (Elt F) (Rect.unit (s := S1x1x5120) (k0_off18 ⟨kq, hkq⟩) S1x1x1.size (k0_off18_inb ⟨kq, hkq⟩)).toLoadRect (harg1.unread x0) (Shape.Idx.first (numel1_S1x1x1.symm ▸ Nat.one_pos))))) (k0_hw10L : (∀ (kq : ℕ) (hkq : kq < k0_t1_loop.trips), k0_chk10 (arg1.view.readAt (Elt F) (Rect.unit (s := S1x1x5120) (k0_off20 ⟨kq, hkq⟩) S1x1x1.size (k0_off20_inb ⟨kq, hkq⟩)).toLoadRect (harg1.unread x0) (Shape.Idx.first (numel1_S1x1x1.symm ▸ Nat.one_pos))))) (k0_hw11L : (∀ (kq : ℕ) (hkq : kq < k0_t1_loop.trips), k0_chk11 (arg1.view.readAt (Elt F) (Rect.unit (s := S1x1x5120) (k0_off22 ⟨kq, hkq⟩) S1x1x1.size (k0_off22_inb ⟨kq, hkq⟩)).toLoadRect (harg1.unread x0) (Shape.Idx.first (numel1_S1x1x1.symm ▸ Nat.one_pos))))) (k0_hw12L : (∀ (kq : ℕ) (hkq : kq < k0_t1_loop.trips), k0_chk12 (arg1.view.readAt (Elt F) (Rect.unit (s := S1x1x5120) (k0_off24 ⟨kq, hkq⟩) S1x1x1.size (k0_off24_inb ⟨kq, hkq⟩)).toLoadRect (harg1.unread x0) (Shape.Idx.first (numel1_S1x1x1.symm ▸ Nat.one_pos))))) (k0_hw13L : (∀ (kq : ℕ) (hkq : kq < k0_t1_loop.trips), k0_chk13 (arg1.view.readAt (Elt F) (Rect.unit (s := S1x1x5120) (k0_off26 ⟨kq, hkq⟩) S1x1x1.size (k0_off26_inb ⟨kq, hkq⟩)).toLoadRect (harg1.unread x0) (Shape.Idx.first (numel1_S1x1x1.symm ▸ Nat.one_pos))))) (k0_hw14L : (∀ (kq : ℕ) (hkq : kq < k0_t1_loop.trips), k0_chk14 (arg1.view.readAt (Elt F) (Rect.unit (s := S1x1x5120) (k0_off28 ⟨kq, hkq⟩) S1x1x1.size (k0_off28_inb ⟨kq, hkq⟩)).toLoadRect (harg1.unread x0) (Shape.Idx.first (numel1_S1x1x1.symm ▸ Nat.one_pos))))) (k0_hw15L : (∀ (kq : ℕ) (hkq : kq < k0_t1_loop.trips), k0_chk15 (arg1.view.readAt (Elt F) (Rect.unit (s := S1x1x5120) (k0_off30 ⟨kq, hkq⟩) S1x1x1.size (k0_off30_inb ⟨kq, hkq⟩)).toLoadRect (harg1.unread x0) (Shape.Idx.first (numel1_S1x1x1.symm ▸ Nat.one_pos))))) (k0_hw16L : (∀ (kq : ℕ) (hkq : kq < k0_t1_loop.trips), k0_chk16 (arg1.view.readAt (Elt F) (Rect.unit (s := S1x1x5120) (k0_off32 ⟨kq, hkq⟩) S1x1x1.size (k0_off32_inb ⟨kq, hkq⟩)).toLoadRect (harg1.unread x0) (Shape.Idx.first (numel1_S1x1x1.symm ▸ Nat.one_pos))))) (k0_hw17L : (∀ (kq : ℕ) (hkq : kq < k0_t1_loop.trips), k0_chk17 (arg1.view.readAt (Elt F) (Rect.unit (s := S1x1x5120) (k0_off35 ⟨kq, hkq⟩) S1x1x1.size (k0_off35_inb ⟨kq, hkq⟩)).toLoadRect (harg1.unread x0) (Shape.Idx.first (numel1_S1x1x1.symm ▸ Nat.one_pos))))) (k0_hw18L : (∀ (kq : ℕ) (hkq : kq < k0_t1_loop.trips), k0_chk18 (arg1.view.readAt (Elt F) (Rect.unit (s := S1x1x5120) (k0_off37 ⟨kq, hkq⟩) S1x1x1.size (k0_off37_inb ⟨kq, hkq⟩)).toLoadRect (harg1.unread x0) (Shape.Idx.first (numel1_S1x1x1.symm ▸ Nat.one_pos))))) (k0_hw19L : (∀ (kq : ℕ) (hkq : kq < k0_t1_loop.trips), k0_chk19 (arg1.view.readAt (Elt F) (Rect.unit (s := S1x1x5120) (k0_off39 ⟨kq, hkq⟩) S1x1x1.size (k0_off39_inb ⟨kq, hkq⟩)).toLoadRect (harg1.unread x0) (Shape.Idx.first (numel1_S1x1x1.symm ▸ Nat.one_pos))))) (k0_hw20L : (∀ (kq : ℕ) (hkq : kq < k0_t1_loop.trips), k0_chk20 (arg1.view.readAt (Elt F) (Rect.unit (s := S1x1x5120) (k0_off41 ⟨kq, hkq⟩) S1x1x1.size (k0_off41_inb ⟨kq, hkq⟩)).toLoadRect (harg1.unread x0) (Shape.Idx.first (numel1_S1x1x1.symm ▸ Nat.one_pos))))) (k0_hw21L : (∀ (kq : ℕ) (hkq : kq < k0_t1_loop.trips), k0_chk21 (arg1.view.readAt (Elt F) (Rect.unit (s := S1x1x5120) (k0_off43 ⟨kq, hkq⟩) S1x1x1.size (k0_off43_inb ⟨kq, hkq⟩)).toLoadRect (harg1.unread x0) (Shape.Idx.first (numel1_S1x1x1.symm ▸ Nat.one_pos))))) (k0_hw22L : (∀ (kq : ℕ) (hkq : kq < k0_t1_loop.trips), k0_chk22 (arg1.view.readAt (Elt F) (Rect.unit (s := S1x1x5120) (k0_off45 ⟨kq, hkq⟩) S1x1x1.size (k0_off45_inb ⟨kq, hkq⟩)).toLoadRect (harg1.unread x0) (Shape.Idx.first (numel1_S1x1x1.symm ▸ Nat.one_pos))))) (k0_hw23L : (∀ (kq : ℕ) (hkq : kq < k0_t1_loop.trips), k0_chk23 (arg1.view.readAt (Elt F) (Rect.unit (s := S1x1x5120) (k0_off47 ⟨kq, hkq⟩) S1x1x1.size (k0_off47_inb ⟨kq, hkq⟩)).toLoadRect (harg1.unread x0) (Shape.Idx.first (numel1_S1x1x1.symm ▸ Nat.one_pos))))) (k0_hw24L : (∀ (kq : ℕ) (hkq : kq < k0_t1_loop.trips), k0_chk24 (arg1.view.readAt (Elt F) (Rect.unit (s := S1x1x5120) (k0_off49 ⟨kq, hkq⟩) S1x1x1.size (k0_off49_inb ⟨kq, hkq⟩)).toLoadRect (harg1.unread x0) (Shape.Idx.first (numel1_S1x1x1.symm ▸ Nat.one_pos))))) (k0_hw25L : (∀ (kq : ℕ) (hkq : kq < k0_t1_loop.trips), k0_chk25 (arg1.view.readAt (Elt F) (Rect.unit (s := S1x1x5120) (k0_off52 ⟨kq, hkq⟩) S1x1x1.size (k0_off52_inb ⟨kq, hkq⟩)).toLoadRect (harg1.unread x0) (Shape.Idx.first (numel1_S1x1x1.symm ▸ Nat.one_pos))))) (k0_hw26L : (∀ (kq : ℕ) (hkq : kq < k0_t1_loop.trips), k0_chk26 (arg1.view.readAt (Elt F) (Rect.unit (s := S1x1x5120) (k0_off54 ⟨kq, hkq⟩) S1x1x1.size (k0_off54_inb ⟨kq, hkq⟩)).toLoadRect (harg1.unread x0) (Shape.Idx.first (numel1_S1x1x1.symm ▸ Nat.one_pos))))) (k0_hw27L : (∀ (kq : ℕ) (hkq : kq < k0_t1_loop.trips), k0_chk27 (arg1.view.readAt (Elt F) (Rect.unit (s := S1x1x5120) (k0_off56 ⟨kq, hkq⟩) S1x1x1.size (k0_off56_inb ⟨kq, hkq⟩)).toLoadRect (harg1.unread x0) (Shape.Idx.first (numel1_S1x1x1.symm ▸ Nat.one_pos))))) (k0_hw28L : (∀ (kq : ℕ) (hkq : kq < k0_t1_loop.trips), k0_chk28 (arg1.view.readAt (Elt F) (Rect.unit (s := S1x1x5120) (k0_off58 ⟨kq, hkq⟩) S1x1x1.size (k0_off58_inb ⟨kq, hkq⟩)).toLoadRect (harg1.unread x0) (Shape.Idx.first (numel1_S1x1x1.symm ▸ Nat.one_pos))))) (k0_hw29L : (∀ (kq : ℕ) (hkq : kq < k0_t1_loop.trips), k0_chk29 (arg1.view.readAt (Elt F) (Rect.unit (s := S1x1x5120) (k0_off60 ⟨kq, hkq⟩) S1x1x1.size (k0_off60_inb ⟨kq, hkq⟩)).toLoadRect (harg1.unread x0) (Shape.Idx.first (numel1_S1x1x1.symm ▸ Nat.one_pos))))) (k0_hw30L : (∀ (kq : ℕ) (hkq : kq < k0_t1_loop.trips), k0_chk30 (arg1.view.readAt (Elt F) (Rect.unit (s := S1x1x5120) (k0_off62 ⟨kq, hkq⟩) S1x1x1.size (k0_off62_inb ⟨kq, hkq⟩)).toLoadRect (harg1.unread x0) (Shape.Idx.first (numel1_S1x1x1.symm ▸ Nat.one_pos))))) (k0_hw31L : (∀ (kq : ℕ) (hkq : kq < k0_t1_loop.trips), k0_chk31 (arg1.view.readAt (Elt F) (Rect.unit (s := S1x1x5120) (k0_off64 ⟨kq, hkq⟩) S1x1x1.size (k0_off64_inb ⟨kq, hkq⟩)).toLoadRect (harg1.unread x0) (Shape.Idx.first (numel1_S1x1x1.symm ▸ Nat.one_pos))))) (k0_hw32L : (∀ (kq : ℕ) (hkq : kq < k0_t1_loop.trips), k0_chk32 (arg1.view.readAt (Elt F) (Rect.unit (s := S1x1x5120) (k0_off66 ⟨kq, hkq⟩) S1x1x1.size (k0_off66_inb ⟨kq, hkq⟩)).toLoadRect (harg1.unread x0) (Shape.Idx.first (numel1_S1x1x1.symm ▸ Nat.one_pos))))) (k0_hw33L : (∀ (kq : ℕ) (hkq : kq < k0_t1_loop.trips), k0_chk33 (arg1.view.readAt (Elt F) (Rect.unit (s := S1x1x5120) (k0_off69 ⟨kq, hkq⟩) S1x1x1.size (k0_off69_inb ⟨kq, hkq⟩)).toLoadRect (harg1.unread x0) (Shape.Idx.first (numel1_S1x1x1.symm ▸ Nat.one_pos))))) (k0_hw34L : (∀ (kq : ℕ) (hkq : kq < k0_t1_loop.trips), k0_chk34 (arg1.view.readAt (Elt F) (Rect.unit (s := S1x1x5120) (k0_off71 ⟨kq, hkq⟩) S1x1x1.size (k0_off71_inb ⟨kq, hkq⟩)).toLoadRect (harg1.unread x0) (Shape.Idx.first (numel1_S1x1x1.symm ▸ Nat.one_pos))))) (k0_hw35L : (∀ (kq : ℕ) (hkq : kq < k0_t1_loop.trips), k0_chk35 (arg1.view.readAt (Elt F) (Rect.unit (s := S1x1x5120) (k0_off73 ⟨kq, hkq⟩) S1x1x1.size (k0_off73_inb ⟨kq, hkq⟩)).toLoadRect (harg1.unread x0) (Shape.Idx.first (numel1_S1x1x1.symm ▸ Nat.one_pos))))) (k0_hw36L : (∀ (kq : ℕ) (hkq : kq < k0_t1_loop.trips), k0_chk36 (arg1.view.readAt (Elt F) (Rect.unit (s := S1x1x5120) (k0_off75 ⟨kq, hkq⟩) S1x1x1.size (k0_off75_inb ⟨kq, hkq⟩)).toLoadRect (harg1.unread x0) (Shape.Idx.first (numel1_S1x1x1.symm ▸ Nat.one_pos))))) (k0_hw37L : (∀ (kq : ℕ) (hkq : kq < k0_t1_loop.trips), k0_chk37 (arg1.view.readAt (Elt F) (Rect.unit (s := S1x1x5120) (k0_off77 ⟨kq, hkq⟩) S1x1x1.size (k0_off77_inb ⟨kq, hkq⟩)).toLoadRect (harg1.unread x0) (Shape.Idx.first (numel1_S1x1x1.symm ▸ Nat.one_pos))))) (k0_hw38L : (∀ (kq : ℕ) (hkq : kq < k0_t1_loop.trips), k0_chk38 (arg1.view.readAt (Elt F) (Rect.unit (s := S1x1x5120) (k0_off79 ⟨kq, hkq⟩) S1x1x1.size (k0_off79_inb ⟨kq, hkq⟩)).toLoadRect (harg1.unread x0) (Shape.Idx.first (numel1_S1x1x1.symm ▸ Nat.one_pos))))) (k0_hw39L : (∀ (kq : ℕ) (hkq : kq < k0_t1_loop.trips), k0_chk39 (arg1.view.readAt (Elt F) (Rect.unit (s := S1x1x5120) (k0_off81 ⟨kq, hkq⟩) S1x1x1.size (k0_off81_inb ⟨kq, hkq⟩)).toLoadRect (harg1.unread x0) (Shape.Idx.first (numel1_S1x1x1.symm ▸ Nat.one_pos))))) (k0_hw40L : (∀ (kq : ℕ) (hkq : kq < k0_t1_loop.trips), k0_chk40 (arg1.view.readAt (Elt F) (Rect.unit (s := S1x1x5120) (k0_off83 ⟨kq, hkq⟩) S1x1x1.size (k0_off83_inb ⟨kq, hkq⟩)).toLoadRect (harg1.unread x0) (Shape.Idx.first (numel1_S1x1x1.symm ▸ Nat.one_pos))))) (k0_hw41L : (∀ (kq : ℕ) (hkq : kq < k0_t1_loop.trips), k0_chk41 (arg1.view.readAt (Elt F) (Rect.unit (s := S1x1x5120) (k0_off86 ⟨kq, hkq⟩) S1x1x1.size (k0_off86_inb ⟨kq, hkq⟩)).toLoadRect (harg1.unread x0) (Shape.Idx.first (numel1_S1x1x1.symm ▸ Nat.one_pos))))) (k0_hw42L : (∀ (kq : ℕ) (hkq : kq < k0_t1_loop.trips), k0_chk42 (arg1.view.readAt (Elt F) (Rect.unit (s := S1x1x5120) (k0_off88 ⟨kq, hkq⟩) S1x1x1.size (k0_off88_inb ⟨kq, hkq⟩)).toLoadRect (harg1.unread x0) (Shape.Idx.first (numel1_S1x1x1.symm ▸ Nat.one_pos))))) (k0_hw43L : (∀ (kq : ℕ) (hkq : kq < k0_t1_loop.trips), k0_chk43 (arg1.view.readAt (Elt F) (Rect.unit (s := S1x1x5120) (k0_off90 ⟨kq, hkq⟩) S1x1x1.size (k0_off90_inb ⟨kq, hkq⟩)).toLoadRect (harg1.unread x0) (Shape.Idx.first (numel1_S1x1x1.symm ▸ Nat.one_pos))))) (k0_hw44L : (∀ (kq : ℕ) (hkq : kq < k0_t1_loop.trips), k0_chk44 (arg1.view.readAt (Elt F) (Rect.unit (s := S1x1x5120) (k0_off92 ⟨kq, hkq⟩) S1x1x1.size (k0_off92_inb ⟨kq, hkq⟩)).toLoadRect (harg1.unread x0) (Shape.Idx.first (numel1_S1x1x1.symm ▸ Nat.one_pos))))) (k0_hw45L : (∀ (kq : ℕ) (hkq : kq < k0_t1_loop.trips), k0_chk45 (arg1.view.readAt (Elt F) (Rect.unit (s := S1x1x5120) (k0_off94 ⟨kq, hkq⟩) S1x1x1.size (k0_off94_inb ⟨kq, hkq⟩)).toLoadRect (harg1.unread x0) (Shape.Idx.first (numel1_S1x1x1.symm ▸ Nat.one_pos))))) (k0_hw46L : (∀ (kq : ℕ) (hkq : kq < k0_t1_loop.trips), k0_chk46 (arg1.view.readAt (Elt F) (Rect.unit (s := S1x1x5120) (k0_off96 ⟨kq, hkq⟩) S1x1x1.size (k0_off96_inb ⟨kq, hkq⟩)).toLoadRect (harg1.unread x0) (Shape.Idx.first (numel1_S1x1x1.symm ▸ Nat.one_pos))))) (k0_hw47L : (∀ (kq : ℕ) (hkq : kq < k0_t1_loop.trips), k0_chk47 (arg1.view.readAt (Elt F) (Rect.unit (s := S1x1x5120) (k0_off98 ⟨kq, hkq⟩) S1x1x1.size (k0_off98_inb ⟨kq, hkq⟩)).toLoadRect (harg1.unread x0) (Shape.Idx.first (numel1_S1x1x1.symm ▸ Nat.one_pos))))) (k0_hw48L : (∀ (kq : ℕ) (hkq : kq < k0_t1_loop.trips), k0_chk48 (arg1.view.readAt (Elt F) (Rect.unit (s := S1x1x5120) (k0_off100 ⟨kq, hkq⟩) S1x1x1.size (k0_off100_inb ⟨kq, hkq⟩)).toLoadRect (harg1.unread x0) (Shape.Idx.first (numel1_S1x1x1.symm ▸ Nat.one_pos))))) (k0_hw49L : (∀ (kq : ℕ) (hkq : kq < k0_t1_loop.trips), k0_chk49 (arg1.view.readAt (Elt F) (Rect.unit (s := S1x1x5120) (k0_off103 ⟨kq, hkq⟩) S1x1x1.size (k0_off103_inb ⟨kq, hkq⟩)).toLoadRect (harg1.unread x0) (Shape.Idx.first (numel1_S1x1x1.symm ▸ Nat.one_pos))))) (k0_hw50L : (∀ (kq : ℕ) (hkq : kq < k0_t1_loop.trips), k0_chk50 (arg1.view.readAt (Elt F) (Rect.unit (s := S1x1x5120) (k0_off105 ⟨kq, hkq⟩) S1x1x1.size (k0_off105_inb ⟨kq, hkq⟩)).toLoadRect (harg1.unread x0) (Shape.Idx.first (numel1_S1x1x1.symm ▸ Nat.one_pos))))) (k0_hw51L : (∀ (kq : ℕ) (hkq : kq < k0_t1_loop.trips), k0_chk51 (arg1.view.readAt (Elt F) (Rect.unit (s := S1x1x5120) (k0_off107 ⟨kq, hkq⟩) S1x1x1.size (k0_off107_inb ⟨kq, hkq⟩)).toLoadRect (harg1.unread x0) (Shape.Idx.first (numel1_S1x1x1.symm ▸ Nat.one_pos))))) (k0_hw52L : (∀ (kq : ℕ) (hkq : kq < k0_t1_loop.trips), k0_chk52 (arg1.view.readAt (Elt F) (Rect.unit (s := S1x1x5120) (k0_off109 ⟨kq, hkq⟩) S1x1x1.size (k0_off109_inb ⟨kq, hkq⟩)).toLoadRect (harg1.unread x0) (Shape.Idx.first (numel1_S1x1x1.symm ▸ Nat.one_pos))))) (k0_hw53L : (∀ (kq : ℕ) (hkq : kq < k0_t1_loop.trips), k0_chk53 (arg1.view.readAt (Elt F) (Rect.unit (s := S1x1x5120) (k0_off111 ⟨kq, hkq⟩) S1x1x1.size (k0_off111_inb ⟨kq, hkq⟩)).toLoadRect (harg1.unread x0) (Shape.Idx.first (numel1_S1x1x1.symm ▸ Nat.one_pos))))) (k0_hw54L : (∀ (kq : ℕ) (hkq : kq < k0_t1_loop.trips), k0_chk54 (arg1.view.readAt (Elt F) (Rect.unit (s := S1x1x5120) (k0_off113 ⟨kq, hkq⟩) S1x1x1.size (k0_off113_inb ⟨kq, hkq⟩)).toLoadRect (harg1.unread x0) (Shape.Idx.first (numel1_S1x1x1.symm ▸ Nat.one_pos))))) (k0_hw55L : (∀ (kq : ℕ) (hkq : kq < k0_t1_loop.trips), k0_chk55 (arg1.view.readAt (Elt F) (Rect.unit (s := S1x1x5120) (k0_off115 ⟨kq, hkq⟩) S1x1x1.size (k0_off115_inb ⟨kq, hkq⟩)).toLoadRect (harg1.unread x0) (Shape.Idx.first (numel1_S1x1x1.symm ▸ Nat.one_pos))))) (k0_hw56L : (∀ (kq : ℕ) (hkq : kq < k0_t1_loop.trips), k0_chk56 (arg1.view.readAt (Elt F) (Rect.unit (s := S1x1x5120) (k0_off117 ⟨kq, hkq⟩) S1x1x1.size (k0_off117_inb ⟨kq, hkq⟩)).toLoadRect (harg1.unread x0) (Shape.Idx.first (numel1_S1x1x1.symm ▸ Nat.one_pos))))) (k0_hw57L : (∀ (kq : ℕ) (hkq : kq < k0_t1_loop.trips), k0_chk57 (arg1.view.readAt (Elt F) (Rect.unit (s := S1x1x5120) (k0_off120 ⟨kq, hkq⟩) S1x1x1.size (k0_off120_inb ⟨kq, hkq⟩)).toLoadRect (harg1.unread x0) (Shape.Idx.first (numel1_S1x1x1.symm ▸ Nat.one_pos))))) (k0_hw58L : (∀ (kq : ℕ) (hkq : kq < k0_t1_loop.trips), k0_chk58 (arg1.view.readAt (Elt F) (Rect.unit (s := S1x1x5120) (k0_off122 ⟨kq, hkq⟩) S1x1x1.size (k0_off122_inb ⟨kq, hkq⟩)).toLoadRect (harg1.unread x0) (Shape.Idx.first (numel1_S1x1x1.symm ▸ Nat.one_pos))))) (k0_hw59L : (∀ (kq : ℕ) (hkq : kq < k0_t1_loop.trips), k0_chk59 (arg1.view.readAt (Elt F) (Rect.unit (s := S1x1x5120) (k0_off124 ⟨kq, hkq⟩) S1x1x1.size (k0_off124_inb ⟨kq, hkq⟩)).toLoadRect (harg1.unread x0) (Shape.Idx.first (numel1_S1x1x1.symm ▸ Nat.one_pos))))) (k0_hw60L : (∀ (kq : ℕ) (hkq : kq < k0_t1_loop.trips), k0_chk60 (arg1.view.readAt (Elt F) (Rect.unit (s := S1x1x5120) (k0_off126 ⟨kq, hkq⟩) S1x1x1.size (k0_off126_inb ⟨kq, hkq⟩)).toLoadRect (harg1.unread x0) (Shape.Idx.first (numel1_S1x1x1.symm ▸ Nat.one_pos))))) (k0_hw61L : (∀ (kq : ℕ) (hkq : kq < k0_t1_loop.trips), k0_chk61 (arg1.view.readAt (Elt F) (Rect.unit (s := S1x1x5120) (k0_off128 ⟨kq, hkq⟩) S1x1x1.size (k0_off128_inb ⟨kq, hkq⟩)).toLoadRect (harg1.unread x0) (Shape.Idx.first (numel1_S1x1x1.symm ▸ Nat.one_pos))))) (k0_hw62L : (∀ (kq : ℕ) (hkq : kq < k0_t1_loop.trips), k0_chk62 (arg1.view.readAt (Elt F) (Rect.unit (s := S1x1x5120) (k0_off130 ⟨kq, hkq⟩) S1x1x1.size (k0_off130_inb ⟨kq, hkq⟩)).toLoadRect (harg1.unread x0) (Shape.Idx.first (numel1_S1x1x1.symm ▸ Nat.one_pos))))) (k0_hw63L : (∀ (kq : ℕ) (hkq : kq < k0_t1_loop.trips), k0_chk63 (arg1.view.readAt (Elt F) (Rect.unit (s := S1x1x5120) (k0_off132 ⟨kq, hkq⟩) S1x1x1.size (k0_off132_inb ⟨kq, hkq⟩)).toLoadRect (harg1.unread x0) (Shape.Idx.first (numel1_S1x1x1.symm ▸ Nat.one_pos))))) (k0_hw64L : (∀ (kq : ℕ) (hkq : kq < k0_t1_loop.trips), k0_chk64 (arg1.view.readAt (Elt F) (Rect.unit (s := S1x1x5120) (k0_off134 ⟨kq, hkq⟩) S1x1x1.size (k0_off134_inb ⟨kq, hkq⟩)).toLoadRect (harg1.unread x0) (Shape.Idx.first (numel1_S1x1x1.symm ▸ Nat.one_pos)))))
    (hx0 : ∀ y, (x0 y : BitVec 32).toNat < 11322) (fs0 : BufTy.Contents (Elt F) arg12.view.ty) :
    arg12.view.read (Elt F) (arg12.view.writes (Elt F) fs0 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Gather.rowNo (harg1.unread x0) (harg2.unread x1) k0_hw1L k0_hw2L k0_hw3L k0_hw4L k0_hw5L k0_hw6L k0_hw7L k0_hw8L k0_hw9L k0_hw10L k0_hw11L k0_hw12L k0_hw13L k0_hw14L k0_hw15L k0_hw16L k0_hw17L k0_hw18L k0_hw19L k0_hw20L k0_hw21L k0_hw22L k0_hw23L k0_hw24L k0_hw25L k0_hw26L k0_hw27L k0_hw28L k0_hw29L k0_hw30L k0_hw31L k0_hw32L k0_hw33L k0_hw34L k0_hw35L k0_hw36L k0_hw37L k0_hw38L k0_hw39L k0_hw40L k0_hw41L k0_hw42L k0_hw43L k0_hw44L k0_hw45L k0_hw46L k0_hw47L k0_hw48L k0_hw49L k0_hw50L k0_hw51L k0_hw52L k0_hw53L k0_hw54L k0_hw55L k0_hw56L k0_hw57L k0_hw58L k0_hw59L k0_hw60L k0_hw61L k0_hw62L k0_hw63L k0_hw64L k0_t1_loop.trips)) = rows x0 x1 := by
  funext y
  have hX : ∀ r, (Gather.word arg1 (harg1.unread x0) r).toNat < 11322 := by
    intro r; unfold Gather.word; rw [harg1.read_unread]; exact hx0 _
  have h80 : k0_t1_loop.trips = 80 := by decide
  refine (Gather.loop_reads (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (harg2.unread x1) k0_hw1L k0_hw2L k0_hw3L k0_hw4L k0_hw5L k0_hw6L k0_hw7L k0_hw8L k0_hw9L k0_hw10L k0_hw11L k0_hw12L k0_hw13L k0_hw14L k0_hw15L k0_hw16L k0_hw17L k0_hw18L k0_hw19L k0_hw20L k0_hw21L k0_hw22L k0_hw23L k0_hw24L k0_hw25L k0_hw26L k0_hw27L k0_hw28L k0_hw29L k0_hw30L k0_hw31L k0_hw32L k0_hw33L k0_hw34L k0_hw35L k0_hw36L k0_hw37L k0_hw38L k0_hw39L k0_hw40L k0_hw41L k0_hw42L k0_hw43L k0_hw44L k0_hw45L k0_hw46L k0_hw47L k0_hw48L k0_hw49L k0_hw50L k0_hw51L k0_hw52L k0_hw53L k0_hw54L k0_hw55L k0_hw56L k0_hw57L k0_hw58L k0_hw59L k0_hw60L k0_hw61L k0_hw62L k0_hw63L k0_hw64L hX fs0 y k0_t1_loop.trips le_rfl).trans ?_
  have hy : (y (0 : Fin 2)).val < 64 * k0_t1_loop.trips := by rw [h80]; exact (y (0 : Fin 2)).isLt
  rw [if_pos hy]
  unfold Gather.want Gather.word rows
  rw [harg1.read_unread, harg2.read_unread]
  have e : (⟨(y (0 : Fin 2)).val % 5120, Nat.mod_lt _ (by decide)⟩ : Fin 5120) = y (0 : Fin 2) :=
    Fin.ext (Nat.mod_eq_of_lt (y (0 : Fin 2)).isLt)
  rw [e]

/-- The time-step loop, entered with the chunk's rows in `arg12` and zeros in the four state scratches, leaves the upper
    layer's hidden state in `arg15`. -/
theorem state_read (c : Dev nD) (i : grid0.Coords) (arg1 : Memref sig .tc .smem S1x1x5120 .i32) (harg1 : arg1.IsWhole) (arg2 : Memref sig .tc .vmem S11328x384 .f32) (harg2 : arg2.IsWhole) (arg3 : Memref sig .tc .vmem S256x512 .i32) (harg3 : arg3.IsWhole) (arg4 : Memref sig .tc .vmem S256x512 .f32) (harg4 : arg4.IsWhole) (arg5 : Memref sig .tc .vmem S384x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S256x128 .f32) (harg11 : arg11.IsWhole) (arg12 : Memref sig .tc .vmem S5120x384 .f32) (harg12 : arg12.IsWhole) (arg13 : Memref sig .tc .vmem S256x512 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S256x512 .f32) (harg16 : arg16.IsWhole)
    (l : Vec F S256x512 .i32) (x2 : Vec F S256x512 .i32) (x3 : Vec F S256x512 .f32) (x4 : Vec F S384x2048 .bf16) (x5 : Vec F S512x2048 .bf16) (x6 : Vec F S1x2048 .f32) (x7 : Vec F S512x2048 .bf16) (x8 : Vec F S512x2048 .bf16) (x9 : Vec F S1x2048 .f32) (hl : l = x2) (X : Vec F S5120x384 .f32)
    (X12 : BufTy.Contents (Elt F) arg12.view.ty) (hx : arg12.view.read (Elt F) X12 = X)
    (f13 : BufTy.Contents (Elt F) arg13.view.ty) (f14 : BufTy.Contents (Elt F) arg14.view.ty) (f15 : BufTy.Contents (Elt F) arg15.view.ty) (f16 : BufTy.Contents (Elt F) arg16.view.ty) (hz : Steps.readKS arg13 arg14 arg15 arg16 f13 f14 f15 f16 = Steps.kzero) :
    arg15.view.read (Elt F) (arg15.view.writes (Elt F) f15 (Steps.stepPieces (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 l (harg5.unread x4) (harg6.unread x5) (harg7.unread x6) (harg8.unread x7) (harg9.unread x8) (harg10.unread x9) X12 f13 f14 f15 f16 k0_t2_loop.trips).2.2.1)
      = (Steps.kiter x2 X x4 x5 x6 x7 x8 x9 Steps.kzero k0_t2_loop.trips).h2 := by
  have hs := Steps.loop_reads (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 l (harg5.unread x4) (harg6.unread x5) (harg7.unread x6) (harg8.unread x7) (harg9.unread x8) (harg10.unread x9) X12 f13 f14 f15 f16 k0_t2_loop.trips le_rfl
  rw [hx, hz, hl, harg5.read_unread, harg6.read_unread, harg7.read_unread, harg8.read_unread, harg9.read_unread, harg10.read_unread] at hs
  rw [hl]
  exact congrArg Steps.KS.h2 hs

set_option maxHeartbeats 1000000 in
/-- The body's triple: on whole staging memrefs, the inputs' at their contents and every word naming a row of the table, the
    body runs to the continuation holding the inputs' as they were and the output block computed. -/
theorem body_triple (c : Dev nD) (i : grid0.Coords) (arg1 : Memref sig .tc .smem S1x1x5120 .i32) (harg1 : arg1.IsWhole) (arg2 : Memref sig .tc .vmem S11328x384 .f32) (harg2 : arg2.IsWhole) (arg3 : Memref sig .tc .vmem S256x512 .i32) (harg3 : arg3.IsWhole) (arg4 : Memref sig .tc .vmem S256x512 .f32) (harg4 : arg4.IsWhole) (arg5 : Memref sig .tc .vmem S384x2048 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S256x128 .f32) (harg11 : arg11.IsWhole) (arg12 : Memref sig .tc .vmem S5120x384 .f32) (harg12 : arg12.IsWhole) (arg13 : Memref sig .tc .vmem S256x512 .bf16) (harg13 : arg13.IsWhole) (arg14 : Memref sig .tc .vmem S256x512 .f32) (harg14 : arg14.IsWhole) (arg15 : Memref sig .tc .vmem S256x512 .bf16) (harg15 : arg15.IsWhole) (arg16 : Memref sig .tc .vmem S256x512 .f32) (harg16 : arg16.IsWhole)
    (x0 : Vec F S1x1x5120 .i32) (x1 : Vec F S11328x384 .f32) (x2 : Vec F S256x512 .i32) (x3 : Vec F S256x512 .f32) (x4 : Vec F S384x2048 .bf16) (x5 : Vec F S512x2048 .bf16) (x6 : Vec F S1x2048 .f32) (x7 : Vec F S512x2048 .bf16) (x8 : Vec F S512x2048 .bf16) (x9 : Vec F S1x2048 .f32) (k0_hw1L : (∀ (kq : ℕ) (hkq : kq < k0_t1_loop.trips), k0_chk1 (arg1.view.readAt (Elt F) (Rect.unit (s := S1x1x5120) (k0_off1 ⟨kq, hkq⟩) S1x1x1.size (k0_off1_inb ⟨kq, hkq⟩)).toLoadRect (harg1.unread x0) (Shape.Idx.first (numel1_S1x1x1.symm ▸ Nat.one_pos))))) (k0_hw2L : (∀ (kq : ℕ) (hkq : kq < k0_t1_loop.trips), k0_chk2 (arg1.view.readAt (Elt F) (Rect.unit (s := S1x1x5120) (k0_off3 ⟨kq, hkq⟩) S1x1x1.size (k0_off3_inb ⟨kq, hkq⟩)).toLoadRect (harg1.unread x0) (Shape.Idx.first (numel1_S1x1x1.symm ▸ Nat.one_pos))))) (k0_hw3L : (∀ (kq : ℕ) (hkq : kq < k0_t1_loop.trips), k0_chk3 (arg1.view.readAt (Elt F) (Rect.unit (s := S1x1x5120) (k0_off5 ⟨kq, hkq⟩) S1x1x1.size (k0_off5_inb ⟨kq, hkq⟩)).toLoadRect (harg1.unread x0) (Shape.Idx.first (numel1_S1x1x1.symm ▸ Nat.one_pos))))) (k0_hw4L : (∀ (kq : ℕ) (hkq : kq < k0_t1_loop.trips), k0_chk4 (arg1.view.readAt (Elt F) (Rect.unit (s := S1x1x5120) (k0_off7 ⟨kq, hkq⟩) S1x1x1.size (k0_off7_inb ⟨kq, hkq⟩)).toLoadRect (harg1.unread x0) (Shape.Idx.first (numel1_S1x1x1.symm ▸ Nat.one_pos))))) (k0_hw5L : (∀ (kq : ℕ) (hkq : kq < k0_t1_loop.trips), k0_chk5 (arg1.view.readAt (Elt F) (Rect.unit (s := S1x1x5120) (k0_off9 ⟨kq, hkq⟩) S1x1x1.size (k0_off9_inb ⟨kq, hkq⟩)).toLoadRect (harg1.unread x0) (Shape.Idx.first (numel1_S1x1x1.symm ▸ Nat.one_pos))))) (k0_hw6L : (∀ (kq : ℕ) (hkq : kq < k0_t1_loop.trips), k0_chk6 (arg1.view.readAt (Elt F) (Rect.unit (s := S1x1x5120) (k0_off11 ⟨kq, hkq⟩) S1x1x1.size (k0_off11_inb ⟨kq, hkq⟩)).toLoadRect (harg1.unread x0) (Shape.Idx.first (numel1_S1x1x1.symm ▸ Nat.one_pos))))) (k0_hw7L : (∀ (kq : ℕ) (hkq : kq < k0_t1_loop.trips), k0_chk7 (arg1.view.readAt (Elt F) (Rect.unit (s := S1x1x5120) (k0_off13 ⟨kq, hkq⟩) S1x1x1.size (k0_off13_inb ⟨kq, hkq⟩)).toLoadRect (harg1.unread x0) (Shape.Idx.first (numel1_S1x1x1.symm ▸ Nat.one_pos))))) (k0_hw8L : (∀ (kq : ℕ) (hkq : kq < k0_t1_loop.trips), k0_chk8 (arg1.view.readAt (Elt F) (Rect.unit (s := S1x1x5120) (k0_off15 ⟨kq, hkq⟩) S1x1x1.size (k0_off15_inb ⟨kq, hkq⟩)).toLoadRect (harg1.unread x0) (Shape.Idx.first (numel1_S1x1x1.symm ▸ Nat.one_pos))))) (k0_hw9L : (∀ (kq : ℕ) (hkq : kq < k0_t1_loop.trips), k0_chk9 (arg1.view.readAt (Elt F) (Rect.unit (s := S1x1x5120) (k0_off18 ⟨kq, hkq⟩) S1x1x1.size (k0_off18_inb ⟨kq, hkq⟩)).toLoadRect (harg1.unread x0) (Shape.Idx.first (numel1_S1x1x1.symm ▸ Nat.one_pos))))) (k0_hw10L : (∀ (kq : ℕ) (hkq : kq < k0_t1_loop.trips), k0_chk10 (arg1.view.readAt (Elt F) (Rect.unit (s := S1x1x5120) (k0_off20 ⟨kq, hkq⟩) S1x1x1.size (k0_off20_inb ⟨kq, hkq⟩)).toLoadRect (harg1.unread x0) (Shape.Idx.first (numel1_S1x1x1.symm ▸ Nat.one_pos))))) (k0_hw11L : (∀ (kq : ℕ) (hkq : kq < k0_t1_loop.trips), k0_chk11 (arg1.view.readAt (Elt F) (Rect.unit (s := S1x1x5120) (k0_off22 ⟨kq, hkq⟩) S1x1x1.size (k0_off22_inb ⟨kq, hkq⟩)).toLoadRect (harg1.unread x0) (Shape.Idx.first (numel1_S1x1x1.symm ▸ Nat.one_pos))))) (k0_hw12L : (∀ (kq : ℕ) (hkq : kq < k0_t1_loop.trips), k0_chk12 (arg1.view.readAt (Elt F) (Rect.unit (s := S1x1x5120) (k0_off24 ⟨kq, hkq⟩) S1x1x1.size (k0_off24_inb ⟨kq, hkq⟩)).toLoadRect (harg1.unread x0) (Shape.Idx.first (numel1_S1x1x1.symm ▸ Nat.one_pos))))) (k0_hw13L : (∀ (kq : ℕ) (hkq : kq < k0_t1_loop.trips), k0_chk13 (arg1.view.readAt (Elt F) (Rect.unit (s := S1x1x5120) (k0_off26 ⟨kq, hkq⟩) S1x1x1.size (k0_off26_inb ⟨kq, hkq⟩)).toLoadRect (harg1.unread x0) (Shape.Idx.first (numel1_S1x1x1.symm ▸ Nat.one_pos))))) (k0_hw14L : (∀ (kq : ℕ) (hkq : kq < k0_t1_loop.trips), k0_chk14 (arg1.view.readAt (Elt F) (Rect.unit (s := S1x1x5120) (k0_off28 ⟨kq, hkq⟩) S1x1x1.size (k0_off28_inb ⟨kq, hkq⟩)).toLoadRect (harg1.unread x0) (Shape.Idx.first (numel1_S1x1x1.symm ▸ Nat.one_pos))))) (k0_hw15L : (∀ (kq : ℕ) (hkq : kq < k0_t1_loop.trips), k0_chk15 (arg1.view.readAt (Elt F) (Rect.unit (s := S1x1x5120) (k0_off30 ⟨kq, hkq⟩) S1x1x1.size (k0_off30_inb ⟨kq, hkq⟩)).toLoadRect (harg1.unread x0) (Shape.Idx.first (numel1_S1x1x1.symm ▸ Nat.one_pos))))) (k0_hw16L : (∀ (kq : ℕ) (hkq : kq < k0_t1_loop.trips), k0_chk16 (arg1.view.readAt (Elt F) (Rect.unit (s := S1x1x5120) (k0_off32 ⟨kq, hkq⟩) S1x1x1.size (k0_off32_inb ⟨kq, hkq⟩)).toLoadRect (harg1.unread x0) (Shape.Idx.first (numel1_S1x1x1.symm ▸ Nat.one_pos))))) (k0_hw17L : (∀ (kq : ℕ) (hkq : kq < k0_t1_loop.trips), k0_chk17 (arg1.view.readAt (Elt F) (Rect.unit (s := S1x1x5120) (k0_off35 ⟨kq, hkq⟩) S1x1x1.size (k0_off35_inb ⟨kq, hkq⟩)).toLoadRect (harg1.unread x0) (Shape.Idx.first (numel1_S1x1x1.symm ▸ Nat.one_pos))))) (k0_hw18L : (∀ (kq : ℕ) (hkq : kq < k0_t1_loop.trips), k0_chk18 (arg1.view.readAt (Elt F) (Rect.unit (s := S1x1x5120) (k0_off37 ⟨kq, hkq⟩) S1x1x1.size (k0_off37_inb ⟨kq, hkq⟩)).toLoadRect (harg1.unread x0) (Shape.Idx.first (numel1_S1x1x1.symm ▸ Nat.one_pos))))) (k0_hw19L : (∀ (kq : ℕ) (hkq : kq < k0_t1_loop.trips), k0_chk19 (arg1.view.readAt (Elt F) (Rect.unit (s := S1x1x5120) (k0_off39 ⟨kq, hkq⟩) S1x1x1.size (k0_off39_inb ⟨kq, hkq⟩)).toLoadRect (harg1.unread x0) (Shape.Idx.first (numel1_S1x1x1.symm ▸ Nat.one_pos))))) (k0_hw20L : (∀ (kq : ℕ) (hkq : kq < k0_t1_loop.trips), k0_chk20 (arg1.view.readAt (Elt F) (Rect.unit (s := S1x1x5120) (k0_off41 ⟨kq, hkq⟩) S1x1x1.size (k0_off41_inb ⟨kq, hkq⟩)).toLoadRect (harg1.unread x0) (Shape.Idx.first (numel1_S1x1x1.symm ▸ Nat.one_pos))))) (k0_hw21L : (∀ (kq : ℕ) (hkq : kq < k0_t1_loop.trips), k0_chk21 (arg1.view.readAt (Elt F) (Rect.unit (s := S1x1x5120) (k0_off43 ⟨kq, hkq⟩) S1x1x1.size (k0_off43_inb ⟨kq, hkq⟩)).toLoadRect (harg1.unread x0) (Shape.Idx.first (numel1_S1x1x1.symm ▸ Nat.one_pos))))) (k0_hw22L : (∀ (kq : ℕ) (hkq : kq < k0_t1_loop.trips), k0_chk22 (arg1.view.readAt (Elt F) (Rect.unit (s := S1x1x5120) (k0_off45 ⟨kq, hkq⟩) S1x1x1.size (k0_off45_inb ⟨kq, hkq⟩)).toLoadRect (harg1.unread x0) (Shape.Idx.first (numel1_S1x1x1.symm ▸ Nat.one_pos))))) (k0_hw23L : (∀ (kq : ℕ) (hkq : kq < k0_t1_loop.trips), k0_chk23 (arg1.view.readAt (Elt F) (Rect.unit (s := S1x1x5120) (k0_off47 ⟨kq, hkq⟩) S1x1x1.size (k0_off47_inb ⟨kq, hkq⟩)).toLoadRect (harg1.unread x0) (Shape.Idx.first (numel1_S1x1x1.symm ▸ Nat.one_pos))))) (k0_hw24L : (∀ (kq : ℕ) (hkq : kq < k0_t1_loop.trips), k0_chk24 (arg1.view.readAt (Elt F) (Rect.unit (s := S1x1x5120) (k0_off49 ⟨kq, hkq⟩) S1x1x1.size (k0_off49_inb ⟨kq, hkq⟩)).toLoadRect (harg1.unread x0) (Shape.Idx.first (numel1_S1x1x1.symm ▸ Nat.one_pos))))) (k0_hw25L : (∀ (kq : ℕ) (hkq : kq < k0_t1_loop.trips), k0_chk25 (arg1.view.readAt (Elt F) (Rect.unit (s := S1x1x5120) (k0_off52 ⟨kq, hkq⟩) S1x1x1.size (k0_off52_inb ⟨kq, hkq⟩)).toLoadRect (harg1.unread x0) (Shape.Idx.first (numel1_S1x1x1.symm ▸ Nat.one_pos))))) (k0_hw26L : (∀ (kq : ℕ) (hkq : kq < k0_t1_loop.trips), k0_chk26 (arg1.view.readAt (Elt F) (Rect.unit (s := S1x1x5120) (k0_off54 ⟨kq, hkq⟩) S1x1x1.size (k0_off54_inb ⟨kq, hkq⟩)).toLoadRect (harg1.unread x0) (Shape.Idx.first (numel1_S1x1x1.symm ▸ Nat.one_pos))))) (k0_hw27L : (∀ (kq : ℕ) (hkq : kq < k0_t1_loop.trips), k0_chk27 (arg1.view.readAt (Elt F) (Rect.unit (s := S1x1x5120) (k0_off56 ⟨kq, hkq⟩) S1x1x1.size (k0_off56_inb ⟨kq, hkq⟩)).toLoadRect (harg1.unread x0) (Shape.Idx.first (numel1_S1x1x1.symm ▸ Nat.one_pos))))) (k0_hw28L : (∀ (kq : ℕ) (hkq : kq < k0_t1_loop.trips), k0_chk28 (arg1.view.readAt (Elt F) (Rect.unit (s := S1x1x5120) (k0_off58 ⟨kq, hkq⟩) S1x1x1.size (k0_off58_inb ⟨kq, hkq⟩)).toLoadRect (harg1.unread x0) (Shape.Idx.first (numel1_S1x1x1.symm ▸ Nat.one_pos))))) (k0_hw29L : (∀ (kq : ℕ) (hkq : kq < k0_t1_loop.trips), k0_chk29 (arg1.view.readAt (Elt F) (Rect.unit (s := S1x1x5120) (k0_off60 ⟨kq, hkq⟩) S1x1x1.size (k0_off60_inb ⟨kq, hkq⟩)).toLoadRect (harg1.unread x0) (Shape.Idx.first (numel1_S1x1x1.symm ▸ Nat.one_pos))))) (k0_hw30L : (∀ (kq : ℕ) (hkq : kq < k0_t1_loop.trips), k0_chk30 (arg1.view.readAt (Elt F) (Rect.unit (s := S1x1x5120) (k0_off62 ⟨kq, hkq⟩) S1x1x1.size (k0_off62_inb ⟨kq, hkq⟩)).toLoadRect (harg1.unread x0) (Shape.Idx.first (numel1_S1x1x1.symm ▸ Nat.one_pos))))) (k0_hw31L : (∀ (kq : ℕ) (hkq : kq < k0_t1_loop.trips), k0_chk31 (arg1.view.readAt (Elt F) (Rect.unit (s := S1x1x5120) (k0_off64 ⟨kq, hkq⟩) S1x1x1.size (k0_off64_inb ⟨kq, hkq⟩)).toLoadRect (harg1.unread x0) (Shape.Idx.first (numel1_S1x1x1.symm ▸ Nat.one_pos))))) (k0_hw32L : (∀ (kq : ℕ) (hkq : kq < k0_t1_loop.trips), k0_chk32 (arg1.view.readAt (Elt F) (Rect.unit (s := S1x1x5120) (k0_off66 ⟨kq, hkq⟩) S1x1x1.size (k0_off66_inb ⟨kq, hkq⟩)).toLoadRect (harg1.unread x0) (Shape.Idx.first (numel1_S1x1x1.symm ▸ Nat.one_pos))))) (k0_hw33L : (∀ (kq : ℕ) (hkq : kq < k0_t1_loop.trips), k0_chk33 (arg1.view.readAt (Elt F) (Rect.unit (s := S1x1x5120) (k0_off69 ⟨kq, hkq⟩) S1x1x1.size (k0_off69_inb ⟨kq, hkq⟩)).toLoadRect (harg1.unread x0) (Shape.Idx.first (numel1_S1x1x1.symm ▸ Nat.one_pos))))) (k0_hw34L : (∀ (kq : ℕ) (hkq : kq < k0_t1_loop.trips), k0_chk34 (arg1.view.readAt (Elt F) (Rect.unit (s := S1x1x5120) (k0_off71 ⟨kq, hkq⟩) S1x1x1.size (k0_off71_inb ⟨kq, hkq⟩)).toLoadRect (harg1.unread x0) (Shape.Idx.first (numel1_S1x1x1.symm ▸ Nat.one_pos))))) (k0_hw35L : (∀ (kq : ℕ) (hkq : kq < k0_t1_loop.trips), k0_chk35 (arg1.view.readAt (Elt F) (Rect.unit (s := S1x1x5120) (k0_off73 ⟨kq, hkq⟩) S1x1x1.size (k0_off73_inb ⟨kq, hkq⟩)).toLoadRect (harg1.unread x0) (Shape.Idx.first (numel1_S1x1x1.symm ▸ Nat.one_pos))))) (k0_hw36L : (∀ (kq : ℕ) (hkq : kq < k0_t1_loop.trips), k0_chk36 (arg1.view.readAt (Elt F) (Rect.unit (s := S1x1x5120) (k0_off75 ⟨kq, hkq⟩) S1x1x1.size (k0_off75_inb ⟨kq, hkq⟩)).toLoadRect (harg1.unread x0) (Shape.Idx.first (numel1_S1x1x1.symm ▸ Nat.one_pos))))) (k0_hw37L : (∀ (kq : ℕ) (hkq : kq < k0_t1_loop.trips), k0_chk37 (arg1.view.readAt (Elt F) (Rect.unit (s := S1x1x5120) (k0_off77 ⟨kq, hkq⟩) S1x1x1.size (k0_off77_inb ⟨kq, hkq⟩)).toLoadRect (harg1.unread x0) (Shape.Idx.first (numel1_S1x1x1.symm ▸ Nat.one_pos))))) (k0_hw38L : (∀ (kq : ℕ) (hkq : kq < k0_t1_loop.trips), k0_chk38 (arg1.view.readAt (Elt F) (Rect.unit (s := S1x1x5120) (k0_off79 ⟨kq, hkq⟩) S1x1x1.size (k0_off79_inb ⟨kq, hkq⟩)).toLoadRect (harg1.unread x0) (Shape.Idx.first (numel1_S1x1x1.symm ▸ Nat.one_pos))))) (k0_hw39L : (∀ (kq : ℕ) (hkq : kq < k0_t1_loop.trips), k0_chk39 (arg1.view.readAt (Elt F) (Rect.unit (s := S1x1x5120) (k0_off81 ⟨kq, hkq⟩) S1x1x1.size (k0_off81_inb ⟨kq, hkq⟩)).toLoadRect (harg1.unread x0) (Shape.Idx.first (numel1_S1x1x1.symm ▸ Nat.one_pos))))) (k0_hw40L : (∀ (kq : ℕ) (hkq : kq < k0_t1_loop.trips), k0_chk40 (arg1.view.readAt (Elt F) (Rect.unit (s := S1x1x5120) (k0_off83 ⟨kq, hkq⟩) S1x1x1.size (k0_off83_inb ⟨kq, hkq⟩)).toLoadRect (harg1.unread x0) (Shape.Idx.first (numel1_S1x1x1.symm ▸ Nat.one_pos))))) (k0_hw41L : (∀ (kq : ℕ) (hkq : kq < k0_t1_loop.trips), k0_chk41 (arg1.view.readAt (Elt F) (Rect.unit (s := S1x1x5120) (k0_off86 ⟨kq, hkq⟩) S1x1x1.size (k0_off86_inb ⟨kq, hkq⟩)).toLoadRect (harg1.unread x0) (Shape.Idx.first (numel1_S1x1x1.symm ▸ Nat.one_pos))))) (k0_hw42L : (∀ (kq : ℕ) (hkq : kq < k0_t1_loop.trips), k0_chk42 (arg1.view.readAt (Elt F) (Rect.unit (s := S1x1x5120) (k0_off88 ⟨kq, hkq⟩) S1x1x1.size (k0_off88_inb ⟨kq, hkq⟩)).toLoadRect (harg1.unread x0) (Shape.Idx.first (numel1_S1x1x1.symm ▸ Nat.one_pos))))) (k0_hw43L : (∀ (kq : ℕ) (hkq : kq < k0_t1_loop.trips), k0_chk43 (arg1.view.readAt (Elt F) (Rect.unit (s := S1x1x5120) (k0_off90 ⟨kq, hkq⟩) S1x1x1.size (k0_off90_inb ⟨kq, hkq⟩)).toLoadRect (harg1.unread x0) (Shape.Idx.first (numel1_S1x1x1.symm ▸ Nat.one_pos))))) (k0_hw44L : (∀ (kq : ℕ) (hkq : kq < k0_t1_loop.trips), k0_chk44 (arg1.view.readAt (Elt F) (Rect.unit (s := S1x1x5120) (k0_off92 ⟨kq, hkq⟩) S1x1x1.size (k0_off92_inb ⟨kq, hkq⟩)).toLoadRect (harg1.unread x0) (Shape.Idx.first (numel1_S1x1x1.symm ▸ Nat.one_pos))))) (k0_hw45L : (∀ (kq : ℕ) (hkq : kq < k0_t1_loop.trips), k0_chk45 (arg1.view.readAt (Elt F) (Rect.unit (s := S1x1x5120) (k0_off94 ⟨kq, hkq⟩) S1x1x1.size (k0_off94_inb ⟨kq, hkq⟩)).toLoadRect (harg1.unread x0) (Shape.Idx.first (numel1_S1x1x1.symm ▸ Nat.one_pos))))) (k0_hw46L : (∀ (kq : ℕ) (hkq : kq < k0_t1_loop.trips), k0_chk46 (arg1.view.readAt (Elt F) (Rect.unit (s := S1x1x5120) (k0_off96 ⟨kq, hkq⟩) S1x1x1.size (k0_off96_inb ⟨kq, hkq⟩)).toLoadRect (harg1.unread x0) (Shape.Idx.first (numel1_S1x1x1.symm ▸ Nat.one_pos))))) (k0_hw47L : (∀ (kq : ℕ) (hkq : kq < k0_t1_loop.trips), k0_chk47 (arg1.view.readAt (Elt F) (Rect.unit (s := S1x1x5120) (k0_off98 ⟨kq, hkq⟩) S1x1x1.size (k0_off98_inb ⟨kq, hkq⟩)).toLoadRect (harg1.unread x0) (Shape.Idx.first (numel1_S1x1x1.symm ▸ Nat.one_pos))))) (k0_hw48L : (∀ (kq : ℕ) (hkq : kq < k0_t1_loop.trips), k0_chk48 (arg1.view.readAt (Elt F) (Rect.unit (s := S1x1x5120) (k0_off100 ⟨kq, hkq⟩) S1x1x1.size (k0_off100_inb ⟨kq, hkq⟩)).toLoadRect (harg1.unread x0) (Shape.Idx.first (numel1_S1x1x1.symm ▸ Nat.one_pos))))) (k0_hw49L : (∀ (kq : ℕ) (hkq : kq < k0_t1_loop.trips), k0_chk49 (arg1.view.readAt (Elt F) (Rect.unit (s := S1x1x5120) (k0_off103 ⟨kq, hkq⟩) S1x1x1.size (k0_off103_inb ⟨kq, hkq⟩)).toLoadRect (harg1.unread x0) (Shape.Idx.first (numel1_S1x1x1.symm ▸ Nat.one_pos))))) (k0_hw50L : (∀ (kq : ℕ) (hkq : kq < k0_t1_loop.trips), k0_chk50 (arg1.view.readAt (Elt F) (Rect.unit (s := S1x1x5120) (k0_off105 ⟨kq, hkq⟩) S1x1x1.size (k0_off105_inb ⟨kq, hkq⟩)).toLoadRect (harg1.unread x0) (Shape.Idx.first (numel1_S1x1x1.symm ▸ Nat.one_pos))))) (k0_hw51L : (∀ (kq : ℕ) (hkq : kq < k0_t1_loop.trips), k0_chk51 (arg1.view.readAt (Elt F) (Rect.unit (s := S1x1x5120) (k0_off107 ⟨kq, hkq⟩) S1x1x1.size (k0_off107_inb ⟨kq, hkq⟩)).toLoadRect (harg1.unread x0) (Shape.Idx.first (numel1_S1x1x1.symm ▸ Nat.one_pos))))) (k0_hw52L : (∀ (kq : ℕ) (hkq : kq < k0_t1_loop.trips), k0_chk52 (arg1.view.readAt (Elt F) (Rect.unit (s := S1x1x5120) (k0_off109 ⟨kq, hkq⟩) S1x1x1.size (k0_off109_inb ⟨kq, hkq⟩)).toLoadRect (harg1.unread x0) (Shape.Idx.first (numel1_S1x1x1.symm ▸ Nat.one_pos))))) (k0_hw53L : (∀ (kq : ℕ) (hkq : kq < k0_t1_loop.trips), k0_chk53 (arg1.view.readAt (Elt F) (Rect.unit (s := S1x1x5120) (k0_off111 ⟨kq, hkq⟩) S1x1x1.size (k0_off111_inb ⟨kq, hkq⟩)).toLoadRect (harg1.unread x0) (Shape.Idx.first (numel1_S1x1x1.symm ▸ Nat.one_pos))))) (k0_hw54L : (∀ (kq : ℕ) (hkq : kq < k0_t1_loop.trips), k0_chk54 (arg1.view.readAt (Elt F) (Rect.unit (s := S1x1x5120) (k0_off113 ⟨kq, hkq⟩) S1x1x1.size (k0_off113_inb ⟨kq, hkq⟩)).toLoadRect (harg1.unread x0) (Shape.Idx.first (numel1_S1x1x1.symm ▸ Nat.one_pos))))) (k0_hw55L : (∀ (kq : ℕ) (hkq : kq < k0_t1_loop.trips), k0_chk55 (arg1.view.readAt (Elt F) (Rect.unit (s := S1x1x5120) (k0_off115 ⟨kq, hkq⟩) S1x1x1.size (k0_off115_inb ⟨kq, hkq⟩)).toLoadRect (harg1.unread x0) (Shape.Idx.first (numel1_S1x1x1.symm ▸ Nat.one_pos))))) (k0_hw56L : (∀ (kq : ℕ) (hkq : kq < k0_t1_loop.trips), k0_chk56 (arg1.view.readAt (Elt F) (Rect.unit (s := S1x1x5120) (k0_off117 ⟨kq, hkq⟩) S1x1x1.size (k0_off117_inb ⟨kq, hkq⟩)).toLoadRect (harg1.unread x0) (Shape.Idx.first (numel1_S1x1x1.symm ▸ Nat.one_pos))))) (k0_hw57L : (∀ (kq : ℕ) (hkq : kq < k0_t1_loop.trips), k0_chk57 (arg1.view.readAt (Elt F) (Rect.unit (s := S1x1x5120) (k0_off120 ⟨kq, hkq⟩) S1x1x1.size (k0_off120_inb ⟨kq, hkq⟩)).toLoadRect (harg1.unread x0) (Shape.Idx.first (numel1_S1x1x1.symm ▸ Nat.one_pos))))) (k0_hw58L : (∀ (kq : ℕ) (hkq : kq < k0_t1_loop.trips), k0_chk58 (arg1.view.readAt (Elt F) (Rect.unit (s := S1x1x5120) (k0_off122 ⟨kq, hkq⟩) S1x1x1.size (k0_off122_inb ⟨kq, hkq⟩)).toLoadRect (harg1.unread x0) (Shape.Idx.first (numel1_S1x1x1.symm ▸ Nat.one_pos))))) (k0_hw59L : (∀ (kq : ℕ) (hkq : kq < k0_t1_loop.trips), k0_chk59 (arg1.view.readAt (Elt F) (Rect.unit (s := S1x1x5120) (k0_off124 ⟨kq, hkq⟩) S1x1x1.size (k0_off124_inb ⟨kq, hkq⟩)).toLoadRect (harg1.unread x0) (Shape.Idx.first (numel1_S1x1x1.symm ▸ Nat.one_pos))))) (k0_hw60L : (∀ (kq : ℕ) (hkq : kq < k0_t1_loop.trips), k0_chk60 (arg1.view.readAt (Elt F) (Rect.unit (s := S1x1x5120) (k0_off126 ⟨kq, hkq⟩) S1x1x1.size (k0_off126_inb ⟨kq, hkq⟩)).toLoadRect (harg1.unread x0) (Shape.Idx.first (numel1_S1x1x1.symm ▸ Nat.one_pos))))) (k0_hw61L : (∀ (kq : ℕ) (hkq : kq < k0_t1_loop.trips), k0_chk61 (arg1.view.readAt (Elt F) (Rect.unit (s := S1x1x5120) (k0_off128 ⟨kq, hkq⟩) S1x1x1.size (k0_off128_inb ⟨kq, hkq⟩)).toLoadRect (harg1.unread x0) (Shape.Idx.first (numel1_S1x1x1.symm ▸ Nat.one_pos))))) (k0_hw62L : (∀ (kq : ℕ) (hkq : kq < k0_t1_loop.trips), k0_chk62 (arg1.view.readAt (Elt F) (Rect.unit (s := S1x1x5120) (k0_off130 ⟨kq, hkq⟩) S1x1x1.size (k0_off130_inb ⟨kq, hkq⟩)).toLoadRect (harg1.unread x0) (Shape.Idx.first (numel1_S1x1x1.symm ▸ Nat.one_pos))))) (k0_hw63L : (∀ (kq : ℕ) (hkq : kq < k0_t1_loop.trips), k0_chk63 (arg1.view.readAt (Elt F) (Rect.unit (s := S1x1x5120) (k0_off132 ⟨kq, hkq⟩) S1x1x1.size (k0_off132_inb ⟨kq, hkq⟩)).toLoadRect (harg1.unread x0) (Shape.Idx.first (numel1_S1x1x1.symm ▸ Nat.one_pos))))) (k0_hw64L : (∀ (kq : ℕ) (hkq : kq < k0_t1_loop.trips), k0_chk64 (arg1.view.readAt (Elt F) (Rect.unit (s := S1x1x5120) (k0_off134 ⟨kq, hkq⟩) S1x1x1.size (k0_off134_inb ⟨kq, hkq⟩)).toLoadRect (harg1.unread x0) (Shape.Idx.first (numel1_S1x1x1.symm ▸ Nat.one_pos))))) (hx0 : ∀ y, (x0 y : BitVec 32).toNat < 11322) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outBlk x0 x1 x2 x3 x4 x5 x6 x7 x8 x9) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__lstm_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0__lstm_body_eq_skeleton]; unfold cc0__lstm_body_skel
    simp only [k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; swap; · iexact H10
      ipureintro
      refine (View.read_writes_full arg11.view f10 _ _ _).trans ?_
      unfold body_triple.sl.r outBlk
      refine congr (congrArg k0_pay97 ?_) ((View.readAt_full _ _ _).trans (harg4.read_unread _))
      unfold body_triple.sl.v20
      unfold View.readCov
      refine (View.readAt_full _ _ _).trans ?_
      rw [View.writes_append]
      exact state_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ x2 x3 x4 x5 x6 x7 x8 x9 ((View.readAt_full _ _ _).trans (harg3.read_unread _)) _ _
        (rows_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 k0_hw1L k0_hw2L k0_hw3L k0_hw4L k0_hw5L k0_hw6L k0_hw7L k0_hw8L k0_hw9L k0_hw10L k0_hw11L k0_hw12L k0_hw13L k0_hw14L k0_hw15L k0_hw16L k0_hw17L k0_hw18L k0_hw19L k0_hw20L k0_hw21L k0_hw22L k0_hw23L k0_hw24L k0_hw25L k0_hw26L k0_hw27L k0_hw28L k0_hw29L k0_hw30L k0_hw31L k0_hw32L k0_hw33L k0_hw34L k0_hw35L k0_hw36L k0_hw37L k0_hw38L k0_hw39L k0_hw40L k0_hw41L k0_hw42L k0_hw43L k0_hw44L k0_hw45L k0_hw46L k0_hw47L k0_hw48L k0_hw49L k0_hw50L k0_hw51L k0_hw52L k0_hw53L k0_hw54L k0_hw55L k0_hw56L k0_hw57L k0_hw58L k0_hw59L k0_hw60L k0_hw61L k0_hw62L k0_hw63L k0_hw64L hx0 fs0) _ _ _ _
        (congr (congr (congr (congrArg Steps.KS.mk (View.read_writes_full _ _ _ _ _)) (View.read_writes_full _ _ _ _ _))
          (View.read_writes_full _ _ _ _ _)) (View.read_writes_full _ _ _ _ _))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Body
-- ==== Proof.KFrame.lean ====
/- The launch: every chunk leaves its block of the output array computed. -/
module

public import proofs.«01_k».proof.Proof.Gen.KernelIdeal.Loops
public import proofs.«01_k».proof.Proof.KTriple
public import proofs.«01_k».proof.Proof.Gen.KernelIdeal.Frame
public import Idealize.ShloMosaic.Lib.WritesUnit
public import Idealize.ShloMosaic.Lib.VecWindow
public import Idealize.ShloMosaic.Lib.Claim
public import Idealize.ShloMosaic.Lib.Pipeline.FrameBody
public import Idealize.ShloMosaic.Lib.Pipeline.FrameSuffix

@[expose] public section

set_option maxRecDepth 16384

noncomputable section

namespace Cert.KernelIdeal.Body

open Idealize.ShloMosaic Idealize.ShloMosaic.TcCoe Idealize.ShloMosaic.Tactic
open Cert.KernelIdeal Cert.KernelIdeal.Gen
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging and scratch memrefs -/

abbrev ms0_0 (t : Fin cfg0.N) : Memref sig .tc .smem S1x1x5120 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S11328x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S384x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .f32 := win0_10.stage (cfg0.slots t 10)
abbrev hs0_10 (t : Fin cfg0.N) : (ms0_10 t).IsWhole := hstage0_10 ((cfg0.slots t 10).cast nbuf0_10)
abbrev scM0_0 : Memref sig .tc .vmem S5120x384 .f32 := Memref.whole cc0_scratch0
abbrev scM0_1 : Memref sig .tc .vmem S256x512 .bf16 := Memref.whole cc0_scratch1
abbrev scM0_2 : Memref sig .tc .vmem S256x512 .f32 := Memref.whole cc0_scratch2
abbrev scM0_3 : Memref sig .tc .vmem S256x512 .bf16 := Memref.whole cc0_scratch3
abbrev scM0_4 : Memref sig .tc .vmem S256x512 .f32 := Memref.whole cc0_scratch4

/-- What the region lends the body: the five scratch memrefs at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- Every word staged at every point names a row of the table. -/
def WordsOk : Prop := ∀ (c : Dev nD) (t : Fin cfg0.N) y, (iblk m c 0 t y : BitVec 32).toNat < 11322

/-- The output block of the chunk at point `t`. -/
def outAt (c : Dev nD) (t : Fin cfg0.N) : Vec F S256x128 .f32 :=
  outBlk (iblk m c 0 t) (iblk m c 1 t) (iblk m c 2 t) (iblk m c 3 t) (iblk m c 4 t) (iblk m c 5 t) (iblk m c 6 t) (iblk m c 7 t) (iblk m c 8 t) (iblk m c 9 t)

/-- A word loaded from a memref whose contents are in range is in range, hence the check of its window holds. -/
theorem chk_load {s : Shape} (arg1 : Memref sig .tc .smem S1x1x5120 .i32) (harg1 : arg1.IsWhole) (x0 : Vec F S1x1x5120 .i32)
    (hx0 : ∀ y, (x0 y : BitVec 32).toNat < 11322) (off : Fin 3 → ℕ) (inb : ∀ a, off a + S1x1x1.size a ≤ S1x1x5120.size a) (z) :
    k0_chk1 (arg1.view.readAt (Elt F) (Rect.unit (s := S1x1x5120) off S1x1x1.size inb).toLoadRect (harg1.unread x0) z) := by
  refine Gather.chk_of _ ?_
  rw [View.readAt_apply, harg1.read_unread]
  exact hx0 _

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (hH : WordsOk m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : WordsOk m) (c : Dev nD) (w : Fin cfg0.W) : (dats m hH 0 c).A w = V m c (Pipeline.arrRef spec0 w) := by
  dsimp only [dats]

/-- What the body leaves, window by window (the proof data's `match` reduced by `dsimp`). -/
theorem after0_0 (hH : WordsOk m) (c : Dev nD) (t : Fin cfg0.N) : (dats m hH 0 c).after 0 t = iblk m c 0 t := by dsimp only [dats]
theorem after0_1 (hH : WordsOk m) (c : Dev nD) (t : Fin cfg0.N) : (dats m hH 0 c).after 1 t = iblk m c 1 t := by dsimp only [dats]
theorem after0_2 (hH : WordsOk m) (c : Dev nD) (t : Fin cfg0.N) : (dats m hH 0 c).after 2 t = iblk m c 2 t := by dsimp only [dats]
theorem after0_3 (hH : WordsOk m) (c : Dev nD) (t : Fin cfg0.N) : (dats m hH 0 c).after 3 t = iblk m c 3 t := by dsimp only [dats]
theorem after0_4 (hH : WordsOk m) (c : Dev nD) (t : Fin cfg0.N) : (dats m hH 0 c).after 4 t = iblk m c 4 t := by dsimp only [dats]
theorem after0_5 (hH : WordsOk m) (c : Dev nD) (t : Fin cfg0.N) : (dats m hH 0 c).after 5 t = iblk m c 5 t := by dsimp only [dats]
theorem after0_6 (hH : WordsOk m) (c : Dev nD) (t : Fin cfg0.N) : (dats m hH 0 c).after 6 t = iblk m c 6 t := by dsimp only [dats]
theorem after0_7 (hH : WordsOk m) (c : Dev nD) (t : Fin cfg0.N) : (dats m hH 0 c).after 7 t = iblk m c 7 t := by dsimp only [dats]
theorem after0_8 (hH : WordsOk m) (c : Dev nD) (t : Fin cfg0.N) : (dats m hH 0 c).after 8 t = iblk m c 8 t := by dsimp only [dats]
theorem after0_10 (hH : WordsOk m) (c : Dev nD) (t : Fin cfg0.N) : (dats m hH 0 c).after 10 t = outAt m c t := by dsimp only [dats]
theorem after0_9 (hH : WordsOk m) (c : Dev nD) (t : Fin cfg0.N) : (dats m hH 0 c).after 9 t = iblk m c 9 t := by dsimp only [dats]

/-- Each input's current staging buffer holds its block at every point, fetched there or not (`beforeK_W_of`). -/
theorem before0_0 (hH : WordsOk m) (c : Dev nD) (t : Fin cfg0.N) (d) : (dats m hH 0 c).before 0 t d = iblk m c 0 t :=
  before0_0_of m (dats m hH 0 c) (A_eq m hH c 0) (after0_0 m hH c) t d
theorem before0_1 (hH : WordsOk m) (c : Dev nD) (t : Fin cfg0.N) (d) : (dats m hH 0 c).before 1 t d = iblk m c 1 t :=
  before0_1_of m (dats m hH 0 c) (A_eq m hH c 1) (after0_1 m hH c) t d
theorem before0_2 (hH : WordsOk m) (c : Dev nD) (t : Fin cfg0.N) (d) : (dats m hH 0 c).before 2 t d = iblk m c 2 t :=
  before0_2_of m (dats m hH 0 c) (A_eq m hH c 2) (after0_2 m hH c) t d
theorem before0_3 (hH : WordsOk m) (c : Dev nD) (t : Fin cfg0.N) (d) : (dats m hH 0 c).before 3 t d = iblk m c 3 t :=
  before0_3_of m (dats m hH 0 c) (A_eq m hH c 3) (after0_3 m hH c) t d
theorem before0_4 (hH : WordsOk m) (c : Dev nD) (t : Fin cfg0.N) (d) : (dats m hH 0 c).before 4 t d = iblk m c 4 t :=
  before0_4_of m (dats m hH 0 c) (A_eq m hH c 4) (after0_4 m hH c) t d
theorem before0_5 (hH : WordsOk m) (c : Dev nD) (t : Fin cfg0.N) (d) : (dats m hH 0 c).before 5 t d = iblk m c 5 t :=
  before0_5_of m (dats m hH 0 c) (A_eq m hH c 5) (after0_5 m hH c) t d
theorem before0_6 (hH : WordsOk m) (c : Dev nD) (t : Fin cfg0.N) (d) : (dats m hH 0 c).before 6 t d = iblk m c 6 t :=
  before0_6_of m (dats m hH 0 c) (A_eq m hH c 6) (after0_6 m hH c) t d
theorem before0_7 (hH : WordsOk m) (c : Dev nD) (t : Fin cfg0.N) (d) : (dats m hH 0 c).before 7 t d = iblk m c 7 t :=
  before0_7_of m (dats m hH 0 c) (A_eq m hH c 7) (after0_7 m hH c) t d
theorem before0_8 (hH : WordsOk m) (c : Dev nD) (t : Fin cfg0.N) (d) : (dats m hH 0 c).before 8 t d = iblk m c 8 t :=
  before0_8_of m (dats m hH 0 c) (A_eq m hH c 8) (after0_8 m hH c) t d
theorem before0_9 (hH : WordsOk m) (c : Dev nD) (t : Fin cfg0.N) (d) : (dats m hH 0 c).before 9 t d = iblk m c 9 t :=
  before0_9_of m (dats m hH 0 c) (A_eq m hH c 9) (after0_9 m hH c) t d

/-! ## The body obligation, at a generic point -/

/-- What the body is called with at point `t` (Lib/Pipeline.lean `BodyObligation`'s precondition, the windows one by one), -/
def bodyPre (hH : WordsOk m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d)))

/-- and what it returns. -/
def bodyPost (hH : WordsOk m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t)
    ∗ owns (c : Thread nD τ) (ms0_10 t) fullShare ((dats m hH 0 c).after 10 t))

set_option maxHeartbeats 12800000 in
set_option maxRecDepth 131072 in
/-- The body at any point: the inputs' memrefs hold their blocks (`before0_W`); so the
    run applies; the invariant hands the body its scratch buffers at some contents (and the generator register) and takes them back at some contents (`PhiA_eq`); the core owes nothing throughout. -/
theorem sound_body (hH : WordsOk m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8, before0_9]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10]
  rw [show (dats m hH 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_triple c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (fun _ _ => chk_load (s := S1x1x1) _ _ _ (hH c t) _ _ _) (hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : WordsOk m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

set_option backward.isDefEq.respectTransparency.types false in
set_option maxHeartbeats 800000 in
/-- Every run ends with each array of the pipeline at what the last point left, and every other buffer at what the lines after
    the launch compute; every semaphore counter is zero. -/
theorem run_main_quiescent (hH : WordsOk m) : θ_run defs (onTc (τ := τ) (main (F := F))) (s₀ m ρ)
    (fun r => Pipeline.FramePost cfgs (dats m hH) 0 (Pipeline.afterTail₀ cfgs (dats m hH) 0 (V0 m) [hostOps1]) r ∧ r.2.sem = fun _ => 0) :=
  Pipeline.θ_run_frame_around (Q' := _) cfgs (dats m hH) (0 : Fin 1) launch0 defs₀ Variants.none m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hΦ := fun _ _ => rfl)

theorem run_main (hH : WordsOk m) : θ_run defs (onTc (τ := τ) (main (F := F))) (s₀ m ρ)
    (Pipeline.FramePost cfgs (dats m hH) 0 (Pipeline.afterTail₀ cfgs (dats m hH) 0 (V0 m) [hostOps1])) :=
  (θ_run defs _ _).mono (fun _ h => h.1) (run_main_quiescent m ρ hH)

/-- The frame: the argument arrays end unchanged and every counter is zero. -/
theorem frame (hH : WordsOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m hH) (A_eq m hH) (run_main m ρ hH)) ((θ_run defs _ _).mono (fun _ h => h.2) (run_main_quiescent m ρ hH))

end Cert.KernelIdeal.Body
-- ==== Proof.Pre.lean ====
/- The preconditions, read at one word or entry. -/
module

public import proofs.«01_k».proof.Proof.Gen.Pre_options_in_vocabulary
public import proofs.«01_k».proof.Proof.Gen.Pre_indices_in_table
public import Idealize.ShloMosaic.Lib.Pointwise

@[expose] public section

noncomputable section

namespace Cert.PreRead

open Idealize.ShloMosaic Idealize.ShloMosaic.TcCoe

/-- Both bits of a conjunction that is one are one. -/
theorem both_bits (a b : Bool) (h : IntOp.andi (BitVec.ofBool a) (BitVec.ofBool b) = 1#1) : a = true ∧ b = true := by
  revert h; cases a <;> cases b <;> decide

/-- A word at least zero and less than a small bound as signed numbers is less than it as naturals. -/
theorem lt_of_signed (w : BitVec 32) (n : ℕ) (hn : n < 2147483648)
    (h : IntOp.andi (IntOp.cmpi .sge w 0#32) (IntOp.cmpi .slt w (BitVec.ofNat 32 n)) = 1#1) : w.toNat < n := by
  have hw : w.toNat < 4294967296 := w.isLt
  have hnn : (BitVec.ofNat 32 n).toNat = n := by rw [BitVec.toNat_ofNat]; omega
  have hni : (BitVec.ofNat 32 n).toInt = n := by rw [BitVec.toInt_eq_toNat_cond, hnn, if_pos (by omega)]
  have h0 : (0#32 : BitVec 32).toInt = 0 := rfl
  obtain ⟨h1, h2⟩ := both_bits ((0#32 : BitVec 32).sle w) (w.slt (BitVec.ofNat 32 n)) h
  simp only [BitVec.sle, BitVec.slt, hni, h0, decide_eq_true_eq] at h1 h2
  rw [BitVec.toInt_eq_toNat_cond] at h1 h2
  split at h1 <;> omega

section Options
open Cert.Pre_options_in_vocabulary Cert.Pre_options_in_vocabulary.Gen
variable {F : FTy → Type} [FloatOps F]

theorem word_lt (a0 : FVec F S64x512 .f32) (a1 : IVec S64x100x20 32) (a2 : IVec S64x100 32) (a3 : FVec F S11322x300 .f32) (a4 : FVec F S2048x300 .f32)
    (a5 : FVec F S2048x512 .f32) (a6 a7 : FVec F S2048 .f32) (a8 a9 : FVec F S2048x512 .f32) (a10 a11 : FVec F S2048 .f32)
    (h : (Cert.Pre_options_in_vocabulary.fn (F := F) a0 a1 a2 a3 a4 a5 a6 a7 a8 a9 a10 a11).1 = fun _ => 1#1) (y : S64x100x20.Idx) : (a1 y : BitVec 32).toNat < 11322 := by
  have e := congrFun h y
  exact lt_of_signed (a1 y) 11322 (by norm_num) e

end Options

section Pad
open Cert.Pre_options_in_vocabulary Cert.Pre_options_in_vocabulary.Gen

theorem pad_zero (a0 : FVec Ideal S64x512 .f32) (a1 : IVec S64x100x20 32) (a2 : IVec S64x100 32) (a3 : FVec Ideal S11322x300 .f32) (a4 : FVec Ideal S2048x300 .f32)
    (a5 : FVec Ideal S2048x512 .f32) (a6 a7 : FVec Ideal S2048 .f32) (a8 a9 : FVec Ideal S2048x512 .f32) (a10 a11 : FVec Ideal S2048 .f32)
    (h : (Cert.Pre_options_in_vocabulary.fn (F := Ideal) a0 a1 a2 a3 a4 a5 a6 a7 a8 a9 a10 a11).2 = fun _ => 1#1) (e : Fin 300) : (a3 (ix2 0 e) : EReal) = 0 := by
  have := congrFun h (ix1 e)
  have e1 : FloatOps.cmpf (F := Ideal) (φ := .f32) .oeq (shapeCast S300 (extractStridedSlice S1x300 ![0, 0] a3 slices_S11322x300_S1x300_0_0) shapeCasts_S1x300_S300 (ix1 e))
     (broadcastInDim S300 ![] bcast_S_S300 (constant (F := Ideal) S_ .f32 0x00000000#32) (ix1 e)) = 1#1 := this
  have e2 : shapeCast S300 (extractStridedSlice S1x300 ![0, 0] a3 slices_S11322x300_S1x300_0_0) shapeCasts_S1x300_S300 (ix1 e) = a3 (ix2 0 e) := by pointwise
  have e3 : (broadcastInDim S300 ![] bcast_S_S300 (constant (F := Ideal) S_ .f32 0x00000000#32) (ix1 e) : EReal) = 0 := by pointwise
  rw [e2] at e1
  exact ((Ideal.cmp_oeq_eq_one _ _).mp e1).trans e3

end Pad

section Indices
open Cert.Pre_indices_in_table Cert.Pre_indices_in_table.Gen
variable {F : FTy → Type} [FloatOps F]

/-- Every question type is below the number of question types. -/
theorem type_lt (a0 : IVec S64 32) (a1 : IVec S64x100 32) (a2 : IVec S84x30000 1)
    (h : (Cert.Pre_indices_in_table.fn (F := F) a0 a1 a2).1 = fun _ => 1#1) (y : S64.Idx) : (a0 y : BitVec 32).toNat < 84 :=
  lt_of_signed (a0 y) 84 (by norm_num) (congrFun h y)

/-- Every option index is below the number of answers. -/
theorem option_lt (a0 : IVec S64 32) (a1 : IVec S64x100 32) (a2 : IVec S84x30000 1)
    (h : (Cert.Pre_indices_in_table.fn (F := F) a0 a1 a2).2 = fun _ => 1#1) (y : S64x100.Idx) : (a1 y : BitVec 32).toNat < 30000 :=
  lt_of_signed (a1 y) 30000 (by norm_num) (congrFun h y)

end Indices

end Cert.PreRead
-- ==== Proof.KWords.lean ====
/- The precondition gives the launch what it needs of the words. -/
module

public import proofs.«01_k».proof.Proof.KFrame
public import proofs.«01_k».proof.Proof.Pre

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable {F : FTy → Type} [FloatOps F] (m : (ℓ : Loc nD τ sig) → Buf (Elt F) ℓ) (ρ : Dev nD → PrngReg) (c : Dev nD)

/-- The staged words are the argument's, rearranged. -/
theorem words_staged : V m c main_call0_v4 = shapeCast S25x1x5120 (transpose S25x20x256 [1, 0, 2] (shapeCast S20x25x256 (transpose S20x6400 [1, 0]
    (shapeCast S6400x20 (m ((c : Thread nD τ).loc main_arg1)) shapeCasts_S64x100x20_S6400x20) transposes_S6400x20_S20x6400_1_0)
    shapeCasts_S20x6400_S20x25x256) transposes_S20x25x256_S25x20x256_1_0_2) shapeCasts_S25x20x256_S25x1x5120 := by
  show StableHlo.after hostOps0 (fun b => m (c, b)) (Proc.devRef .tc main_call0_v4) = _
  after_results <;> rfl

/-- Every word the launch reads is one of the argument's, so it is below the table's row count when all of those are. -/
theorem words_ok (h : ∀ c : Dev nD, ∀ y : S64x100x20.Idx, (m ((c : Thread nD τ).loc main_arg1) y : BitVec 32).toNat < 11322) : WordsOk m := by
  intro c t y
  show (V m c main_call0_v4 _ : BitVec 32).toNat < 11322
  rw [words_staged]
  exact h c _

end Cert.KernelIdeal.Body
-- ==== Proof.BWords.lean ====
/- The precondition gives the launch what it needs of the words. -/
module

public import proofs.«01_k».proof.Proof.BFrame
public import proofs.«01_k».proof.Proof.Pre

@[expose] public section

set_option maxRecDepth 16384

noncomputable section

namespace Cert.Kernel.Body

open Idealize.ShloMosaic Idealize.ShloMosaic.TcCoe Idealize.ShloMosaic.Tactic
open Cert.Kernel Cert.Kernel.Gen

variable {F : FTy → Type} [FloatOps F] (m : (ℓ : Loc nD τ sig) → Buf (Elt F) ℓ) (ρ : Dev nD → PrngReg) (c : Dev nD)

/-- The staged words are the argument's, rearranged. -/
theorem words_staged : V m c main_call0_v4 = shapeCast S25x1x5120 (transpose S25x20x256 [1, 0, 2] (shapeCast S20x25x256 (transpose S20x6400 [1, 0]
    (shapeCast S6400x20 (m ((c : Thread nD τ).loc main_arg1)) shapeCasts_S64x100x20_S6400x20) transposes_S6400x20_S20x6400_1_0)
    shapeCasts_S20x6400_S20x25x256) transposes_S20x25x256_S25x20x256_1_0_2) shapeCasts_S25x20x256_S25x1x5120 := by
  show StableHlo.after hostOps0 (fun b => m (c, b)) (Proc.devRef .tc main_call0_v4) = _
  after_results <;> rfl

/-- Every word the launch reads is one of the argument's, so it is below the table's row count when all of those are. -/
theorem words_ok (h : ∀ c : Dev nD, ∀ y : S64x100x20.Idx, (m ((c : Thread nD τ).loc main_arg1) y : BitVec 32).toNat < 11322) : WordsOk m := by
  intro c t y
  show (V m c main_call0_v4 _ : BitVec 32).toNat < 11322
  rw [words_staged]
  exact h c _

end Cert.Kernel.Body
-- ==== Proof.Spec.lean ====
/- The mathematics of the scores, one option at a time: a two-layer LSTM over at most 20 words, on extended reals. -/
module

public import Idealize.ShloMosaic.PureOps.Ideal
public import Idealize.ShloMosaic.Lib.IdealHost

@[expose] public section

noncomputable section

namespace Cert.Lstm

open Idealize.ShloMosaic

/-- One half, as the kernel writes it. -/
theorem half_eq : Ideal.ofBits .f32 0x3F000000#32 = (((1 : ℝ) / 2 : ℝ) : EReal) := by
  simp [Ideal.ofBits, Ideal.ieee, -EReal.coe_mul]; norm_num

/-- The sigmoid function, as the reference writes it. -/
def sg (x : EReal) : EReal := Ideal.div 1 (1 + Ideal.exp (-x))

/-- The kernel's sigmoid, by a hyperbolic tangent of half the argument, is the reference's. -/
theorem sg_eq (x : EReal) :
    (((1 : ℝ) / 2 : ℝ) : EReal) * Ideal.tanh ((((1 : ℝ) / 2 : ℝ) : EReal) * x) + (((1 : ℝ) / 2 : ℝ) : EReal) = sg x := by
  unfold sg
  induction x with
  | bot =>
    have h : (((1 : ℝ) / 2 : ℝ) : EReal) * ⊥ = ⊥ := EReal.coe_mul_bot_of_pos (by norm_num)
    rw [h, EReal.neg_bot]
    show (((1 : ℝ) / 2 : ℝ) : EReal) * (-1) + _ = Ideal.div 1 (1 + ⊤)
    have e : (1 : EReal) + ⊤ = ⊤ := by
      rw [show (1 : EReal) = ((1 : ℝ) : EReal) by norm_cast]; exact EReal.coe_add_top _
    rw [e]
    unfold Ideal.div
    rw [if_neg (by simp), EReal.inv_top, mul_zero]
    rw [show (-1 : EReal) = ((-1 : ℝ) : EReal) by rw [EReal.coe_neg, EReal.coe_one], ← EReal.coe_mul, ← EReal.coe_add]
    norm_num
  | top =>
    have h : (((1 : ℝ) / 2 : ℝ) : EReal) * ⊤ = ⊤ := EReal.coe_mul_top_of_pos (by norm_num)
    rw [h, EReal.neg_top]
    show (((1 : ℝ) / 2 : ℝ) : EReal) * 1 + _ = Ideal.div 1 (1 + 0)
    unfold Ideal.div
    rw [add_zero, if_neg (by simp), mul_one, ← EReal.coe_add]
    rw [show (1 : EReal) = ((1 : ℝ) : EReal) by norm_cast, ← EReal.coe_inv, ← EReal.coe_mul]
    norm_num
  | coe r =>
    rw [← EReal.coe_mul, ← EReal.coe_neg]
    show ((1 / 2 : ℝ) : EReal) * ((Real.tanh (1 / 2 * r) : ℝ) : EReal) + ((1 / 2 : ℝ) : EReal) = Ideal.div 1 (1 + ((Real.exp (-r) : ℝ) : EReal))
    rw [show (1 : EReal) = ((1 : ℝ) : EReal) by norm_cast, ← EReal.coe_mul, ← EReal.coe_add, ← EReal.coe_add]
    have hp : (0 : ℝ) < 1 + Real.exp (-r) := by positivity
    unfold Ideal.div
    rw [if_neg (by exact_mod_cast hp.ne'), ← EReal.coe_inv, ← EReal.coe_mul]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have p1 := Real.exp_pos (1 / 2 * r)
    have p2 := Real.exp_pos (-(1 / 2 * r))
    rw [e]
    generalize Real.exp (1 / 2 * r) = u at *
    generalize Real.exp (-(1 / 2 * r)) = w at *
    have hw : w = u⁻¹ := by field_simp; linarith
    subst hw
    field_simp
    ring

/-- The same with the half as the kernel's word for it. -/
theorem sg_bits (x : EReal) :
    Ideal.ofBits .f32 0x3F000000#32 * Ideal.tanh (Ideal.ofBits .f32 0x3F000000#32 * x) + Ideal.ofBits .f32 0x3F000000#32 = sg x := by
  rw [half_eq]; exact sg_eq x

/-- The state of one option: hidden and cell state of both layers. -/
structure RS where
  h1 : Fin 512 → EReal
  c1 : Fin 512 → EReal
  h2 : Fin 512 → EReal
  c2 : Fin 512 → EReal

/-- What one option's recurrence reads: its embedded words, its length, and the weights. -/
structure Par where
  x : ℕ → Fin 300 → EReal
  len : BitVec 32
  W0 : Fin 2048 → Fin 300 → EReal
  U0 : Fin 2048 → Fin 512 → EReal
  b0 : Fin 2048 → EReal
  W1 : Fin 2048 → Fin 512 → EReal
  U1 : Fin 2048 → Fin 512 → EReal
  b1 : Fin 2048 → EReal

/-- The first layer's 2048 gate inputs. -/
def gate0 (P : Par) (k : ℕ) (h : Fin 512 → EReal) (g : Fin 2048) : EReal :=
  (∑ e, P.x k e * P.W0 g e) + (∑ e, h e * P.U0 g e) + P.b0 g

/-- The second layer's 2048 gate inputs, `y` the first layer's hidden state. -/
def gate1 (P : Par) (y h : Fin 512 → EReal) (g : Fin 2048) : EReal :=
  (∑ e, y e * P.W1 g e) + (∑ e, h e * P.U1 g e) + P.b1 g

/-- The new cell state from the gate inputs (input, forget, cell, output, 512 each). -/
def cellC (g : Fin 2048 → EReal) (c : Fin 512 → EReal) (j : Fin 512) : EReal :=
  sg (g ⟨512 + j.val, by omega⟩) * c j + sg (g ⟨j.val, by omega⟩) * Ideal.tanh (g ⟨1024 + j.val, by omega⟩)

/-- The new hidden state from the gate inputs. -/
def cellH (g : Fin 2048 → EReal) (c : Fin 512 → EReal) (j : Fin 512) : EReal :=
  sg (g ⟨1536 + j.val, by omega⟩) * Ideal.tanh (cellC g c j)

/-- Whether time step `k` lies within the option's length. -/
def live (P : Par) (k : ℕ) : Bool := (BitVec.ofNat 32 k).slt P.len

/-- The first layer's hidden state after time step `k`. -/
def nextH1 (P : Par) (k : ℕ) (s : RS) (j : Fin 512) : EReal :=
  if live P k then cellH (gate0 P k s.h1) s.c1 j else s.h1 j

/-- One time step. -/
def step (P : Par) (k : ℕ) (s : RS) : RS where
  h1 := nextH1 P k s
  c1 := fun j => if live P k then cellC (gate0 P k s.h1) s.c1 j else s.c1 j
  h2 := fun j => if live P k then cellH (gate1 P (nextH1 P k s) s.h2) s.c2 j else s.h2 j
  c2 := fun j => if live P k then cellC (gate1 P (nextH1 P k s) s.h2) s.c2 j else s.c2 j

/-- The state before time step `k`. -/
def iter (P : Par) : ℕ → RS
  | 0 => ⟨fun _ => 0, fun _ => 0, fun _ => 0, fun _ => 0⟩
  | k + 1 => step P k (iter P k)

/-- The score: the last hidden state against the encoder's output. -/
def score (P : Par) (enc : Fin 512 → EReal) : EReal := ∑ j, (iter P 20).h2 j * enc j

/-- A contraction over 384 positions whose last 84 have a zero factor is the contraction over the first 300. -/
theorem sum_pad (f : Fin 384 → EReal) (g : Fin 300 → EReal) (h : ∀ e : Fin 300, f ⟨e.val, by omega⟩ = g e)
    (h0 : ∀ e : Fin 384, 300 ≤ e.val → f e = 0) : ∑ e, f e = ∑ e, g e := by
  have := Fin.sum_univ_add (a := 300) (b := 84) f
  rw [this]
  rw [Finset.sum_eq_zero (s := Finset.univ) (f := fun i : Fin 84 => f (Fin.natAdd 300 i)) (fun i _ => h0 _ (by simp)), add_zero]
  exact Finset.sum_congr rfl fun e _ => h e

/-- The parameters of one option's score, of the token rows `x`, the option's length and the weights as the arguments hold them. -/
def optPar (x : Fin 20 → Fin 300 → EReal) (len : BitVec 32) (Wi0 : Fin 2048 → Fin 300 → EReal) (Wh0 : Fin 2048 → Fin 512 → EReal)
    (bi0 bh0 : Fin 2048 → EReal) (Wi1 Wh1 : Fin 2048 → Fin 512 → EReal) (bi1 bh1 : Fin 2048 → EReal) : Par where
  x k e := x ⟨k % 20, Nat.mod_lt _ (by norm_num)⟩ e
  len := len
  W0 := Wi0
  U0 := Wh0
  b0 g := bi0 g + bh0 g
  W1 := Wi1
  U1 := Wh1
  b1 g := bi1 g + bh1 g

end Cert.Lstm
-- ==== Proof.KMath.lean ====
/- The kernel's time step on extended reals, one row of the chunk at a time. -/
module

public import proofs.«01_k».proof.Proof.KSteps
public import proofs.«01_k».proof.Proof.Spec
public import Idealize.ShloMosaic.Lib.Pointwise

@[expose] public section

set_option maxRecDepth 16384

noncomputable section

namespace Cert.KernelIdeal.Steps

open Idealize.ShloMosaic Idealize.ShloMosaic.TcCoe
open Cert.KernelIdeal Cert.KernelIdeal.Gen Cert.Lstm

/-- The first layer's gate inputs at a row. -/
theorem gates0_apply (x : Vec Ideal S256x384 .f32) (w0 : Vec Ideal S384x2048 .bf16) (h : Vec Ideal S256x512 .bf16) (wh0 : Vec Ideal S512x2048 .bf16)
    (b0 : Vec Ideal S1x2048 .f32) (r : Fin 256) (g : Fin 2048) :
    (k0_pay76 (F := Ideal) x w0 h wh0 b0 (ix2 r g) : EReal)
      = (∑ e : Fin 384, (x (ix2 r e) : EReal) * (w0 (ix2 e g) : EReal)) + (∑ e : Fin 512, (h (ix2 r e) : EReal) * (wh0 (ix2 e g) : EReal)) + (b0 (ix2 0 g) : EReal) := by
  unfold k0_pay76
  pointwise

/-- The second layer's gate inputs at a row. -/
theorem gates1_apply (y : Vec Ideal S256x512 .bf16) (w1 : Vec Ideal S512x2048 .bf16) (h : Vec Ideal S256x512 .bf16) (wh1 : Vec Ideal S512x2048 .bf16)
    (b1 : Vec Ideal S1x2048 .f32) (r : Fin 256) (g : Fin 2048) :
    (k0_pay86 (F := Ideal) (k0_pay84 y w1 h wh1) (k0_pay85 b1) (ix2 r g) : EReal)
      = (∑ e : Fin 512, (y (ix2 r e) : EReal) * (w1 (ix2 e g) : EReal)) + (∑ e : Fin 512, (h (ix2 r e) : EReal) * (wh1 (ix2 e g) : EReal)) + (b1 (ix2 0 g) : EReal) := by
  unfold k0_pay86 k0_pay84 k0_pay85
  pointwise

/-- The first layer's new cell state at a row. -/
theorem cell0_apply (x : Vec Ideal S256x384 .f32) (w0 : Vec Ideal S384x2048 .bf16) (h : Vec Ideal S256x512 .bf16) (wh0 : Vec Ideal S512x2048 .bf16)
    (b0 : Vec Ideal S1x2048 .f32) (c : Vec Ideal S256x512 .f32) (r : Fin 256) (j : Fin 512) :
    (k0_pay81 (F := Ideal) (k0_pay77 x w0 h wh0 b0) (k0_pay78 x w0 h wh0 b0) (k0_pay79 x w0 h wh0 b0) c (ix2 r j) : EReal)
      = cellC (fun g => k0_pay76 (F := Ideal) x w0 h wh0 b0 (ix2 r g)) (fun j => c (ix2 r j)) j := by
  unfold k0_pay81 k0_pay77 k0_pay78 k0_pay79 cellC
  pointwise
  rw [sg_bits, sg_bits]

/-- The first layer's new hidden state at a row, kept where the mask is off. -/
theorem hid0_apply (x : Vec Ideal S256x384 .f32) (w0 : Vec Ideal S384x2048 .bf16) (h : Vec Ideal S256x512 .bf16) (wh0 : Vec Ideal S512x2048 .bf16)
    (b0 : Vec Ideal S1x2048 .f32) (m : IVec S256x512 1) (c : Vec Ideal S256x512 .f32) (r : Fin 256) (j : Fin 512) :
    (k0_pay83 (F := Ideal) m (k0_pay77 x w0 h wh0 b0) (k0_pay78 x w0 h wh0 b0) (k0_pay79 x w0 h wh0 b0) (k0_pay80 x w0 h wh0 b0) c h (ix2 r j) : EReal)
      = if m (ix2 r j) = 1#1 then cellH (fun g => k0_pay76 (F := Ideal) x w0 h wh0 b0 (ix2 r g)) (fun j => c (ix2 r j)) j else h (ix2 r j) := by
  unfold k0_pay83 k0_pay80 cellH
  rw [← cell0_apply]
  pointwise
  rw [sg_bits]
  rfl

/-- The second layer's new cell state at a row. -/
theorem cell1_apply (p q : FVec Ideal S256x2048 .f32) (c : Vec Ideal S256x512 .f32) (r : Fin 256) (j : Fin 512) :
    (k0_pay87 (F := Ideal) p q c (ix2 r j) : EReal) = cellC (fun g => k0_pay86 (F := Ideal) p q (ix2 r g)) (fun j => c (ix2 r j)) j := by
  unfold k0_pay87 cellC
  pointwise
  rw [sg_bits, sg_bits]

/-- The second layer's new hidden state at a row, kept where the mask is off. -/
theorem hid1_apply (m : IVec S256x512 1) (p q : FVec Ideal S256x2048 .f32) (c : Vec Ideal S256x512 .f32) (h : Vec Ideal S256x512 .bf16) (r : Fin 256) (j : Fin 512) :
    (k0_pay96 (k0_pay89 (F := Ideal) m p q c h) (ix2 r j) : EReal)
      = if m (ix2 r j) = 1#1 then cellH (fun g => k0_pay86 (F := Ideal) p q (ix2 r g)) (fun j => c (ix2 r j)) j else h (ix2 r j) := by
  unfold k0_pay96 k0_pay89 cellH
  rw [← cell1_apply]
  pointwise
  rw [sg_bits]
  rfl

/-- The mask at a row: the time step is below the row's length. -/
theorem mask_apply (ln : Vec Ideal S256x512 .i32) (k : Fin k0_t2_loop.trips) (r : Fin 256) (j : Fin 512) :
    k0_pay75 (k0_pay95 ln) 0#32 1#32 k (ix2 r j) = 1#1 ↔ (BitVec.ofNat 32 k.val).slt (ln (ix2 r j)) = true := by
  unfold k0_pay75 k0_pay95
  pointwise
  rw [show Scf.iv 0#32 1#32 k.val = BitVec.ofNat 32 k.val by unfold Scf.iv; simp]
  unfold IntOp.cmpi
  cases (BitVec.ofNat 32 k.val).slt (ln (ix2 r j)) <;> simp

/-- Row `r` of the chunk's state. -/
def rowOf (s : KS Ideal) (r : Fin 256) : RS :=
  ⟨fun j => s.h1 (ix2 r j), fun j => s.c1 (ix2 r j), fun j => s.h2 (ix2 r j), fun j => s.c2 (ix2 r j)⟩

/-- What the chunk's operands hold for the option of row `r`: its words embedded and padded by zeros, its length in every lane,
    and the weights transposed. -/
structure RowIs (P : Par) (ln : Vec Ideal S256x512 .i32) (xs : Vec Ideal S5120x384 .f32) (w0 : Vec Ideal S384x2048 .bf16)
    (wh0 : Vec Ideal S512x2048 .bf16) (b0 : Vec Ideal S1x2048 .f32) (w1 wh1 : Vec Ideal S512x2048 .bf16) (b1 : Vec Ideal S1x2048 .f32)
    (r : Fin 256) : Prop where
  hx : ∀ (k : Fin k0_t2_loop.trips) (e : Fin 300), (rowsAt xs k (ix2 r ⟨e.val, by omega⟩) : EReal) = P.x k.val e
  hx0 : ∀ (k : Fin k0_t2_loop.trips) (e : Fin 384), 300 ≤ e.val → (rowsAt xs k (ix2 r e) : EReal) = 0
  hln : ∀ j : Fin 512, ln (ix2 r j) = P.len
  hw0 : ∀ (e : Fin 300) (g : Fin 2048), (w0 (ix2 ⟨e.val, by omega⟩ g) : EReal) = P.W0 g e
  hwh0 : ∀ (e : Fin 512) (g : Fin 2048), (wh0 (ix2 e g) : EReal) = P.U0 g e
  hb0 : ∀ g : Fin 2048, (b0 (ix2 0 g) : EReal) = P.b0 g
  hw1 : ∀ (e : Fin 512) (g : Fin 2048), (w1 (ix2 e g) : EReal) = P.W1 g e
  hwh1 : ∀ (e : Fin 512) (g : Fin 2048), (wh1 (ix2 e g) : EReal) = P.U1 g e
  hb1 : ∀ g : Fin 2048, (b1 (ix2 0 g) : EReal) = P.b1 g

variable {P : Par} {ln : Vec Ideal S256x512 .i32} {xs : Vec Ideal S5120x384 .f32} {w0 : Vec Ideal S384x2048 .bf16}
    {wh0 : Vec Ideal S512x2048 .bf16} {b0 : Vec Ideal S1x2048 .f32} {w1 wh1 : Vec Ideal S512x2048 .bf16} {b1 : Vec Ideal S1x2048 .f32}
    {r : Fin 256}

theorem RowIs.gates0 (H : RowIs P ln xs w0 wh0 b0 w1 wh1 b1 r) (k : Fin k0_t2_loop.trips) (s : KS Ideal) :
    (fun g => (k0_pay76 (F := Ideal) (rowsAt xs k) w0 s.h1 wh0 b0 (ix2 r g) : EReal)) = gate0 P k.val (rowOf s r).h1 := by
  funext g
  rw [gates0_apply, H.hb0]
  unfold gate0 rowOf
  rw [sum_pad (fun e => (rowsAt xs k (ix2 r e) : EReal) * (w0 (ix2 e g) : EReal)) (fun e => P.x k.val e * P.W0 g e)
    (fun e => by rw [H.hx, H.hw0]) (fun e he => by rw [H.hx0 k e he, zero_mul])]
  simp only [H.hwh0]

theorem RowIs.gates1 (H : RowIs P ln xs w0 wh0 b0 w1 wh1 b1 r) (y h : Vec Ideal S256x512 .bf16) :
    (fun g => (k0_pay86 (F := Ideal) (k0_pay84 y w1 h wh1) (k0_pay85 b1) (ix2 r g) : EReal))
      = gate1 P (fun j => y (ix2 r j)) (fun j => h (ix2 r j)) := by
  funext g
  rw [gates1_apply, H.hb1]
  unfold gate1
  simp only [H.hw1, H.hwh1]

theorem RowIs.mask (H : RowIs P ln xs w0 wh0 b0 w1 wh1 b1 r) (k : Fin k0_t2_loop.trips) (j : Fin 512) :
    k0_pay75 (k0_pay95 ln) 0#32 1#32 k (ix2 r j) = 1#1 ↔ live P k.val = true := by
  rw [mask_apply, H.hln]; rfl

/-- One time step of the kernel on row `r` is one time step of the option's recurrence. -/
theorem RowIs.step (H : RowIs P ln xs w0 wh0 b0 w1 wh1 b1 r) (k : Fin k0_t2_loop.trips) (s : KS Ideal) :
    rowOf (kstep ln xs w0 wh0 b0 w1 wh1 b1 k s) r = Lstm.step P k.val (rowOf s r) := by
  have e1 : (fun j => (newH1 ln (rowsAt xs k) w0 wh0 b0 k s (ix2 r j) : EReal)) = nextH1 P k.val (rowOf s r) := by
    funext j
    unfold newH1 nextH1
    rw [hid0_apply, H.gates0]
    simp only [H.mask]
    rfl
  unfold rowOf kstep Lstm.step
  dsimp only
  refine congr (congr (congr (congrArg RS.mk e1) ?_) ?_) ?_
  · funext j
    unfold newC1 k0_pay82
    pointwise
    rw [cell0_apply, H.gates0]
    refine Eq.trans (if_congr (H.mask k j) rfl rfl) ?_
    rfl
  · funext j
    unfold newH2
    rw [hid1_apply, H.gates1, e1]
    simp only [H.mask]
    rfl
  · funext j
    unfold newC2 k0_pay88
    pointwise
    rw [cell1_apply, H.gates1, e1]
    refine Eq.trans (if_congr (H.mask k j) rfl rfl) ?_
    rfl

/-- So is the whole recurrence. -/
theorem RowIs.iter (H : RowIs P ln xs w0 wh0 b0 w1 wh1 b1 r) (k : ℕ) (hk : k ≤ k0_t2_loop.trips) :
    rowOf (kiter ln xs w0 wh0 b0 w1 wh1 b1 kzero k) r = Lstm.iter P k := by
  induction k with
  | zero =>
    unfold kiter Lstm.iter rowOf kzero k0_pay91 k0_pay92 k0_pay93 k0_pay94 k0_pay90
    dsimp only
    refine congr (congr (congr (congrArg RS.mk ?_) ?_) ?_) ?_ <;> (funext j; pointwise)
  | succ k ih =>
    unfold kiter Lstm.iter
    rw [dif_pos (show k < k0_t2_loop.trips from hk), H.step, ih (Nat.le_of_succ_le hk)]

/-- The output block at a row holds the option's score in every lane. -/
theorem RowIs.score (H : RowIs P ln xs w0 wh0 b0 w1 wh1 b1 r) (x3 : Vec Ideal S256x512 .f32) (q : Fin 128) :
    (k0_pay97 (F := Ideal) (kiter ln xs w0 wh0 b0 w1 wh1 b1 kzero k0_t2_loop.trips).h2 x3 (ix2 r q) : EReal)
      = Lstm.score P (fun j => x3 (ix2 r j)) := by
  have h := congrArg RS.h2 (H.iter k0_t2_loop.trips le_rfl)
  have h20 : k0_t2_loop.trips = 20 := by decide
  unfold Lstm.score
  rw [← h20, ← h]
  unfold k0_pay97
  pointwise
  rfl

end Cert.KernelIdeal.Steps
-- ==== Proof.KHost.lean ====
/- What the launch stages, as functions of the arguments. -/
module

public import proofs.«01_k».proof.Proof.KFrame
public import proofs.«01_k».proof.Proof.KMath
public import Idealize.ShloMosaic.Lib.Pointwise
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

theorem V_v4 : V m c main_call0_v4 = shapeCast S25x1x5120 (transpose S25x20x256 [1, 0, 2] (shapeCast S20x25x256 (transpose S20x6400 [1, 0]
    (shapeCast S6400x20 (m ((c : Thread nD τ).loc main_arg1)) shapeCasts_S64x100x20_S6400x20) transposes_S6400x20_S20x6400_1_0)
    shapeCasts_S20x6400_S20x25x256) transposes_S20x25x256_S25x20x256_1_0_2) shapeCasts_S25x20x256_S25x1x5120 := by
  show StableHlo.after hostOps0 (fun b => m (c, b)) (Proc.devRef .tc main_call0_v4) = _
  after_results <;> rfl

theorem V_v5 : V m c main_call0_v5 = pad S11328x384 ![0, 0] ![6, 84] ![0, 0] (m ((c : Thread nD τ).loc main_arg3)) (sitofp (F := Ideal) .f32 (constantI S_ 32 0#32)) pads_S11322x300_S11328x384_060_0840 h_S_ := by
  show StableHlo.after hostOps0 (fun b => m (c, b)) (Proc.devRef .tc main_call0_v5) = _
  after_results <;> rfl

theorem V_v8 : V m c main_call0_v8 = truncf (F := Ideal) .bf16 (pad S384x2048 ![0, 0] ![84, 0] ![0, 0] (transpose S300x2048 [1, 0] (m ((c : Thread nD τ).loc main_arg4) : FVec Ideal S2048x300 .f32) transposes_S2048x300_S300x2048_1_0) (sitofp (F := Ideal) .f32 (constantI S_ 32 0#32)) pads_S300x2048_S384x2048_0840_000 h_S_) bitsLt_bf16_f32 := by
  show StableHlo.after hostOps0 (fun b => m (c, b)) (Proc.devRef .tc main_call0_v8) = _
  after_results <;> rfl

theorem V_v10 : V m c main_call0_v10 = broadcastInDim S6400x512 ![0, 1] bcast_S6400x1_S6400x512_0_1 (shapeCast S6400x1 (m ((c : Thread nD τ).loc main_arg2)) shapeCasts_S64x100_S6400x1) := by
  show StableHlo.after hostOps0 (fun b => m (c, b)) (Proc.devRef .tc main_call0_v10) = _
  after_results <;> rfl

theorem V_v13 : V m c main_call0_v13 = shapeCast S6400x512 (broadcastInDim S64x100x512 ![0, 1, 2] bcast_S64x1x512_S64x100x512_0_1_2 (broadcastInDim S64x1x512 ![0, 2] bcast_S64x512_S64x1x512_0_2 (m ((c : Thread nD τ).loc main_arg0)))) shapeCasts_S64x100x512_S6400x512 := by
  show StableHlo.after hostOps0 (fun b => m (c, b)) (Proc.devRef .tc main_call0_v13) = _
  after_results <;> rfl

theorem V_v15 : V m c main_call0_v15 = shapeCast S1x2048 (addf (F := Ideal) (φ := .f32) (m ((c : Thread nD τ).loc main_arg6) : FVec Ideal S2048 .f32) (m ((c : Thread nD τ).loc main_arg7) : FVec Ideal S2048 .f32)) shapeCasts_S2048_S1x2048 := by
  show StableHlo.after hostOps0 (fun b => m (c, b)) (Proc.devRef .tc main_call0_v15) = _
  after_results <;> rfl

theorem V_v17 : V m c main_call0_v17 = shapeCast S1x2048 (addf (F := Ideal) (φ := .f32) (m ((c : Thread nD τ).loc main_arg10) : FVec Ideal S2048 .f32) (m ((c : Thread nD τ).loc main_arg11) : FVec Ideal S2048 .f32)) shapeCasts_S2048_S1x2048 := by
  show StableHlo.after hostOps0 (fun b => m (c, b)) (Proc.devRef .tc main_call0_v17) = _
  after_results <;> rfl

theorem V_v19 : V m c main_call0_v19 = truncf (F := Ideal) .bf16 (transpose S512x2048 [1, 0] (m ((c : Thread nD τ).loc main_arg5) : FVec Ideal S2048x512 .f32) transposes_S2048x512_S512x2048_1_0) bitsLt_bf16_f32 := by
  show StableHlo.after hostOps0 (fun b => m (c, b)) (Proc.devRef .tc main_call0_v19) = _
  after_results <;> rfl

theorem V_v21 : V m c main_call0_v21 = truncf (F := Ideal) .bf16 (transpose S512x2048 [1, 0] (m ((c : Thread nD τ).loc main_arg8) : FVec Ideal S2048x512 .f32) transposes_S2048x512_S512x2048_1_0) bitsLt_bf16_f32 := by
  show StableHlo.after hostOps0 (fun b => m (c, b)) (Proc.devRef .tc main_call0_v21) = _
  after_results <;> rfl

theorem V_v23 : V m c main_call0_v23 = truncf (F := Ideal) .bf16 (transpose S512x2048 [1, 0] (m ((c : Thread nD τ).loc main_arg9) : FVec Ideal S2048x512 .f32) transposes_S2048x512_S512x2048_1_0) bitsLt_bf16_f32 := by
  show StableHlo.after hostOps0 (fun b => m (c, b)) (Proc.devRef .tc main_call0_v23) = _
  after_results <;> rfl

section Parts

theorem sitofp_zero : (FloatOps.sitofp (F := Ideal) .f32 (0#32) : EReal) = 0 := by
  show (((0#32 : BitVec 32).toInt : ℝ) : EReal) = 0
  simp

theorem flat_words (X : Vec Ideal S25x20x256 .i32) (t : Fin 25) (k : Fin 20) (r : Fin 256) :
    shapeCast S25x1x5120 X shapeCasts_S25x20x256_S25x1x5120 (ix3 t 0 ⟨k.val * 256 + r.val, by omega⟩) = X (ix3 t k r) := by
  pointwise

theorem split_words (X : Vec Ideal S20x6400 .i32) (t : Fin 25) (k : Fin 20) (r : Fin 256) :
    shapeCast S20x25x256 X shapeCasts_S20x6400_S20x25x256 (ix3 k t r) = X (ix2 k ⟨t.val * 256 + r.val, by omega⟩) := by
  pointwise

theorem rows_words (X : Vec Ideal S64x100x20 .i32) (n : Fin 6400) (k : Fin 20) :
    shapeCast S6400x20 X shapeCasts_S64x100x20_S6400x20 (ix2 n k) = X (ix3 ⟨n.val / 100, by omega⟩ ⟨n.val % 100, by omega⟩ k) := by
  pointwise

theorem turn_words (X : Vec Ideal S6400x20 .i32) (n : Fin 6400) (k : Fin 20) :
    transpose S20x6400 [1, 0] X transposes_S6400x20_S20x6400_1_0 (ix2 k n) = X (ix2 n k) := by
  pointwise

theorem swap_words (X : Vec Ideal S20x25x256 .i32) (t : Fin 25) (k : Fin 20) (r : Fin 256) :
    transpose S25x20x256 [1, 0, 2] X transposes_S20x25x256_S25x20x256_1_0_2 (ix3 t k r) = X (ix3 k t r) := by
  pointwise

theorem pad_rows (X : Vec Ideal S11322x300 .f32) (v : Fin 11322) (e : Fin 300) :
    pad S11328x384 ![0, 0] ![6, 84] ![0, 0] X (sitofp (F := Ideal) .f32 (constantI S_ 32 0#32)) pads_S11322x300_S11328x384_060_0840 h_S_
      (ix2 ⟨v.val, by omega⟩ ⟨e.val, by omega⟩) = X (ix2 v e) := by
  pointwise

theorem pad_rows_zero (X : Vec Ideal S11322x300 .f32) (v : Fin 11328) (e : Fin 384) (he : 300 ≤ e.val) :
    pad S11328x384 ![0, 0] ![6, 84] ![0, 0] X (sitofp (F := Ideal) .f32 (constantI S_ 32 0#32)) pads_S11322x300_S11328x384_060_0840 h_S_
      (ix2 v e) = (0 : EReal) := by
  pointwise
  rw [dif_neg (by omega)]
  exact sitofp_zero

theorem pad_w0 (X : FVec Ideal S2048x300 .f32) (e : Fin 300) (g : Fin 2048) :
    (truncf (F := Ideal) .bf16 (pad S384x2048 ![0, 0] ![84, 0] ![0, 0] (transpose S300x2048 [1, 0] X transposes_S2048x300_S300x2048_1_0) (sitofp (F := Ideal) .f32 (constantI S_ 32 0#32)) pads_S300x2048_S384x2048_0840_000 h_S_) bitsLt_bf16_f32
      : Vec Ideal S384x2048 .bf16) (ix2 ⟨e.val, by omega⟩ g) = X (ix2 g e) := by
  pointwise

theorem turn_w (X : FVec Ideal S2048x512 .f32) (e : Fin 512) (g : Fin 2048) :
    (truncf (F := Ideal) .bf16 (transpose S512x2048 [1, 0] X transposes_S2048x512_S512x2048_1_0) bitsLt_bf16_f32 : Vec Ideal S512x2048 .bf16) (ix2 e g) = X (ix2 g e) := by
  pointwise

theorem lens_at (X : Vec Ideal S64x100 .i32) (n : Fin 6400) (j : Fin 512) :
    broadcastInDim S6400x512 ![0, 1] bcast_S6400x1_S6400x512_0_1 (shapeCast S6400x1 X shapeCasts_S64x100_S6400x1) (ix2 n j)
      = X (ix2 ⟨n.val / 100, by omega⟩ ⟨n.val % 100, by omega⟩) := by
  pointwise

theorem enc_at (X : Vec Ideal S64x512 .f32) (n : Fin 6400) (j : Fin 512) :
    shapeCast S6400x512 (broadcastInDim S64x100x512 ![0, 1, 2] bcast_S64x1x512_S64x100x512_0_1_2 (broadcastInDim S64x1x512 ![0, 2] bcast_S64x512_S64x1x512_0_2 X)) shapeCasts_S64x100x512_S6400x512 (ix2 n j)
      = X (ix2 ⟨n.val / 100, by omega⟩ j) := by
  pointwise

theorem bias_at (X Y : FVec Ideal S2048 .f32) (g : Fin 2048) :
    shapeCast S1x2048 (addf (F := Ideal) X Y) shapeCasts_S2048_S1x2048 (ix2 0 g) = X (ix1 g) + Y (ix1 g) := by
  pointwise

end Parts

theorem v4_apply (t : Fin 25) (k : Fin 20) (r : Fin 256) :
    V m c main_call0_v4 (ix3 t 0 ⟨k.val * 256 + r.val, by omega⟩)
      = m ((c : Thread nD τ).loc main_arg1) (ix3 ⟨(t.val * 256 + r.val) / 100, by omega⟩ ⟨(t.val * 256 + r.val) % 100, by omega⟩ k) := by
  rw [V_v4, flat_words, swap_words, split_words, turn_words, rows_words]

theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

theorem N_eq : cfg0.N = 25 := by decide +kernel
theorem lt25 (t : Fin cfg0.N) : t.val < 25 := lt_of_lt_of_eq t.isLt N_eq

theorem words_at (t : Fin cfg0.N) (k : Fin 20) (r : Fin 256) :
    (iblk m c 0 t (ix3 (n0 := 1) (n1 := 1) (n2 := 5120) 0 0 ⟨k.val * 256 + r.val, by omega⟩) : BitVec 32)
      = m ((c : Thread nD τ).loc main_arg1) (ix3 ⟨(t.val * 256 + r.val) / 100, by have := lt25 t; omega⟩ ⟨(t.val * 256 + r.val) % 100, by omega⟩ k) := by
  obtain ⟨⟨e0, e1, e2⟩, -⟩ := idx_facts t
  have hN : t.val < 25 := lt25 t
  rw [← v4_apply m c ⟨t.val, hN⟩ k r]
  show V m c main_call0_v4 (((cfg0.win 0).blk t).view.emb _) = _
  congr 1
  funext a; apply Fin.ext
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 5120 + 1 * (k.val * 256 + r.val) = k.val * 256 + r.val; omega

theorem block1_at (t : Fin cfg0.N) (i : Fin 11328) (j : Fin 384) : iblk m c 1 t (ix2 (n0 := 11328) (n1 := 384) i j) = V m c main_call0_v5 (ix2 i j) := by
  obtain ⟨-, ⟨e0, e1⟩, -⟩ := idx_facts t
  show V m c main_call0_v5 (((cfg0.win 1).blk t).view.emb _) = _
  congr 1
  funext a; apply Fin.ext
  match a with
  | ⟨0, _⟩ => show win0_1.index t (0 : Fin 2) * 11328 + 1 * i.val = i.val; omega
  | ⟨1, _⟩ => show win0_1.index t (1 : Fin 2) * 384 + 1 * j.val = j.val; omega

theorem block2_at (t : Fin cfg0.N) (i : Fin 256) (j : Fin 512) : iblk m c 2 t (ix2 (n0 := 256) (n1 := 512) i j) = V m c main_call0_v10 (ix2 ⟨t.val * 256 + i.val, by have := lt25 t; omega⟩ j) := by
  obtain ⟨-, -, ⟨e0, e1⟩, -⟩ := idx_facts t
  show V m c main_call0_v10 (((cfg0.win 2).blk t).view.emb _) = _
  congr 1
  funext a; apply Fin.ext
  match a with
  | ⟨0, _⟩ => show win0_2.index t (0 : Fin 2) * 256 + 1 * i.val = t.val * 256 + i.val; omega
  | ⟨1, _⟩ => show win0_2.index t (1 : Fin 2) * 512 + 1 * j.val = j.val; omega

theorem block3_at (t : Fin cfg0.N) (i : Fin 256) (j : Fin 512) : iblk m c 3 t (ix2 (n0 := 256) (n1 := 512) i j) = V m c main_call0_v13 (ix2 ⟨t.val * 256 + i.val, by have := lt25 t; omega⟩ j) := by
  obtain ⟨-, -, -, ⟨e0, e1⟩, -⟩ := idx_facts t
  show V m c main_call0_v13 (((cfg0.win 3).blk t).view.emb _) = _
  congr 1
  funext a; apply Fin.ext
  match a with
  | ⟨0, _⟩ => show win0_3.index t (0 : Fin 2) * 256 + 1 * i.val = t.val * 256 + i.val; omega
  | ⟨1, _⟩ => show win0_3.index t (1 : Fin 2) * 512 + 1 * j.val = j.val; omega

theorem block4_at (t : Fin cfg0.N) (i : Fin 384) (j : Fin 2048) : iblk m c 4 t (ix2 (n0 := 384) (n1 := 2048) i j) = V m c main_call0_v8 (ix2 i j) := by
  obtain ⟨-, -, -, -, ⟨e0, e1⟩, -⟩ := idx_facts t
  show V m c main_call0_v8 (((cfg0.win 4).blk t).view.emb _) = _
  congr 1
  funext a; apply Fin.ext
  match a with
  | ⟨0, _⟩ => show win0_4.index t (0 : Fin 2) * 384 + 1 * i.val = i.val; omega
  | ⟨1, _⟩ => show win0_4.index t (1 : Fin 2) * 2048 + 1 * j.val = j.val; omega

theorem block5_at (t : Fin cfg0.N) (i : Fin 512) (j : Fin 2048) : iblk m c 5 t (ix2 (n0 := 512) (n1 := 2048) i j) = V m c main_call0_v19 (ix2 i j) := by
  obtain ⟨-, -, -, -, -, ⟨e0, e1⟩, -⟩ := idx_facts t
  show V m c main_call0_v19 (((cfg0.win 5).blk t).view.emb _) = _
  congr 1
  funext a; apply Fin.ext
  match a with
  | ⟨0, _⟩ => show win0_5.index t (0 : Fin 2) * 512 + 1 * i.val = i.val; omega
  | ⟨1, _⟩ => show win0_5.index t (1 : Fin 2) * 2048 + 1 * j.val = j.val; omega

theorem block6_at (t : Fin cfg0.N) (i : Fin 1) (j : Fin 2048) : iblk m c 6 t (ix2 (n0 := 1) (n1 := 2048) i j) = V m c main_call0_v15 (ix2 i j) := by
  obtain ⟨-, -, -, -, -, -, ⟨e0, e1⟩, -⟩ := idx_facts t
  show V m c main_call0_v15 (((cfg0.win 6).blk t).view.emb _) = _
  congr 1
  funext a; apply Fin.ext
  match a with
  | ⟨0, _⟩ => show win0_6.index t (0 : Fin 2) * 1 + 1 * i.val = i.val; omega
  | ⟨1, _⟩ => show win0_6.index t (1 : Fin 2) * 2048 + 1 * j.val = j.val; omega

theorem block7_at (t : Fin cfg0.N) (i : Fin 512) (j : Fin 2048) : iblk m c 7 t (ix2 (n0 := 512) (n1 := 2048) i j) = V m c main_call0_v21 (ix2 i j) := by
  obtain ⟨-, -, -, -, -, -, -, ⟨e0, e1⟩, -⟩ := idx_facts t
  show V m c main_call0_v21 (((cfg0.win 7).blk t).view.emb _) = _
  congr 1
  funext a; apply Fin.ext
  match a with
  | ⟨0, _⟩ => show win0_7.index t (0 : Fin 2) * 512 + 1 * i.val = i.val; omega
  | ⟨1, _⟩ => show win0_7.index t (1 : Fin 2) * 2048 + 1 * j.val = j.val; omega

theorem block8_at (t : Fin cfg0.N) (i : Fin 512) (j : Fin 2048) : iblk m c 8 t (ix2 (n0 := 512) (n1 := 2048) i j) = V m c main_call0_v23 (ix2 i j) := by
  obtain ⟨-, -, -, -, -, -, -, -, ⟨e0, e1⟩, -⟩ := idx_facts t
  show V m c main_call0_v23 (((cfg0.win 8).blk t).view.emb _) = _
  congr 1
  funext a; apply Fin.ext
  match a with
  | ⟨0, _⟩ => show win0_8.index t (0 : Fin 2) * 512 + 1 * i.val = i.val; omega
  | ⟨1, _⟩ => show win0_8.index t (1 : Fin 2) * 2048 + 1 * j.val = j.val; omega

theorem block9_at (t : Fin cfg0.N) (i : Fin 1) (j : Fin 2048) : iblk m c 9 t (ix2 (n0 := 1) (n1 := 2048) i j) = V m c main_call0_v17 (ix2 i j) := by
  obtain ⟨-, -, -, -, -, -, -, -, -, ⟨e0, e1⟩, -⟩ := idx_facts t
  show V m c main_call0_v17 (((cfg0.win 9).blk t).view.emb _) = _
  congr 1
  funext a; apply Fin.ext
  match a with
  | ⟨0, _⟩ => show win0_9.index t (0 : Fin 2) * 1 + 1 * i.val = i.val; omega
  | ⟨1, _⟩ => show win0_9.index t (1 : Fin 2) * 2048 + 1 * j.val = j.val; omega

/-- The parameters of option `b` of example `a`, from the arguments. -/
def kPar (a : Fin 64) (b : Fin 100) : Lstm.Par :=
  Lstm.optPar (fun k e => m ((c : Thread nD τ).loc main_arg3) (ix2 (n0 := 11322) (n1 := 300)
      ⟨(m ((c : Thread nD τ).loc main_arg1) (ix3 (n0 := 64) (n1 := 100) (n2 := 20) a b k) : BitVec 32).toNat % 11322, Nat.mod_lt _ (by norm_num)⟩ e))
    (m ((c : Thread nD τ).loc main_arg2) (ix2 (n0 := 64) (n1 := 100) a b))
    (fun g e => m ((c : Thread nD τ).loc main_arg4) (ix2 (n0 := 2048) (n1 := 300) g e))
    (fun g e => m ((c : Thread nD τ).loc main_arg5) (ix2 (n0 := 2048) (n1 := 512) g e))
    (fun g => m ((c : Thread nD τ).loc main_arg6) (ix1 (n0 := 2048) g)) (fun g => m ((c : Thread nD τ).loc main_arg7) (ix1 (n0 := 2048) g))
    (fun g e => m ((c : Thread nD τ).loc main_arg8) (ix2 (n0 := 2048) (n1 := 512) g e))
    (fun g e => m ((c : Thread nD τ).loc main_arg9) (ix2 (n0 := 2048) (n1 := 512) g e))
    (fun g => m ((c : Thread nD τ).loc main_arg10) (ix1 (n0 := 2048) g)) (fun g => m ((c : Thread nD τ).loc main_arg11) (ix1 (n0 := 2048) g))

theorem trips_eq : k0_t2_loop.trips = 20 := by decide +kernel

theorem off137_eq : ∀ k : Fin k0_t2_loop.trips, k0_off137 k = ![256 * k.val, 0] := by decide +kernel

theorem rows_row (x0 : Vec Ideal S1x1x5120 .i32) (x1 : Vec Ideal S11328x384 .f32) (k : Fin k0_t2_loop.trips) (r : Fin 256) (e : Fin 384) :
    Steps.rowsAt (rows x0 x1) k (ix2 r e)
      = x1 (Gather.ixT (x0 (ix3 (n0 := 1) (n1 := 1) (n2 := 5120) 0 0
          ⟨k.val * 256 + r.val, by have := lt_of_lt_of_eq k.isLt trips_eq; omega⟩) : BitVec 32).toNat e) := by
  have h0 : ∀ (off : Fin 2 → ℕ) (inb) (h : off = ![256 * k.val, 0]),
      (Rect.unit (s := S5120x384) off S256x384.size inb).toLoadRect.idx (ix2 r e)
        = ix2 (n0 := 5120) (n1 := 384) ⟨k.val * 256 + r.val, by have := lt_of_lt_of_eq k.isLt trips_eq; omega⟩ e := by
    intro off inb h
    subst h
    funext a; apply Fin.ext
    match a with
    | ⟨0, _⟩ => exact (Rect.idx_unit_val _ _ _ _ _).trans (by show 256 * k.val + r.val = k.val * 256 + r.val; omega)
    | ⟨1, _⟩ => exact (Rect.idx_unit_val _ _ _ _ _).trans (by show 0 + e.val = e.val; omega)
  unfold Steps.rowsAt
  rw [h0 _ _ (off137_eq k)]
  rfl

theorem table_row (t : Fin cfg0.N) (w : ℕ) (hw : w < 11322) (e : Fin 300) :
    iblk m c 1 t (Gather.ixT w ⟨e.val, by omega⟩) = m ((c : Thread nD τ).loc main_arg3) (ix2 (n0 := 11322) (n1 := 300) ⟨w % 11322, Nat.mod_lt _ (by norm_num)⟩ e) := by
  refine (block1_at m c t _ _).trans ?_
  rw [V_v5]
  refine Eq.trans ?_ (pad_rows _ ⟨w % 11322, Nat.mod_lt _ (by norm_num)⟩ e)
  congr 2
  exact Fin.ext (by show w % 11328 = w % 11322; rw [Nat.mod_eq_of_lt hw, Nat.mod_eq_of_lt (by omega)])

theorem table_zero (t : Fin cfg0.N) (w : ℕ) (e : Fin 384) (he : 300 ≤ e.val) : iblk m c 1 t (Gather.ixT w e) = (0 : EReal) := by
  refine (block1_at m c t _ _).trans ?_
  rw [V_v5]
  exact pad_rows_zero _ _ e he

theorem row_is (hH : WordsOk m) (t : Fin cfg0.N) (r : Fin 256) :
    Steps.RowIs (kPar m c ⟨(t.val * 256 + r.val) / 100, by have := lt25 t; omega⟩ ⟨(t.val * 256 + r.val) % 100, by omega⟩)
      (iblk m c 2 t) (rows (iblk m c 0 t) (iblk m c 1 t)) (iblk m c 4 t) (iblk m c 5 t) (iblk m c 6 t) (iblk m c 7 t) (iblk m c 8 t) (iblk m c 9 t) r where
  hx k e := by
    have hk := lt_of_lt_of_eq k.isLt trips_eq
    have hw := words_at m c t ⟨k.val, hk⟩ r
    refine (rows_row _ _ k r _).trans ?_
    refine (table_row m c t _ (hH c t _) e).trans ?_
    rw [hw]
    show _ = m ((c : Thread nD τ).loc main_arg3) (ix2 ⟨(m ((c : Thread nD τ).loc main_arg1) (ix3 _ _ ⟨k.val % 20, _⟩) : BitVec 32).toNat % 11322, _⟩ e)
    have hk' : (⟨k.val % 20, Nat.mod_lt _ (by norm_num)⟩ : Fin 20) = ⟨k.val, hk⟩ := Fin.ext (Nat.mod_eq_of_lt hk)
    rw [hk']
  hx0 k e he := (rows_row _ _ k r e).trans (table_zero m c t _ e he)
  hln j := (block2_at m c t r j).trans ((congrFun (V_v10 m c) _).trans (lens_at _ _ j))
  hw0 e g := (block4_at m c t _ g).trans ((congrFun (V_v8 m c) _).trans (pad_w0 _ e g))
  hwh0 e g := (block5_at m c t e g).trans ((congrFun (V_v19 m c) _).trans (turn_w _ e g))
  hb0 g := (block6_at m c t 0 g).trans ((congrFun (V_v15 m c) _).trans (bias_at _ _ g))
  hw1 e g := (block7_at m c t e g).trans ((congrFun (V_v21 m c) _).trans (turn_w _ e g))
  hwh1 e g := (block8_at m c t e g).trans ((congrFun (V_v23 m c) _).trans (turn_w _ e g))
  hb1 g := (block9_at m c t 0 g).trans ((congrFun (V_v17 m c) _).trans (bias_at _ _ g))

theorem out_row (hH : WordsOk m) (t : Fin cfg0.N) (r : Fin 256) (q : Fin 128) :
    (outAt m c t (ix2 r q) : EReal)
      = Lstm.score (kPar m c ⟨(t.val * 256 + r.val) / 100, by have := lt25 t; omega⟩ ⟨(t.val * 256 + r.val) % 100, by omega⟩)
          (fun j => m ((c : Thread nD τ).loc main_arg0) (ix2 (n0 := 64) (n1 := 512) ⟨(t.val * 256 + r.val) / 100, by have := lt25 t; omega⟩ j)) := by
  refine ((row_is m c hH t r).score (iblk m c 3 t) q).trans ?_
  congr 1
  funext j
  exact (block3_at m c t r j).trans ((congrFun (V_v13 m c) _).trans (enc_at _ _ j))

/-- The output array the launch leaves: every lane of row `n` holds option `n`'s score. -/
def outArr (c : Dev nD) : Vec Ideal S6400x128 .f32 := fun y =>
  Lstm.score (kPar m c ⟨(y 0).val / 100, by have : (y 0).val < 6400 := (y 0).isLt; omega⟩ ⟨(y 0).val % 100, by omega⟩)
    (fun j => m ((c : Thread nD τ).loc main_arg0) (ix2 (n0 := 64) (n1 := 512) ⟨(y 0).val / 100, by have : (y 0).val < 6400 := (y 0).isLt; omega⟩ j))

theorem outArr_of (z : S6400x128.Idx) (n : ℕ) (hn : n < 6400) (h : (z 0).val = n) :
    outArr m c z = Lstm.score (kPar m c ⟨n / 100, by omega⟩ ⟨n % 100, by omega⟩)
      (fun j => m ((c : Thread nD τ).loc main_arg0) (ix2 (n0 := 64) (n1 := 512) ⟨n / 100, by omega⟩ j)) := by
  subst h
  rfl

theorem arr_out (hH : WordsOk m) : (dats m hH 0 c).arrAt 10 cfg0.N = outArr m c := by
  refine (dats m hH 0 c).arrAt_eq_of_covers 10 _ (by decide +kernel) fun t hf y => ?_
  blk_simp
  rw [after0_10]
  have hy : y = ix2 (n0 := 256) (n1 := 128) (y (0 : Fin 2)) (y (1 : Fin 2)) := by
    funext a
    match a with
    | ⟨0, _⟩ => rfl
    | ⟨1, _⟩ => rfl
  have ht := lt25 t
  have h0 : (y (0 : Fin 2)).val < 256 := (y (0 : Fin 2)).isLt
  refine ((congrArg (outAt m c t) hy).trans (out_row m c hH t (y (0 : Fin 2)) (y (1 : Fin 2)))).trans ?_
  refine (outArr_of m c _ (t.val * 256 + (y (0 : Fin 2)).val) (by omega) ?_).symm
  obtain ⟨-, -, -, -, -, -, -, -, -, -, e0, e1⟩ := idx_facts t
  show win0_10.index t (0 : Fin 2) * 256 + 1 * (y (0 : Fin 2)).val = _
  omega

/-- The tail of the launch: the first lane of every row, at the options' own shape. -/
theorem tail_of (W : Valuation τ sig (Elt Ideal)) (X : Vec Ideal S6400x128 .f32) (hX : W (Proc.devRef .tc main_call0_v24) = X) :
    StableHlo.after hostOps1 W (Proc.devRef .tc main_v0)
      = shapeCast S64x100 (shapeCast S6400 (extractStridedSlice S6400x1 ![0, 0] X slices_S6400x128_S6400x1_0_0) shapeCasts_S6400x1_S6400) shapeCasts_S6400_S64x100 := by
  subst hX
  after_results <;> rfl

theorem tail_apply (X : Vec Ideal S6400x128 .f32) (a : Fin 64) (b : Fin 100) :
    shapeCast S64x100 (shapeCast S6400 (extractStridedSlice S6400x1 ![0, 0] X slices_S6400x128_S6400x1_0_0) shapeCasts_S6400x1_S6400) shapeCasts_S6400_S64x100 (ix2 a b)
      = X (ix2 ⟨a.val * 100 + b.val, by omega⟩ 0) := by
  pointwise

/-- The value of the kernel: option `b` of example `a` gets its score. -/
theorem result_value (hH : WordsOk m) (a : Fin 64) (b : Fin 100) :
    Pipeline.afterTail₀ cfgs (dats m hH) 0 (V0 m) [hostOps1] c main_v0 (ix2 (n0 := 64) (n1 := 100) a b)
      = Lstm.score (kPar m c a b) (fun j => m ((c : Thread nD τ).loc main_arg0) (ix2 (n0 := 64) (n1 := 512) a j)) := by
  have h := tail_of (Pipeline.withArrays (cfgs 0).spec c (V0 m c) fun w => (dats m hH 0 c).arrAt w (cfgs 0).N) (outArr m c)
    ((Pipeline.withArrays_arr (cfgs 0).spec launch0.win.arr_inj c (V0 m c) (fun w => (dats m hH 0 c).arrAt w (cfgs 0).N) 10).trans (arr_out m c hH))
  refine (congrFun h (ix2 (n0 := 64) (n1 := 100) a b)).trans ((tail_apply _ a b).trans ?_)
  refine (outArr_of m c _ (a.val * 100 + b.val) (by omega) rfl).trans ?_
  have ha : (⟨(a.val * 100 + b.val) / 100, by omega⟩ : Fin 64) = a := Fin.ext (by show (a.val * 100 + b.val) / 100 = a.val; omega)
  have hb : (⟨(a.val * 100 + b.val) % 100, by omega⟩ : Fin 100) = b := Fin.ext (by show (a.val * 100 + b.val) % 100 = b.val; omega)
  rw [ha, hb]

end Cert.KernelIdeal.Body
-- ==== Proof.RMath.lean ====
/- The reference's time step on extended reals, one option at a time. -/
module

public import proofs.«01_k».proof.Proof.Gen.ReferenceIdeal.StepRun
public import proofs.«01_k».proof.Proof.Spec
public import Idealize.ShloMosaic.Lib.Pointwise

@[expose] public section

set_option maxRecDepth 16384

noncomputable section

namespace Cert.ReferenceIdeal.Rows

open Idealize.ShloMosaic Idealize.ShloMosaic.TcCoe
open Cert.ReferenceIdeal Cert.ReferenceIdeal.Gen Cert.ReferenceIdeal.Step Cert.Lstm

/-- What the recurrence of option `n` reads, out of the loop's carry. -/
def parOf (s : State Ideal) (n : Fin 6400) : Par where
  x := fun k e => s.main_v18_0 (ix3 ⟨k % 20, Nat.mod_lt _ (by decide)⟩ n e)
  len := s.main_v18_2 (ix1 n)
  W0 := fun g e => s.main_v18_3 (ix2 g e)
  U0 := fun g e => s.main_v18_4 (ix2 g e)
  b0 := fun g => (s.main_v18_5 (ix1 g) : EReal) + (s.main_v18_6 (ix1 g) : EReal)
  W1 := fun g e => s.main_v18_7 (ix2 g e)
  U1 := fun g e => s.main_v18_8 (ix2 g e)
  b1 := fun g => (s.main_v18_9 (ix1 g) : EReal) + (s.main_v18_10 (ix1 g) : EReal)

/-- Option `n`'s state, out of the loop's carry. -/
def rowOf (s : State Ideal) (n : Fin 6400) : RS :=
  ⟨fun j => s.main_v18_12 (ix2 n j), fun j => s.main_v18_13 (ix2 n j), fun j => s.main_v18_14 (ix2 n j), fun j => s.main_v18_15 (ix2 n j)⟩

theorem toInt_small (j : ℕ) (hj : j < 20) : (BitVec.ofNat 32 j).toInt = j := by
  interval_cases j <;> rfl

theorem start0 (st : Fin 3 → Int) (j : ℕ) (hj : j < 20) (h : st 0 = j) : Host.clampedStart S20x6400x300 S1x6400x300 rfl st 0 = j := by
  refine Host.clampedStart_of_le (s := S20x6400x300) (t := S1x6400x300) rfl st 0 j h ?_
  show j + 1 ≤ 20; omega

theorem start1 (st : Fin 3 → Int) (h : st 1 = 0) : Host.clampedStart S20x6400x300 S1x6400x300 rfl st 1 = 0 := by
  refine Host.clampedStart_of_le (s := S20x6400x300) (t := S1x6400x300) rfl st 1 0 h ?_
  show 0 + 6400 ≤ 6400; omega

theorem start2 (st : Fin 3 → Int) (h : st 2 = 0) : Host.clampedStart S20x6400x300 S1x6400x300 rfl st 2 = 0 := by
  refine Host.clampedStart_of_le (s := S20x6400x300) (t := S1x6400x300) rfl st 2 0 h ?_
  show 0 + 300 ≤ 300; omega

theorem startM (j : ℕ) (hj : j < 20) : Host.clampedStart S20 S1 rfl (fun _ => (BitVec.ofNat 32 j).toInt) 0 = j := by
  refine Host.clampedStart_of_le (s := S20) (t := S1) rfl (fun _ => (BitVec.ofNat 32 j).toInt) 0 j (toInt_small j hj) ?_
  show j + 1 ≤ 20; omega

/-- The words of one time step out of all of them. -/
theorem slice_row {α : Type} (x : S20x6400x300.Idx → α) (st : Fin 3 → Int) (h : S20x6400x300.Slices (fun _ => 0) S1x6400x300) (j : ℕ) (hj : j < 20)
    (h0 : st 0 = j) (h1 : st 1 = 0) (h2 : st 2 = 0) (n : Fin 6400) (e : Fin 300) :
    Host.dynamicSlice S1x6400x300 x st h (ix3 0 n e) = x (ix3 ⟨j % 20, Nat.mod_lt _ (by decide)⟩ n e) := by
  rw [Host.dynamicSlice_apply]
  refine congrArg x (funext fun a => Fin.ext ?_)
  match a with
  | ⟨0, _⟩ =>
    show Host.clampedStart S20x6400x300 S1x6400x300 rfl st 0 + 0 = j % 20
    rw [start0 st j hj h0, Nat.mod_eq_of_lt hj, Nat.add_zero]
  | ⟨1, _⟩ =>
    show Host.clampedStart S20x6400x300 S1x6400x300 rfl st 1 + n.val = n.val
    rw [start1 st h1, Nat.zero_add]
  | ⟨2, _⟩ =>
    show Host.clampedStart S20x6400x300 S1x6400x300 rfl st 2 + e.val = e.val
    rw [start2 st h2, Nat.zero_add]

/-- The step's embedded words. -/
theorem x_apply (j : ℕ) (hj : j < 20) (s : State Ideal) (n : Fin 6400) (e : Fin 300) :
    (b3 (F := Ideal) j s (ix2 n e) : EReal) = (parOf s n).x j e := by
  have h := slice_row s.main_v18_0 (fun k => (((![(constantI S_ 32 (BitVec.ofNat 32 j) : (⟨S_, .i32⟩ : BufTy).Contents (Elt Ideal)), (b0 j s), (b1 j s)] : Fin 3 → (⟨S_, .i32⟩ : BufTy).Contents (Elt Ideal))) k (Shape.Idx.first h_S_)).toInt)
    sliceFits_S20x6400x300_S1x6400x300 j hj (toInt_small j hj) rfl rfl n e
  have e3 : b3 (F := Ideal) j s (ix2 n e) = b2 (F := Ideal) j s (ix3 0 n e) := by
    unfold b3
    pointwise
  refine e3.trans (Eq.trans ?_ h)
  unfold b2
  rfl

/-- The step's mask: the time step is below the option's length. -/
theorem mask_apply (j : ℕ) (hj : j < 20) (s : State Ideal) (n : Fin 6400) :
    b8 (F := Ideal) j s (ix2 n 0) = 1#1 ↔ live (parOf s n) j = true := by
  unfold b8 b7 b6 b5 b4 parOf live
  pointwise
  have e : K_main_v17 (F := Ideal) (ix1 ⟨Host.clampedStart S20 S1 rfl (fun k => (BitVec.ofNat 32 j).toInt) 0, by
      rw [startM j hj]; exact hj⟩) = BitVec.ofNat 32 j := by
    unfold K_main_v17
    pointwise
    rw [startM j hj]
  refine (iff_of_eq (congrArg (fun w => IntOp.cmpi CmpIPredicate.slt w (s.main_v18_2 (ix1 n)) = 1#1) e)).trans ?_
  unfold IntOp.cmpi
  cases (BitVec.ofNat 32 j).slt (s.main_v18_2 (ix1 n)) <;> simp

/-- The first layer's gate inputs. -/
theorem gates0_apply (j : ℕ) (hj : j < 20) (s : State Ideal) (n : Fin 6400) :
    (fun g => (b17 (F := Ideal) j s (ix2 n g) : EReal)) = gate0 (parOf s n) j (rowOf s n).h1 := by
  funext g
  unfold gate0
  simp only [← x_apply j hj]
  unfold b17 b16 b15 b14 b13 b12 b11 b10 b9 parOf rowOf
  pointwise

/-- The second layer's gate inputs. -/
theorem gates1_apply (j : ℕ) (s : State Ideal) (n : Fin 6400) :
    (fun g => (b64 (F := Ideal) j s (ix2 n g) : EReal)) = gate1 (parOf s n) (fun q => b53 (F := Ideal) j s (ix2 n q)) (rowOf s n).h2 := by
  funext g
  unfold gate1 b64 b63 b62 b61 b60 b59 b58 b57 b56 parOf rowOf
  pointwise

/-- The first layer's new cell state. -/
theorem cell0_apply (j : ℕ) (s : State Ideal) (n : Fin 6400) (q : Fin 512) :
    (b41 (F := Ideal) j s (ix2 n q) : EReal) = cellC (fun g => b17 (F := Ideal) j s (ix2 n g)) (rowOf s n).c1 q := by
  unfold b41 b40 b39 b38 b37 b36 b35 b34 b33 b32 b31 b30 b29 b28 b27 b26 b25 b24 b23 b22 b20 b19 b18 cellC sg rowOf
  pointwise

/-- The second layer's new cell state. -/
theorem cell1_apply (j : ℕ) (s : State Ideal) (n : Fin 6400) (q : Fin 512) :
    (b88 (F := Ideal) j s (ix2 n q) : EReal) = cellC (fun g => b64 (F := Ideal) j s (ix2 n g)) (rowOf s n).c2 q := by
  unfold b88 b87 b86 b85 b84 b83 b82 b81 b80 b79 b78 b77 b76 b75 b74 b73 b72 b71 b70 b69 b67 b66 b65 cellC sg rowOf
  pointwise

/-- The first layer's hidden state after the step. -/
theorem hid0_apply (j : ℕ) (hj : j < 20) (s : State Ideal) (n : Fin 6400) :
    (fun q => (b53 (F := Ideal) j s (ix2 n q) : EReal)) = nextH1 (parOf s n) j (rowOf s n) := by
  funext q
  unfold nextH1 cellH
  rw [← gates0_apply j hj, ← cell0_apply]
  unfold b53 b52 b51 b50 b49 b48 b47 b46 b45 b44 b43 b42 b21 sg
  pointwise
  exact if_congr (mask_apply j hj s n) rfl rfl

/-- One trip of the reference's loop on option `n` is one step of the option's recurrence. -/
theorem step_row (j : ℕ) (hj : j < 20) (s : State Ideal) (n : Fin 6400) :
    rowOf (Step.step j s) n = Lstm.step (parOf s n) j (rowOf s n) := by
  have e1 := hid0_apply j hj s n
  unfold Lstm.step
  rw [← e1]
  unfold rowOf Step.step
  dsimp only
  refine congr (congr (congr (congrArg RS.mk rfl) ?_) ?_) ?_
  · funext q
    have h := cell0_apply j s n q
    rw [gates0_apply j hj] at h
    refine Eq.trans ?_ (congrArg (fun v => if live (parOf s n) j = true then v else (s.main_v18_13 (ix2 n q) : EReal)) h)
    unfold b55 b54
    pointwise
    exact if_congr (mask_apply j hj s n) rfl rfl
  · funext q
    have h := cell1_apply j s n q
    have hg := gates1_apply j s n
    refine Eq.trans ?_ (congrArg (fun G => if live (parOf s n) j = true then cellH G (rowOf s n).c2 q else (s.main_v18_14 (ix2 n q) : EReal)) hg)
    unfold cellH
    rw [← h]
    unfold b100 b99 b98 b97 b96 b95 b94 b93 b92 b91 b90 b89 b68 sg
    pointwise
    exact if_congr (mask_apply j hj s n) rfl rfl
  · funext q
    have h := cell1_apply j s n q
    rw [gates1_apply j] at h
    refine Eq.trans ?_ (congrArg (fun v => if live (parOf s n) j = true then v else (s.main_v18_15 (ix2 n q) : EReal)) h)
    unfold b102 b101
    pointwise
    exact if_congr (mask_apply j hj s n) rfl rfl

/-- The loop's carry keeps what the recurrence reads. -/
theorem step_par (j : ℕ) (s : State Ideal) (n : Fin 6400) : parOf (Step.step j s) n = parOf s n := rfl

/-- All twenty trips, from a zero state. -/
theorem iter_row (it : ℕ → State Ideal) (n : Fin 6400) (h0 : rowOf (it 0) n = Lstm.iter (parOf (it 0) n) 0)
    (hs : ∀ k, it (k + 1) = Step.step k (it k)) (k : ℕ) (hk : k ≤ 20) :
    parOf (it k) n = parOf (it 0) n ∧ rowOf (it k) n = Lstm.iter (parOf (it 0) n) k := by
  induction k with
  | zero => exact ⟨rfl, h0⟩
  | succ k ih =>
    obtain ⟨hp, hr⟩ := ih (by omega)
    rw [hs]
    refine ⟨(step_par k _ n).trans hp, ?_⟩
    rw [step_row k (by omega), hp, hr]
    rfl

/-- The result at an option: its last hidden state against the encoder's output. -/
theorem result_apply (s : State Ideal) (enc : (⟨S64x512, .f32⟩ : BufTy).Contents (Elt Ideal)) (a : Fin 64) (b : Fin 100) :
    (R_main_v20 (F := Ideal) s enc (ix2 a b) : EReal)
      = ∑ q : Fin 512, (s.main_v18_14 (ix2 ⟨a.val * 100 + b.val, by omega⟩ q) : EReal) * (enc (ix2 a q) : EReal) := by
  unfold R_main_v20
  pointwise

end Cert.ReferenceIdeal.Rows
-- ==== Proof.RHost.lean ====
/- What the reference's loop starts from, and its value. -/
module

public import proofs.«01_k».proof.Proof.RMath

@[expose] public section

set_option maxRecDepth 16384

noncomputable section

namespace Cert.ReferenceIdeal.Rows

open Idealize.ShloMosaic Idealize.ShloMosaic.TcCoe
open Cert.ReferenceIdeal Cert.ReferenceIdeal.Gen Cert.ReferenceIdeal.Step Cert.Lstm

/-- The row gather at an index: the row the start index names, clamped into the table. -/
theorem lookup_apply (x : S11322x300.Idx → EReal) (idx : IVec S6400x20x1 32) (n : Fin 6400) (k : Fin 20) (e : Fin 300) :
    Host.gather gather_S11322x300_S6400x20x1_S6400x20x300_2_0_n_n_0_2_1300 x idx (ix3 n k e)
      = x (ix2 ⟨min (idx (ix3 n k 0)).toInt.toNat 11321, by omega⟩ e) := by
  unfold Host.gather
  congr 1
  funext a
  apply Fin.ext
  have hw1 : (1 : Fin 2) ∉ ([0] : List (Fin 2)) := by decide
  match a with
  | ⟨0, _⟩ =>
    show GatherDims.start gather_S11322x300_S6400x20x1_S6400x20x300_2_0_n_n_0_2_1300 (ix3 n k e) idx (0 : Fin 2)
      + GatherDims.batchCoord gather_S11322x300_S6400x20x1_S6400x20x300_2_0_n_n_0_2_1300 (ix3 n k e) (0 : Fin 2)
      + GatherDims.offCoord gather_S11322x300_S6400x20x1_S6400x20x300_2_0_n_n_0_2_1300 (ix3 n k e) (0 : Fin 2) = _
    rw [GatherDims.batchCoord_eq_zero _ _ _ List.not_mem_nil,
      GatherDims.offCoord_eq_zero _ _ _ (fun h => ((GatherDims.mem_sKept _ _).mp h).1 (List.mem_singleton.mpr rfl))]
    have hm : (0 : Fin 2) ∈ (gather_S11322x300_S6400x20x1_S6400x20x300_2_0_n_n_0_2_1300).startIndexMap := List.mem_singleton.mpr rfl
    unfold GatherDims.start
    rw [dif_pos hm]
    have hs : GatherDims.siIdx gather_S11322x300_S6400x20x1_S6400x20x300_2_0_n_n_0_2_1300 (ix3 n k e)
        ⟨List.idxOf (0 : Fin 2) [0], List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    exact congrArg (fun z => min (idx z).toInt.toNat 11321) hs
  | ⟨1, _⟩ =>
    show GatherDims.start gather_S11322x300_S6400x20x1_S6400x20x300_2_0_n_n_0_2_1300 (ix3 n k e) idx (1 : Fin 2)
      + GatherDims.batchCoord gather_S11322x300_S6400x20x1_S6400x20x300_2_0_n_n_0_2_1300 (ix3 n k e) (1 : Fin 2)
      + GatherDims.offCoord gather_S11322x300_S6400x20x1_S6400x20x300_2_0_n_n_0_2_1300 (ix3 n k e) (1 : Fin 2) = _
    rw [GatherDims.batchCoord_eq_zero _ _ _ List.not_mem_nil]
    have h0 : GatherDims.start gather_S11322x300_S6400x20x1_S6400x20x300_2_0_n_n_0_2_1300 (ix3 n k e) idx (1 : Fin 2) = 0 := by
      unfold GatherDims.start
      exact dif_neg hw1
    rw [h0]
    exact (Nat.zero_add _).trans rfl

variable (a1 : (⟨S64x100x20, .i32⟩ : BufTy).Contents (Elt Ideal)) (a2 : (⟨S64x100, .i32⟩ : BufTy).Contents (Elt Ideal))
    (a3 : (⟨S11322x300, .f32⟩ : BufTy).Contents (Elt Ideal))

theorem word_apply (a : Fin 64) (b : Fin 100) (k : Fin 20) :
    A_main_v0 (F := Ideal) a1 a2 a3 (ix2 ⟨a.val * 100 + b.val, by omega⟩ k) = a1 (ix3 a b k) := by
  unfold A_main_v0
  pointwise

theorem start_apply (a : Fin 64) (b : Fin 100) (k : Fin 20) (hw : (a1 (ix3 a b k) : BitVec 32).toNat < 11322) :
    (A_main_v7 (F := Ideal) a1 a2 a3 (ix3 ⟨a.val * 100 + b.val, by omega⟩ k 0) : BitVec 32) = a1 (ix3 a b k) := by
  have h : (A_main_v7 (F := Ideal) a1 a2 a3 (ix3 ⟨a.val * 100 + b.val, by omega⟩ k 0) : BitVec 32)
      = Scalar.select (IntOp.cmpi .slt (a1 (ix3 a b k)) 0#32) (IntOp.addi (a1 (ix3 a b k)) 11322#32) (a1 (ix3 a b k)) := by
    unfold A_main_v7 A_main_v6 A_main_v3 A_main_v5 K_main_v2 K_main_v4 K_main_c K_main_c_0
    rw [← word_apply a1 a2 a3 a b k]
    generalize A_main_v0 (F := Ideal) a1 a2 a3 = w0
    pointwise
  rw [h]
  have hs : IntOp.cmpi .slt (a1 (ix3 a b k) : BitVec 32) 0#32 = 0#1 := by
    have h0 : (0#32 : BitVec 32).toInt = 0 := rfl
    simp only [IntOp.cmpi, BitVec.slt, h0]
    rw [BitVec.toInt_eq_toNat_cond, if_pos (by omega)]
    rw [decide_eq_false (by omega)]
    rfl
  rw [hs]
  rfl

theorem mask_bit (w : BitVec 32) : (FloatOps.uitofp (F := Ideal) .f32 (IntOp.cmpi .ne w 0#32) : EReal) = if w = 0#32 then 0 else 1 := by
  by_cases h : w = 0#32
  · subst h
    rw [if_pos rfl]
    show (((IntOp.cmpi .ne (0#32 : BitVec 32) 0#32).toNat : ℝ) : EReal) = 0
    simp [IntOp.cmpi]
  · rw [if_neg h]
    show (((IntOp.cmpi .ne w 0#32).toNat : ℝ) : EReal) = 1
    simp [IntOp.cmpi, h]

/-- The embedded token: the table's row, as the padding row is zero. -/
theorem emb_apply (hw : ∀ y, (a1 y : BitVec 32).toNat < 11322) (hz : ∀ e : Fin 300, (a3 (ix2 0 e) : EReal) = 0)
    (a : Fin 64) (b : Fin 100) (k : Fin 20) (e : Fin 300) :
    (A_main_v16 (F := Ideal) a1 a2 a3 (ix3 k ⟨a.val * 100 + b.val, by omega⟩ e) : EReal)
      = a3 (ix2 ⟨(a1 (ix3 a b k) : BitVec 32).toNat % 11322, Nat.mod_lt _ (by norm_num)⟩ e) := by
  have hk := hw (ix3 a b k)
  have h1 : (A_main_v16 (F := Ideal) a1 a2 a3 (ix3 k ⟨a.val * 100 + b.val, by omega⟩ e) : EReal)
      = (A_main_v8 (F := Ideal) a1 a2 a3 (ix3 ⟨a.val * 100 + b.val, by omega⟩ k e) : EReal)
        * (A_main_v13 (F := Ideal) a1 a2 a3 (ix3 ⟨a.val * 100 + b.val, by omega⟩ k e) : EReal) := by
    unfold A_main_v16 A_main_v14
    generalize A_main_v8 (F := Ideal) a1 a2 a3 = u
    generalize A_main_v13 (F := Ideal) a1 a2 a3 = v
    pointwise
  have h2 : (A_main_v13 (F := Ideal) a1 a2 a3 (ix3 ⟨a.val * 100 + b.val, by omega⟩ k e) : EReal)
      = if (a1 (ix3 a b k) : BitVec 32) = 0#32 then 0 else 1 := by
    rw [← mask_bit, ← word_apply a1 a2 a3 a b k]
    unfold A_main_v13 A_main_v12 A_main_v11 A_main_v10 K_main_v9 K_main_c_1
    generalize A_main_v0 (F := Ideal) a1 a2 a3 = w0
    pointwise
  have h3 : (A_main_v8 (F := Ideal) a1 a2 a3 (ix3 ⟨a.val * 100 + b.val, by omega⟩ k e) : EReal)
      = a3 (ix2 ⟨(a1 (ix3 a b k) : BitVec 32).toNat % 11322, Nat.mod_lt _ (by norm_num)⟩ e) := by
    unfold A_main_v8
    refine (lookup_apply _ _ _ k e).trans ?_
    congr 2
    apply Fin.ext
    show min (A_main_v7 (F := Ideal) a1 a2 a3 (ix3 ⟨a.val * 100 + b.val, by omega⟩ k 0) : BitVec 32).toInt.toNat 11321 = (a1 (ix3 a b k) : BitVec 32).toNat % 11322
    rw [start_apply a1 a2 a3 a b k hk, BitVec.toInt_eq_toNat_cond, if_pos (by omega), Nat.mod_eq_of_lt hk]
    omega
  rw [h1, h2, h3]
  by_cases h : (a1 (ix3 a b k) : BitVec 32) = 0#32
  · rw [if_pos h, mul_zero]
    rw [← hz e]
    congr 2
    apply Fin.ext
    show 0 = (a1 (ix3 a b k) : BitVec 32).toNat % 11322
    rw [h]; rfl
  · rw [if_neg h, mul_one]

variable (m : (ℓ : Loc nD τ sig) → Buf (Elt Ideal) ℓ) (c : Dev nD)

/-- The parameters of option `b` of example `a`, from the arguments. -/
def rPar (a : Fin 64) (b : Fin 100) : Lstm.Par :=
  Lstm.optPar (fun k e => m ((c : Thread nD τ).loc main_arg3) (ix2 (n0 := 11322) (n1 := 300)
      ⟨(m ((c : Thread nD τ).loc main_arg1) (ix3 (n0 := 64) (n1 := 100) (n2 := 20) a b k) : BitVec 32).toNat % 11322, Nat.mod_lt _ (by norm_num)⟩ e))
    (m ((c : Thread nD τ).loc main_arg2) (ix2 (n0 := 64) (n1 := 100) a b))
    (fun g e => m ((c : Thread nD τ).loc main_arg4) (ix2 (n0 := 2048) (n1 := 300) g e))
    (fun g e => m ((c : Thread nD τ).loc main_arg5) (ix2 (n0 := 2048) (n1 := 512) g e))
    (fun g => m ((c : Thread nD τ).loc main_arg6) (ix1 (n0 := 2048) g)) (fun g => m ((c : Thread nD τ).loc main_arg7) (ix1 (n0 := 2048) g))
    (fun g e => m ((c : Thread nD τ).loc main_arg8) (ix2 (n0 := 2048) (n1 := 512) g e))
    (fun g e => m ((c : Thread nD τ).loc main_arg9) (ix2 (n0 := 2048) (n1 := 512) g e))
    (fun g => m ((c : Thread nD τ).loc main_arg10) (ix1 (n0 := 2048) g)) (fun g => m ((c : Thread nD τ).loc main_arg11) (ix1 (n0 := 2048) g))

theorem len_apply (a : Fin 64) (b : Fin 100) :
    A_main_v1 (F := Ideal) a1 a2 a3 (ix1 ⟨a.val * 100 + b.val, by omega⟩) = a2 (ix2 a b) := by
  unfold A_main_v1
  pointwise

theorem zero_apply (n : Fin 6400) (j : Fin 512) : (K_main_v15 (F := Ideal) (ix2 n j) : EReal) = 0 := by
  unfold K_main_v15 K_main_cst
  pointwise

theorem par_ext {P Q : Lstm.Par} (h1 : P.x = Q.x) (h2 : P.len = Q.len) (h3 : P.W0 = Q.W0) (h4 : P.U0 = Q.U0) (h5 : P.b0 = Q.b0)
    (h6 : P.W1 = Q.W1) (h7 : P.U1 = Q.U1) (h8 : P.b1 = Q.b1) : P = Q := by
  cases P; cases Q
  dsimp only at h1 h2 h3 h4 h5 h6 h7 h8
  subst h1 h2 h3 h4 h5 h6 h7 h8
  rfl

theorem row_ext {R Q : Lstm.RS} (h1 : R.h1 = Q.h1) (h2 : R.c1 = Q.c1) (h3 : R.h2 = Q.h2) (h4 : R.c2 = Q.c2) : R = Q := by
  cases R; cases Q
  dsimp only at h1 h2 h3 h4
  subst h1 h2 h3 h4
  rfl

theorem par_init (hw : ∀ y, (m ((c : Thread nD τ).loc main_arg1) y : BitVec 32).toNat < 11322)
    (hz : ∀ e : Fin 300, m ((c : Thread nD τ).loc main_arg3) (ix2 (n0 := 11322) (n1 := 300) 0 e) = (0 : EReal)) (a : Fin 64) (b : Fin 100) :
    parOf (StepRun.initState m c) ⟨a.val * 100 + b.val, by omega⟩ = rPar m c a b := by
  have hx : (parOf (StepRun.initState m c) ⟨a.val * 100 + b.val, by omega⟩).x = (rPar m c a b).x := by
    funext k e
    exact emb_apply _ (m ((c : Thread nD τ).loc main_arg2)) _ hw hz a b _ e
  have hl : (parOf (StepRun.initState m c) ⟨a.val * 100 + b.val, by omega⟩).len = (rPar m c a b).len :=
    len_apply (m ((c : Thread nD τ).loc main_arg1)) _ (m ((c : Thread nD τ).loc main_arg3)) a b
  exact par_ext hx hl rfl rfl rfl rfl rfl rfl

theorem row_init (n : Fin 6400) : rowOf (StepRun.initState m c) n = Lstm.iter (parOf (StepRun.initState m c) n) 0 := by
  have h : (fun j : Fin 512 => (K_main_v15 (F := Ideal) (ix2 n j) : EReal)) = fun _ => 0 := funext (zero_apply n)
  exact row_ext h h h h

/-- The loop's states, from the arguments. -/
def states (m : (ℓ : Loc nD τ sig) → Buf (Elt Ideal) ℓ) (c : Dev nD) : ℕ → State Ideal
  | 0 => StepRun.initState m c
  | n + 1 => Step.step n (states m c n)

/-- The reference's result: option `b` of example `a` gets its score. -/
theorem result_value (hw : ∀ y, (m ((c : Thread nD τ).loc main_arg1) y : BitVec 32).toNat < 11322)
    (hz : ∀ e : Fin 300, m ((c : Thread nD τ).loc main_arg3) (ix2 (n0 := 11322) (n1 := 300) 0 e) = (0 : EReal)) (a : Fin 64) (b : Fin 100) :
    R_main_v20 (states m c 20) (m ((c : Thread nD τ).loc main_arg0)) (ix2 (n0 := 64) (n1 := 100) a b)
      = Lstm.score (rPar m c a b) (fun j => m ((c : Thread nD τ).loc main_arg0) (ix2 (n0 := 64) (n1 := 512) a j)) := by
  refine (result_apply _ _ a b).trans ?_
  have h := (iter_row (states m c) ⟨a.val * 100 + b.val, by omega⟩ (row_init m c _) (fun _ => rfl) 20 le_rfl).2
  have hp : parOf (states m c 0) ⟨a.val * 100 + b.val, by omega⟩ = rPar m c a b := par_init m c hw hz a b
  rw [hp] at h
  unfold Lstm.score
  rw [← h]
  rfl

end Cert.ReferenceIdeal.Rows
-- ==== Proof.CLstm.lean ====
/- The claims of the first program: its frames, and that the launch's scores are the reference's. -/
module

public import proofs.«01_k».proof.Defs
public import proofs.«01_k».proof.Proof.KWords
public import proofs.«01_k».proof.Proof.BWords
public import proofs.«01_k».proof.Proof.KHost
public import proofs.«01_k».proof.Proof.RHost

@[expose] public section

set_option maxRecDepth 16384

noncomputable section

namespace Cert.LstmClaims

open Idealize.ShloMosaic Idealize.ShloMosaic.TcCoe Idealize.ShloMosaic.Tactic

/-- The machine-word program's frame. -/
theorem frame_kernel : Cert.quiescent_Kernel := fun m ρ h =>
  Cert.Kernel.Body.frame m ρ (Cert.Kernel.Body.words_ok m fun c y => Cert.PreRead.word_lt _ _ _ _ _ _ _ _ _ _ _ _ (h c).1 y)

/-- The words are below the table's row count, under the precondition of the ideal program. -/
theorem words_ok_of (m : (ℓ : Loc Cert.KernelIdeal.nD Cert.KernelIdeal.τ Cert.KernelIdeal.sig) → Buf (Elt Ideal) ℓ)
    (h : Cert.Pre_KernelIdeal m) : Cert.KernelIdeal.Body.WordsOk m :=
  Cert.KernelIdeal.Body.words_ok m fun c y => Cert.PreRead.word_lt _ _ _ _ _ _ _ _ _ _ _ _ (h c).1 y

/-- The ideal program's frame. -/
theorem frame_ideal : Cert.quiescent_KernelIdeal := fun m ρ h => Cert.KernelIdeal.Body.frame m ρ (words_ok_of m h)

/-- The reference's frame, whatever the words. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.StepRun.run_iter (F := Ideal) m ρ (Cert.ReferenceIdeal.Rows.states m) (fun _ => rfl) (fun _ _ => rfl))

/-- Nothing was rewritten on the way to the ideal program. -/
theorem preserves_ideal : Cert.preserves_Kernel_KernelIdeal := trivial

/-- The parameters of one option, of the argument arrays. -/
def ofArgs (x1 : (⟨3, ![64, 100, 20]⟩ : Shape).Idx → BitVec 32) (x2 : (⟨2, ![64, 100]⟩ : Shape).Idx → BitVec 32) (x3 : (⟨2, ![11322, 300]⟩ : Shape).Idx → EReal) (x4 : (⟨2, ![2048, 300]⟩ : Shape).Idx → EReal) (x5 : (⟨2, ![2048, 512]⟩ : Shape).Idx → EReal) (x6 : (⟨1, ![2048]⟩ : Shape).Idx → EReal) (x7 : (⟨1, ![2048]⟩ : Shape).Idx → EReal) (x8 : (⟨2, ![2048, 512]⟩ : Shape).Idx → EReal) (x9 : (⟨2, ![2048, 512]⟩ : Shape).Idx → EReal) (x10 : (⟨1, ![2048]⟩ : Shape).Idx → EReal) (x11 : (⟨1, ![2048]⟩ : Shape).Idx → EReal) (a : Fin 64) (b : Fin 100) : Lstm.Par :=
  Lstm.optPar (fun k e => x3 (ix2 (n0 := 11322) (n1 := 300) ⟨(x1 (ix3 (n0 := 64) (n1 := 100) (n2 := 20) a b k)).toNat % 11322, Nat.mod_lt _ (by norm_num)⟩ e))
    (x2 (ix2 (n0 := 64) (n1 := 100) a b))
    (fun g e => x4 (ix2 (n0 := 2048) (n1 := 300) g e)) (fun g e => x5 (ix2 (n0 := 2048) (n1 := 512) g e))
    (fun g => x6 (ix1 (n0 := 2048) g)) (fun g => x7 (ix1 (n0 := 2048) g))
    (fun g e => x8 (ix2 (n0 := 2048) (n1 := 512) g e)) (fun g e => x9 (ix2 (n0 := 2048) (n1 := 512) g e))
    (fun g => x10 (ix1 (n0 := 2048) g)) (fun g => x11 (ix1 (n0 := 2048) g))

/-- Equal arrays give equal parameters. -/
theorem ofArgs_congr (x1 : (⟨3, ![64, 100, 20]⟩ : Shape).Idx → BitVec 32) (x2 : (⟨2, ![64, 100]⟩ : Shape).Idx → BitVec 32) (x3 : (⟨2, ![11322, 300]⟩ : Shape).Idx → EReal) (x4 : (⟨2, ![2048, 300]⟩ : Shape).Idx → EReal) (x5 : (⟨2, ![2048, 512]⟩ : Shape).Idx → EReal) (x6 : (⟨1, ![2048]⟩ : Shape).Idx → EReal) (x7 : (⟨1, ![2048]⟩ : Shape).Idx → EReal) (x8 : (⟨2, ![2048, 512]⟩ : Shape).Idx → EReal) (x9 : (⟨2, ![2048, 512]⟩ : Shape).Idx → EReal) (x10 : (⟨1, ![2048]⟩ : Shape).Idx → EReal) (x11 : (⟨1, ![2048]⟩ : Shape).Idx → EReal) (y1 : (⟨3, ![64, 100, 20]⟩ : Shape).Idx → BitVec 32) (y2 : (⟨2, ![64, 100]⟩ : Shape).Idx → BitVec 32) (y3 : (⟨2, ![11322, 300]⟩ : Shape).Idx → EReal) (y4 : (⟨2, ![2048, 300]⟩ : Shape).Idx → EReal) (y5 : (⟨2, ![2048, 512]⟩ : Shape).Idx → EReal) (y6 : (⟨1, ![2048]⟩ : Shape).Idx → EReal) (y7 : (⟨1, ![2048]⟩ : Shape).Idx → EReal) (y8 : (⟨2, ![2048, 512]⟩ : Shape).Idx → EReal) (y9 : (⟨2, ![2048, 512]⟩ : Shape).Idx → EReal) (y10 : (⟨1, ![2048]⟩ : Shape).Idx → EReal) (y11 : (⟨1, ![2048]⟩ : Shape).Idx → EReal)
    (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (a : Fin 64) (b : Fin 100) :
    ofArgs x1 x2 x3 x4 x5 x6 x7 x8 x9 x10 x11 a b = ofArgs y1 y2 y3 y4 y5 y6 y7 y8 y9 y10 y11 a b := by
  subst e1 e2 e3 e4 e5 e6 e7 e8 e9 e10 e11; rfl

/-- The two sides' parameters of one option are equal when the arguments are. -/
theorem par_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a : Fin 64) (b : Fin 100) : Cert.ReferenceIdeal.Rows.rPar m' c a b = Cert.KernelIdeal.Body.kPar m c a b :=
  ofArgs_congr _ _ _ _ _ _ _ _ _ _ _ _ _ _ _ _ _ _ _ _ _ _ e1 e2 e3 e4 e5 e6 e7 e8 e9 e10 e11 a b

/-- The kernel's scores are the reference's. -/
theorem algebraic : Cert.algebraic_KernelIdeal_ReferenceIdeal := by
  intro m g m' g' hp he
  have hH := words_ok_of m hp
  refine ⟨fun c => Pipeline.afterTail₀ Cert.KernelIdeal.cfgs (Cert.KernelIdeal.Body.dats m hH) 0 (Cert.KernelIdeal.Gen.V0 m) [Cert.KernelIdeal.Gen.hostOps1] c Cert.KernelIdeal.main_v0, ?_, ?_⟩
  · have hr := θ_run_and (Cert.KernelIdeal.Body.run_main m g hH) (Cert.KernelIdeal.Body.frame m g hH)
    exact (θ_run Cert.KernelIdeal.defs _ _).mono (fun r h c =>
      ⟨(h.1 c).2 Cert.KernelIdeal.main_v0 (Pipeline.mem_restRefs_of Cert.KernelIdeal.main_v0 (by decide) (by decide)), h.2.1 c⟩) hr
  · refine (θ_run Cert.ReferenceIdeal.defs _ _).mono (fun r h c => ⟨(h c).1.trans ?_, (h c).2⟩)
      (Cert.ReferenceIdeal.StepRun.run_iter (F := Ideal) m' g' (Cert.ReferenceIdeal.Rows.states m') (fun _ => rfl) (fun _ _ => rfl))
    obtain ⟨e0, e1, e2, e3, e4, e5, e6, e7, e8, e9, e10, e11⟩ := he c
    have hw : ∀ y, (m' ((c.tc : Thread Cert.ReferenceIdeal.nD Cert.ReferenceIdeal.τ).loc Cert.ReferenceIdeal.main_arg1) y : BitVec 32).toNat < 11322 := by
      rw [e1]; exact fun y => Cert.PreRead.word_lt _ _ _ _ _ _ _ _ _ _ _ _ (hp c).1 y
    have hz : ∀ e : Fin 300, m' ((c.tc : Thread Cert.ReferenceIdeal.nD Cert.ReferenceIdeal.τ).loc Cert.ReferenceIdeal.main_arg3) (ix2 (n0 := 11322) (n1 := 300) 0 e) = (0 : EReal) := by
      rw [e3]; exact fun e => Cert.PreRead.pad_zero _ _ _ _ _ _ _ _ _ _ _ _ (hp c).2 e
    refine funext fun (y : (⟨2, ![64, 100]⟩ : Shape).Idx) => ?_
    obtain ⟨a, b, hy⟩ : ∃ a b, y = ix2 (n0 := 64) (n1 := 100) a b := ⟨y 0, y 1, eq_ix2 y⟩
    rw [hy]
    refine (Cert.ReferenceIdeal.Rows.result_value m' c hw hz a b).trans (Eq.trans ?_ (Cert.KernelIdeal.Body.result_value m c hH a b).symm)
    rw [par_eq m m' c e1 e2 e3 e4 e5 e6 e7 e8 e9 e10 e11 a b, e0]

end Cert.LstmClaims
-- ==== Proof.LWords.lean ====
/- The arithmetic of an option index: its row of 128, that row's group of eight, its lane. -/
module

public import Idealize.ShloMosaic.Lib.Pointwise

@[expose] public section

set_option maxRecDepth 16384

noncomputable section

namespace Cert.Lookup

open Idealize.ShloMosaic

/-- The row of 128 lanes an index lies in. -/
theorem shr7 (w : BitVec 32) (h : w.toNat < 30000) : (Scalar.shrsi w 7#32).toNat = w.toNat / 128 := by
  have e : Scalar.shrsi w 7#32 = w.sshiftRight 7 := rfl
  rw [e, BitVec.sshiftRight_eq_of_msb_false (by rw [BitVec.msb_eq_false_iff_two_mul_lt]; omega), BitVec.toNat_ushiftRight,
    Nat.shiftRight_eq_div_pow]

/-- The group of eight rows that row lies in. -/
theorem shr3 (w : BitVec 32) (h : w.toNat < 2 ^ 31) : (Scalar.shrsi w 3#32).toNat = w.toNat / 8 := by
  have e : Scalar.shrsi w 3#32 = w.sshiftRight 3 := rfl
  rw [e, BitVec.sshiftRight_eq_of_msb_false (by rw [BitVec.msb_eq_false_iff_two_mul_lt]; omega), BitVec.toNat_ushiftRight,
    Nat.shiftRight_eq_div_pow]

theorem shl3 (w : BitVec 32) (h : w.toNat < 2 ^ 28) : (Scalar.shli w 3#32).toNat = w.toNat * 8 := by
  have e : Scalar.shli w 3#32 = w <<< 3 := rfl
  rw [e, BitVec.toNat_shiftLeft, Nat.shiftLeft_eq]
  omega

/-- The row within its group. -/
theorem and7 (w : BitVec 32) : (Scalar.andi w 7#32).toNat = w.toNat % 8 := by
  have e : Scalar.andi w 7#32 = w &&& 7#32 := rfl
  rw [e, BitVec.toNat_and]
  exact Nat.and_two_pow_sub_one_eq_mod _ 3

/-- The lane within the row. -/
theorem and127 (w : BitVec 32) : (Scalar.andi w 127#32).toNat = w.toNat % 128 := by
  have e : Scalar.andi w 127#32 = w &&& 127#32 := rfl
  rw [e, BitVec.toNat_and]
  exact Nat.and_two_pow_sub_one_eq_mod _ 7

/-- The first row of the group. -/
theorem group_toNat (w : BitVec 32) (h : w.toNat < 30000) :
    (Scalar.shli (Scalar.shrsi (Scalar.shrsi w 7#32) 3#32) 3#32).toNat = w.toNat / 128 / 8 * 8 := by
  have e7 := shr7 w h
  have e3 := shr3 (Scalar.shrsi w 7#32) (by omega)
  rw [shl3 _ (by omega), e3, e7]

end Cert.Lookup
-- ==== Proof.QFrame.lean ====
/- The side conditions of the lookup, from the ranges of its two tables. -/
module

public import proofs.«01_k».proof.Proof.Gen.Kernel2Ideal.Frame
public import proofs.«01_k».proof.Proof.LWords

@[expose] public section

set_option maxRecDepth 16384

noncomputable section

namespace Cert.Kernel2Ideal.Lookup

open Idealize.ShloMosaic Idealize.ShloMosaic.TcCoe Idealize.ShloMosaic.Tactic
open Cert.Kernel2Ideal Cert.Kernel2Ideal.Gen

variable {F : FTy → Type} [FloatOps F] (m : (ℓ : Loc nD τ sig) → Buf (Elt F) ℓ)

/-- The offsets of the eight rows read for an index. -/
theorem off_eq (w : BitVec 32) (h : w.toNat < 30000) : k0_off3 w = ![0, w.toNat / 128 / 8 * 8, 0] := by
  rw [← Cert.Lookup.group_toNat w h]; rfl

/-- They lie inside the table's row. -/
theorem chk_of (w : BitVec 32) (h : w.toNat < 30000) : k0_chk1 w := by
  show ∀ a, (k0_off3 w) a + S1x8x128.size a ≤ S1x240x128.size a
  rw [off_eq w h]
  intro a
  fin_cases a
  · show 0 + 1 ≤ 1
    omega
  · show w.toNat / 128 / 8 * 8 + 8 ≤ 240
    omega
  · show 0 + 128 ≤ 128
    omega

/-- A question type in range names a row of the table. -/
theorem ok_of (h : ∀ y : S64.Idx, (m ((0 : Dev nD).tc.loc main_arg0) y : BitVec 32).toNat < 84) : Ok m := by
  intro i
  refine ⟨fun a => ?_, .inl rfl⟩
  have hq : ∀ y, (tbl m 0 y : BitVec 32).toNat < 84 := fun y => by
    show (V m 0 main_arg0 y : BitVec 32).toNat < 84
    rw [V_main_arg0]; exact h y
  fin_cases a
  · show (_ + 1) * 1 ≤ 84
    rw [Nat.mul_one]
    exact hq _
  · show (0 + 1) * 240 ≤ 240
    omega
  · show (0 + 1) * 128 ≤ 128
    omega

/-- Option indices in range pass every check the body makes of them. -/
theorem hyps_of (hO : Ok m) (h : ∀ y : S64x100.Idx, (m ((0 : Dev nD).tc.loc main_arg1) y : BitVec 32).toNat < 30000) : Hyps m hO := by
  have hq : ∀ y, (tbl m 1 y : BitVec 32).toNat < 30000 := fun y => by
    show (V m 0 main_arg1 y : BitVec 32).toNat < 30000
    rw [V_main_arg1]; exact h y
  intro c t
  and_intros
  all_goals exact chk_of _ (hq _)

end Cert.Kernel2Ideal.Lookup
-- ==== Proof.QRun.lean ====
/- What the lookup's body leaves in its block: a hundred additions, one an option, each the same function of the option's index. -/
module

public import proofs.«01_k».proof.Proof.QFrame

@[expose] public section

set_option maxRecDepth 131072

noncomputable section

namespace Cert.Kernel2Ideal.Lookup

open Idealize.ShloMosaic Idealize.ShloMosaic.TcCoe Idealize.ShloMosaic.Tactic
open Cert.Kernel2Ideal Cert.Kernel2Ideal.Gen

variable {F : FTy → Type} [FloatOps F] (m : (ℓ : Loc nD τ sig) → Buf (Elt F) ℓ)

/-- Where option `k`'s index stands in the table of the point's sample. -/
def offW (i : grid0.Coords) (k : ℕ) : Fin 2 → ℕ := ![(Scalar.indexCast (BitVec.ofNat 32 (i 0).val)).toNat, k]

theorem offW_inb (i : grid0.Coords) (k : ℕ) (hk : k < 100) : ∀ a, offW i k a + S1x1.size a ≤ S64x100.size a := by
  intro a
  have h := k0_off2_inb i
  fin_cases a
  · exact h 0
  · show k + 1 ≤ 100
    omega

/-- Option `k`'s index. -/
def idxWord (c : Dev nD) (i : grid0.Coords) (xt1 : TbBuf0 (F := F) c tbM0_1) (k : ℕ) (hk : k < 100) : BitVec 32 :=
  tbM0_1.view.readAt (Elt F) (Rect.unit (s := S64x100) (offW i k) S1x1.size (offW_inb i k hk)).toLoadRect xt1 (Shape.Idx.first (numel1_S1x1.symm ▸ Nat.one_pos))

/-- The eight rows read for an index. -/
def chunk (arg3 : Memref sig .tc .vmem S1x240x128 .f32) (X : BufTy.Contents (Elt F) arg3.view.ty) (w : BitVec 32) (h : k0_chk1 w) : Vec F S1x8x128 .f32 :=
  arg3.view.readAt (Elt F) (Rect.unit (s := S1x240x128) (k0_off3 w) S1x8x128.size (k0_off3_inb w h)).toLoadRect X

/-- The one row of the eight that the index lies in. -/
def rowOf (w : BitVec 32) (ch : Vec F S1x8x128 .f32) : FVec F S1x128 .f32 :=
  shapeCast S1x128 (multiReduction .add [0] S128 (mulf (shapeCast S8x128 ch shapeCasts_S1x8x128_S8x128 : FVec F S8x128 .f32)
    (sitofp .f32 (extui 32 (cmpi .eq (iota .tc S8x128 32 [0] iota_S8x128_d0_w32) (broadcast S8x128 (Scalar.andi (Scalar.shrsi w 7#32) 7#32))) natLt_1_32)))
    0x00000000#32 reduces_S8x128_S128 (.inl rfl) rfl) shapeCasts_S128_S1x128

/-- That row with every lane but the index's zeroed. -/
def laneOf (w : BitVec 32) (row : FVec F S1x128 .f32) : FVec F S1x128 .f32 :=
  mulf row (sitofp .f32 (extui 32 (cmpi .eq (iota .tc S1x128 32 [1] iota_S1x128_d1_w32) (broadcast S1x128 (Scalar.andi w 127#32))) natLt_1_32))

/-- One option's addition: its lane turned to lane `k`. -/
def step (k : ℕ) (w : BitVec 32) (ch : Vec F S1x8x128 .f32) (acc : FVec F S1x128 .f32) : FVec F S1x128 .f32 :=
  addf acc (dynamicRotate 1 (Scalar.subi (BitVec.ofNat 32 k) (Scalar.andi w 127#32)) none (laneOf w (rowOf w ch)) rotates_S1x128_d1)

/-- The accumulator after the first `n` options. -/
def accs (c : Dev nD) (i : grid0.Coords) (arg3 : Memref sig .tc .vmem S1x240x128 .f32) (X : BufTy.Contents (Elt F) arg3.view.ty)
    (xt1 : TbBuf0 (F := F) c tbM0_1) (hk : ∀ k (h : k < 100), k0_chk1 (idxWord c i xt1 k h)) : (n : ℕ) → n ≤ 100 → FVec F S1x128 .f32
  | 0, _ => broadcast S1x128 (Scalar.ofBits .f32 0x00000000#32)
  | n + 1, h => step n (idxWord c i xt1 n h) (chunk arg3 X (idxWord c i xt1 n h) (hk n h)) (accs c i arg3 X xt1 hk n (Nat.le_of_succ_le h))

set_option maxHeartbeats 0 in
/-- The body's run leaves the accumulator after all hundred options. -/
theorem outs_eq (hO : Ok m) (hH : Hyps m hO) (c : Dev nD) (t : Fin (cfgM m hO).N)
    (hk : ∀ k (h : k < 100), k0_chk1 (idxWord c (grid0.coords t) (tbl m 1) k h)) :
    outsAt0 m hO hH c t = VO0_1.read (Elt F) (VO0_1.writes (Elt F) VO0_1.junk
      [⟨Rect.unit ![0, 0, 0] ![1, 1, 128] inb_S1x1x128_S1x1x128_0_0_0,
        shapeCast S1x1x128 (shapeCast S128 (accs c (grid0.coords t) (ms0_0 m hO t) ((hs0_0 m hO t).unread (iblk m hO c 0 t)) (tbl m 1) hk 100 le_rfl)
          shapeCasts_S1x128_S128) shapeCasts_S128_S1x1x128⟩]) := by
  unfold outsAt0 out0_A_1 kernelRun0_A
  rfl

end Cert.Kernel2Ideal.Lookup
-- ==== Proof.QStep.lean ====
/- One option's addition at a lane, over the extended reals. -/
module

public import proofs.«01_k».proof.Proof.QRun
public import Idealize.ShloMosaic.Lib.Pointwise
public import Idealize.ShloMosaic.Lib.Pipeline.ValueKit

@[expose] public section

set_option maxRecDepth 16384

noncomputable section

namespace Cert.Kernel2Ideal.Lookup

open Idealize.ShloMosaic Idealize.ShloMosaic.TcCoe Idealize.ShloMosaic.Tactic
open Cert.Kernel2Ideal Cert.Kernel2Ideal.Gen

/-- An equality test as a number: one where the words agree, zero elsewhere. -/
theorem eq_bit (u w : BitVec 32) :
    (FloatOps.sitofp (F := Ideal) .f32 (BitVec.setWidth 32 (IntOp.cmpi .eq u w)) : EReal) = if u = w then 1 else 0 := by
  by_cases h : u = w
  · subst h
    rw [if_pos rfl]
    show (((BitVec.setWidth 32 (IntOp.cmpi .eq u u)).toInt : ℝ) : EReal) = 1
    simp [IntOp.cmpi]
  · rw [if_neg h]
    show (((BitVec.setWidth 32 (IntOp.cmpi .eq u w)).toInt : ℝ) : EReal) = 0
    simp [IntOp.cmpi, beq_eq_false_iff_ne.mpr h]

/-- A sublane's number is the word's when the numbers agree. -/
theorem word_eq_iff (n : ℕ) (hn : n < 2 ^ 32) (w : BitVec 32) : BitVec.ofNat 32 n = w ↔ n = w.toNat := by
  constructor
  · rintro rfl; rw [BitVec.toNat_ofNat, Nat.mod_eq_of_lt hn]
  · intro h; apply BitVec.eq_of_toNat_eq; rw [BitVec.toNat_ofNat, Nat.mod_eq_of_lt hn, h]

/-- A sublane's number in the count of sublanes. -/
theorem sub_count (s : Fin 8) (l : Fin 128) : iota .tc S8x128 32 [0] iota_S8x128_d0_w32 (ix2 (n0 := 8) (n1 := 128) s l) = BitVec.ofNat 32 s.val := by
  rw [iota_apply]; simp [ix2]

/-- A lane's number in the count of lanes. -/
theorem lane_count (l : Fin 128) : iota .tc S1x128 32 [1] iota_S1x128_d1_w32 (ix2 (n0 := 1) (n1 := 128) 0 l) = BitVec.ofNat 32 l.val := by
  rw [iota_apply]; simp [ix2]

/-- The test of a sublane. -/
theorem sub_bit (w : BitVec 32) (s : Fin 8) (l : Fin 128) :
    ((sitofp (F := Ideal) .f32 (extui 32 (cmpi .eq (iota .tc S8x128 32 [0] iota_S8x128_d0_w32) (broadcast S8x128 w)) natLt_1_32) : FVec Ideal S8x128 .f32) (ix2 s l) : EReal)
      = if s.val = w.toNat then 1 else 0 := by
  refine (eq_bit (iota .tc S8x128 32 [0] iota_S8x128_d0_w32 (ix2 (n0 := 8) (n1 := 128) s l)) w).trans ?_
  rw [sub_count]
  simp only [word_eq_iff s.val (by omega) w]

/-- The test of a lane. -/
theorem lane_bit (w : BitVec 32) (l : Fin 128) :
    ((sitofp (F := Ideal) .f32 (extui 32 (cmpi .eq (iota .tc S1x128 32 [1] iota_S1x128_d1_w32) (broadcast S1x128 w)) natLt_1_32) : FVec Ideal S1x128 .f32) (ix2 0 l) : EReal)
      = if l.val = w.toNat then 1 else 0 := by
  refine (eq_bit (iota .tc S1x128 32 [1] iota_S1x128_d1_w32 (ix2 (n0 := 1) (n1 := 128) 0 l)) w).trans ?_
  rw [lane_count]
  simp only [word_eq_iff l.val (by omega) w]

/-- The sum over sublanes of a group of rows. -/
theorem sum_apply (u : FVec Ideal S8x128 .f32) (l : Fin 128) :
    (shapeCast S1x128 (multiReduction .add [0] S128 u 0x00000000#32 reduces_S8x128_S128 (.inl rfl) rfl) shapeCasts_S128_S1x128 (ix2 (n0 := 1) (n1 := 128) 0 l) : EReal)
      = ∑ s : Fin 8, (u (ix2 (n0 := 8) (n1 := 128) s l) : EReal) := by
  pointwise

/-- The row picked is the index's row of the eight. -/
theorem rowOf_apply (w : BitVec 32) (ch : Vec Ideal S1x8x128 .f32) (hw : w.toNat < 30000) (l : Fin 128) :
    (rowOf (F := Ideal) w ch (ix2 (n0 := 1) (n1 := 128) 0 l) : EReal)
      = ch (ix3 (n0 := 1) (n1 := 8) (n2 := 128) 0 ⟨w.toNat / 128 % 8, Nat.mod_lt _ (by norm_num)⟩ l) := by
  have hb : (Scalar.andi (Scalar.shrsi w 7#32) 7#32).toNat = w.toNat / 128 % 8 := by
    rw [Cert.Lookup.and7, Cert.Lookup.shr7 w hw]
  have hc : ∀ s : Fin 8, (shapeCast S8x128 ch shapeCasts_S1x8x128_S8x128 (ix2 (n0 := 8) (n1 := 128) s l) : EReal) = ch (ix3 (n0 := 1) (n1 := 8) (n2 := 128) 0 s l) := fun s => by pointwise
  unfold rowOf
  rw [sum_apply]
  rw [Finset.sum_eq_single (⟨w.toNat / 128 % 8, Nat.mod_lt _ (by norm_num)⟩ : Fin 8)]
  · refine Eq.trans (congrArg₂ (fun a b : EReal => a * b) (hc _) (sub_bit _ _ l)) ?_
    rw [hb, if_pos rfl, mul_one]
  · intro s _ hs
    refine Eq.trans (congrArg₂ (fun a b : EReal => a * b) (hc _) (sub_bit _ _ l)) ?_
    rw [hb, if_neg (fun h => hs (Fin.ext h)), mul_zero]
  · intro h; exact absurd (Finset.mem_univ _) h

/-- The row with one lane kept. -/
theorem laneOf_apply (w : BitVec 32) (row : FVec Ideal S1x128 .f32) (l : Fin 128) :
    (laneOf (F := Ideal) w row (ix2 (n0 := 1) (n1 := 128) 0 l) : EReal) = if l.val = w.toNat % 128 then (row (ix2 (n0 := 1) (n1 := 128) 0 l) : EReal) else 0 := by
  refine Eq.trans (congrArg (fun b : EReal => (row (ix2 (n0 := 1) (n1 := 128) 0 l) : EReal) * b) (lane_bit _ l)) ?_
  rw [Cert.Lookup.and127]
  split_ifs
  · exact mul_one _
  · exact mul_zero _

/-- A vector turned so that the index's lane comes to lane `k`. -/
theorem turn_apply (k : ℕ) (hk : k < 100) (w : BitVec 32) (v : FVec Ideal S1x128 .f32) (j : Fin 128) :
    (dynamicRotate 1 (Scalar.subi (BitVec.ofNat 32 k) (Scalar.andi w 127#32)) none v rotates_S1x128_d1 (ix2 (n0 := 1) (n1 := 128) 0 j) : EReal)
      = v (ix2 (n0 := 1) (n1 := 128) 0 ⟨(j.val + w.toNat % 128 + 128 - k) % 128, Nat.mod_lt _ (by norm_num)⟩) := by
  unfold dynamicRotate
  dsimp only
  congr 1
  funext a
  have hs : (Scalar.subi (BitVec.ofNat 32 k) (Scalar.andi w 127#32)).toNat = (2 ^ 32 - w.toNat % 128 + k) % 2 ^ 32 := by
    have e : Scalar.subi (BitVec.ofNat 32 k) (Scalar.andi w 127#32) = BitVec.ofNat 32 k - Scalar.andi w 127#32 := rfl
    rw [e, BitVec.toNat_sub, Cert.Lookup.and127, BitVec.toNat_ofNat, Nat.mod_eq_of_lt (show k < 2 ^ 32 by omega)]
  apply Fin.ext
  fin_cases a
  · rfl
  · show (j.val + 128 - ((Scalar.subi (BitVec.ofNat 32 k) (Scalar.andi w 127#32)).toNat + 0) % 128) % 128 = (j.val + w.toNat % 128 + 128 - k) % 128
    rw [hs]
    have := j.isLt
    omega

/-- The eight rows read for an index, at its row of them: the table's row. -/
theorem chunk_apply (arg3 : Memref sig .tc .vmem S1x240x128 .f32) (X : BufTy.Contents (Elt Ideal) arg3.view.ty) (w : BitVec 32) (h : k0_chk1 w)
    (hw : w.toNat < 30000) (l : Fin 128) :
    chunk (F := Ideal) arg3 X w h (ix3 (n0 := 1) (n1 := 8) (n2 := 128) 0 ⟨w.toNat / 128 % 8, Nat.mod_lt _ (by norm_num)⟩ l)
      = arg3.view.read (Elt Ideal) X (ix3 (n0 := 1) (n1 := 240) (n2 := 128) 0 ⟨w.toNat / 128 % 240, Nat.mod_lt _ (by norm_num)⟩ l) := by
  unfold chunk
  rw [View.readAt_apply]
  congr 1
  funext a
  have ho := off_eq w hw
  apply Fin.ext
  fin_cases a
  · show (k0_off3 w) 0 + 1 * 0 = 0
    rw [ho]; rfl
  · show (k0_off3 w) 1 + 1 * (w.toNat / 128 % 8) = w.toNat / 128 % 240
    rw [ho]
    show w.toNat / 128 / 8 * 8 + 1 * (w.toNat / 128 % 8) = w.toNat / 128 % 240
    omega
  · show (k0_off3 w) 2 + 1 * l.val = l.val
    rw [ho]
    show 0 + 1 * l.val = l.val
    omega

/-- The table's entry at an index, in the block of its sample: row `w / 128`, lane `w % 128`. -/
def entry (B : Vec Ideal S1x240x128 .f32) (w : BitVec 32) : EReal :=
  B (ix3 (n0 := 1) (n1 := 240) (n2 := 128) 0 ⟨w.toNat / 128 % 240, Nat.mod_lt _ (by norm_num)⟩ ⟨w.toNat % 128, Nat.mod_lt _ (by norm_num)⟩)

/-- One option's addition: the index's entry at lane `k`, nothing elsewhere. -/
theorem step_apply (k : ℕ) (hk : k < 100) (arg3 : Memref sig .tc .vmem S1x240x128 .f32) (X : BufTy.Contents (Elt Ideal) arg3.view.ty) (w : BitVec 32) (h : k0_chk1 w)
    (hw : w.toNat < 30000) (acc : FVec Ideal S1x128 .f32) (j : Fin 128) :
    (step (F := Ideal) k w (chunk arg3 X w h) acc (ix2 (n0 := 1) (n1 := 128) 0 j) : EReal)
      = acc (ix2 (n0 := 1) (n1 := 128) 0 j) + if j.val = k then entry (arg3.view.read (Elt Ideal) X) w else 0 := by
  refine congrArg (fun b : EReal => (acc (ix2 (n0 := 1) (n1 := 128) 0 j) : EReal) + b) ?_
  rw [turn_apply k hk w _ j, laneOf_apply, rowOf_apply w _ hw, chunk_apply arg3 X w h hw]
  have := j.isLt
  by_cases e : j.val = k
  · have e2 : (j.val + w.toNat % 128 + 128 - k) % 128 = w.toNat % 128 := by omega
    rw [if_pos e, if_pos e2]
    unfold entry
    congr 2
    exact Fin.ext e2
  · rw [if_neg e, if_neg (by show ¬ (j.val + w.toNat % 128 + 128 - k) % 128 = w.toNat % 128; omega)]

/-- The accumulator after `n` options: each of them at its own lane. -/
theorem accs_apply (c : Dev nD) (i : grid0.Coords) (arg3 : Memref sig .tc .vmem S1x240x128 .f32) (X : BufTy.Contents (Elt Ideal) arg3.view.ty)
    (xt1 : TbBuf0 (F := Ideal) c tbM0_1) (hk : ∀ k (h : k < 100), k0_chk1 (idxWord c i xt1 k h))
    (hw : ∀ k (h : k < 100), (idxWord c i xt1 k h).toNat < 30000) (j : Fin 128) : (n : ℕ) → (hn : n ≤ 100) →
    (accs c i arg3 X xt1 hk n hn (ix2 (n0 := 1) (n1 := 128) 0 j) : EReal)
      = if h : j.val < n then entry (arg3.view.read (Elt Ideal) X) (idxWord c i xt1 j.val (Nat.lt_of_lt_of_le h hn)) else 0
  | 0, _ => by
    rw [dif_neg (Nat.not_lt_zero _)]
    show (Scalar.ofBits (F := Ideal) .f32 0x00000000#32 : EReal) = 0
    pointwise
  | n + 1, hn => by
    refine (step_apply n hn arg3 X _ (hk n hn) (hw n hn) _ j).trans ?_
    rw [accs_apply c i arg3 X xt1 hk hw j n (Nat.le_of_succ_le hn)]
    rcases Nat.lt_trichotomy j.val n with h | h | h
    · rw [dif_pos h, dif_pos (Nat.lt_succ_of_lt h), if_neg (Nat.ne_of_lt h), add_zero]
    · rw [dif_neg (by omega), dif_pos (by omega), if_pos h, zero_add]
      simp only [h]
    · rw [dif_neg (by omega), dif_neg (by omega), if_neg (by omega), add_zero]

end Cert.Kernel2Ideal.Lookup
-- ==== Proof.QHost.lean ====
/- What the lookup's launch stages and what it leaves, as functions of the arguments. -/
module

public import proofs.«01_k».proof.Proof.QStep
public import Idealize.ShloMosaic.Lib.Pointwise
public import Idealize.ShloMosaic.Lib.VecWindow
public import Idealize.ShloMosaic.Lib.Pipeline.ValueKit

@[expose] public section

set_option maxRecDepth 16384

noncomputable section

namespace Cert.Kernel2Ideal.Lookup

open Idealize.ShloMosaic Idealize.ShloMosaic.TcCoe Idealize.ShloMosaic.Tactic
open Cert.Kernel2Ideal Cert.Kernel2Ideal.Gen

variable (m : (ℓ : Loc nD τ sig) → Buf (Elt Ideal) ℓ) (c : Dev nD)

/-- The staged table: the relevances as numbers, padded on the right and cut into lanes. -/
theorem V_table : V m c main_call0_v2 = shapeCast S84x240x128 (pad S84x30720 ![0, 0] ![0, 720] ![0, 0] (uitofp (F := Ideal) .f32 (m ((c : Thread nD τ).loc main_arg2)))
    (sitofp (F := Ideal) .f32 (constantI S_ 32 0#32)) pads_S84x30000_S84x30720_000_07200 h_S_) shapeCasts_S84x30720_S84x240x128 := by
  show StableHlo.after hostOps0 (fun b => m (c, b)) (Proc.devRef .tc main_call0_v2) = _
  after_results <;> rfl

/-- A row of the padded table at a column of the table. -/
theorem pad_apply (X : FVec Ideal S84x30000 .f32) (q : Fin 84) (e : Fin 30000) :
    pad S84x30720 ![0, 0] ![0, 720] ![0, 0] X (sitofp (F := Ideal) .f32 (constantI S_ 32 0#32)) pads_S84x30000_S84x30720_000_07200 h_S_
      (ix2 (n0 := 84) (n1 := 30720) q ⟨e.val, by omega⟩) = X (ix2 (n0 := 84) (n1 := 30000) q e) := by
  pointwise

/-- The cut table at a row and lane. -/
theorem cut_apply (X : FVec Ideal S84x30720 .f32) (q : Fin 84) (r : Fin 240) (l : Fin 128) :
    shapeCast S84x240x128 X shapeCasts_S84x30720_S84x240x128 (ix3 (n0 := 84) (n1 := 240) (n2 := 128) q r l)
      = X (ix2 (n0 := 84) (n1 := 30720) q ⟨r.val * 128 + l.val, by omega⟩) := by
  pointwise

/-- The staged table at a column's row and lane: that column's relevance. -/
theorem table_apply (q : Fin 84) (e : Fin 30000) :
    (V m c main_call0_v2 (ix3 (n0 := 84) (n1 := 240) (n2 := 128) q ⟨e.val / 128 % 240, Nat.mod_lt _ (by norm_num)⟩ ⟨e.val % 128, Nat.mod_lt _ (by norm_num)⟩) : EReal)
      = uitofp (F := Ideal) .f32 (m ((c : Thread nD τ).loc main_arg2)) (ix2 (n0 := 84) (n1 := 30000) q e) := by
  refine (congrFun (V_table m c) _).trans ((cut_apply _ q _ _).trans (Eq.trans ?_ (pad_apply _ q e)))
  congr 2
  apply Fin.ext
  show e.val / 128 % 240 * 128 + e.val % 128 = e.val
  have := e.isLt
  omega

variable (hO : Ok m)

/-- There are sixty-four points. -/
theorem lt64 (t : Fin (cfgM m hO).N) : t.val < 64 := by
  have h : grid0.N = 64 := by decide +kernel
  exact lt_of_lt_of_eq t.isLt h

/-- A point's coordinate is its number. -/
theorem coord_eq (t : Fin (cfgM m hO).N) : (grid0.coords t (0 : Fin 1)).val = t.val := by
  have h : ∀ s : Fin grid0.N, (grid0.coords s (0 : Fin 1)).val = s.val := by decide +kernel
  exact h t

/-- The word read for option `k` at a point. -/
theorem idxWord_eq (t : Fin (cfgM m hO).N) (k : ℕ) (hk : k < 100) :
    idxWord (F := Ideal) c (grid0.coords t) (tbl m 1) k hk = m ((c : Thread nD τ).loc main_arg1) (ix2 (n0 := 64) (n1 := 100) ⟨t.val, lt64 m hO t⟩ ⟨k, hk⟩) := by
  obtain rfl : c = 0 := Subsingleton.elim _ _
  show V m 0 main_arg1 _ = _
  rw [V_main_arg1]
  congr 1
  funext a
  apply Fin.ext
  have ht := lt64 m hO t
  fin_cases a
  · show (BitVec.ofNat 32 (grid0.coords t (0 : Fin 1)).val).toNat + 1 * 0 = t.val
    rw [coord_eq, BitVec.toNat_ofNat]
    omega
  · show k + 1 * 0 = k
    omega

/-- The block index of the table window at a point. -/
theorem index_eq (t : Fin (cfgM m hO).N) : ((cfgM m hO).win 0).index t (0 : Fin 3)
    = (m ((c : Thread nD τ).loc main_arg0) (ix1 (n0 := 64) ⟨t.val, lt64 m hO t⟩) : BitVec 32).toNat := by
  obtain rfl : c = 0 := Subsingleton.elim _ _
  show (V m 0 main_arg0 _ : BitVec 32).toNat = _
  rw [V_main_arg0]
  congr 2
  funext a
  apply Fin.ext
  have ht := lt64 m hO t
  fin_cases a
  show (BitVec.ofNat 32 (grid0.coords t (0 : Fin 1)).val).toNat + 1 * 0 = t.val
  rw [coord_eq, BitVec.toNat_ofNat]
  omega

/-- The table's block at a point: the row of its sample's question type. -/
theorem block_apply (t : Fin (cfgM m hO).N) (q : Fin 84) (hq : q.val = (m ((c : Thread nD τ).loc main_arg0) (ix1 (n0 := 64) ⟨t.val, lt64 m hO t⟩) : BitVec 32).toNat)
    (r : Fin 240) (l : Fin 128) :
    iblk m hO c 0 t (ix3 (n0 := 1) (n1 := 240) (n2 := 128) 0 r l) = V m c main_call0_v2 (ix3 (n0 := 84) (n1 := 240) (n2 := 128) q r l) := by
  show V m c main_call0_v2 ((((cfgM m hO).win 0).blk t).view.emb _) = _
  congr 1
  funext a
  apply Fin.ext
  fin_cases a
  · show ((cfgM m hO).win 0).index t (0 : Fin 3) * 1 + 1 * 0 = q.val
    rw [index_eq m c hO t, hq]
    omega
  · show 0 * 240 + 1 * r.val = r.val
    omega
  · show 0 * 128 + 1 * l.val = l.val
    omega

variable (hH : Hyps m hO)

/-- What the body leaves at a point: lane `b` holds option `b`'s relevance. -/
theorem out_apply (hq : ∀ y : S64.Idx, (m ((c : Thread nD τ).loc main_arg0) y : BitVec 32).toNat < 84)
    (hw : ∀ y : S64x100.Idx, (m ((c : Thread nD τ).loc main_arg1) y : BitVec 32).toNat < 30000)
    (t : Fin (cfgM m hO).N) (b : Fin 100) :
    (outsAt0 m hO hH c t (ix3 (n0 := 1) (n1 := 1) (n2 := 128) 0 0 ⟨b.val, by omega⟩) : EReal)
      = uitofp (F := Ideal) .f32 (m ((c : Thread nD τ).loc main_arg2)) (ix2 (n0 := 84) (n1 := 30000)
          ⟨(m ((c : Thread nD τ).loc main_arg0) (ix1 (n0 := 64) ⟨t.val, lt64 m hO t⟩) : BitVec 32).toNat, hq _⟩
          ⟨(m ((c : Thread nD τ).loc main_arg1) (ix2 (n0 := 64) (n1 := 100) ⟨t.val, lt64 m hO t⟩ b) : BitVec 32).toNat, hw _⟩) := by
  have hi : ∀ k (h : k < 100), (idxWord (F := Ideal) c (grid0.coords t) (tbl m 1) k h).toNat < 30000 := fun k h => by
    rw [idxWord_eq m c hO]; exact hw _
  have hk : ∀ k (h : k < 100), k0_chk1 (idxWord (F := Ideal) c (grid0.coords t) (tbl m 1) k h) := fun k h => chk_of _ (hi k h)
  have hsc : ∀ v : FVec Ideal S1x128 .f32, (shapeCast S1x1x128 (shapeCast S128 v shapeCasts_S1x128_S128) shapeCasts_S128_S1x1x128
      (ix3 (n0 := 1) (n1 := 1) (n2 := 128) 0 0 ⟨b.val, by omega⟩) : EReal) = v (ix2 (n0 := 1) (n1 := 128) 0 ⟨b.val, by omega⟩) := fun v => by pointwise
  rw [outs_eq m hO hH c t hk]
  refine (congrFun (View.read_writes_full VO0_1 _ inb_S1x1x128_S1x1x128_0_0_0 _ []) _).trans ((hsc _).trans ?_)
  rw [accs_apply c _ _ _ _ hk hi _ 100 le_rfl, dif_pos b.isLt]
  refine (congrArg₂ entry ((hs0_0 m hO t).read_unread (iblk m hO c 0 t)) (idxWord_eq m c hO t b.val b.isLt)).trans ?_
  refine (block_apply m c hO t ⟨_, hq _⟩ rfl _ _).trans ?_
  exact table_apply m c _ ⟨_, hw (ix2 (n0 := 64) (n1 := 100) ⟨t.val, lt64 m hO t⟩ b)⟩

/-- The output window's block index at a point. -/
theorem out_index (t : Fin (cfgM m hO).N) : ((cfgM m hO).win 1).index t (0 : Fin 3) = t.val := by
  show (BitVec.ofNat 32 (grid0.coords t (0 : Fin 1)).val).toNat = t.val
  have ht := lt64 m hO t
  rw [coord_eq, BitVec.toNat_ofNat]
  omega

/-- The output array after every point: each sample's row as its point leaves it. -/
def outArr : Vec Ideal S64x1x128 .f32 := fun y =>
  outsAt0 m hO hH c ⟨(y (0 : Fin 3)).val, lt_of_lt_of_eq (y (0 : Fin 3)).isLt (by show 64 = grid0.N; decide +kernel)⟩ (ix3 (n0 := 1) (n1 := 1) (n2 := 128) 0 0 (y (2 : Fin 3)))

/-- A point's block of the output array: its sample's row. -/
theorem out_emb (t : Fin (cfgM m hO).N) (y : S1x1x128.Idx) :
    ((((cfgM m hO).win 1).blk t).view.emb y : S64x1x128.Idx) = ix3 (n0 := 64) (n1 := 1) (n2 := 128) ⟨t.val, lt64 m hO t⟩ 0 (y (2 : Fin 3)) := by
  funext a
  apply Fin.ext
  fin_cases a
  · show ((cfgM m hO).win 1).index t (0 : Fin 3) * 1 + 1 * (y (0 : Fin 3)).val = t.val
    have h : (y (0 : Fin 3)).val < 1 := (y (0 : Fin 3)).isLt
    rw [out_index]
    omega
  · show 0 * 1 + 1 * (y (1 : Fin 3)).val = 0
    have h : (y (1 : Fin 3)).val < 1 := (y (1 : Fin 3)).isLt
    omega
  · show 0 * 128 + 1 * (y (2 : Fin 3)).val = (y (2 : Fin 3)).val
    omega

/-- The output array after the launch. -/
theorem arr_out : (dats m hO hH 0 c).arrAt 1 (cfgM m hO).N = outArr m c hO hH := by
  refine (dats m hO hH 0 c).arrAt_eq_of_emb 1 _ (fun t hf (y : S1x1x128.Idx) => ?_) (fun (i : S64x1x128.Idx) => ?_)
  · refine Eq.trans (congrFun (after0_1 m hO hH c t) y) (Eq.trans ?_ (congrArg (outArr m c hO hH) (out_emb m hO t y)).symm)
    show outsAt0 m hO hH c t y = outsAt0 m hO hH c t _
    congr 1
    funext a
    apply Fin.ext
    fin_cases a
    · have h : (y (0 : Fin 3)).val < 1 := (y (0 : Fin 3)).isLt
      show (y (0 : Fin 3)).val = 0
      omega
    · have h : (y (1 : Fin 3)).val < 1 := (y (1 : Fin 3)).isLt
      show (y (1 : Fin 3)).val = 0
      omega
    · rfl
  · have hN : (i (0 : Fin 3)).val < (cfgM m hO).N := lt_of_lt_of_eq (i (0 : Fin 3)).isLt (by show 64 = grid0.N; decide +kernel)
    refine ⟨⟨(i (0 : Fin 3)).val, hN⟩, flush0_1 (adm m hO) _, ?_⟩
    refine Finset.mem_map.mpr ⟨(ix3 (n0 := 1) (n1 := 1) (n2 := 128) 0 0 (i (2 : Fin 3)) : S1x1x128.Idx), Finset.mem_univ _, ?_⟩
    refine (out_emb m hO _ _).trans ?_
    funext a
    apply Fin.ext
    fin_cases a
    · rfl
    · have h : (i (1 : Fin 3)).val < 1 := (i (1 : Fin 3)).isLt
      show 0 = (i (1 : Fin 3)).val
      omega
    · rfl

/-- The lines after the launch: the first hundred lanes of every sample. -/
theorem tail_of (W : Valuation τ sig (Elt Ideal)) (X : Vec Ideal S64x1x128 .f32) (hX : W (Proc.devRef .tc main_call0_v3) = X) :
    StableHlo.after hostOps1 W (Proc.devRef .tc main_v0)
      = shapeCast S64x100 (extractStridedSlice S64x1x100 ![0, 0, 0] X slices_S64x1x128_S64x1x100_0_0_0) shapeCasts_S64x1x100_S64x100 := by
  subst hX
  after_results <;> rfl

theorem tail_apply (X : Vec Ideal S64x1x128 .f32) (a : Fin 64) (b : Fin 100) :
    shapeCast S64x100 (extractStridedSlice S64x1x100 ![0, 0, 0] X slices_S64x1x128_S64x1x100_0_0_0) shapeCasts_S64x1x100_S64x100 (ix2 (n0 := 64) (n1 := 100) a b)
      = X (ix3 (n0 := 64) (n1 := 1) (n2 := 128) a 0 ⟨b.val, by omega⟩) := by
  pointwise

/-- The lookup's value: option `b` of sample `a` gets the relevance of its index in the row of the sample's question type. -/
theorem result_value (hq : ∀ y : S64.Idx, (m ((c : Thread nD τ).loc main_arg0) y : BitVec 32).toNat < 84)
    (hw : ∀ y : S64x100.Idx, (m ((c : Thread nD τ).loc main_arg1) y : BitVec 32).toNat < 30000) (a : Fin 64) (b : Fin 100) :
    (Pipeline.afterTail (pcfgs (F := Ideal)) (fun _ => adm m hO) (dats m hO hH) 0 (V0 m) [hostOps1] c main_v0 (ix2 (n0 := 64) (n1 := 100) a b) : EReal)
      = uitofp (F := Ideal) .f32 (m ((c : Thread nD τ).loc main_arg2)) (ix2 (n0 := 84) (n1 := 30000)
          ⟨(m ((c : Thread nD τ).loc main_arg0) (ix1 (n0 := 64) a) : BitVec 32).toNat, hq _⟩
          ⟨(m ((c : Thread nD τ).loc main_arg1) (ix2 (n0 := 64) (n1 := 100) a b) : BitVec 32).toNat, hw _⟩) := by
  have h := tail_of (Pipeline.withArrays spec0 c (V0 m c) fun w => (dats m hO hH 0 c).arrAt w (cfgM m hO).N) (outArr m c hO hH)
    ((Pipeline.withArrays_arr spec0 (launch0 (F := Ideal)).win.arr_inj c (V0 m c) (fun w => (dats m hO hH 0 c).arrAt w (cfgM m hO).N) 1).trans (arr_out m c hO hH))
  refine (congrFun h (ix2 (n0 := 64) (n1 := 100) a b)).trans ((tail_apply _ a b).trans ?_)
  exact out_apply m c hO hH hq hw ⟨a.val, lt_of_lt_of_eq a.isLt (by show 64 = grid0.N; decide +kernel)⟩ b

end Cert.Kernel2Ideal.Lookup
-- ==== Proof.QRef.lean ====
/- The lookup's reference: the relevance at the sample's question type and the option's index. -/
module

public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Reference2Ideal.Lookup

open Idealize.ShloMosaic Idealize.ShloMosaic.TcCoe Idealize.ShloMosaic.Tactic
open Cert.Reference2Ideal Cert.Reference2Ideal.Gen

/-- The gather at a sample and option: the entry the two start indices name, clamped into the table. -/
theorem gather_apply (x : IVec S84x30000 1) (idx : IVec S64x100x2 32) (a : Fin 64) (b : Fin 100) :
    Host.gather gather_S84x30000_S64x100x2_S64x100_n_01_n_n_01_2_11 x idx (ix2 (n0 := 64) (n1 := 100) a b)
      = x (ix2 (n0 := 84) (n1 := 30000) ⟨min (idx (ix3 (n0 := 64) (n1 := 100) (n2 := 2) a b 0)).toInt.toNat 83, by omega⟩
          ⟨min (idx (ix3 (n0 := 64) (n1 := 100) (n2 := 2) a b 1)).toInt.toNat 29999, by omega⟩) := by
  unfold Host.gather
  congr 1
  funext d
  apply Fin.ext
  have hm : ∀ d : Fin 2, d ∈ (gather_S84x30000_S64x100x2_S64x100_n_01_n_n_01_2_11).startIndexMap := by decide
  show GatherDims.start gather_S84x30000_S64x100x2_S64x100_n_01_n_n_01_2_11 (ix2 (n0 := 64) (n1 := 100) a b) idx d
    + GatherDims.batchCoord gather_S84x30000_S64x100x2_S64x100_n_01_n_n_01_2_11 (ix2 (n0 := 64) (n1 := 100) a b) d
    + GatherDims.offCoord gather_S84x30000_S64x100x2_S64x100_n_01_n_n_01_2_11 (ix2 (n0 := 64) (n1 := 100) a b) d = _
  rw [GatherDims.batchCoord_eq_zero _ _ _ List.not_mem_nil,
    GatherDims.offCoord_eq_zero _ _ _ (fun h => ((GatherDims.mem_sKept _ _).mp h).1 (hm d))]
  unfold GatherDims.start
  rw [dif_pos (hm d)]
  match d with
  | ⟨0, h0⟩ =>
    have hs : GatherDims.siIdx gather_S84x30000_S64x100x2_S64x100_n_01_n_n_01_2_11 (ix2 (n0 := 64) (n1 := 100) a b)
        ⟨List.idxOf (⟨0, h0⟩ : Fin 2) [0, 1], List.idxOf_lt_length_iff.2 (hm _)⟩ = ix3 (n0 := 64) (n1 := 100) (n2 := 2) a b 0 := by
      funext e; refine Fin.ext ?_
      match e with
      | ⟨0, _⟩ => rfl
      | ⟨1, _⟩ => rfl
      | ⟨2, _⟩ => rfl
    exact congrArg (fun z => min (idx z).toInt.toNat 83) hs
  | ⟨1, h1⟩ =>
    have hs : GatherDims.siIdx gather_S84x30000_S64x100x2_S64x100_n_01_n_n_01_2_11 (ix2 (n0 := 64) (n1 := 100) a b)
        ⟨List.idxOf (⟨1, h1⟩ : Fin 2) [0, 1], List.idxOf_lt_length_iff.2 (hm _)⟩ = ix3 (n0 := 64) (n1 := 100) (n2 := 2) a b 1 := by
      funext e; refine Fin.ext ?_
      match e with
      | ⟨0, _⟩ => rfl
      | ⟨1, _⟩ => rfl
      | ⟨2, _⟩ => rfl
    exact congrArg (fun z => min (idx z).toInt.toNat 29999) hs

/-- A word that is not negative stays as it is where negative indices are counted from the end. -/
theorem wrap_apply (w n : BitVec 32) (hw : w.toNat < 2 ^ 31) : (if IntOp.cmpi .slt w 0#32 = 1#1 then IntOp.addi w n else w) = w := by
  have h : ¬ IntOp.cmpi .slt w 0#32 = 1#1 := by
    have e : w.slt 0#32 = false := by
      rw [BitVec.slt_eq_decide, decide_eq_false_iff_not, BitVec.toInt_eq_toNat_cond, if_pos (by omega)]
      simp
    simp [IntOp.cmpi, e]
  rw [if_neg h]

/-- The two index columns joined, at the question type's place. -/
theorem join_fst (u v : IVec S64x100x1 32) (a : Fin 64) (b : Fin 100) :
    concatenate S64x100x2 2 [⟨S64x100x1, u⟩, ⟨S64x100x1, v⟩] concatenates_S64x100x1_S64x100x1_S64x100x2_d2 (ix3 (n0 := 64) (n1 := 100) (n2 := 2) a b 0)
      = u (ix3 (n0 := 64) (n1 := 100) (n2 := 1) a b 0) := by
  pointwise

/-- … and at the option's. -/
theorem join_snd (u v : IVec S64x100x1 32) (a : Fin 64) (b : Fin 100) :
    concatenate S64x100x2 2 [⟨S64x100x1, u⟩, ⟨S64x100x1, v⟩] concatenates_S64x100x1_S64x100x1_S64x100x2_d2 (ix3 (n0 := 64) (n1 := 100) (n2 := 2) a b 1)
      = v (ix3 (n0 := 64) (n1 := 100) (n2 := 1) a b 0) := by
  pointwise

/-- A sample's question type, wrapped and repeated for each option. -/
theorem type_apply (x : IVec S64 32) (a : Fin 64) (b : Fin 100) (h : (x (ix1 (n0 := 64) a)).toNat < 84) :
    broadcastInDim S64x100x1 ![0, 1] bcast_S64x100_S64x100x1_0_1 (broadcastInDim S64x100 ![0, 1] bcast_S64x1_S64x100_0_1
      (select (cmpi .slt (broadcastInDim S64x1 ![0] bcast_S64_S64x1_0 x) (broadcastInDim S64x1 ![] bcast_S_S64x1 (constantI S_ 32 0#32)))
        (addi (broadcastInDim S64x1 ![0] bcast_S64_S64x1_0 x) (broadcastInDim S64x1 ![] bcast_S_S64x1 (constantI S_ 32 84#32)))
        (broadcastInDim S64x1 ![0] bcast_S64_S64x1_0 x))) (ix3 (n0 := 64) (n1 := 100) (n2 := 1) a b 0) = x (ix1 (n0 := 64) a) := by
  have e : ∀ u : IVec S64x1 32, broadcastInDim S64x100x1 ![0, 1] bcast_S64x100_S64x100x1_0_1 (broadcastInDim S64x100 ![0, 1] bcast_S64x1_S64x100_0_1 u)
      (ix3 (n0 := 64) (n1 := 100) (n2 := 1) a b 0) = u (ix2 (n0 := 64) (n1 := 1) a 0) := fun u => by pointwise
  have e1 : broadcastInDim S64x1 ![0] bcast_S64_S64x1_0 x (ix2 (n0 := 64) (n1 := 1) a 0) = x (ix1 (n0 := 64) a) := by pointwise
  rw [e]
  refine Eq.trans ?_ (wrap_apply (x (ix1 (n0 := 64) a)) 84#32 (by omega))
  rw [← e1]
  rfl

/-- An option's index, wrapped. -/
theorem option_apply (x : IVec S64x100 32) (a : Fin 64) (b : Fin 100) (h : (x (ix2 (n0 := 64) (n1 := 100) a b)).toNat < 30000) :
    broadcastInDim S64x100x1 ![0, 1] bcast_S64x100_S64x100x1_0_1
      (select (cmpi .slt x (broadcastInDim S64x100 ![] bcast_S_S64x100 (constantI S_ 32 0#32)))
        (addi x (broadcastInDim S64x100 ![] bcast_S_S64x100 (constantI S_ 32 30000#32))) x) (ix3 (n0 := 64) (n1 := 100) (n2 := 1) a b 0)
      = x (ix2 (n0 := 64) (n1 := 100) a b) := by
  have e : ∀ u : IVec S64x100 32, broadcastInDim S64x100x1 ![0, 1] bcast_S64x100_S64x100x1_0_1 u
      (ix3 (n0 := 64) (n1 := 100) (n2 := 1) a b 0) = u (ix2 (n0 := 64) (n1 := 100) a b) := fun u => by pointwise
  rw [e]
  exact wrap_apply (x (ix2 (n0 := 64) (n1 := 100) a b)) 30000#32 (by omega)

/-- The reference's result at a sample and option, the words in range. -/
theorem result_apply (x0 : IVec S64 32) (x1 : IVec S64x100 32) (x2 : IVec S84x30000 1) (h0 : ∀ y, (x0 y).toNat < 84) (h1 : ∀ y, (x1 y).toNat < 30000)
    (u v : IVec S64x100x1 32) (a : Fin 64) (b : Fin 100) (hu : u (ix3 (n0 := 64) (n1 := 100) (n2 := 1) a b 0) = x0 (ix1 (n0 := 64) a))
    (hv : v (ix3 (n0 := 64) (n1 := 100) (n2 := 1) a b 0) = x1 (ix2 (n0 := 64) (n1 := 100) a b)) :
    (uitofp (F := Ideal) .f32 (Host.gather gather_S84x30000_S64x100x2_S64x100_n_01_n_n_01_2_11 x2
      (concatenate S64x100x2 2 [⟨S64x100x1, u⟩, ⟨S64x100x1, v⟩] concatenates_S64x100x1_S64x100x1_S64x100x2_d2)) (ix2 (n0 := 64) (n1 := 100) a b) : EReal)
      = uitofp (F := Ideal) .f32 x2 (ix2 (n0 := 84) (n1 := 30000) ⟨(x0 (ix1 (n0 := 64) a)).toNat, h0 _⟩ ⟨(x1 (ix2 (n0 := 64) (n1 := 100) a b)).toNat, h1 _⟩) := by
  refine congrArg (FloatOps.uitofp (F := Ideal) .f32) ((gather_apply x2 _ a b).trans (congrArg x2 ?_))
  have q0 := h0 (ix1 (n0 := 64) a)
  have q1 := h1 (ix2 (n0 := 64) (n1 := 100) a b)
  funext d
  apply Fin.ext
  match d with
  | ⟨0, _⟩ =>
    refine (congrArg (fun z : BitVec 32 => min z.toInt.toNat 83) ((join_fst u v a b).trans hu)).trans ?_
    show min (x0 (ix1 (n0 := 64) a)).toInt.toNat 83 = (x0 (ix1 (n0 := 64) a)).toNat
    rw [BitVec.toInt_eq_toNat_cond, if_pos (by omega)]
    omega
  | ⟨1, _⟩ =>
    refine (congrArg (fun z : BitVec 32 => min z.toInt.toNat 29999) ((join_snd u v a b).trans hv)).trans ?_
    show min (x1 (ix2 (n0 := 64) (n1 := 100) a b)).toInt.toNat 29999 = (x1 (ix2 (n0 := 64) (n1 := 100) a b)).toNat
    rw [BitVec.toInt_eq_toNat_cond, if_pos (by omega)]
    omega

end Cert.Reference2Ideal.Lookup
-- ==== Proof.CLookup.lean ====
/- The claims of the lookup. -/
module

public import proofs.«01_k».proof.Defs
public import proofs.«01_k».proof.Proof.QHost
public import proofs.«01_k».proof.Proof.BQFrame
public import proofs.«01_k».proof.Proof.QRef
public import proofs.«01_k».proof.Proof.Pre

@[expose] public section

set_option maxRecDepth 16384

noncomputable section

namespace Cert.LookupClaims

open Idealize.ShloMosaic Idealize.ShloMosaic.TcCoe Idealize.ShloMosaic.Tactic

/-- The machine-word program's frame. -/
theorem frame_kernel : Cert.quiescent_Kernel2 := fun m ρ h =>
  Cert.Kernel2.Gen.frame m ρ (Cert.Kernel2.Lookup.ok_of m fun y => Cert.PreRead.type_lt _ _ _ (h 0).1 y)
    (Cert.Kernel2.Lookup.hyps_of m _ fun y => Cert.PreRead.option_lt _ _ _ (h 0).2 y)

/-- The question types name rows of the table, under the precondition. -/
theorem ok_of (m : (ℓ : Loc Cert.Kernel2Ideal.nD Cert.Kernel2Ideal.τ Cert.Kernel2Ideal.sig) → Buf (Elt Ideal) ℓ) (h : Cert.Pre_Kernel2Ideal m) :
    Cert.Kernel2Ideal.Gen.Ok m :=
  Cert.Kernel2Ideal.Lookup.ok_of m fun y => Cert.PreRead.type_lt _ _ _ (h 0).1 y

/-- The option indices pass the body's checks, under the precondition. -/
theorem hyps_of (m : (ℓ : Loc Cert.Kernel2Ideal.nD Cert.Kernel2Ideal.τ Cert.Kernel2Ideal.sig) → Buf (Elt Ideal) ℓ) (h : Cert.Pre_Kernel2Ideal m) :
    Cert.Kernel2Ideal.Gen.Hyps m (ok_of m h) :=
  Cert.Kernel2Ideal.Lookup.hyps_of m _ fun y => Cert.PreRead.option_lt _ _ _ (h 0).2 y

/-- The ideal program's frame. -/
theorem frame_ideal : Cert.quiescent_Kernel2Ideal := fun m ρ h => Cert.Kernel2Ideal.Gen.frame m ρ (ok_of m h) (hyps_of m h)

/-- The reference's frame, whatever the words. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Nothing was rewritten on the way to the ideal program. -/
theorem preserves_ideal : Cert.preserves_Kernel2_Kernel2Ideal := trivial

/-- The lookup's relevances are the reference's. -/
theorem algebraic : Cert.algebraic_Kernel2Ideal_Reference2Ideal := by
  intro m g m' g' hp he
  have hO := ok_of m hp
  have hH := hyps_of m hp
  refine ⟨fun c => Pipeline.afterTail (Cert.Kernel2Ideal.pcfgs (F := Ideal)) (fun _ => Cert.Kernel2Ideal.Gen.adm m hO) (Cert.Kernel2Ideal.Gen.dats m hO hH) 0
    (Cert.Kernel2Ideal.Gen.V0 m) [Cert.Kernel2Ideal.Gen.hostOps1] c Cert.Kernel2Ideal.main_v0, ?_, ?_⟩
  · have hr := θ_run_and (Cert.Kernel2Ideal.Gen.run_main m g hO hH) (Cert.Kernel2Ideal.Gen.frame m g hO hH)
    exact (θ_run Cert.Kernel2Ideal.defs _ _).mono (fun r h c =>
      ⟨(h.1 c).2 Cert.Kernel2Ideal.main_v0 (by decide : Cert.Kernel2Ideal.main_v0 ∈ Pipeline.restRefs Cert.Kernel2Ideal.sig Cert.Kernel2Ideal.spec0), h.2.1 c⟩) hr
  · refine (θ_run Cert.Reference2Ideal.defs _ _).mono (fun r h c => ⟨(h c).1.trans ?_, (h c).2⟩) (Cert.Reference2Ideal.Value.run (F := Ideal) m' g')
    obtain ⟨e0, e1, e2⟩ := he c
    have hq := fun y => Cert.PreRead.type_lt _ _ _ (hp c).1 y
    have hw := fun y => Cert.PreRead.option_lt _ _ _ (hp c).2 y
    rw [e0, e1, e2]
    refine funext fun (y : (⟨2, ![64, 100]⟩ : Shape).Idx) => ?_
    obtain ⟨a, b, hy⟩ : ∃ a b, y = ix2 (n0 := 64) (n1 := 100) a b := ⟨y 0, y 1, eq_ix2 y⟩
    rw [hy]
    exact (Cert.Reference2Ideal.Lookup.result_apply _ _ _ hq hw _ _ a b (Cert.Reference2Ideal.Lookup.type_apply _ a b (hq _))
      (Cert.Reference2Ideal.Lookup.option_apply _ a b (hw _))).trans (Cert.Kernel2Ideal.Lookup.result_value m c hO hH hq hw a b).symm

end Cert.LookupClaims
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Pre_indices_in_table
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_options_in_vocabulary
public import Idealize.ShloMosaic.Adequacy
public import proofs.«01_k».proof.Proof.Gen.ReferenceIdeal.Step
public import proofs.«01_k».proof.Proof.Gen.ReferenceIdeal.StepRun
public import proofs.«01_k».proof.Proof.CLstm
public import proofs.«01_k».proof.Proof.CLookup
public import Idealize.ShloMosaic.Init

@[expose] public section

noncomputable section

namespace Cert.Proof

open Idealize.ShloMosaic Idealize.SL.Sem Cert.Kernel

/-- Every claim: the frames, then the transfers and values, of the scores' launch and of the lookup's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Pre_options_in_vocabulary.Gen.facts, Cert.Pre_indices_in_table.Gen.facts,
  Cert.LstmClaims.frame_kernel, Cert.LstmClaims.frame_ideal, Cert.LstmClaims.frame_reference,
  fun m ρ _ => Cert.LstmClaims.frame_reference m ρ trivial,
  Cert.LookupClaims.frame_kernel, Cert.LookupClaims.frame_ideal, Cert.LookupClaims.frame_reference,
  fun m ρ _ => Cert.LookupClaims.frame_reference m ρ trivial,
  Cert.LstmClaims.preserves_ideal, Cert.LstmClaims.algebraic, Cert.LookupClaims.preserves_ideal, Cert.LookupClaims.algebraic⟩

end Cert.Proof

end
